-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 [hPre_on_mesh_w_out : Cert.Pre_on_mesh_w_out.Facts] (m : (ℓ : Loc Cert.Kernel11.nD Cert.Kernel11.τ Cert.Kernel11.sig) → Buf (Elt Bits) ℓ) : Prop :=
  ∀ c : Dev Cert.Kernel11.nD,
    (Cert.Pre_on_mesh_w_out.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5))) = (fun _ => 1#1)

def Pre_Kernel11Ideal [hPre_on_mesh_w_out : Cert.Pre_on_mesh_w_out.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_on_mesh_w_out.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_on_mesh_w_out [hPre_on_mesh_w_out : Cert.Pre_on_mesh_w_out.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_on_mesh_w_out.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))) = (fun _ => 1#1)

def Pre_Kernel12 [hPre_on_mesh_w_in : Cert.Pre_on_mesh_w_in.Facts] (m : (ℓ : Loc Cert.Kernel12.nD Cert.Kernel12.τ Cert.Kernel12.sig) → Buf (Elt Bits) ℓ) : Prop :=
  ∀ c : Dev Cert.Kernel12.nD,
    (Cert.Pre_on_mesh_w_in.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_on_mesh_w_in : Cert.Pre_on_mesh_w_in.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_on_mesh_w_in.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_on_mesh_w_in [hPre_on_mesh_w_in : Cert.Pre_on_mesh_w_in.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_on_mesh_w_in.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 [hPre_on_mesh_w_qkv : Cert.Pre_on_mesh_w_qkv.Facts] (m : (ℓ : Loc Cert.Kernel13.nD Cert.Kernel13.τ Cert.Kernel13.sig) → Buf (Elt Bits) ℓ) : Prop :=
  ∀ c : Dev Cert.Kernel13.nD,
    (Cert.Pre_on_mesh_w_qkv.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5))) = (fun _ => 1#1)

def Pre_Kernel13Ideal [hPre_on_mesh_w_qkv : Cert.Pre_on_mesh_w_qkv.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_on_mesh_w_qkv.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_on_mesh_w_qkv [hPre_on_mesh_w_qkv : Cert.Pre_on_mesh_w_qkv.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_on_mesh_w_qkv.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 [hPre_on_mesh_cw : Cert.Pre_on_mesh_cw.Facts] (m : (ℓ : Loc Cert.Kernel14.nD Cert.Kernel14.τ Cert.Kernel14.sig) → Buf (Elt Bits) ℓ) : Prop :=
  ∀ c : Dev Cert.Kernel14.nD,
    (Cert.Pre_on_mesh_cw.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5))) = (fun _ => 1#1)

def Pre_Kernel14Ideal [hPre_on_mesh_cw : Cert.Pre_on_mesh_cw.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_on_mesh_cw.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_on_mesh_cw [hPre_on_mesh_cw : Cert.Pre_on_mesh_cw.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_on_mesh_cw.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 [hPre_on_mesh_w_gu : Cert.Pre_on_mesh_w_gu.Facts] (m : (ℓ : Loc Cert.Kernel15.nD Cert.Kernel15.τ Cert.Kernel15.sig) → Buf (Elt Bits) ℓ) : Prop :=
  ∀ c : Dev Cert.Kernel15.nD,
    (Cert.Pre_on_mesh_w_gu.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5)) (m ((c.tc : Thread Cert.Kernel15.nD Cert.Kernel15.τ).loc Cert.Kernel15.main_arg6))) = (fun _ => 1#1)

def Pre_Kernel15Ideal [hPre_on_mesh_w_gu : Cert.Pre_on_mesh_w_gu.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_on_mesh_w_gu.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_on_mesh_w_gu [hPre_on_mesh_w_gu : Cert.Pre_on_mesh_w_gu.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_on_mesh_w_gu.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6))) = (fun _ => 1#1)

def Pre_Kernel16 [hPre_on_mesh_w_d : Cert.Pre_on_mesh_w_d.Facts] (m : (ℓ : Loc Cert.Kernel16.nD Cert.Kernel16.τ Cert.Kernel16.sig) → Buf (Elt Bits) ℓ) : Prop :=
  ∀ c : Dev Cert.Kernel16.nD,
    (Cert.Pre_on_mesh_w_d.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6))) = (fun _ => 1#1)

def Pre_Kernel16Ideal [hPre_on_mesh_w_d : Cert.Pre_on_mesh_w_d.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_on_mesh_w_d.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_on_mesh_w_d [hPre_on_mesh_w_d : Cert.Pre_on_mesh_w_d.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_on_mesh_w_d.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] [hPre_on_mesh_w_out : Cert.Pre_on_mesh_w_out.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] [hPre_on_mesh_w_out : Cert.Pre_on_mesh_w_out.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_on_mesh_w_out [hReference11Ideal : Cert.Reference11Ideal.Facts] [hPre_on_mesh_w_out : Cert.Pre_on_mesh_w_out.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_on_mesh_w_out m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] [hPre_on_mesh_w_in : Cert.Pre_on_mesh_w_in.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_on_mesh_w_in : Cert.Pre_on_mesh_w_in.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_on_mesh_w_in [hReference12Ideal : Cert.Reference12Ideal.Facts] [hPre_on_mesh_w_in : Cert.Pre_on_mesh_w_in.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_on_mesh_w_in m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] [hPre_on_mesh_w_qkv : Cert.Pre_on_mesh_w_qkv.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] [hPre_on_mesh_w_qkv : Cert.Pre_on_mesh_w_qkv.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_on_mesh_w_qkv [hReference13Ideal : Cert.Reference13Ideal.Facts] [hPre_on_mesh_w_qkv : Cert.Pre_on_mesh_w_qkv.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_on_mesh_w_qkv m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] [hPre_on_mesh_cw : Cert.Pre_on_mesh_cw.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] [hPre_on_mesh_cw : Cert.Pre_on_mesh_cw.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_on_mesh_cw [hReference14Ideal : Cert.Reference14Ideal.Facts] [hPre_on_mesh_cw : Cert.Pre_on_mesh_cw.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_on_mesh_cw m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] [hPre_on_mesh_w_gu : Cert.Pre_on_mesh_w_gu.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] [hPre_on_mesh_w_gu : Cert.Pre_on_mesh_w_gu.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Reference15Ideal_pre_on_mesh_w_gu [hReference15Ideal : Cert.Reference15Ideal.Facts] [hPre_on_mesh_w_gu : Cert.Pre_on_mesh_w_gu.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_on_mesh_w_gu m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] [hPre_on_mesh_w_d : Cert.Pre_on_mesh_w_d.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] [hPre_on_mesh_w_d : Cert.Pre_on_mesh_w_d.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Reference16Ideal_pre_on_mesh_w_d [hReference16Ideal : Cert.Reference16Ideal.Facts] [hPre_on_mesh_w_d : Cert.Pre_on_mesh_w_d.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_on_mesh_w_d m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)) (v5 : (c : Dev Cert.KernelIdeal.nD) → Buf (Elt Ideal) ((c.tc : Thread Cert.KernelIdeal.nD Cert.KernelIdeal.τ).loc Cert.KernelIdeal.main_v47_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_v47_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)) (v6 : (c : Dev Cert.Kernel2Ideal.nD) → Buf (Elt Ideal) ((c.tc : Thread Cert.Kernel2Ideal.nD Cert.Kernel2Ideal.τ).loc Cert.Kernel2Ideal.main_v16_6)) (v7 : (c : Dev Cert.Kernel2Ideal.nD) → Buf (Elt Ideal) ((c.tc : Thread Cert.Kernel2Ideal.nD Cert.Kernel2Ideal.τ).loc Cert.Kernel2Ideal.main_v16_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_v16_6) = v6 c
          ∧ r.2.mem ((c.tc : Thread Cert.Kernel2Ideal.nD Cert.Kernel2Ideal.τ).loc Cert.Kernel2Ideal.main_v16_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_v57) = v4 c
          ∧ r.2.mem ((c.tc : Thread Cert.Reference2Ideal.nD Cert.Reference2Ideal.τ).loc Cert.Reference2Ideal.main_v59) = v5 c
          ∧ r.2.mem ((c.tc : Thread Cert.Reference2Ideal.nD Cert.Reference2Ideal.τ).loc Cert.Reference2Ideal.main_v60) = v6 c
          ∧ r.2.mem ((c.tc : Thread Cert.Reference2Ideal.nD Cert.Reference2Ideal.τ).loc Cert.Reference2Ideal.main_v61) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v15) = v2 c
          ∧ r.2.mem ((c.tc : Thread Cert.Reference9Ideal.nD Cert.Reference9Ideal.τ).loc Cert.Reference9Ideal.main_v40) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] [hPre_on_mesh_w_out : Cert.Pre_on_mesh_w_out.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_v18) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] [hPre_on_mesh_w_in : Cert.Pre_on_mesh_w_in.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_v18) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] [hPre_on_mesh_w_qkv : Cert.Pre_on_mesh_w_qkv.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v12) = v2 c
          ∧ r.2.mem ((c.tc : Thread Cert.Reference13Ideal.nD Cert.Reference13Ideal.τ).loc Cert.Reference13Ideal.main_v18) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_on_mesh_cw : Cert.Pre_on_mesh_cw.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] [hPre_on_mesh_w_gu : Cert.Pre_on_mesh_w_gu.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_v32) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_v19) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] [hPre_on_mesh_w_d : Cert.Pre_on_mesh_w_d.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v13) = v2 c
          ∧ r.2.mem ((c.tc : Thread Cert.Reference16Ideal.nD Cert.Reference16Ideal.τ).loc Cert.Reference16Ideal.main_v19) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_on_mesh_w_out : Cert.Pre_on_mesh_w_out.Facts) (hPre_on_mesh_w_in : Cert.Pre_on_mesh_w_in.Facts) (hPre_on_mesh_w_qkv : Cert.Pre_on_mesh_w_qkv.Facts) (hPre_on_mesh_cw : Cert.Pre_on_mesh_cw.Facts) (hPre_on_mesh_w_gu : Cert.Pre_on_mesh_w_gu.Facts) (hPre_on_mesh_w_d : Cert.Pre_on_mesh_w_d.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11) (hPre_on_mesh_w_out := hPre_on_mesh_w_out)
    ∧ quiescent_Kernel11Ideal (hKernel11Ideal := hKernel11Ideal) (hPre_on_mesh_w_out := hPre_on_mesh_w_out)
    ∧ quiescent_Reference11Ideal (hReference11Ideal := hReference11Ideal)
    ∧ quiescent_Reference11Ideal_pre_on_mesh_w_out (hReference11Ideal := hReference11Ideal) (hPre_on_mesh_w_out := hPre_on_mesh_w_out)
    ∧ quiescent_Kernel12 (hKernel12 := hKernel12) (hPre_on_mesh_w_in := hPre_on_mesh_w_in)
    ∧ quiescent_Kernel12Ideal (hKernel12Ideal := hKernel12Ideal) (hPre_on_mesh_w_in := hPre_on_mesh_w_in)
    ∧ quiescent_Reference12Ideal (hReference12Ideal := hReference12Ideal)
    ∧ quiescent_Reference12Ideal_pre_on_mesh_w_in (hReference12Ideal := hReference12Ideal) (hPre_on_mesh_w_in := hPre_on_mesh_w_in)
    ∧ quiescent_Kernel13 (hKernel13 := hKernel13) (hPre_on_mesh_w_qkv := hPre_on_mesh_w_qkv)
    ∧ quiescent_Kernel13Ideal (hKernel13Ideal := hKernel13Ideal) (hPre_on_mesh_w_qkv := hPre_on_mesh_w_qkv)
    ∧ quiescent_Reference13Ideal (hReference13Ideal := hReference13Ideal)
    ∧ quiescent_Reference13Ideal_pre_on_mesh_w_qkv (hReference13Ideal := hReference13Ideal) (hPre_on_mesh_w_qkv := hPre_on_mesh_w_qkv)
    ∧ quiescent_Kernel14 (hKernel14 := hKernel14) (hPre_on_mesh_cw := hPre_on_mesh_cw)
    ∧ quiescent_Kernel14Ideal (hKernel14Ideal := hKernel14Ideal) (hPre_on_mesh_cw := hPre_on_mesh_cw)
    ∧ quiescent_Reference14Ideal (hReference14Ideal := hReference14Ideal)
    ∧ quiescent_Reference14Ideal_pre_on_mesh_cw (hReference14Ideal := hReference14Ideal) (hPre_on_mesh_cw := hPre_on_mesh_cw)
    ∧ quiescent_Kernel15 (hKernel15 := hKernel15) (hPre_on_mesh_w_gu := hPre_on_mesh_w_gu)
    ∧ quiescent_Kernel15Ideal (hKernel15Ideal := hKernel15Ideal) (hPre_on_mesh_w_gu := hPre_on_mesh_w_gu)
    ∧ quiescent_Reference15Ideal (hReference15Ideal := hReference15Ideal)
    ∧ quiescent_Reference15Ideal_pre_on_mesh_w_gu (hReference15Ideal := hReference15Ideal) (hPre_on_mesh_w_gu := hPre_on_mesh_w_gu)
    ∧ quiescent_Kernel16 (hKernel16 := hKernel16) (hPre_on_mesh_w_d := hPre_on_mesh_w_d)
    ∧ quiescent_Kernel16Ideal (hKernel16Ideal := hKernel16Ideal) (hPre_on_mesh_w_d := hPre_on_mesh_w_d)
    ∧ quiescent_Reference16Ideal (hReference16Ideal := hReference16Ideal)
    ∧ quiescent_Reference16Ideal_pre_on_mesh_w_d (hReference16Ideal := hReference16Ideal) (hPre_on_mesh_w_d := hPre_on_mesh_w_d)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal) (hPre_on_mesh_w_out := hPre_on_mesh_w_out)
    ∧ preserves_Kernel12_Kernel12Ideal
    ∧ algebraic_Kernel12Ideal_Reference12Ideal (hKernel12Ideal := hKernel12Ideal) (hReference12Ideal := hReference12Ideal) (hPre_on_mesh_w_in := hPre_on_mesh_w_in)
    ∧ preserves_Kernel13_Kernel13Ideal
    ∧ algebraic_Kernel13Ideal_Reference13Ideal (hKernel13Ideal := hKernel13Ideal) (hReference13Ideal := hReference13Ideal) (hPre_on_mesh_w_qkv := hPre_on_mesh_w_qkv)
    ∧ preserves_Kernel14_Kernel14Ideal
    ∧ algebraic_Kernel14Ideal_Reference14Ideal (hKernel14Ideal := hKernel14Ideal) (hReference14Ideal := hReference14Ideal) (hPre_on_mesh_cw := hPre_on_mesh_cw)
    ∧ preserves_Kernel15_Kernel15Ideal
    ∧ algebraic_Kernel15Ideal_Reference15Ideal (hKernel15Ideal := hKernel15Ideal) (hReference15Ideal := hReference15Ideal) (hPre_on_mesh_w_gu := hPre_on_mesh_w_gu)
    ∧ preserves_Kernel16_Kernel16Ideal
    ∧ algebraic_Kernel16Ideal_Reference16Ideal (hKernel16Ideal := hKernel16Ideal) (hReference16Ideal := hReference16Ideal) (hPre_on_mesh_w_d := hPre_on_mesh_w_d)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩

class Facts : Prop where
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1x1024 .f32) (main_arg2 : FVec F S1024x5632 .f32) (main_arg3 : FVec F S2816x1024 .f32) (main_arg4 : FVec F S1024x1024 .f32) (main_arg5 : FVec F S8192x1024 .f32) : IVec S1x1024 1 × IVec S1024x5632 1 × IVec S2816x1024 1 × IVec S8192x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x5632 .f32 := Host.absf main_arg2
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_on_mesh_cw.lean ====
abbrev S1 : Shape := ⟨1, ![1]⟩
abbrev S8x3x128 : Shape := ⟨3, ![8, 3, 128]⟩
abbrev S3x128 : Shape := ⟨2, ![3, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x3x128 .f32) (main_arg2 : FVec F S8x3x128 .f32) (main_arg3 : FVec F S3x128 .f32) (main_arg4 : FVec F S3x128 .f32) (main_arg5 : FVec F S3x128 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_w_d.lean ====
abbrev S1 : Shape := ⟨1, ![1]⟩
abbrev S8x704x1024 : Shape := ⟨3, ![8, 704, 1024]⟩
abbrev S8x352x1024 : Shape := ⟨3, ![8, 352, 1024]⟩
abbrev S704x1024 : Shape := ⟨2, ![704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x704x1024 .bf16) (main_arg2 : FVec F S8x352x1024 .bf16) (main_arg3 : FVec F S8x352x1024 .bf16) (main_arg4 : FVec F S704x1024 .f32) (main_arg5 : FVec F S704x1024 .f32) (main_arg6 : FVec F S704x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_w_gu.lean ====
abbrev S1 : Shape := ⟨1, ![1]⟩
abbrev S8x2048x704 : Shape := ⟨3, ![8, 2048, 704]⟩
abbrev S8x1024x704 : Shape := ⟨3, ![8, 1024, 704]⟩
abbrev S2048x704 : Shape := ⟨2, ![2048, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x2048x704 .bf16) (main_arg2 : FVec F S8x1024x704 .bf16) (main_arg3 : FVec F S8x1024x704 .bf16) (main_arg4 : FVec F S2048x704 .f32) (main_arg5 : FVec F S2048x704 .f32) (main_arg6 : FVec F S2048x704 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_w_in.lean ====
abbrev S1 : Shape := ⟨1, ![1]⟩
abbrev S8x1024x384 : Shape := ⟨3, ![8, 1024, 384]⟩
abbrev S1024x384 : Shape := ⟨2, ![1024, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x384 .bf16) (main_arg2 : FVec F S8x1024x384 .bf16) (main_arg3 : FVec F S1024x384 .f32) (main_arg4 : FVec F S1024x384 .f32) (main_arg5 : FVec F S1024x384 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_w_out.lean ====
abbrev S1 : Shape := ⟨1, ![1]⟩
abbrev S8x128x1024 : Shape := ⟨3, ![8, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .bf16) (main_arg2 : FVec F S8x128x1024 .bf16) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_w_qkv.lean ====
abbrev S1 : Shape := ⟨1, ![1]⟩
abbrev S8x1024x192 : Shape := ⟨3, ![8, 1024, 192]⟩
abbrev S1024x192 : Shape := ⟨2, ![1024, 192]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x192 .bf16) (main_arg2 : FVec F S8x1024x192 .bf16) (main_arg3 : FVec F S1024x192 .f32) (main_arg4 : FVec F S1024x192 .f32) (main_arg5 : FVec F S1024x192 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S8192x1024 : Shape := ⟨2, ![8192, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S4x2048x1024 : Shape := ⟨3, ![4, 2048, 1024]⟩
abbrev S4x2x1024 : Shape := ⟨3, ![4, 2, 1024]⟩
abbrev S4x2050x1024 : Shape := ⟨3, ![4, 2050, 1024]⟩
abbrev S1024 : Shape := ⟨1, ![1024]⟩
abbrev S1x1x1024 : Shape := ⟨3, ![1, 1, 1024]⟩
abbrev S8x1024 : Shape := ⟨2, ![8, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 64
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S4x2048x1024, .f32⟩
  | .hbm, ⟨27, _⟩ => ⟨S_, .f32⟩
  | .hbm, ⟨28, _⟩ => ⟨S4x2x1024, .f32⟩
  | .hbm, ⟨29, _⟩ => ⟨S4x2050x1024, .f32⟩
  | .hbm, ⟨30, _⟩ => ⟨S1x1024, .f32⟩
  | .hbm, ⟨31, _⟩ => ⟨S1024, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S1x1024, .f32⟩
  | .hbm, ⟨40, _⟩ => ⟨S1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S1x1024, .f32⟩
  | .hbm, ⟨47, _⟩ => ⟨S1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S8192x1024, .f32⟩
  | .hbm, ⟨55, _⟩ => ⟨S8192x3072, .bf16⟩
  | .hbm, ⟨56, _⟩ => ⟨S1024x3072, .bf16⟩
  | .hbm, ⟨57, _⟩ => ⟨S1024x1024, .bf16⟩
  | .hbm, ⟨58, _⟩ => ⟨S8192x1024, .f32⟩
  | .hbm, ⟨59, _⟩ => ⟨S8192x3072, .bf16⟩
  | .hbm, ⟨60, _⟩ => ⟨S8192x1024, .bf16⟩
  | .hbm, ⟨61, _⟩ => ⟨S8192x1024, .bf16⟩
  | .hbm, ⟨62, _⟩ => ⟨S8x1024, .f32⟩
  | .hbm, ⟨63, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .bf16⟩
  | .local _ .vmem, ⟨6, _⟩ => ⟨S512x3072, .bf16⟩
  | .local _ .vmem, ⟨7, _⟩ => ⟨S512x1024, .f32⟩
  | .local _ .vmem, ⟨8, _⟩ => ⟨S512x1024, .f32⟩
  | .local _ .vmem, ⟨9, _⟩ => ⟨S3x1024, .f32⟩
  | .local _ .vmem, ⟨10, _⟩ => ⟨S1024x3072, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S4x2048x1024 : Shape := ⟨3, ![4, 2048, 1024]⟩
abbrev S4x2x1024 : Shape := ⟨3, ![4, 2, 1024]⟩
abbrev S4x2050x1024 : Shape := ⟨3, ![4, 2050, 1024]⟩
abbrev S1024 : Shape := ⟨1, ![1024]⟩
abbrev S1x1x1024 : Shape := ⟨3, ![1, 1, 1024]⟩
abbrev S3072x1024 : Shape := ⟨2, ![3072, 1024]⟩
abbrev S5x1024 : Shape := ⟨2, ![5, 1024]⟩
abbrev S8x1024 : Shape := ⟨2, ![8, 1024]⟩
abbrev S7x1024 : Shape := ⟨2, ![7, 1024]⟩

abbrev nBuf : Space → Nat
  | .hbm => 153
  | .vmem => 0
  | .smem => 0
  | _ => 0

abbrev hbmTy0_0 (i : Nat) : BufTy := match i % 128 with
  | 0 => ⟨S8192x1024, .f32⟩
  | 1 => ⟨S1x1024, .f32⟩
  | 2 => ⟨S1024x3072, .f32⟩
  | 3 => ⟨S3x1024, .f32⟩
  | 4 => ⟨S1024x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x3072, .f32⟩
  | 26 => ⟨S8192x1024, .f32⟩
  | 27 => ⟨S8192x1024, .f32⟩
  | 28 => ⟨S8192x1024, .f32⟩
  | 29 => ⟨S8192x1024, .f32⟩
  | 30 => ⟨S4x2048x1024, .f32⟩
  | 31 => ⟨S_, .f32⟩
  | 32 => ⟨S4x2x1024, .f32⟩
  | 33 => ⟨S4x2050x1024, .f32⟩
  | 34 => ⟨S_, .f32⟩
  | 35 => ⟨S4x2x1024, .f32⟩
  | 36 => ⟨S1x1024, .f32⟩
  | 37 => ⟨S1024, .f32⟩
  | 38 => ⟨S4x2048x1024, .f32⟩
  | 39 => ⟨S1x1x1024, .f32⟩
  | 40 => ⟨S4x2048x1024, .f32⟩
  | 41 => ⟨S4x2048x1024, .f32⟩
  | 42 => ⟨S_, .f32⟩
  | 43 => ⟨S4x2048x1024, .f32⟩
  | 44 => ⟨S4x2048x1024, .f32⟩
  | 45 => ⟨S1x1024, .f32⟩
  | 46 => ⟨S1024, .f32⟩
  | 47 => ⟨S4x2048x1024, .f32⟩
  | 48 => ⟨S1x1x1024, .f32⟩
  | 49 => ⟨S4x2048x1024, .f32⟩
  | 50 => ⟨S4x2048x1024, .f32⟩
  | 51 => ⟨S4x2048x1024, .f32⟩
  | 52 => ⟨S1x1024, .f32⟩
  | 53 => ⟨S1024, .f32⟩
  | 54 => ⟨S4x2048x1024, .f32⟩
  | 55 => ⟨S1x1x1024, .f32⟩
  | 56 => ⟨S4x2048x1024, .f32⟩
  | 57 => ⟨S4x2048x1024, .f32⟩
  | 58 => ⟨S4x2048x1024, .f32⟩
  | 59 => ⟨S8192x1024, .f32⟩
  | 60 => ⟨S8192x1024, .f32⟩
  | 61 => ⟨S8192x1024, .f32⟩
  | 62 => ⟨S1024x1024, .f32⟩
  | 63 => ⟨S1024x1024, .f32⟩
  | 64 => ⟨S8192x1024, .f32⟩
  | 65 => ⟨S8192x1024, .f32⟩
  | 66 => ⟨S8192x1024, .f32⟩
  | 67 => ⟨S4x2048x1024, .f32⟩
  | 68 => ⟨S4x2048x1024, .f32⟩
  | 69 => ⟨S4x2048x1024, .f32⟩
  | 70 => ⟨S4x2048x1024, .f32⟩
  | 71 => ⟨S_, .f32⟩
  | 72 => ⟨S1024, .f32⟩
  | 73 => ⟨S1x1x1024, .f32⟩
  | 74 => ⟨S_, .f32⟩
  | 75 => ⟨S1024, .f32⟩
  | 76 => ⟨S_, .f32⟩
  | 77 => ⟨S4x2050x1024, .f32⟩
  | 78 => ⟨S1x1024, .f32⟩
  | 79 => ⟨S_, .f32⟩
  | 80 => ⟨S3x1024, .f32⟩
  | 81 => ⟨S4x2048x1024, .f32⟩
  | 82 => ⟨S4x2048x1024, .f32⟩
  | 83 => ⟨S4x2048x1024, .f32⟩
  | 84 => ⟨S_, .f32⟩
  | 85 => ⟨S1024, .f32⟩
  | 86 => ⟨S1x1x1024, .f32⟩
  | 87 => ⟨S_, .f32⟩
  | 88 => ⟨S1024, .f32⟩
  | 89 => ⟨S_, .f32⟩
  | 90 => ⟨S4x2050x1024, .f32⟩
  | 91 => ⟨S4x2050x1024, .f32⟩
  | 92 => ⟨S1x1024, .f32⟩
  | 93 => ⟨S_, .f32⟩
  | 94 => ⟨S3x1024, .f32⟩
  | 95 => ⟨S3x1024, .f32⟩
  | 96 => ⟨S4x2048x1024, .f32⟩
  | 97 => ⟨S4x2048x1024, .f32⟩
  | 98 => ⟨S4x2048x1024, .f32⟩
  | 99 => ⟨S_, .f32⟩
  | 100 => ⟨S1024, .f32⟩
  | 101 => ⟨S1x1x1024, .f32⟩
  | 102 => ⟨S_, .f32⟩
  | 103 => ⟨S1024, .f32⟩
  | 104 => ⟨S_, .f32⟩
  | 105 => ⟨S4x2050x1024, .f32⟩
  | 106 => ⟨S4x2050x1024, .f32⟩
  | 107 => ⟨S1x1024, .f32⟩
  | 108 => ⟨S_, .f32⟩
  | 109 => ⟨S3x1024, .f32⟩
  | 110 => ⟨S3x1024, .f32⟩
  | 111 => ⟨S4x2x1024, .f32⟩
  | 112 => ⟨S4x2048x1024, .f32⟩
  | 113 => ⟨S8192x1024, .f32⟩
  | 114 => ⟨S8192x1024, .f32⟩
  | 115 => ⟨S8192x1024, .f32⟩
  | 116 => ⟨S8192x3072, .f32⟩
  | 117 => ⟨S3072x1024, .f32⟩
  | 118 => ⟨S1024x3072, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S8192x1024, .f32⟩
  | 3 => ⟨S8192x1024, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x3072, .bf16⟩
  | 17 => ⟨S8192x1024, .bf16⟩
  | 18 => ⟨S8192x1024, .bf16⟩
  | 19 => ⟨S_, .f32⟩
  | 20 => ⟨S5x1024, .f32⟩
  | 21 => ⟨S8x1024, .f32⟩
  | 22 => ⟨S_, .f32⟩
  | 23 => ⟨S7x1024, .f32⟩
  | 24 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_cst_15 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_19 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_20 : Ref sig .tc := ⟨.hbm, 133, rfl⟩
abbrev main_v106 : Ref sig .tc := ⟨.hbm, 134, rfl⟩
abbrev main_v107 : Ref sig .tc := ⟨.hbm, 135, rfl⟩
abbrev main_cst_21 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_22 : Ref sig .tc := ⟨.hbm, 147, rfl⟩
abbrev main_v118 : Ref sig .tc := ⟨.hbm, 148, rfl⟩
abbrev main_v119 : Ref sig .tc := ⟨.hbm, 149, rfl⟩
abbrev main_cst_23 : Ref sig .tc := ⟨.hbm, 150, rfl⟩
abbrev main_v120 : Ref sig .tc := ⟨.hbm, 151, rfl⟩
abbrev main_v121 : Ref sig .tc := ⟨.hbm, 152, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256x768 : Shape := ⟨2, ![256, 768]⟩
abbrev S768x1024 : Shape := ⟨2, ![768, 1024]⟩
abbrev S1024x768 : Shape := ⟨2, ![1024, 768]⟩
abbrev S256 : Shape := ⟨1, ![256]⟩
abbrev S256x1 : Shape := ⟨2, ![256, 1]⟩
abbrev S1024 : Shape := ⟨1, ![1024]⟩

abbrev nBuf : Space → Nat
  | .hbm => 33
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S1024x5632, .bf16⟩
  | .hbm, ⟨23, _⟩ => ⟨S2816x1024, .bf16⟩
  | .hbm, ⟨24, _⟩ => ⟨S1024x1024, .bf16⟩
  | .hbm, ⟨25, _⟩ => ⟨S8192x1024, .f32⟩
  | .hbm, ⟨26, _⟩ => ⟨S8192x2816, .bf16⟩
  | .hbm, ⟨27, _⟩ => ⟨S8192x5632, .bf16⟩
  | .hbm, ⟨28, _⟩ => ⟨S8192x1024, .bf16⟩
  | .hbm, ⟨29, _⟩ => ⟨S8192x1024, .bf16⟩
  | .hbm, ⟨30, _⟩ => ⟨S8x1024, .f32⟩
  | .hbm, ⟨31, _⟩ => ⟨S8192x1024, .bf16⟩
  | .hbm, ⟨32, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .f32⟩
  | .local _ .vmem, ⟨6, _⟩ => ⟨S256x5632, .f32⟩
  | .local _ .vmem, ⟨7, _⟩ => ⟨S1024x5632, .bf16⟩
  | .local _ .vmem, ⟨8, _⟩ => ⟨S2816x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩
abbrev S1024 : Shape := ⟨1, ![1024]⟩
abbrev S7x1024 : Shape := ⟨2, ![7, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1024x2816, .f32⟩
  | .hbm, ⟨47, _⟩ => ⟨S2816x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x5632, .f32⟩
  | .hbm, ⟨56, _⟩ => ⟨S5632x1024, .f32⟩
  | .hbm, ⟨57, _⟩ => ⟨S1024x5632, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x2816, .bf16⟩
  | .hbm, ⟨85, _⟩ => ⟨S8192x5632, .bf16⟩
  | .hbm, ⟨86, _⟩ => ⟨S8192x1024, .bf16⟩
  | .hbm, ⟨87, _⟩ => ⟨S8192x1024, .bf16⟩
  | .hbm, ⟨88, _⟩ => ⟨S_, .f32⟩
  | .hbm, ⟨89, _⟩ => ⟨S7x1024, .f32⟩
  | .hbm, ⟨90, _⟩ => ⟨S8x1024, .f32⟩
  | .hbm, ⟨91, _⟩ => ⟨S8192x1024, .bf16⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S8192x512 : Shape := ⟨2, ![8192, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S8192x1024, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2x1408x1024 : Shape := ⟨3, ![2, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S2x1408x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S8192x1536 : Shape := ⟨2, ![8192, 1536]⟩
abbrev S1x1024x1536 : Shape := ⟨3, ![1, 1024, 1536]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1x1024x1536 : Shape := ⟨3, ![1, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | .hbm, ⟨10, _⟩ => ⟨S1x1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S8x1024x384 : Shape := ⟨3, ![8, 1024, 384]⟩
abbrev S4096x1024 : Shape := ⟨2, ![4096, 1024]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8x1024x384, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x8x384, .bf16⟩
  | .hbm, ⟨11, _⟩ => ⟨S8x1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S8192x1024, .f32⟩
  | .hbm, ⟨7, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x5632, .f32⟩
  | .local _ .vmem, ⟨8, _⟩ => ⟨S512x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S8192x5632 : Shape := ⟨2, ![8192, 5632]⟩
abbrev S8x128 : Shape := ⟨2, ![8, 128]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩
abbrev S1 : Shape := ⟨1, ![1]⟩
abbrev S1x1 : Shape := ⟨2, ![1, 1]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .bf16⟩
  | .hbm, ⟨5, _⟩ => ⟨S1024x1024, .f32⟩
  | .hbm, ⟨6, _⟩ => ⟨S8192x1024, .f32⟩
  | .hbm, ⟨7, _⟩ => ⟨S1024x5632, .bf16⟩
  | .hbm, ⟨8, _⟩ => ⟨S2816x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x5632, .f32⟩
  | .hbm, ⟨13, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x5632, .f32⟩
  | .local _ .vmem, ⟨15, _⟩ => ⟨S256x5632, .f32⟩
  | .local _ .vmem, ⟨16, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x128 : Shape := ⟨2, ![8, 128]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S_, .f32⟩
  | .hbm, ⟨67, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_cst_7 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Kernel10.lean ====
abbrev S1 : Shape := ⟨1, ![1]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .smem, ⟨0, _⟩ => ⟨S1, .i32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference10Ideal.lean ====
abbrev S1 : Shape := ⟨1, ![1]⟩
abbrev S8x8x1024 : Shape := ⟨3, ![8, 8, 1024]⟩
abbrev S8x1024 : Shape := ⟨2, ![8, 1024]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S8x8x1024, .i1⟩
  | .hbm, ⟨12, _⟩ => ⟨S8x8x1024, .f32⟩
  | .hbm, ⟨13, _⟩ => ⟨S8x8x1024, .f32⟩
  | .hbm, ⟨14, _⟩ => ⟨S_, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S_, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S_, .f32⟩
  | .hbm, ⟨47, _⟩ => ⟨S8x1024, .f32⟩
  | .hbm, ⟨48, _⟩ => ⟨S8x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel11.lean ====
abbrev S1 : Shape := ⟨1, ![1]⟩
abbrev S8x128x1024 : Shape := ⟨3, ![8, 128, 1024]⟩
abbrev S128x1024 : Shape := ⟨2, ![128, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S1 : Shape := ⟨1, ![1]⟩
abbrev S8x128x1024 : Shape := ⟨3, ![8, 128, 1024]⟩
abbrev S128x1024 : Shape := ⟨2, ![128, 1024]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S8x128x1024, .i1⟩
  | .hbm, ⟨12, _⟩ => ⟨S8x128x1024, .bf16⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel12.lean ====
abbrev S1 : Shape := ⟨1, ![1]⟩
abbrev S8x1024x384 : Shape := ⟨3, ![8, 1024, 384]⟩
abbrev S1024x384 : Shape := ⟨2, ![1024, 384]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S8x256x384, .bf16⟩
  | .local _ .vmem, ⟨1, _⟩ => ⟨S8x256x384, .bf16⟩
  | .local _ .vmem, ⟨2, _⟩ => ⟨S1x256x384, .bf16⟩
  | .local _ .vmem, ⟨3, _⟩ => ⟨S1x256x384, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | .local _ .smem, ⟨0, _⟩ => ⟨S1, .i32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1 : Shape := ⟨1, ![1]⟩
abbrev S8x1024x384 : Shape := ⟨3, ![8, 1024, 384]⟩
abbrev S1024x384 : Shape := ⟨2, ![1024, 384]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x384, .bf16⟩
  | .hbm, ⟨2, _⟩ => ⟨S8x1024x384, .bf16⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S8x1024x384, .i1⟩
  | .hbm, ⟨12, _⟩ => ⟨S8x1024x384, .bf16⟩
  | .hbm, ⟨13, _⟩ => ⟨S8x1024x384, .f32⟩
  | .hbm, ⟨14, _⟩ => ⟨S_, .f32⟩
  | .hbm, ⟨15, _⟩ => ⟨S1024x384, .f32⟩
  | .hbm, ⟨16, _⟩ => ⟨S_, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S1024x384, .f32⟩
  | .hbm, ⟨23, _⟩ => ⟨S_, .f32⟩
  | .hbm, ⟨24, _⟩ => ⟨S1024x384, .f32⟩
  | .hbm, ⟨25, _⟩ => ⟨S1024x384, .f32⟩
  | .hbm, ⟨26, _⟩ => ⟨S1024x384, .f32⟩
  | .hbm, ⟨27, _⟩ => ⟨S_, .f32⟩
  | .hbm, ⟨28, _⟩ => ⟨S1024x384, .f32⟩
  | .hbm, ⟨29, _⟩ => ⟨S1024x384, .f32⟩
  | .hbm, ⟨30, _⟩ => ⟨S1024x384, .f32⟩
  | .hbm, ⟨31, _⟩ => ⟨S_, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | .hbm, ⟨37, _⟩ => ⟨S1024x384, .f32⟩
  | .hbm, ⟨38, _⟩ => ⟨S_, .f32⟩
  | .hbm, ⟨39, _⟩ => ⟨S1024x384, .f32⟩
  | .hbm, ⟨40, _⟩ => ⟨S1024x384, .f32⟩
  | .hbm, ⟨41, _⟩ => ⟨S1024x384, .f32⟩
  | .hbm, ⟨42, _⟩ => ⟨S_, .f32⟩
  | .hbm, ⟨43, _⟩ => ⟨S1024x384, .f32⟩
  | .hbm, ⟨44, _⟩ => ⟨S1024x384, .f32⟩
  | .hbm, ⟨45, _⟩ => ⟨S1024x384, .f32⟩
  | .hbm, ⟨46, _⟩ => ⟨S_, .f32⟩
  | .hbm, ⟨47, _⟩ => ⟨S1024x384, .f32⟩
  | .hbm, ⟨48, _⟩ => ⟨S1024x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel13.lean ====
abbrev S1 : Shape := ⟨1, ![1]⟩
abbrev S8x1024x192 : Shape := ⟨3, ![8, 1024, 192]⟩
abbrev S1024x192 : Shape := ⟨2, ![1024, 192]⟩
abbrev S8x256x192 : Shape := ⟨3, ![8, 256, 192]⟩
abbrev S1x256x192 : Shape := ⟨3, ![1, 256, 192]⟩
abbrev S256x192 : Shape := ⟨2, ![256, 192]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x192, .bf16⟩
  | .hbm, ⟨1, _⟩ => ⟨S8x1024x192, .bf16⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .local _ .vmem, ⟨0, _⟩ => ⟨S8x256x192, .bf16⟩
  | .local _ .vmem, ⟨1, _⟩ => ⟨S8x256x192, .bf16⟩
  | .local _ .vmem, ⟨2, _⟩ => ⟨S1x256x192, .bf16⟩
  | .local _ .vmem, ⟨3, _⟩ => ⟨S1x256x192, .bf16⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | .local _ .smem, ⟨0, _⟩ => ⟨S1, .i32⟩
  | _, _ => ⟨S8x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1 : Shape := ⟨1, ![1]⟩
abbrev S8x1024x192 : Shape := ⟨3, ![8, 1024, 192]⟩
abbrev S1024x192 : Shape := ⟨2, ![1024, 192]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x192, .bf16⟩
  | .hbm, ⟨2, _⟩ => ⟨S8x1024x192, .bf16⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S8x1024x192, .i1⟩
  | .hbm, ⟨12, _⟩ => ⟨S8x1024x192, .bf16⟩
  | .hbm, ⟨13, _⟩ => ⟨S8x1024x192, .f32⟩
  | .hbm, ⟨14, _⟩ => ⟨S_, .f32⟩
  | .hbm, ⟨15, _⟩ => ⟨S1024x192, .f32⟩
  | .hbm, ⟨16, _⟩ => ⟨S_, .f32⟩
  | .hbm, ⟨17, _⟩ => ⟨S1024x192, .f32⟩
  | .hbm, ⟨18, _⟩ => ⟨S1024x192, .f32⟩
  | .hbm, ⟨19, _⟩ => ⟨S_, .f32⟩
  | .hbm, ⟨20, _⟩ => ⟨S1024x192, .f32⟩
  | .hbm, ⟨21, _⟩ => ⟨S1024x192, .f32⟩
  | .hbm, ⟨22, _⟩ => ⟨S1024x192, .f32⟩
  | .hbm, ⟨23, _⟩ => ⟨S_, .f32⟩
  | .hbm, ⟨24, _⟩ => ⟨S1024x192, .f32⟩
  | .hbm, ⟨25, _⟩ => ⟨S1024x192, .f32⟩
  | .hbm, ⟨26, _⟩ => ⟨S1024x192, .f32⟩
  | .hbm, ⟨27, _⟩ => ⟨S_, .f32⟩
  | .hbm, ⟨28, _⟩ => ⟨S1024x192, .f32⟩
  | .hbm, ⟨29, _⟩ => ⟨S1024x192, .f32⟩
  | .hbm, ⟨30, _⟩ => ⟨S1024x192, .f32⟩
  | .hbm, ⟨31, _⟩ => ⟨S_, .f32⟩
  | .hbm, ⟨32, _⟩ => ⟨S1024x192, .f32⟩
  | .hbm, ⟨33, _⟩ => ⟨S1024x192, .f32⟩
  | .hbm, ⟨34, _⟩ => ⟨S_, .f32⟩
  | .hbm, ⟨35, _⟩ => ⟨S1024x192, .f32⟩
  | .hbm, ⟨36, _⟩ => ⟨S1024x192, .f32⟩
  | .hbm, ⟨37, _⟩ => ⟨S1024x192, .f32⟩
  | .hbm, ⟨38, _⟩ => ⟨S_, .f32⟩
  | .hbm, ⟨39, _⟩ => ⟨S1024x192, .f32⟩
  | .hbm, ⟨40, _⟩ => ⟨S1024x192, .f32⟩
  | .hbm, ⟨41, _⟩ => ⟨S1024x192, .f32⟩
  | .hbm, ⟨42, _⟩ => ⟨S_, .f32⟩
  | .hbm, ⟨43, _⟩ => ⟨S1024x192, .f32⟩
  | .hbm, ⟨44, _⟩ => ⟨S1024x192, .f32⟩
  | .hbm, ⟨45, _⟩ => ⟨S1024x192, .f32⟩
  | .hbm, ⟨46, _⟩ => ⟨S_, .f32⟩
  | .hbm, ⟨47, _⟩ => ⟨S1024x192, .f32⟩
  | .hbm, ⟨48, _⟩ => ⟨S1024x192, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel14.lean ====
abbrev S1 : Shape := ⟨1, ![1]⟩
abbrev S8x3x128 : Shape := ⟨3, ![8, 3, 128]⟩
abbrev S3x128 : Shape := ⟨2, ![3, 128]⟩
abbrev S1x3x128 : Shape := ⟨3, ![1, 3, 128]⟩

abbrev nBuf : Space → Nat
  | .hbm => 9
  | .vmem => 9
  | .smem => 1
  | _ => 0

abbrev bufTy : (tb : Table) → Fin (tcTables nBuf tb) → BufTy
  | .hbm, ⟨0, _⟩ => ⟨S8x3x128, .f32⟩
  | .hbm, ⟨1, _⟩ => ⟨S8x3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .local _ .vmem, ⟨0, _⟩ => ⟨S8x3x128, .f32⟩
  | .local _ .vmem, ⟨1, _⟩ => ⟨S1x3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .smem, ⟨0, _⟩ => ⟨S1, .i32⟩
  | _, _ => ⟨S8x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference14Ideal.lean ====
abbrev S1 : Shape := ⟨1, ![1]⟩
abbrev S8x3x128 : Shape := ⟨3, ![8, 3, 128]⟩
abbrev S3x128 : Shape := ⟨2, ![3, 128]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x3x128, .f32⟩
  | .hbm, ⟨2, _⟩ => ⟨S8x3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S8x3x128, .i1⟩
  | .hbm, ⟨12, _⟩ => ⟨S8x3x128, .f32⟩
  | .hbm, ⟨13, _⟩ => ⟨S_, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S_, .f32⟩
  | .hbm, ⟨19, _⟩ => ⟨S3x128, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S_, .f32⟩
  | .hbm, ⟨34, _⟩ => ⟨S3x128, .f32⟩
  | .hbm, ⟨35, _⟩ => ⟨S3x128, .f32⟩
  | .hbm, ⟨36, _⟩ => ⟨S3x128, .f32⟩
  | .hbm, ⟨37, _⟩ => ⟨S_, .f32⟩
  | .hbm, ⟨38, _⟩ => ⟨S3x128, .f32⟩
  | .hbm, ⟨39, _⟩ => ⟨S3x128, .f32⟩
  | .hbm, ⟨40, _⟩ => ⟨S3x128, .f32⟩
  | .hbm, ⟨41, _⟩ => ⟨S_, .f32⟩
  | .hbm, ⟨42, _⟩ => ⟨S3x128, .f32⟩
  | .hbm, ⟨43, _⟩ => ⟨S3x128, .f32⟩
  | .hbm, ⟨44, _⟩ => ⟨S3x128, .f32⟩
  | .hbm, ⟨45, _⟩ => ⟨S_, .f32⟩
  | .hbm, ⟨46, _⟩ => ⟨S3x128, .f32⟩
  | .hbm, ⟨47, _⟩ => ⟨S3x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel15.lean ====
abbrev S1 : Shape := ⟨1, ![1]⟩
abbrev S8x2048x704 : Shape := ⟨3, ![8, 2048, 704]⟩
abbrev S8x1024x704 : Shape := ⟨3, ![8, 1024, 704]⟩
abbrev S2048x704 : Shape := ⟨2, ![2048, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 10
  | .vmem => 20
  | .smem => 1
  | _ => 0

abbrev bufTy : (tb : Table) → Fin (tcTables nBuf tb) → BufTy
  | .hbm, ⟨0, _⟩ => ⟨S8x2048x704, .bf16⟩
  | .hbm, ⟨1, _⟩ => ⟨S8x1024x704, .bf16⟩
  | .hbm, ⟨2, _⟩ => ⟨S8x1024x704, .bf16⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .smem, ⟨0, _⟩ => ⟨S1, .i32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S1 : Shape := ⟨1, ![1]⟩
abbrev S8x2048x704 : Shape := ⟨3, ![8, 2048, 704]⟩
abbrev S8x1024x704 : Shape := ⟨3, ![8, 1024, 704]⟩
abbrev S2048x704 : Shape := ⟨2, ![2048, 704]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x2048x704, .bf16⟩
  | .hbm, ⟨2, _⟩ => ⟨S8x1024x704, .bf16⟩
  | .hbm, ⟨3, _⟩ => ⟨S8x1024x704, .bf16⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S8x2048x704, .bf16⟩
  | .hbm, ⟨8, _⟩ => ⟨S8, .i32⟩
  | .hbm, ⟨9, _⟩ => ⟨S8x1x1, .i32⟩
  | .hbm, ⟨10, _⟩ => ⟨S1x1x1, .i32⟩
  | .hbm, ⟨11, _⟩ => ⟨S8x1x1, .i32⟩
  | .hbm, ⟨12, _⟩ => ⟨S8x1x1, .i1⟩
  | .hbm, ⟨13, _⟩ => ⟨S8x2048x704, .i1⟩
  | .hbm, ⟨14, _⟩ => ⟨S8x2048x704, .bf16⟩
  | .hbm, ⟨15, _⟩ => ⟨S8x2048x704, .f32⟩
  | .hbm, ⟨16, _⟩ => ⟨S_, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S_, .f32⟩
  | .hbm, ⟨22, _⟩ => ⟨S2048x704, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S_, .f32⟩
  | .hbm, ⟨37, _⟩ => ⟨S2048x704, .f32⟩
  | .hbm, ⟨38, _⟩ => ⟨S2048x704, .f32⟩
  | .hbm, ⟨39, _⟩ => ⟨S2048x704, .f32⟩
  | .hbm, ⟨40, _⟩ => ⟨S_, .f32⟩
  | .hbm, ⟨41, _⟩ => ⟨S2048x704, .f32⟩
  | .hbm, ⟨42, _⟩ => ⟨S2048x704, .f32⟩
  | .hbm, ⟨43, _⟩ => ⟨S2048x704, .f32⟩
  | .hbm, ⟨44, _⟩ => ⟨S_, .f32⟩
  | .hbm, ⟨45, _⟩ => ⟨S2048x704, .f32⟩
  | .hbm, ⟨46, _⟩ => ⟨S2048x704, .f32⟩
  | .hbm, ⟨47, _⟩ => ⟨S2048x704, .f32⟩
  | .hbm, ⟨48, _⟩ => ⟨S_, .f32⟩
  | .hbm, ⟨49, _⟩ => ⟨S2048x704, .f32⟩
  | .hbm, ⟨50, _⟩ => ⟨S2048x704, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel16.lean ====
abbrev S1 : Shape := ⟨1, ![1]⟩
abbrev S8x704x1024 : Shape := ⟨3, ![8, 704, 1024]⟩
abbrev S8x352x1024 : Shape := ⟨3, ![8, 352, 1024]⟩
abbrev S704x1024 : Shape := ⟨2, ![704, 1024]⟩
abbrev S8x88x1024 : Shape := ⟨3, ![8, 88, 1024]⟩
abbrev S1x88x1024 : Shape := ⟨3, ![1, 88, 1024]⟩
abbrev S88x1024 : Shape := ⟨2, ![88, 1024]⟩

abbrev nBuf : Space → Nat
  | .hbm => 10
  | .vmem => 20
  | .smem => 1
  | _ => 0

abbrev bufTy : (tb : Table) → Fin (tcTables nBuf tb) → BufTy
  | .hbm, ⟨0, _⟩ => ⟨S8x704x1024, .bf16⟩
  | .hbm, ⟨1, _⟩ => ⟨S8x352x1024, .bf16⟩
  | .hbm, ⟨2, _⟩ => ⟨S8x352x1024, .bf16⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S8x88x1024, .bf16⟩
  | .local _ .vmem, ⟨1, _⟩ => ⟨S8x88x1024, .bf16⟩
  | .local _ .vmem, ⟨2, _⟩ => ⟨S1x88x1024, .bf16⟩
  | .local _ .vmem, ⟨3, _⟩ => ⟨S1x88x1024, .bf16⟩
  | .local _ .vmem, ⟨4, _⟩ => ⟨S1x88x1024, .bf16⟩
  | .local _ .vmem, ⟨5, _⟩ => ⟨S1x88x1024, .bf16⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v0.toNat, v10.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x88x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x88x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S1 : Shape := ⟨1, ![1]⟩
abbrev S8x704x1024 : Shape := ⟨3, ![8, 704, 1024]⟩
abbrev S8x352x1024 : Shape := ⟨3, ![8, 352, 1024]⟩
abbrev S704x1024 : Shape := ⟨2, ![704, 1024]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x704x1024, .bf16⟩
  | .hbm, ⟨2, _⟩ => ⟨S8x352x1024, .bf16⟩
  | .hbm, ⟨3, _⟩ => ⟨S8x352x1024, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S8x704x1024, .bf16⟩
  | .hbm, ⟨8, _⟩ => ⟨S8, .i32⟩
  | .hbm, ⟨9, _⟩ => ⟨S8x1x1, .i32⟩
  | .hbm, ⟨10, _⟩ => ⟨S1x1x1, .i32⟩
  | .hbm, ⟨11, _⟩ => ⟨S8x1x1, .i32⟩
  | .hbm, ⟨12, _⟩ => ⟨S8x1x1, .i1⟩
  | .hbm, ⟨13, _⟩ => ⟨S8x704x1024, .i1⟩
  | .hbm, ⟨14, _⟩ => ⟨S8x704x1024, .bf16⟩
  | .hbm, ⟨15, _⟩ => ⟨S8x704x1024, .f32⟩
  | .hbm, ⟨16, _⟩ => ⟨S_, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.Conv.Norm.lean ====
/- The backward pass of an RMS normalisation in two shapes, over the extended reals.

   With `a = (∑ xₖ²) / n + e` and `r = 1 / √a`, the kernel computes `r (dᵢ − xᵢ r · (∑ dₖ xₖ r) / n)`; differentiating
   `x ↦ x · r` mechanically gives `dᵢ r + xᵢ w + w xᵢ` with `w = ((∑ xₖ dₖ) · (−½ · r / a)) / n`. They are equal whatever the
   entries: if some `xₖ` is infinite then `a = ⊤`, `r = 0` and both sides vanish; otherwise every `xₖ` and `r` are real, and a
   real factor distributes over the extended sums in play. -/
module

public import Idealize.ShloMosaic.Lib.IdealHost
public import Mathlib.Data.EReal.Operations
public import Mathlib.Data.EReal.Inv

@[expose] public section

noncomputable section

namespace Cert.Conv.Norm

open Idealize.ShloMosaic
open scoped BigOperators

/-! ## Constants -/

/-- The f32 pattern `0x44800000` is 1024. -/
theorem word_1024 : Ideal.ofBits .f32 0x44800000#32 = ((1024 : ℝ) : EReal) := by
  simp [Ideal.ofBits, Ideal.ieee, -EReal.coe_mul]; norm_num

/-- The f32 pattern `0xBF000000` is minus one half. -/
theorem word_neg_half : Ideal.ofBits .f32 0xBF000000#32 = ((-(1 / 2) : ℝ) : EReal) := by
  simp [Ideal.ofBits, Ideal.ieee, -EReal.coe_mul, -EReal.coe_neg]; norm_num

/-- The f32 pattern of the normalisation's `1e-6`, a positive real. -/
theorem word_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-! ## Real factors and extended sums -/

/-- A real factor that is not negative distributes over a sum of two extended reals. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- … and over a sum of any length. -/
theorem coe_mul_sum {ι : Type*} {c : ℝ} (hc : 0 ≤ c) (s : Finset ι) (f : ι → EReal) :
    (c : EReal) * ∑ k ∈ s, f k = ∑ k ∈ s, c * f k := by
  classical
  induction s using Finset.induction_on with
  | empty => simp
  | insert a s ha ih => rw [Finset.sum_insert ha, Finset.sum_insert ha, coe_mul_add hc, ih]

/-- Twice a real multiple of an extended real: the two copies never have opposite signs. -/
theorem coe_mul_add_self (q : ℝ) (s : EReal) : (q : EReal) * s + q * s = ((2 * q : ℝ) : EReal) * s := by
  induction s with
  | bot =>
    rcases lt_trichotomy q 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy q 0 with h | h | h
    · rw [EReal.coe_mul_top_of_neg h, EReal.coe_mul_top_of_neg (by linarith)]; rfl
    · subst h; simp
    · rw [EReal.coe_mul_top_of_pos h, EReal.coe_mul_top_of_pos (by linarith)]; rfl
  | coe s => norm_cast; ring

/-- The coercion of the reals passes under a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A square of an extended real is not negative. -/
theorem mul_self_nonneg' (x : EReal) : 0 ≤ x * x := by
  induction x with
  | bot => simp
  | top => simp
  | coe x => exact_mod_cast mul_self_nonneg x

/-- A sum of squares is `⊤`, or every entry is real. -/
theorem sum_sq_top_or_real {ι : Type*} [Fintype ι] (x : ι → EReal) :
    (∑ k, x k * x k = ⊤) ∨ ∃ y : ι → ℝ, ∀ k, x k = (y k : EReal) := by
  classical
  by_cases h : ∃ k, x k = ⊤ ∨ x k = ⊥
  · left
    obtain ⟨k, hk⟩ := h
    refine top_le_iff.mp (le_trans (le_of_eq ?_)
      (Finset.single_le_sum (f := fun k => x k * x k) (fun i _ => mul_self_nonneg' (x i)) (Finset.mem_univ k)))
    rcases hk with hk | hk <;> simp [hk]
  · right
    push Not at h
    exact ⟨fun k => (x k).toReal, fun k => (EReal.coe_toReal (h k).1 (h k).2).symm⟩

/-! ## The equation -/

/-- The two shapes of the normalisation's gradient agree on all extended reals. -/
theorem rms_backward {ι : Type*} [Fintype ι] (x d : ι → EReal) {n e : ℝ} (hn : 0 < n) (he : 0 < e) (i : ι) :
    Ideal.rsqrt (Ideal.div (∑ k, x k * x k) n + e)
        * (d i - x i * Ideal.rsqrt (Ideal.div (∑ k, x k * x k) n + e)
            * Ideal.div (∑ k, d k * (x k * Ideal.rsqrt (Ideal.div (∑ k, x k * x k) n + e))) n)
      = d i * Ideal.rsqrt (Ideal.div (∑ k, x k * x k) n + e)
          + x i * Ideal.div ((∑ k, x k * d k) * (((-(1 / 2) : ℝ) : EReal)
              * Ideal.div (Ideal.rsqrt (Ideal.div (∑ k, x k * x k) n + e)) (Ideal.div (∑ k, x k * x k) n + e))) n
          + Ideal.div ((∑ k, x k * d k) * (((-(1 / 2) : ℝ) : EReal)
              * Ideal.div (Ideal.rsqrt (Ideal.div (∑ k, x k * x k) n + e)) (Ideal.div (∑ k, x k * x k) n + e))) n * x i := by
  have hn' : n ≠ 0 := hn.ne'
  have hinv : (0 : ℝ) < 1 / n := by positivity
  rcases sum_sq_top_or_real x with h | ⟨y, hy⟩
  · rw [h]
    have ha : Ideal.div ⊤ (n : EReal) + (e : EReal) = ⊤ := by
      rw [Ideal.div_coe hn', EReal.top_mul_coe_of_pos hinv, EReal.top_add_coe]
    rw [ha]
    simp [Ideal.div, hn']
  · obtain rfl : x = fun k => (y k : EReal) := funext hy
    set b : ℝ := (∑ k, y k * y k) * (1 / n) + e with hb
    have hb0 : 0 < b := by
      have : 0 ≤ ∑ k, y k * y k := Finset.sum_nonneg fun k _ => mul_self_nonneg _
      positivity
    have ha : Ideal.div (∑ k, (y k : EReal) * (y k : EReal)) (n : EReal) + (e : EReal) = (b : EReal) := by
      rw [Ideal.div_coe hn', hb]
      have hs : (∑ k, (y k : EReal) * (y k : EReal)) = ((∑ k, y k * y k : ℝ) : EReal) := by
        rw [coe_sum]; exact Finset.sum_congr rfl fun k _ => (EReal.coe_mul _ _).symm
      rw [hs]; norm_cast
    have hr : Ideal.rsqrt (b : EReal) = (((Real.sqrt b)⁻¹ : ℝ) : EReal) := by
      rw [Ideal.rsqrt_coe, if_neg (not_lt.mpr hb0.le), if_neg hb0.ne']
    simp only [ha, hr]
    set r : ℝ := (Real.sqrt b)⁻¹ with hrdef
    have hr0 : 0 ≤ r := inv_nonneg.mpr (Real.sqrt_nonneg b)
    have hrr : r * r = 1 / b := by
      rw [hrdef, ← mul_inv, Real.mul_self_sqrt hb0.le, one_div]
    set S : EReal := ∑ k, (y k : EReal) * d k with hS
    have hsum : ∑ k, d k * ((y k : EReal) * (r : EReal)) = (r : EReal) * S := by
      rw [hS, coe_mul_sum hr0]
      exact Finset.sum_congr rfl fun k _ => by rw [mul_comm (d k), mul_comm (y k : EReal) (r : EReal), mul_assoc]
    rw [hsum, Ideal.div_coe hn', Ideal.div_coe hn', Ideal.div_coe hb0.ne']
    have hw : S * (((-(1 / 2) : ℝ) : EReal) * ((r : EReal) * ((1 / b : ℝ) : EReal))) * ((1 / n : ℝ) : EReal)
        = ((-(1 / 2) * (r * (1 / b)) * (1 / n) : ℝ) : EReal) * S := by
      rw [EReal.coe_mul, EReal.coe_mul, EReal.coe_mul]; ac_rfl
    rw [hw, sub_eq_add_neg, coe_mul_add hr0, mul_comm (r : EReal) (d i), add_assoc]
    refine congrArg (d i * (r : EReal) + ·) ?_
    rw [mul_comm (_ * S) (y i : EReal), coe_mul_add_self]
    have hk : (y i : EReal) * (r : EReal) * ((r : EReal) * S * ((1 / n : ℝ) : EReal))
        = ((y i * (r * r) * (1 / n) : ℝ) : EReal) * S := by
      rw [EReal.coe_mul, EReal.coe_mul, EReal.coe_mul]; ac_rfl
    rw [hk, ← EReal.neg_mul, ← EReal.coe_neg, ← mul_assoc (r : EReal), ← mul_assoc ((2 * y i : ℝ) : EReal),
      ← EReal.coe_mul, ← EReal.coe_mul, ← hrr]
    refine congrArg (fun q : ℝ => (q : EReal) * S) ?_
    ring

end Cert.Conv.Norm

end
-- ==== Proof.Conv.Spec.lean ====
/- The gradient of the short convolution's layer, written row by row over the arrays the kernel reads.

   Row `R` of 8192 is position `R % 2048` of one of four sequences. `dz` is the incoming gradient times the transposed output weight;
   `dy = dz · c`; the convolution reads positions `s − 2, s − 1, s`, so its gradient at a position adds up `dy` at the position, one later and
   two later, weighted, with nothing from beyond the sequence's end. -/
module

public import Idealize.ShloMosaic.Lib.IdealHost
public import Idealize.ShloMosaic.Lib.Pointwise
public import proofs.«01_k».proof.Proof.Conv.Norm

@[expose] public section

noncomputable section

namespace Cert.Conv

open Idealize.ShloMosaic
open scoped BigOperators

/-- The arrays the gradient is computed from: the incoming gradient, the layer's input, the normalisation's gain, the projection
    `[b, c, x]`, the convolution's result, the convolution's three taps, the input weight and the output weight. -/
structure Args where
  ct : (⟨2, ![8192, 1024]⟩ : Shape).Idx → EReal
  x : (⟨2, ![8192, 1024]⟩ : Shape).Idx → EReal
  g : (⟨2, ![1, 1024]⟩ : Shape).Idx → EReal
  bcx : (⟨2, ![8192, 3072]⟩ : Shape).Idx → EReal
  y : (⟨2, ![8192, 1024]⟩ : Shape).Idx → EReal
  cw : (⟨2, ![3, 1024]⟩ : Shape).Idx → EReal
  wi : (⟨2, ![1024, 3072]⟩ : Shape).Idx → EReal
  wo : (⟨2, ![1024, 1024]⟩ : Shape).Idx → EReal

namespace Args

variable (a : Args)

/-- The gate `b` at a row. -/
def b (R : Fin 8192) (j : Fin 1024) : EReal := a.bcx (ix2 R ⟨j, by omega⟩)
/-- The gate `c` at a row. -/
def c (R : Fin 8192) (j : Fin 1024) : EReal := a.bcx (ix2 R ⟨1024 + j, by omega⟩)
/-- The convolved value at a row. -/
def xv (R : Fin 8192) (j : Fin 1024) : EReal := a.bcx (ix2 R ⟨2048 + j, by omega⟩)

/-- The gradient of the gated value. -/
def dz (R : Fin 8192) (j : Fin 1024) : EReal := ∑ k : Fin 1024, a.ct (ix2 R k) * a.wo (ix2 j k)
/-- The gradient of the convolution's result. -/
def dy (R : Fin 8192) (j : Fin 1024) : EReal := a.dz R j * a.c R j
/-- `dy`, `d` positions later in the same sequence; zero beyond its end. -/
def up (d : ℕ) (R : Fin 8192) (j : Fin 1024) : EReal :=
  if h : R.val % 2048 + d < 2048 then a.dy ⟨R + d, by omega⟩ j else 0
/-- The gradient of the convolution's operand. -/
def du (R : Fin 8192) (j : Fin 1024) : EReal :=
  a.cw (ix2 2 j) * a.dy R j + a.cw (ix2 1 j) * a.up 1 R j + a.cw (ix2 0 j) * a.up 2 R j
/-- The gradient of the projection `[b, c, x]`. -/
def dbcx (R : Fin 8192) (j : Fin 3072) : EReal :=
  if h : j.val < 1024 then a.du R ⟨j, h⟩ * a.xv R ⟨j, h⟩
  else if h' : j.val < 2048 then a.dz R ⟨j - 1024, by omega⟩ * a.y (ix2 R ⟨j - 1024, by omega⟩)
  else a.du R ⟨j - 2048, by omega⟩ * a.b R ⟨j - 2048, by omega⟩
/-- The gradient of the normalised input. -/
def dh (R : Fin 8192) (j : Fin 1024) : EReal := ∑ k : Fin 3072, a.dbcx R k * a.wi (ix2 j k)

/-- The mean square of a row, with the small constant under the root. -/
def ms (R : Fin 8192) : EReal :=
  Ideal.div (∑ k : Fin 1024, a.x (ix2 R k) * a.x (ix2 R k)) (Ideal.ofBits .f32 0x44800000#32) + Ideal.ofBits .f32 0x358637BD#32
/-- The normalised row. -/
def xn (R : Fin 8192) (j : Fin 1024) : EReal := a.x (ix2 R j) * Ideal.rsqrt (a.ms R)
/-- The normalised row times the gain. -/
def h (R : Fin 8192) (j : Fin 1024) : EReal := a.xn R j * a.g (ix2 0 j)
/-- The gradient of the layer's input, through the residual and through the normalisation. -/
def gx (R : Fin 8192) (j : Fin 1024) : EReal :=
  a.ct (ix2 R j) + Ideal.rsqrt (a.ms R) * (a.dh R j * a.g (ix2 0 j)
    - a.xn R j * Ideal.div (∑ k : Fin 1024, a.dh R k * a.g (ix2 0 k) * a.xn R k) (Ideal.ofBits .f32 0x44800000#32))
/-- One row's part of the gain's gradient. -/
def dgRow (R : Fin 8192) (j : Fin 1024) : EReal := a.dh R j * a.xn R j
/-- One row's part of the gradient of the tap that reads `d` positions back. -/
def dcwRow (d : ℕ) (R : Fin 8192) (j : Fin 1024) : EReal := a.up d R j * (a.b R j * a.xv R j)

/-- The value at distance zero is the value itself. -/
theorem up_zero (R : Fin 8192) (j : Fin 1024) : a.up 0 R j = a.dy R j := by
  unfold up
  rw [dif_pos (by omega)]
  rfl

/-- The taps' gradient, one row each, below it zeros. -/
def dcw (q : Fin 8) (j : Fin 1024) : EReal := if q.val < 3 then ∑ R : Fin 8192, a.dcwRow (2 - q) R j else 0
/-- The gain's gradient, below it zeros. -/
def dg (q : Fin 8) (j : Fin 1024) : EReal := if q.val < 1 then ∑ R : Fin 8192, a.dgRow R j else 0

end Args

/-- The row of the whole array that row `r` of grid point `t`'s block is: the blocks are taken from the last to the first. -/
def row (t : Fin 16) (r : Fin 512) : Fin 8192 := ⟨(15 - t) * 512 + r, by omega⟩

/-- Later rows of the same block. -/
theorem Args.up_in (a : Args) {d : ℕ} {t : Fin 16} {r : Fin 512} (h : r.val + d < 512) (j : Fin 1024) :
    a.up d (row t r) j = a.dy (row t ⟨r + d, h⟩) j := by
  have hr := r.isLt
  have ht := t.isLt
  unfold up row
  rw [dif_pos (by simp only; omega)]
  congr 1
  apply Fin.ext
  simp only
  omega

/-- Rows of the block after, taken at the grid point before, when it belongs to the same sequence. -/
theorem Args.up_over (a : Args) {d : ℕ} {t : Fin 16} {r : Fin 512} (h : 512 ≤ r.val + d) (hd : d ≤ 8) (ht : ¬ t.val % 4 = 0)
    (j : Fin 1024) : a.up d (row t r) j = a.dy (row ⟨t - 1, by omega⟩ ⟨r + d - 512, by omega⟩) j := by
  have hr := r.isLt
  have ht := t.isLt
  unfold up row
  rw [dif_pos (by simp only; omega)]
  congr 1
  apply Fin.ext
  simp only
  omega

/-- Beyond the sequence's last block there is nothing. -/
theorem Args.up_last (a : Args) {d : ℕ} {t : Fin 16} {r : Fin 512} (h : 512 ≤ r.val + d) (ht : t.val % 4 = 0)
    (j : Fin 1024) : a.up d (row t r) j = 0 := by
  have hr := r.isLt
  unfold up row
  exact dif_neg (by simp only; omega)

/-- A sum over all rows is the sum over the grid points of the sums over their blocks' rows. -/
theorem sum_rows (f : Fin 8192 → EReal) : ∑ R : Fin 8192, f R = ∑ t : Fin 16, ∑ r : Fin 512, f (row t r) := by
  rw [Fin.sum_univ_tiles 16 512 rfl f]
  refine (Equiv.sum_comp Fin.revPerm _).symm.trans (Finset.sum_congr rfl fun t _ => Finset.sum_congr rfl fun r _ => ?_)
  congr 1
  apply Fin.ext
  simp [row, Fin.revPerm, Fin.rev]

end Cert.Conv

end
-- ==== Proof.Conv.Payload.lean ====
/- What one block of the short convolution's gradient stores, entry by entry: each payload of the kernel's body at a row and a column is
   the gradient of that row (Spec.lean), given that the blocks it is computed from hold the arrays' rows and that the carried rows are the
   first rows of the block after it — or zeros, where the block ends a sequence. -/
module

public import proofs.«01_k».proof.Proof.Gen.KernelIdeal.Skeleton
public import Idealize.ShloMosaic.Lib.Pointwise
public import Idealize.ShloMosaic.Lib.WordCmp
public import proofs.«01_k».proof.Proof.Conv.Spec

@[expose] public section

set_option maxRecDepth 16384

noncomputable section

namespace Cert.Conv.Payload

open Idealize.ShloMosaic Idealize.ShloMosaic.TcCoe Idealize.SL.Sem
open Cert.KernelIdeal Cert.KernelIdeal.Gen

/-- The row numbers the body compares with. -/
abbrev rows : IVec S512x1024 32 := iota Kind.tc S512x1024 32 [0] iota_S512x1024_d0_w32

/-- The blocks grid point `t` computes from hold rows `row t ·` of the arrays, and `S` the eight rows after the block. -/
structure Reads (a : Args) (t : Fin 16) (ct x : FVec Ideal S512x1024 .f32) (g : FVec Ideal S1x1024 .f32)
    (bcx : FVec Ideal S512x3072 .bf16) (y : FVec Ideal S512x1024 .f32) (cw : FVec Ideal S3x1024 .f32)
    (wi : FVec Ideal S1024x3072 .bf16) (wo : FVec Ideal S1024x1024 .bf16) (S : FVec Ideal S8x1024 .f32) : Prop where
  ct : ∀ r j, ct (ix2 r j) = a.ct (ix2 (row t r) j)
  x : ∀ r j, x (ix2 r j) = a.x (ix2 (row t r) j)
  g : ∀ r j, g (ix2 r j) = a.g (ix2 r j)
  bcx : ∀ r j, bcx (ix2 r j) = a.bcx (ix2 (row t r) j)
  y : ∀ r j, y (ix2 r j) = a.y (ix2 (row t r) j)
  cw : ∀ r j, cw (ix2 r j) = a.cw (ix2 r j)
  wi : ∀ r j, wi (ix2 r j) = a.wi (ix2 r j)
  wo : ∀ r j, wo (ix2 r j) = a.wo (ix2 r j)
  last : t.val % 4 = 0 → ∀ q j, S (ix2 q j) = 0
  inner : ∀ h : ¬ t.val % 4 = 0, ∀ (q : Fin 8) j, S (ix2 q j) = a.dy (row ⟨t - 1, by omega⟩ ⟨q, by omega⟩) j

variable {a : Args} {t : Fin 16} {ct x : FVec Ideal S512x1024 .f32} {g : FVec Ideal S1x1024 .f32}
  {bcx : FVec Ideal S512x3072 .bf16} {y : FVec Ideal S512x1024 .f32} {cw : FVec Ideal S3x1024 .f32}
  {wi : FVec Ideal S1024x3072 .bf16} {wo : FVec Ideal S1024x1024 .bf16} {S : FVec Ideal S8x1024 .f32}

/-- `dz`: the incoming gradient times the transposed output weight. -/
theorem dz (H : Reads a t ct x g bcx y cw wi wo S) (r : Fin 512) (j : Fin 1024) :
    k0_pay10 (F := Ideal) ct wo (ix2 r j) = a.dz (row t r) j := by
  pointwise [k0_pay10, k0_pay9, Args.dz, H.ct, H.wo]

/-- `dy = dz · c`. -/
theorem dy (H : Reads a t ct x g bcx y cw wi wo S) (r : Fin 512) (j : Fin 1024) :
    k0_pay17 (F := Ideal) (k0_pay10 ct wo) (k0_pay13 bcx) (ix2 r j) = a.dy (row t r) j := by
  pointwise [k0_pay17, k0_pay13, k0_pay11, Args.dy, Args.c, dz H, H.bcx]

/-- The rows carried to the next grid point are the block's first eight. -/
theorem carry (H : Reads a t ct x g bcx y cw wi wo S) (q : Fin 8) (j : Fin 1024) :
    k0_pay20 (F := Ideal) (k0_pay10 ct wo) (k0_pay13 bcx) (ix2 q j) = a.dy (row t ⟨q, by omega⟩) j := by
  pointwise [k0_pay20, dy H]

/-- A row that lies beyond the block is read off the carried rows. -/
theorem Reads.after (H : Reads a t ct x g bcx y cw wi wo S) {d : ℕ} {r : Fin 512} (h : 512 ≤ r.val + d) (hd : d ≤ 8)
    {j : Fin 1024} : a.up d (row t r) j = S (ix2 ⟨r + d - 512, by omega⟩ j) := by
  by_cases ht : t.val % 4 = 0
  · rw [a.up_last h ht, H.last ht]
  · rw [a.up_over h hd ht, H.inner ht]

/-- `dy` one position later. -/
theorem up1 (H : Reads a t ct x g bcx y cw wi wo S) (r : Fin 512) (j : Fin 1024) :
    k0_pay18 (F := Ideal) (k0_pay10 ct wo) (k0_pay13 bcx) rows S (ix2 r j) = a.up 1 (row t r) j := by
  have hr : (BitVec.ofNat 32 r.val).toNat = r.val := WordCmp.toNat_ofNat_of_lt (by omega)
  pointwise [k0_pay18, dy H, hlo_ix]
  rw [hr]
  by_cases h : r.val = 511
  · rw [if_pos h, H.after (by omega) (by omega)]
    exact congrArg (S <| ix2 · j) (Fin.ext (by simp [h]))
  · rw [if_neg h, a.up_in (by omega)]
    refine congrArg (a.dy · j) (congrArg (row t) (Fin.ext ?_))
    simp only
    omega

/-- `dy` two positions later. -/
theorem up2 (H : Reads a t ct x g bcx y cw wi wo S) (r : Fin 512) (j : Fin 1024) :
    k0_pay19 (F := Ideal) (k0_pay10 ct wo) (k0_pay13 bcx) rows S (ix2 r j) = a.up 2 (row t r) j := by
  have hr : (BitVec.ofNat 32 r.val).toNat = r.val := WordCmp.toNat_ofNat_of_lt (by omega)
  pointwise [k0_pay19, dy H, hlo_ix]
  rw [hr]
  by_cases h : r.val = 511
  · rw [if_pos h, H.after (by omega) (by omega)]
    exact congrArg (S <| ix2 · j) (Fin.ext (by simp [h]))
  by_cases h' : r.val = 510
  · rw [if_neg h, if_pos h', H.after (by omega) (by omega)]
    exact congrArg (S <| ix2 · j) (Fin.ext (by simp [h']))
  · rw [if_neg h, if_neg h', a.up_in (by omega)]
    refine congrArg (a.dy · j) (congrArg (row t) (Fin.ext ?_))
    simp only
    omega

/-- The gradient of the convolution's operand. -/
theorem du (H : Reads a t ct x g bcx y cw wi wo S) (r : Fin 512) (j : Fin 1024) :
    k0_pay26 (F := Ideal) cw (k0_pay17 (k0_pay10 ct wo) (k0_pay13 bcx)) (k0_pay18 (k0_pay10 ct wo) (k0_pay13 bcx) rows S)
      (k0_pay19 (k0_pay10 ct wo) (k0_pay13 bcx) rows S) (ix2 r j) = a.du (row t r) j := by
  pointwise [k0_pay26, dy H, up1 H, up2 H, Args.du, H.cw]

/-- The three column blocks of the projection's gradient. -/
theorem db (H : Reads a t ct x g bcx y cw wi wo S) (r : Fin 512) (j : Fin 1024) :
    k0_pay27 (F := Ideal) (k0_pay14 bcx) cw (k0_pay17 (k0_pay10 ct wo) (k0_pay13 bcx))
      (k0_pay18 (k0_pay10 ct wo) (k0_pay13 bcx) rows S)
      (k0_pay19 (k0_pay10 ct wo) (k0_pay13 bcx) rows S) (ix2 r j) = a.dbcx (row t r) ⟨j, by omega⟩ := by
  pointwise [k0_pay27, k0_pay14, k0_pay11, du H, Args.dbcx, Args.xv, H.bcx]
theorem dc (H : Reads a t ct x g bcx y cw wi wo S) (r : Fin 512) (j : Fin 1024) :
    k0_pay28 (F := Ideal) (k0_pay16 (k0_pay10 ct wo) y) (ix2 r j) = a.dbcx (row t r) ⟨1024 + j, by omega⟩ := by
  pointwise [k0_pay28, k0_pay16, dz H, Args.dbcx, H.y]
  rw [dif_pos (by omega)]
theorem dxv (H : Reads a t ct x g bcx y cw wi wo S) (r : Fin 512) (j : Fin 1024) :
    k0_pay29 (F := Ideal) (k0_pay12 bcx) cw (k0_pay17 (k0_pay10 ct wo) (k0_pay13 bcx))
      (k0_pay18 (k0_pay10 ct wo) (k0_pay13 bcx) rows S)
      (k0_pay19 (k0_pay10 ct wo) (k0_pay13 bcx) rows S) (ix2 r j) = a.dbcx (row t r) ⟨2048 + j, by omega⟩ := by
  pointwise [k0_pay29, k0_pay12, k0_pay11, du H, Args.dbcx, Args.b, H.bcx]
  rw [dif_neg (by omega)]

/-- The gradient of the normalised input, from the projection's gradient. -/
theorem dh (H : Reads a t ct x g bcx y cw wi wo S) {DB : FVec Ideal S512x3072 .bf16}
    (hD : ∀ r k, DB (ix2 r k) = a.dbcx (row t r) k) (r : Fin 512) (j : Fin 1024) :
    k0_pay30 (F := Ideal) DB wi (ix2 r j) = a.dh (row t r) j := by
  pointwise [k0_pay30, Args.dh, hD, H.wi]

/-- The normalised input. -/
theorem xn (H : Reads a t ct x g bcx y cw wi wo S) (r : Fin 512) (j : Fin 1024) :
    k0_pay3 (F := Ideal) x (k0_pay31 x) (ix2 r j) = a.xn (row t r) j := by
  pointwise [k0_pay3, k0_pay31, k0_pay1, Args.xn, Args.ms, H.x]

/-- The normalised input times the gain. -/
theorem h (H : Reads a t ct x g bcx y cw wi wo S) (r : Fin 512) (j : Fin 1024) :
    k0_pay2 (F := Ideal) x (k0_pay31 x) g (ix2 r j) = a.h (row t r) j := by
  pointwise [k0_pay2, k0_pay31, k0_pay1, Args.h, Args.xn, Args.ms, H.x, H.g]

/-- The incoming gradient, narrowed: over the ideal numbers, itself. -/
theorem d16 (H : Reads a t ct x g bcx y cw wi wo S) (r : Fin 512) (j : Fin 1024) :
    k0_pay9 (F := Ideal) ct (ix2 r j) = a.ct (ix2 (row t r) j) := by
  pointwise [k0_pay9, H.ct]

/-- The gradient of the layer's input. -/
theorem gx (H : Reads a t ct x g bcx y cw wi wo S) {DH : FVec Ideal S512x1024 .f32}
    (hD : ∀ r k, DH (ix2 r k) = a.dh (row t r) k) (r : Fin 512) (j : Fin 1024) :
    k0_pay5 (F := Ideal) ct DH x (k0_pay31 x) g (ix2 r j) = a.gx (row t r) j := by
  pointwise [k0_pay5, k0_pay3, k0_pay31, k0_pay1, Args.gx, Args.xn, Args.ms, hD, H.x, H.ct, H.g]

/-- The gain's gradient accumulates the block's rows. -/
theorem dg (H : Reads a t ct x g bcx y cw wi wo S) {DH : FVec Ideal S512x1024 .f32}
    (hD : ∀ r k, DH (ix2 r k) = a.dh (row t r) k) (A : FVec Ideal S1x1024 .f32) (q : Fin 1) (j : Fin 1024) :
    k0_pay4 (F := Ideal) DH x (k0_pay31 x) A (ix2 q j) = A (ix2 q j) + ∑ r : Fin 512, a.dgRow (row t r) j := by
  pointwise [k0_pay4, xn H, Args.dgRow, hD]

/-- `u = b · x`, the convolution's operand. -/
theorem u (H : Reads a t ct x g bcx y cw wi wo S) (r : Fin 512) (j : Fin 1024) :
    k0_pay15 (F := Ideal) bcx (ix2 r j) = a.b (row t r) j * a.xv (row t r) j := by
  pointwise [k0_pay15, k0_pay12, k0_pay14, k0_pay11, Args.b, Args.xv, H.bcx]

/-- The taps' gradient accumulates the block's rows: the tap two back, one back, none back. -/
theorem dcw0 (H : Reads a t ct x g bcx y cw wi wo S) (A : FVec Ideal S1x1024 .f32) (q : Fin 1) (j : Fin 1024) :
    k0_pay21 (F := Ideal) (k0_pay10 ct wo) (k0_pay13 bcx) (k0_pay15 bcx) rows S A (ix2 q j)
      = A (ix2 q j) + ∑ r : Fin 512, a.dcwRow 2 (row t r) j := by
  pointwise [k0_pay21, up2 H, u H, Args.dcwRow]
theorem dcw1 (H : Reads a t ct x g bcx y cw wi wo S) (A : FVec Ideal S1x1024 .f32) (q : Fin 1) (j : Fin 1024) :
    k0_pay24 (F := Ideal) (k0_pay22 A) (k0_pay23 (k0_pay10 ct wo) (k0_pay13 bcx) (k0_pay15 bcx) rows S) (ix2 q j)
      = A (ix2 q j) + ∑ r : Fin 512, a.dcwRow 1 (row t r) j := by
  pointwise [k0_pay24, k0_pay22, k0_pay23, up1 H, u H, Args.dcwRow]
theorem dcw2 (H : Reads a t ct x g bcx y cw wi wo S) (A : FVec Ideal S1x1024 .f32) (q : Fin 1) (j : Fin 1024) :
    k0_pay25 (F := Ideal) (k0_pay15 bcx) (k0_pay17 (k0_pay10 ct wo) (k0_pay13 bcx)) A (ix2 q j)
      = A (ix2 q j) + ∑ r : Fin 512, a.dcwRow 0 (row t r) j := by
  pointwise [k0_pay25, dy H, u H, Args.dcwRow, Args.up_zero]

end Cert.Conv.Payload

end
-- ==== Proof.Conv.Block.lean ====
/- What the kernel's run leaves at a grid point, entry by entry: in its output blocks, in its two accumulators and in the rows it carries, the
   gradient of the rows that point handles (Spec.lean). The three courses the body can take — the first grid point, the last block of another
   sequence, any other block — differ only in where the carried rows and the accumulators start from. -/
module

public import proofs.«01_k».proof.Proof.Gen.KernelIdeal.Value
public import Idealize.ShloMosaic.Lib.Pipeline.ValueKit
public import Idealize.ShloMosaic.Lib.Pipeline.ReadBack
public import Idealize.ShloMosaic.Lib.WritesUnit
public import proofs.«01_k».proof.Proof.Conv.Payload

@[expose] public section

set_option maxRecDepth 16384

noncomputable section

namespace Cert.Conv.Block

open Idealize.ShloMosaic Idealize.ShloMosaic.TcCoe Idealize.SL.Sem
open Cert.KernelIdeal Cert.KernelIdeal.Gen Cert.Conv.Payload

variable (m : (ℓ : Loc nD τ sig) → Buf (Elt Ideal) ℓ) (c : Dev nD)

/-- The arrays the kernel is launched on. -/
def args : Args where
  ct := V m c main_arg5
  x := V m c main_arg0
  g := V m c main_arg1
  bcx := V m c main_v44
  y := V m c main_v42
  cw := V m c main_arg3
  wi := V m c main_v45
  wo := V m c main_v46

/-- A grid point as one of sixteen. -/
def pt (t : Fin cfg0.N) : Fin 16 := ⟨t.val, lt_of_lt_of_eq t.isLt N_0⟩

/-- The windows' block indices. -/
theorem idx : ∀ t : Fin cfg0.N, win0_0.index t = ![15 - t.val, 0] ∧ win0_1.index t = ![15 - t.val, 0] ∧ win0_2.index t = ![0, 0]
    ∧ win0_3.index t = ![15 - t.val, 0] ∧ win0_4.index t = ![15 - t.val, 0] ∧ win0_5.index t = ![0, 0]
    ∧ win0_6.index t = ![0, 0] ∧ win0_7.index t = ![0, 0] ∧ win0_8.index t = ![15 - t.val, 0] ∧ win0_9.index t = ![15 - t.val, 0]
    ∧ win0_10.index t = ![15 - t.val, 0] ∧ win0_11.index t = ![15 - t.val, 0] ∧ win0_12.index t = ![0, 0] ∧ win0_13.index t = ![0, 0] :=
  (by decide +kernel : ∀ t : Fin grid0.N, _)

/-- The rows carried into a grid point. -/
def carried (t : Fin cfg0.N) : FVec Ideal S8x1024 .f32 :=
  if t.val % 4 = 0 then k0_pay8 else (outsAt0 m c (t.val - 1) (by have := t.isLt; omega)).2.2.2.2.2.2

/-- The rows a grid point leaves for the next are the first rows of its block's `dy`, as the body computes it. -/
theorem left (t : Fin cfg0.N) : (outsAt0 m c t.val t.isLt).2.2.2.2.2.2
    = k0_pay20 (F := Ideal) (k0_pay10 (iblk m c 0 t) (iblk m c 7 t)) (k0_pay13 (iblk m c 3 t)) := by
  by_cases h1 : t.val % 4 = 0
  · by_cases h0 : t.val % 16 = 0
    · rw [outsAt0_A m c t h0 h1]; dsimp only; frame_out
    · rw [outsAt0_C m c t h0 h1]; dsimp only; frame_out
  · rw [outsAt0_B m c t (by omega) h1]; dsimp only; frame_out

/-! ## The input blocks are the arrays' rows -/

theorem blk_ct (t : Fin cfg0.N) (r : Fin 512) (j : Fin 1024) :
    (show FVec Ideal S512x1024 .f32 from iblk m c 0 t) (ix2 r j) = (args m c).ct (ix2 (row (pt t) r) j) := by
  unfold args row pt; blk_ext [iblk, idx t]
theorem blk_x (t : Fin cfg0.N) (r : Fin 512) (j : Fin 1024) :
    (show FVec Ideal S512x1024 .f32 from iblk m c 1 t) (ix2 r j) = (args m c).x (ix2 (row (pt t) r) j) := by
  unfold args row pt; blk_ext [iblk, idx t]
theorem blk_g (t : Fin cfg0.N) (r : Fin 1) (j : Fin 1024) :
    (show FVec Ideal S1x1024 .f32 from iblk m c 2 t) (ix2 r j) = (args m c).g (ix2 r j) := by
  unfold args; blk_ext [iblk, idx t]
theorem blk_bcx (t : Fin cfg0.N) (r : Fin 512) (j : Fin 3072) :
    (show FVec Ideal S512x3072 .bf16 from iblk m c 3 t) (ix2 r j) = (args m c).bcx (ix2 (row (pt t) r) j) := by
  unfold args row pt; blk_ext [iblk, idx t]
theorem blk_y (t : Fin cfg0.N) (r : Fin 512) (j : Fin 1024) :
    (show FVec Ideal S512x1024 .f32 from iblk m c 4 t) (ix2 r j) = (args m c).y (ix2 (row (pt t) r) j) := by
  unfold args row pt; blk_ext [iblk, idx t]
theorem blk_cw (t : Fin cfg0.N) (r : Fin 3) (j : Fin 1024) :
    (show FVec Ideal S3x1024 .f32 from iblk m c 5 t) (ix2 r j) = (args m c).cw (ix2 r j) := by
  unfold args; blk_ext [iblk, idx t]
theorem blk_wi (t : Fin cfg0.N) (r : Fin 1024) (j : Fin 3072) :
    (show FVec Ideal S1024x3072 .bf16 from iblk m c 6 t) (ix2 r j) = (args m c).wi (ix2 r j) := by
  unfold args; blk_ext [iblk, idx t]
theorem blk_wo (t : Fin cfg0.N) (r : Fin 1024) (j : Fin 1024) :
    (show FVec Ideal S1024x1024 .bf16 from iblk m c 7 t) (ix2 r j) = (args m c).wo (ix2 r j) := by
  unfold args; blk_ext [iblk, idx t]

/-- The blocks of a grid point, without the carried rows. -/
theorem blocks (t : Fin cfg0.N) (S : FVec Ideal S8x1024 .f32) (h0 : t.val % 4 = 0 → ∀ q j, S (ix2 q j) = 0)
    (h1 : ∀ h : ¬ t.val % 4 = 0, ∀ (q : Fin 8) j, S (ix2 q j) = (args m c).dy (row ⟨t - 1, by have := (pt t).isLt; simp only [pt] at this; omega⟩ ⟨q, by omega⟩) j) :
    Reads (args m c) (pt t) (iblk m c 0 t) (iblk m c 1 t) (iblk m c 2 t) (iblk m c 3 t) (iblk m c 4 t) (iblk m c 5 t)
      (iblk m c 6 t) (iblk m c 7 t) S where
  ct := blk_ct m c t
  x := blk_x m c t
  g := blk_g m c t
  bcx := blk_bcx m c t
  y := blk_y m c t
  cw := blk_cw m c t
  wi := blk_wi m c t
  wo := blk_wo m c t
  last := h0
  inner := h1

/-- The zeros the carry starts from. -/
theorem zeros (q : Fin 8) (j : Fin 1024) : k0_pay8 (F := Ideal) (ix2 q j) = 0 := by pointwise [k0_pay8]

/-- The blocks of a grid point with the rows carried into it. -/
theorem reads (t : Fin cfg0.N) : Reads (args m c) (pt t) (iblk m c 0 t) (iblk m c 1 t) (iblk m c 2 t) (iblk m c 3 t) (iblk m c 4 t)
    (iblk m c 5 t) (iblk m c 6 t) (iblk m c 7 t) (carried m c t) := by
  refine blocks m c t _ (fun h q j => ?_) (fun h q j => ?_)
  · rw [carried, if_pos h]
    exact zeros q j
  · have ht := t.isLt
    rw [carried, if_neg h]
    have hl := left m c ⟨t.val - 1, by omega⟩
    refine (congrFun hl (ix2 q j)).trans ?_
    exact Payload.carry (blocks m c ⟨t.val - 1, by omega⟩ (fun p => if h : (t.val - 1) % 4 = 0 then 0 else
      (args m c).dy (row ⟨t - 1 - 1, by have := (pt t).isLt; simp only [pt] at this; omega⟩ ⟨p 0, lt_trans (p 0).isLt (by decide)⟩) (p 1)) (fun h q j => dif_pos h) (fun h q j => dif_neg h)) q j

end Cert.Conv.Block

end
-- ==== Proof.Conv.Outs.lean ====
/- What a grid point leaves in each output block and adds to each accumulator, entry by entry. -/
module

public import proofs.«01_k».proof.Proof.Conv.Block

@[expose] public section

set_option maxRecDepth 16384

noncomputable section

namespace Cert.Conv.Block

open Idealize.ShloMosaic Idealize.ShloMosaic.TcCoe Idealize.SL.Sem
open Cert.KernelIdeal Cert.KernelIdeal.Gen Cert.Conv.Payload

/-! ## Several stores into one block -/

/-- Three stores side by side hold, entry by entry, what each holds. -/
theorem cols {P0 P1 P2 : FVec Ideal S512x1024 .bf16} {G : Fin 512 → Fin 3072 → EReal}
    (hP0 : ∀ r (j : Fin 1024), P0 (ix2 r j) = G r ⟨j, by omega⟩) (hP1 : ∀ r (j : Fin 1024), P1 (ix2 r j) = G r ⟨1024 + j, by omega⟩)
    (hP2 : ∀ r (j : Fin 1024), P2 (ix2 r j) = G r ⟨2048 + j, by omega⟩) (y : S512x3072.Idx) :
    View.canon (Val := Elt Ideal) (s := S512x3072) (e := .bf16)
      [⟨Rect.unit ![0, 2048] ![512, 1024] inb_S512x3072_S512x1024_0_2048, P2⟩,
       ⟨Rect.unit ![0, 1024] ![512, 1024] inb_S512x3072_S512x1024_0_1024, P1⟩,
       ⟨Rect.unit ![0, 0] ![512, 1024] inb_S512x3072_S512x1024_0_0, P0⟩] y = G (y 0) (y 1) := by
  canon_tiles x h
  · rw [eq_ix2 x]
    exact (hP2 (x 0) (x 1)).trans (congrArg₂ G (Fin.ext h0.symm) (Fin.ext h1.symm))
  · rw [eq_ix2 x]
    exact (hP1 (x 0) (x 1)).trans (congrArg₂ G (Fin.ext h0.symm) (Fin.ext h1.symm))
  · rw [eq_ix2 x]
    exact (hP0 (x 0) (x 1)).trans (congrArg₂ G (Fin.ext h0.symm) (Fin.ext h1.symm))

/-- Three stores of one row each over earlier contents. -/
theorem rows3 {κ : Kind} {sp : Space} (v : View sig κ sp S8x1024 .f32) (f : v.ty.Contents (Elt Ideal))
    (L : List (View.Piece (Elt Ideal) S8x1024 .f32)) (P0 P1 P2 : FVec Ideal S1x1024 .f32) (q : Fin 8) (j : Fin 1024) :
    v.read (Elt Ideal) (v.writes (Elt Ideal) f
      (⟨Rect.unit ![2, 0] ![1, 1024] inb_S8x1024_S1x1024_2_0, P2⟩ :: ⟨Rect.unit ![1, 0] ![1, 1024] inb_S8x1024_S1x1024_1_0, P1⟩
        :: ⟨Rect.unit ![0, 0] ![1, 1024] inb_S8x1024_S1x1024_0_0, P0⟩ :: L)) (ix2 q j)
      = if q.val = 2 then P2 (ix2 0 j) else if q.val = 1 then P1 (ix2 0 j) else if q.val = 0 then P0 (ix2 0 j)
        else v.read (Elt Ideal) (v.writes (Elt Ideal) f L) (ix2 q j) := by
  by_cases h2 : q.val = 2
  · rw [if_pos h2]
    exact View.read_writes_cons_rows_of_mem v f _ _ _ (ix2 q j) (ix2 0 j) rfl (by simpa using h2) rfl
  rw [if_neg h2]
  refine (View.read_writes_cons_rows_of_not_mem (W := 1) v f _ _ _ (ix2 q j) rfl rfl (by simp only [ix2_0]; omega)).trans ?_
  by_cases h1 : q.val = 1
  · rw [if_pos h1]
    exact View.read_writes_cons_rows_of_mem v f _ _ _ (ix2 q j) (ix2 0 j) rfl (by simpa using h1) rfl
  rw [if_neg h1]
  refine (View.read_writes_cons_rows_of_not_mem (W := 1) v f _ _ _ (ix2 q j) rfl rfl (by simp only [ix2_0]; omega)).trans ?_
  by_cases h0 : q.val = 0
  · rw [if_pos h0]
    exact View.read_writes_cons_rows_of_mem v f _ _ _ (ix2 q j) (ix2 0 j) rfl (by simpa using h0) rfl
  rw [if_neg h0]
  exact View.read_writes_cons_rows_of_not_mem (W := 1) v f _ _ _ (ix2 q j) rfl rfl (by simp only [ix2_0]; omega)

/-- One store of the first row over earlier contents. -/
theorem rows1 {κ : Kind} {sp : Space} (v : View sig κ sp S8x1024 .f32) (f : v.ty.Contents (Elt Ideal))
    (L : List (View.Piece (Elt Ideal) S8x1024 .f32)) (P0 : FVec Ideal S1x1024 .f32) (q : Fin 8) (j : Fin 1024) :
    v.read (Elt Ideal) (v.writes (Elt Ideal) f (⟨Rect.unit ![0, 0] ![1, 1024] inb_S8x1024_S1x1024_0_0, P0⟩ :: L)) (ix2 q j)
      = if q.val = 0 then P0 (ix2 0 j) else v.read (Elt Ideal) (v.writes (Elt Ideal) f L) (ix2 q j) := by
  by_cases h0 : q.val = 0
  · rw [if_pos h0]
    exact View.read_writes_cons_rows_of_mem v f _ _ _ (ix2 q j) (ix2 0 j) rfl (by simpa using h0) rfl
  rw [if_neg h0]
  exact View.read_writes_cons_rows_of_not_mem (W := 1) v f _ _ _ (ix2 q j) rfl rfl (by simp only [ix2_0]; omega)

variable (m : (ℓ : Loc nD τ sig) → Buf (Elt Ideal) ℓ) (c : Dev nD)

/-- The rows carried into a point that ends a sequence are the zeros it writes; … -/
theorem carried_last {t : Fin cfg0.N} (h : t.val % 4 = 0) : carried m c t = k0_pay8 := if_pos h
/-- … into any other, the rows the point before left. -/
theorem carried_inner {t : Fin cfg0.N} (h : ¬ t.val % 4 = 0) :
    carried m c t = (outsAt0 m c (t.val - 1) (by have := t.isLt; omega)).2.2.2.2.2.2 := if_neg h

/-! ## The output blocks -/

/-- The block of the projection's gradient. -/
theorem out_dbcx (t : Fin cfg0.N) (r : Fin 512) (k : Fin 3072) :
    (show FVec Ideal S512x3072 .bf16 from (outsAt0 m c t.val t.isLt).2.1) (ix2 r k) = (args m c).dbcx (row (pt t) r) k := by
  have H := reads m c t
  by_cases h1 : t.val % 4 = 0
  · rw [carried_last m c h1] at H
    by_cases h0 : t.val % 16 = 0
    · rw [outsAt0_A m c t h0 h1]
      dsimp only
      frame_out
      exact cols (G := fun r k => (args m c).dbcx (row (pt t) r) k) (Payload.db H) (Payload.dc H) (Payload.dxv H) (ix2 r k)
    · rw [outsAt0_C m c t h0 h1]
      dsimp only
      frame_out
      exact cols (G := fun r k => (args m c).dbcx (row (pt t) r) k) (Payload.db H) (Payload.dc H) (Payload.dxv H) (ix2 r k)
  · rw [carried_inner m c h1] at H
    rw [outsAt0_B m c t (by omega) h1]
    dsimp only
    frame_out
    simp only [read_unread_whole]
    exact cols (G := fun r k => (args m c).dbcx (row (pt t) r) k) (Payload.db H) (Payload.dc H) (Payload.dxv H) (ix2 r k)

/-- The block of the input's gradient. -/
theorem out_gx (t : Fin cfg0.N) (r : Fin 512) (j : Fin 1024) :
    (show FVec Ideal S512x1024 .f32 from (outsAt0 m c t.val t.isLt).1) (ix2 r j) = (args m c).gx (row (pt t) r) j := by
  have H := reads m c t
  by_cases h1 : t.val % 4 = 0
  · rw [carried_last m c h1] at H
    by_cases h0 : t.val % 16 = 0
    · rw [outsAt0_A m c t h0 h1]
      dsimp only
      frame_out
      simp only [View.readCov_eq_canon']
      refine Payload.gx H (fun r j => Payload.dh H (fun r k => ?_) r j) r j
      exact (cols (G := fun r k => (args m c).dbcx (row (pt t) r) k) (Payload.db H) (Payload.dc H)
        (Payload.dxv H) _).trans (by congr <;> exact Fin.ext (by simp))
    · rw [outsAt0_C m c t h0 h1]
      dsimp only
      frame_out
      simp only [View.readCov_eq_canon']
      refine Payload.gx H (fun r j => Payload.dh H (fun r k => ?_) r j) r j
      exact (cols (G := fun r k => (args m c).dbcx (row (pt t) r) k) (Payload.db H) (Payload.dc H)
        (Payload.dxv H) _).trans (by congr <;> exact Fin.ext (by simp))
  · rw [carried_inner m c h1] at H
    rw [outsAt0_B m c t (by omega) h1]
    dsimp only
    frame_out
    simp only [read_unread_whole, View.readCov_eq_canon']
    refine Payload.gx H (fun r j => Payload.dh H (fun r k => ?_) r j) r j
    exact (cols (G := fun r k => (args m c).dbcx (row (pt t) r) k) (Payload.db H) (Payload.dc H)
        (Payload.dxv H) _).trans (by congr <;> exact Fin.ext (by simp))

/-- The block of the normalised input times the gain. -/
theorem out_h (t : Fin cfg0.N) (r : Fin 512) (j : Fin 1024) :
    (show FVec Ideal S512x1024 .bf16 from (outsAt0 m c t.val t.isLt).2.2.1) (ix2 r j) = (args m c).h (row (pt t) r) j := by
  have H := reads m c t
  by_cases h1 : t.val % 4 = 0
  · rw [carried_last m c h1] at H
    by_cases h0 : t.val % 16 = 0
    · rw [outsAt0_A m c t h0 h1]
      dsimp only
      frame_out
      exact Payload.h H r j
    · rw [outsAt0_C m c t h0 h1]
      dsimp only
      frame_out
      exact Payload.h H r j
  · rw [carried_inner m c h1] at H
    rw [outsAt0_B m c t (by omega) h1]
    dsimp only
    frame_out
    exact Payload.h H r j

/-- The block of the incoming gradient, narrowed. -/
theorem out_d16 (t : Fin cfg0.N) (r : Fin 512) (j : Fin 1024) :
    (show FVec Ideal S512x1024 .bf16 from (outsAt0 m c t.val t.isLt).2.2.2.1) (ix2 r j) = (args m c).ct (ix2 (row (pt t) r) j) := by
  have H := reads m c t
  by_cases h1 : t.val % 4 = 0
  · rw [carried_last m c h1] at H
    by_cases h0 : t.val % 16 = 0
    · rw [outsAt0_A m c t h0 h1]
      dsimp only
      frame_out
      exact Payload.d16 H r j
    · rw [outsAt0_C m c t h0 h1]
      dsimp only
      frame_out
      exact Payload.d16 H r j
  · rw [carried_inner m c h1] at H
    rw [outsAt0_B m c t (by omega) h1]
    dsimp only
    frame_out
    exact Payload.d16 H r j

/-! ## The accumulators -/

/-- What a grid point adds to the taps' gradient. -/
def dcwTerm (a : Args) (t : Fin 16) (q : Fin 8) (j : Fin 1024) : EReal :=
  if q.val < 3 then ∑ r : Fin 512, a.dcwRow (2 - q) (row t r) j else 0
/-- What a grid point adds to the gain's gradient. -/
def dgTerm (a : Args) (t : Fin 16) (q : Fin 8) (j : Fin 1024) : EReal :=
  if q.val < 1 then ∑ r : Fin 512, a.dgRow (row t r) j else 0

/-- Three rows that each grow, and the rows below them left alone. -/
theorem add_rows (A : FVec Ideal S8x1024 .f32) (B : ℕ → EReal) (q : Fin 8) (j : Fin 1024) :
    (if q.val = 2 then A (ix2 2 j) + B 0 else if q.val = 1 then A (ix2 1 j) + B 1 else if q.val = 0 then A (ix2 0 j) + B 2
      else A (ix2 q j)) = A (ix2 q j) + if q.val < 3 then B (2 - q) else 0 := by
  by_cases h2 : q.val = 2
  · obtain rfl : q = 2 := Fin.ext h2
    rfl
  by_cases h1 : q.val = 1
  · obtain rfl : q = 1 := Fin.ext h1
    rfl
  by_cases h0 : q.val = 0
  · obtain rfl : q = 0 := Fin.ext h0
    rfl
  rw [if_neg h2, if_neg h1, if_neg h0, if_neg (by omega), add_zero]

/-- At a point that is not the first the taps' gradient grows by the block's part. -/
theorem dcw_step (t : Fin cfg0.N) (h0 : ¬ t.val % 16 = 0) (q : Fin 8) (j : Fin 1024) :
    (show FVec Ideal S8x1024 .f32 from (outsAt0 m c t.val t.isLt).2.2.2.2.1) (ix2 q j)
      = (show FVec Ideal S8x1024 .f32 from (outsAt0 m c (t.val - 1) (by have := t.isLt; omega)).2.2.2.2.1) (ix2 q j)
        + dcwTerm (args m c) (pt t) q j := by
  have H := reads m c t
  have key := add_rows (outsAt0 m c (t.val - 1) (by have := t.isLt; omega)).2.2.2.2.1
    (fun d => ∑ r : Fin 512, (args m c).dcwRow d (row (pt t) r) j) q j
  by_cases h1 : t.val % 4 = 0
  · rw [carried_last m c h1] at H
    rw [outsAt0_C m c t h0 h1]
    dsimp only
    frame_out
    refine (rows3 (ms0_12 t).view _ [] _ _ _ q j).trans (Eq.trans ?_ key)
    rw [Payload.dcw2 H, Payload.dcw1 H, Payload.dcw0 H, View.writes_nil, (hs0_12 t).read_unread]
    pointwise
  · rw [carried_inner m c h1] at H
    rw [outsAt0_B m c t h0 h1]
    dsimp only
    frame_out
    simp only [read_unread_whole]
    refine (rows3 (ms0_12 t).view _ [] _ _ _ q j).trans (Eq.trans ?_ key)
    rw [Payload.dcw2 H, Payload.dcw1 H, Payload.dcw0 H, View.writes_nil, (hs0_12 t).read_unread]
    pointwise

/-- The zeros the accumulators start from. -/
theorem zeros_dcw (q : Fin 8) (j : Fin 1024) : k0_pay6 (F := Ideal) (ix2 q j) = 0 := by pointwise [k0_pay6]
theorem zeros_dg (q : Fin 8) (j : Fin 1024) : k0_pay7 (F := Ideal) (ix2 q j) = 0 := by pointwise [k0_pay7]

/-- The first grid point leaves its own part of the taps' gradient. -/
theorem dcw_first (t : Fin cfg0.N) (h0 : t.val % 16 = 0) (q : Fin 8) (j : Fin 1024) :
    (show FVec Ideal S8x1024 .f32 from (outsAt0 m c t.val t.isLt).2.2.2.2.1) (ix2 q j) = 0 + dcwTerm (args m c) (pt t) q j := by
  have H := reads m c t
  have h1 : t.val % 4 = 0 := by omega
  have key := add_rows (k0_pay6 (F := Ideal)) (fun d => ∑ r : Fin 512, (args m c).dcwRow d (row (pt t) r) j) q j
  rw [carried_last m c h1] at H
  rw [outsAt0_A m c t h0 h1]
  dsimp only
  frame_open
  simp (disch := decide) only [↓ View.readCov_skip, ↓ View.readCov_cons_toLoadRect, ↓ View.readCov_fill]
  frame_out
  rw [← View.read_writes_junk_eq_canon (ms0_12 t).view]
  refine (rows3 (ms0_12 t).view _ [_] _ _ _ q j).trans (Eq.trans ?_ (key.trans (by rw [zeros_dcw]; rfl)))
  rw [View.read_writes_junk_eq_canon, Payload.dcw2 H, Payload.dcw1 H, Payload.dcw0 H]
  pointwise
  rw [View.canon_cons_unit_lit _ _ _ (by decide)]

/-- A first row that grows, and the rows below it left alone. -/
theorem add_row (A : FVec Ideal S8x1024 .f32) (B : EReal) (q : Fin 8) (j : Fin 1024) :
    (if q.val = 0 then A (ix2 0 j) + B else A (ix2 q j)) = A (ix2 q j) + if q.val < 1 then B else 0 := by
  by_cases h0 : q.val = 0
  · obtain rfl : q = 0 := Fin.ext h0
    rfl
  rw [if_neg h0, if_neg (by omega), add_zero]

/-- At a point that is not the first the gain's gradient grows by the block's part. -/
theorem dg_step (t : Fin cfg0.N) (h0 : ¬ t.val % 16 = 0) (q : Fin 8) (j : Fin 1024) :
    (show FVec Ideal S8x1024 .f32 from (outsAt0 m c t.val t.isLt).2.2.2.2.2.1) (ix2 q j)
      = (show FVec Ideal S8x1024 .f32 from (outsAt0 m c (t.val - 1) (by have := t.isLt; omega)).2.2.2.2.2.1) (ix2 q j)
        + dgTerm (args m c) (pt t) q j := by
  have H := reads m c t
  have key := add_row (outsAt0 m c (t.val - 1) (by have := t.isLt; omega)).2.2.2.2.2.1
    (∑ r : Fin 512, (args m c).dgRow (row (pt t) r) j) q j
  by_cases h1 : t.val % 4 = 0
  · rw [carried_last m c h1] at H
    rw [outsAt0_C m c t h0 h1]
    dsimp only
    frame_out
    simp only [View.readCov_eq_canon']
    refine (rows1 (ms0_13 t).view _ [] _ q j).trans (Eq.trans ?_ key)
    refine if_congr Iff.rfl ?_ ?_
    · refine (Payload.dg H (fun r j => Payload.dh H (fun r k => ?_) r j) _ 0 j).trans ?_
      · exact (cols (G := fun r k => (args m c).dbcx (row (pt t) r) k) (Payload.db H)
          (Payload.dc H) (Payload.dxv H) _).trans (by congr <;> exact Fin.ext (by simp))
      · pointwise
    · rw [View.writes_nil, (hs0_13 t).read_unread]
  · rw [carried_inner m c h1] at H
    rw [outsAt0_B m c t h0 h1]
    dsimp only
    frame_out
    simp only [read_unread_whole, View.readCov_eq_canon']
    refine (rows1 (ms0_13 t).view _ [] _ q j).trans (Eq.trans ?_ key)
    refine if_congr Iff.rfl ?_ ?_
    · refine (Payload.dg H (fun r j => Payload.dh H (fun r k => ?_) r j) _ 0 j).trans ?_
      · exact (cols (G := fun r k => (args m c).dbcx (row (pt t) r) k) (Payload.db H)
          (Payload.dc H) (Payload.dxv H) _).trans (by congr <;> exact Fin.ext (by simp))
      · pointwise
    · rw [View.writes_nil, (hs0_13 t).read_unread]

/-- The first grid point leaves its own part of the gain's gradient. -/
theorem dg_first (t : Fin cfg0.N) (h0 : t.val % 16 = 0) (q : Fin 8) (j : Fin 1024) :
    (show FVec Ideal S8x1024 .f32 from (outsAt0 m c t.val t.isLt).2.2.2.2.2.1) (ix2 q j) = 0 + dgTerm (args m c) (pt t) q j := by
  have H := reads m c t
  have h1 : t.val % 4 = 0 := by omega
  have key := add_row (k0_pay7 (F := Ideal)) (∑ r : Fin 512, (args m c).dgRow (row (pt t) r) j) q j
  rw [carried_last m c h1] at H
  rw [outsAt0_A m c t h0 h1]
  dsimp only
  frame_open
  simp (disch := decide) only [↓ View.readCov_skip, ↓ View.readCov_fill]
  frame_out
  simp only [View.readCov_eq_canon']
  rw [← View.read_writes_junk_eq_canon (ms0_13 t).view]
  refine (rows1 (ms0_13 t).view _ [_] _ q j).trans (Eq.trans ?_ (key.trans (by rw [zeros_dg]; rfl)))
  refine if_congr Iff.rfl ?_ ?_
  · refine (Payload.dg H (fun r j => Payload.dh H (fun r k => ?_) r j) _ 0 j).trans ?_
    · exact (cols (G := fun r k => (args m c).dbcx (row (pt t) r) k) (Payload.db H)
        (Payload.dc H) (Payload.dxv H) _).trans (by congr <;> exact Fin.ext (by simp))
    · pointwise
  · rw [View.read_writes_junk_eq_canon, View.canon_cons_unit_lit _ _ _ (by decide)]

end Cert.Conv.Block

end
-- ==== Proof.Conv.Arrays.lean ====
/- What the kernel's six result arrays hold: every block of the first four is written once, by the grid point that handles its rows; the last two
   are written back after the last grid point, when they have taken up all blocks' parts. -/
module

public import proofs.«01_k».proof.Proof.Conv.Outs
public import Idealize.ShloMosaic.Lib.Pipeline.Value

@[expose] public section

set_option maxRecDepth 16384

noncomputable section

namespace Cert.Conv.Arrays

open Idealize.ShloMosaic Idealize.ShloMosaic.TcCoe Idealize.SL.Sem
open Cert.KernelIdeal Cert.KernelIdeal.Gen Cert.Conv.Block
open scoped BigOperators

variable (m : (ℓ : Loc nD τ sig) → Buf (Elt Ideal) ℓ) (c : Dev nD)

/-- The gradient of the layer's input. -/
theorem gx : (dats m 0 c).arrAt 8 cfg0.N = fun i : S8192x1024.Idx => (args m c).gx (i 0) (i 1) := by
  refine (dats m 0 c).arrAt_eq_of_covers 8 _ (by decide +kernel) fun t hf y => ?_
  obtain ⟨r, k, rfl⟩ : ∃ (r : Fin 512) (k : Fin 1024), y = ix2 r k := ⟨y 0, y 1, by funext a; match a with | ⟨0, _⟩ => rfl | ⟨1, _⟩ => rfl⟩
  have e : (win0_8.blk t).view.emb (ix2 r k) = ix2 (row (pt t) r) k := by unfold row pt; blk_ext [idx t]
  blk_simp
  rw [after0_8]
  simp only [e]
  exact out_gx m c t r k

/-- The gradient of the projection. -/
theorem dbcx : (dats m 0 c).arrAt 9 cfg0.N = fun i : S8192x3072.Idx => (args m c).dbcx (i 0) (i 1) := by
  refine (dats m 0 c).arrAt_eq_of_covers 9 _ (by decide +kernel) fun t hf y => ?_
  obtain ⟨r, k, rfl⟩ : ∃ (r : Fin 512) (k : Fin 3072), y = ix2 r k := ⟨y 0, y 1, by funext a; match a with | ⟨0, _⟩ => rfl | ⟨1, _⟩ => rfl⟩
  have e : (win0_9.blk t).view.emb (ix2 r k) = ix2 (row (pt t) r) k := by unfold row pt; blk_ext [idx t]
  blk_simp
  rw [after0_9]
  simp only [e]
  exact out_dbcx m c t r k

/-- The normalised rows times the gain. -/
theorem h : (dats m 0 c).arrAt 10 cfg0.N = fun i : S8192x1024.Idx => (args m c).h (i 0) (i 1) := by
  refine (dats m 0 c).arrAt_eq_of_covers 10 _ (by decide +kernel) fun t hf y => ?_
  obtain ⟨r, k, rfl⟩ : ∃ (r : Fin 512) (k : Fin 1024), y = ix2 r k := ⟨y 0, y 1, by funext a; match a with | ⟨0, _⟩ => rfl | ⟨1, _⟩ => rfl⟩
  have e : (win0_10.blk t).view.emb (ix2 r k) = ix2 (row (pt t) r) k := by unfold row pt; blk_ext [idx t]
  blk_simp
  rw [after0_10]
  simp only [e]
  exact out_h m c t r k

/-- The incoming gradient, passed on. -/
theorem d16 : (dats m 0 c).arrAt 11 cfg0.N = fun i : S8192x1024.Idx => (args m c).ct (ix2 (i 0) (i 1)) := by
  refine (dats m 0 c).arrAt_eq_of_covers 11 _ (by decide +kernel) fun t hf y => ?_
  obtain ⟨r, k, rfl⟩ : ∃ (r : Fin 512) (k : Fin 1024), y = ix2 r k := ⟨y 0, y 1, by funext a; match a with | ⟨0, _⟩ => rfl | ⟨1, _⟩ => rfl⟩
  have e : (win0_11.blk t).view.emb (ix2 r k) = ix2 (row (pt t) r) k := by unfold row pt; blk_ext [idx t]
  blk_simp
  rw [after0_11]
  simp only [e]
  exact out_d16 m c t r k

/-- The grid points are sixteen. -/
theorem sum_points (f : Fin 16 → EReal) : ∑ p : Fin cfg0.N, f (pt p) = ∑ t : Fin 16, f t := (finCongr N_0).sum_comp f

/-- The grid points' parts of the taps' gradient make up the whole. -/
theorem dcw_points (a : Args) (q : Fin 8) (j : Fin 1024) : ∑ p : Fin cfg0.N, dcwTerm a (pt p) q j = a.dcw q j := by
  rw [sum_points (fun t => dcwTerm a t q j)]
  unfold dcwTerm Args.dcw
  split
  · rw [sum_rows]
  · exact Finset.sum_const_zero

/-- The grid points' parts of the gain's gradient make up the whole. -/
theorem dg_points (a : Args) (q : Fin 8) (j : Fin 1024) : ∑ p : Fin cfg0.N, dgTerm a (pt p) q j = a.dg q j := by
  rw [sum_points (fun t => dgTerm a t q j)]
  unfold dgTerm Args.dg
  split
  · rw [sum_rows]
  · exact Finset.sum_const_zero

/-- The taps' gradient. -/
theorem dcw : (dats m 0 c).arrAt 12 cfg0.N = fun i : S8x1024.Idx => (args m c).dcw (i 0) (i 1) := by
  refine (dats m 0 c).arrAt_eq_of_after_last 12 t0_15 (by decide +kernel) _ fun y => ?_
  obtain ⟨q, j, rfl⟩ : ∃ (q : Fin 8) (j : Fin 1024), y = ix2 q j := ⟨y 0, y 1, by funext a; match a with | ⟨0, _⟩ => rfl | ⟨1, _⟩ => rfl⟩
  blk_simp
  rw [after0_12, Pipeline.eq_sum_fin_of_reset_step_apply_last (fun n h => (outsAt0 m c n h).2.2.2.2.1) 16 (fun _ => 0)
    (fun t y => dcwTerm (args m c) (pt t) (y 0) (y 1))
    (fun t h y => by
      obtain ⟨q, j, rfl⟩ : ∃ (q : Fin 8) (j : Fin 1024), y = ix2 q j := ⟨y 0, y 1, by funext a; match a with | ⟨0, _⟩ => rfl | ⟨1, _⟩ => rfl⟩
      exact dcw_first m c t h q j)
    (fun t h y => by
      obtain ⟨q, j, rfl⟩ : ∃ (q : Fin 8) (j : Fin 1024), y = ix2 q j := ⟨y 0, y 1, by funext a; match a with | ⟨0, _⟩ => rfl | ⟨1, _⟩ => rfl⟩
      exact dcw_step m c t h q j)
    (le_of_eq N_0) t0_15 rfl (ix2 q j)]
  rw [zero_add]
  exact (dcw_points (args m c) q j)

/-- The gain's gradient. -/
theorem dg : (dats m 0 c).arrAt 13 cfg0.N = fun i : S8x1024.Idx => (args m c).dg (i 0) (i 1) := by
  refine (dats m 0 c).arrAt_eq_of_after_last 13 t0_15 (by decide +kernel) _ fun y => ?_
  obtain ⟨q, j, rfl⟩ : ∃ (q : Fin 8) (j : Fin 1024), y = ix2 q j := ⟨y 0, y 1, by funext a; match a with | ⟨0, _⟩ => rfl | ⟨1, _⟩ => rfl⟩
  blk_simp
  rw [after0_13, Pipeline.eq_sum_fin_of_reset_step_apply_last (fun n h => (outsAt0 m c n h).2.2.2.2.2.1) 16 (fun _ => 0)
    (fun t y => dgTerm (args m c) (pt t) (y 0) (y 1))
    (fun t h y => by
      obtain ⟨q, j, rfl⟩ : ∃ (q : Fin 8) (j : Fin 1024), y = ix2 q j := ⟨y 0, y 1, by funext a; match a with | ⟨0, _⟩ => rfl | ⟨1, _⟩ => rfl⟩
      exact dg_first m c t h q j)
    (fun t h y => by
      obtain ⟨q, j, rfl⟩ : ∃ (q : Fin 8) (j : Fin 1024), y = ix2 q j := ⟨y 0, y 1, by funext a; match a with | ⟨0, _⟩ => rfl | ⟨1, _⟩ => rfl⟩
      exact dg_step m c t h q j)
    (le_of_eq N_0) t0_15 rfl (ix2 q j)]
  rw [zero_add]
  exact (dg_points (args m c) q j)

end Cert.Conv.Arrays

end
-- ==== Proof.Conv.Ref.lean ====
/- What the reference computes: its results, entry by entry, are the gradient of Spec.lean at its own projection and convolution. -/
module

public import proofs.«01_k».proof.Proof.Gen.ReferenceIdeal.Read
public import Idealize.ShloMosaic.Lib.Pipeline.ValueKit
public import Idealize.ShloMosaic.Lib.Pointwise.Reduce
public import proofs.«01_k».proof.Proof.Conv.Norm
public import proofs.«01_k».proof.Proof.Conv.Spec

@[expose] public section

set_option maxRecDepth 16384

noncomputable section

namespace Cert.Conv.Ref

open Idealize.ShloMosaic Idealize.ShloMosaic.TcCoe Idealize.SL.Sem
open Cert.ReferenceIdeal Cert.ReferenceIdeal.Gen Cert.ReferenceIdeal.Read
open scoped BigOperators

variable (x0 : FVec Ideal S8192x1024 .f32) (x1 : FVec Ideal S1x1024 .f32) (x2 : FVec Ideal S1024x3072 .f32)
  (x3 : FVec Ideal S3x1024 .f32) (x4 : FVec Ideal S1024x1024 .f32) (x5 : FVec Ideal S8192x1024 .f32)

/-- The arrays of the gradient, as the reference has them. -/
def args : Args where
  ct := x5
  x := x0
  g := x1
  bcx := val_main_v15 (F := Ideal) x0 x1 x2
  y := val_main_v46 (F := Ideal) x0 x1 x2 x3
  cw := x3
  wi := x2
  wo := x4

/-- The mean square of a row. -/
theorem ms (R : Fin 8192) (u : Fin 1) : val_main_v6 (F := Ideal) x0 (ix2 R u) = (args x0 x1 x2 x3 x4 x5).ms R := by
  pointwise [val_main_v6, val_main_v5, val_main_v4, val_main_v3, val_main_v2, val_main_v1, val_main_v0, val_main_cst, val_main_cst_0,
    val_main_cst_1, args, Args.ms]

/-- The normalised row. -/
theorem xn (R : Fin 8192) (j : Fin 1024) : val_main_v12 (F := Ideal) x0 (ix2 R j) = (args x0 x1 x2 x3 x4 x5).xn R j := by
  pointwise [val_main_v12, val_main_v11, val_main_v7, ms x0 x1 x2 x3 x4 x5, Args.xn]
  rfl

/-- The normalised row times the gain. -/
theorem h (R : Fin 8192) (j : Fin 1024) : val_main_v14 (F := Ideal) x0 x1 (ix2 R j) = (args x0 x1 x2 x3 x4 x5).h R j := by
  pointwise [val_main_v14, val_main_v13, xn x0 x1 x2 x3 x4 x5, Args.h]
  rfl

/-- The gradient of the gated value. -/
theorem dz (R : Fin 8192) (j : Fin 1024) : val_main_v51 (F := Ideal) x4 x5 (ix2 R j) = (args x0 x1 x2 x3 x4 x5).dz R j := by
  pointwise [val_main_v51, args, Args.dz]

/-- The gradient of the convolution's result. -/
theorem dy (n : Fin 4) (s : Fin 2048) (j : Fin 1024) :
    val_main_v54 (F := Ideal) x0 x1 x2 x4 x5 (ix3 n s j) = (args x0 x1 x2 x3 x4 x5).dy ⟨n * 2048 + s, by omega⟩ j := by
  pointwise [val_main_v54, val_main_v52, val_main_v17, dz x0 x1 x2 x3 x4 x5, Args.dy, Args.c]
  exact mul_comm _ _

/-- Three padded rows of values, read at one position, are the values there, one later and two later in the sequence. -/
theorem taps (w0 w1 w2 : EReal) (f : Fin 8192 → EReal) (R : Fin 8192) :
    (((if h : R.val / 2048 < 4 ∧ R.val % 2048 < 2048 then w2 * f ⟨R / 2048 * 2048 + R % 2048, by omega⟩ else 0)
      + if h : R.val / 2048 < 4 ∧ 1 ≤ 2 + R.val % 2048 ∧ 2 + R.val % 2048 - 1 < 2048 then
          w1 * f ⟨R / 2048 * 2048 + (2 + R % 2048 - 1), by omega⟩ else 0)
      + if h : R.val / 2048 < 4 ∧ 2 + R.val % 2048 < 2048 then w0 * f ⟨R / 2048 * 2048 + (2 + R % 2048), by omega⟩ else 0)
    = w2 * f R + w1 * (if h : R.val % 2048 + 1 < 2048 then f ⟨R + 1, by omega⟩ else 0)
      + w0 * (if h : R.val % 2048 + 2 < 2048 then f ⟨R + 2, by omega⟩ else 0) := by
  have hR := R.isLt
  refine congrArg₂ (· + ·) (congrArg₂ (· + ·) ?_ ?_) ?_
  · rw [dif_pos (by omega)]
    exact congrArg (w2 * f ·) (Fin.ext (by simp only; omega))
  · by_cases hs : R.val % 2048 + 1 < 2048
    · rw [dif_pos (by omega), dif_pos hs]
      exact congrArg (w1 * f ·) (Fin.ext (by simp only; omega))
    · rw [dif_neg (by omega), dif_neg hs, mul_zero]
  · by_cases hs : R.val % 2048 + 2 < 2048
    · rw [dif_pos (by omega), dif_pos hs]
      exact congrArg (w0 * f ·) (Fin.ext (by simp only; omega))
    · rw [dif_neg (by omega), dif_neg hs, mul_zero]

/-- The gradient of the convolution's operand. -/
theorem du (R : Fin 8192) (j : Fin 1024) :
    val_main_v88 (F := Ideal) x0 x1 x2 x3 x4 x5 (ix2 R j) = (args x0 x1 x2 x3 x4 x5).du R j := by
  pointwise [val_main_v88, val_main_v87, val_main_v82, val_main_v81, val_main_v71, val_main_v70, val_main_v61, val_main_v56, val_main_v65, val_main_v76, val_main_v55,
    val_main_v64, val_main_v75, val_main_v42, val_main_v35, val_main_v27, val_main_v25, val_main_v33, val_main_v40, val_main_v24, val_main_v32, val_main_v39,
    val_main_cst_8, val_main_cst_12, val_main_cst_16, dy x0 x1 x2 x3 x4 x5, Args.du, Args.up]
  exact taps (x3 (ix2 0 j)) (x3 (ix2 1 j)) (x3 (ix2 2 j)) (fun R => (args x0 x1 x2 x3 x4 x5).dy R j) R

/-- The gradient of the projection. -/
theorem dbcx (R : Fin 8192) (j : Fin 3072) :
    val_main_v91 (F := Ideal) x0 x1 x2 x3 x4 x5 (ix2 R j) = (args x0 x1 x2 x3 x4 x5).dbcx R j := by
  pointwise [val_main_v91, val_main_v90, val_main_v89, val_main_v53, val_main_v16, val_main_v18, du x0 x1 x2 x3 x4 x5,
    dz x0 x1 x2 x3 x4 x5, Args.dbcx, Args.b, Args.xv]
  by_cases h0 : j.val < 1024
  · rw [dif_pos h0, dif_pos h0]
    rfl
  rw [dif_neg h0, dif_neg h0]
  by_cases h1 : j.val < 2048
  · rw [dif_pos (by omega), dif_pos h1]
    rfl
  rw [dif_neg (by omega), dif_neg h1]
  exact mul_comm _ _

/-- The gradient of the normalised input. -/
theorem dh (R : Fin 8192) (j : Fin 1024) :
    val_main_v94 (F := Ideal) x0 x1 x2 x3 x4 x5 (ix2 R j) = (args x0 x1 x2 x3 x4 x5).dh R j := by
  pointwise [val_main_v94, dbcx x0 x1 x2 x3 x4 x5, Args.dh]
  rfl

/-- The gradient of the layer's input. -/
theorem gx (R : Fin 8192) (j : Fin 1024) :
    val_main_v114 (F := Ideal) x0 x1 x2 x3 x4 x5 (ix2 R j) = (args x0 x1 x2 x3 x4 x5).gx R j := by
  obtain ⟨e, he, hw⟩ := Norm.word_eps
  pointwise [val_main_v114, val_main_v113, val_main_v112, val_main_v111, val_main_v110, val_main_v109, val_main_v108, val_main_v107,
    val_main_v106, val_main_v105, val_main_v104, val_main_v103, val_main_v102, val_main_v101, val_main_v100, val_main_v99, val_main_v98,
    val_main_v10, val_main_v9, val_main_v8, val_main_v7, val_main_cst_2, val_main_cst_19, val_main_cst_20, val_main_cst_21,
    dh x0 x1 x2 x3 x4 x5, ms x0 x1 x2 x3 x4 x5, Args.gx]
  rw [Fin.sum_univ_one, Norm.word_1024, Norm.word_neg_half]
  have key := Norm.rms_backward (fun k => x0 (ix2 R k)) (fun k => (args x0 x1 x2 x3 x4 x5).dh R k * x1 (ix2 0 k)) (n := 1024) (by norm_num) he j
  have hm : (args x0 x1 x2 x3 x4 x5).ms R = Ideal.div (∑ k, x0 (ix2 R k) * x0 (ix2 R k)) ((1024 : ℝ) : EReal) + (e : EReal) := by
    rw [← hw, ← Norm.word_1024]; rfl
  unfold Args.xn
  rw [hm]
  exact congrArg (x5 (ix2 R j) + ·) key.symm

/-- The gain's gradient, with rows of zeros below it. -/
theorem dg (q : Fin 8) (j : Fin 1024) :
    val_main_v121 (F := Ideal) x0 x1 x2 x3 x4 x5 (ix2 q j) = (args x0 x1 x2 x3 x4 x5).dg q j := by
  pointwise [val_main_v121, val_main_v120, val_main_v97, val_main_v96, val_main_v95, val_main_cst_18, val_main_cst_23,
    xn x0 x1 x2 x3 x4 x5, dh x0 x1 x2 x3 x4 x5, Args.dg, Args.dgRow]
  split
  · exact Finset.sum_congr rfl fun R _ => mul_comm _ _
  · rfl

/-! ## The taps' gradient -/

/-- A sum over the first two axes of three. -/
theorem sum_first_two {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ n : Fin n0, ∑ s : Fin n1, v (ix3 n s j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e ⟨0, Nat.zero_lt_one⟩)).symm
    · rintro ⟨k, rfl⟩
      funext b
      apply Fin.ext
      match b with
      | ⟨0, _⟩ => rfl
  · simp only [Fintype.sum_prod_type]

/-- A sum against values taken `d` positions earlier is the sum of values `d` positions later. -/
theorem shift_sum (N d : ℕ) (hd : d ≤ N) (f g : ℕ → EReal) :
    ∑ s ∈ Finset.range N, f s * (if d ≤ s then g (s - d) else 0) = ∑ s ∈ Finset.range N, (if s + d < N then f (s + d) else 0) * g s := by
  obtain ⟨M, rfl⟩ := Nat.exists_eq_add_of_le hd
  rw [Finset.sum_range_add, Finset.sum_eq_zero (fun s hs => by rw [if_neg (by have := Finset.mem_range.1 hs; omega), mul_zero]), zero_add,
    Nat.add_comm d M, Finset.sum_range_add, Finset.sum_eq_zero (s := Finset.range d) (fun s hs => by rw [if_neg (by omega), zero_mul]), add_zero]
  refine Finset.sum_congr rfl fun s hs => ?_
  rw [if_pos (by omega), if_pos (by have := Finset.mem_range.1 hs; omega), Nat.add_sub_cancel_left, Nat.add_comm]

/-- … over all sequences: what a tap's gradient adds up. -/
theorem tap_sum {d : ℕ} (hd : d ≤ 2048) (f u : Fin 8192 → EReal) :
    ∑ n : Fin 4, ∑ s : Fin 2048, f ⟨n * 2048 + s, by omega⟩ * (if h : d ≤ s.val then u ⟨n * 2048 + (s - d), by omega⟩ else 0)
      = ∑ R : Fin 8192, (if h : R.val % 2048 + d < 2048 then f ⟨R + d, by omega⟩ else 0) * u R := by
  rw [Fin.sum_univ_tiles 4 2048 rfl]
  refine Finset.sum_congr rfl fun n _ => ?_
  have key := shift_sum 2048 d hd (fun k => if h : k < 2048 then f ⟨n * 2048 + k, by omega⟩ else 0)
    (fun k => if h : k < 2048 then u ⟨n * 2048 + k, by omega⟩ else 0)
  rw [Finset.sum_range, Finset.sum_range] at key
  refine Eq.trans (Finset.sum_congr rfl fun s _ => ?_) (key.trans (Finset.sum_congr rfl fun s _ => ?_))
  · have hs := s.isLt
    rw [dif_pos hs]
    by_cases h : d ≤ s.val
    · rw [dif_pos h, if_pos h, dif_pos (by omega)]
    · rw [dif_neg h, if_neg h]
  · have hs := s.isLt
    have hn := n.isLt
    rw [dif_pos hs]
    by_cases h : s.val + d < 2048
    · rw [if_pos h, dif_pos h, dif_pos (by simp only; omega)]
      exact congrArg (f · * _) (Fin.ext (by simp only; omega))
    · rw [if_neg h, dif_neg (by simp only; omega)]

/-- The operand of the convolution, two positions earlier. -/
theorem operand2 (n : Fin 4) (s : Fin 2048) (j : Fin 1024) : val_main_v26 (F := Ideal) x0 x1 x2 (ix3 n s j)
    = if h : 2 ≤ s.val then (args x0 x1 x2 x3 x4 x5).b ⟨n * 2048 + (s - 2), by omega⟩ j
        * (args x0 x1 x2 x3 x4 x5).xv ⟨n * 2048 + (s - 2), by omega⟩ j else 0 := by
  pointwise [val_main_v26, val_main_v22, val_main_v21, val_main_v20, val_main_v19, val_main_v18, val_main_v16, val_main_cst_3, Args.b, Args.xv]
  by_cases hs : 2 ≤ s.val
  · rw [dif_neg (by omega), dif_pos hs]
    rfl
  · rw [dif_pos (by omega), dif_neg hs]

/-- The gradient of the tap that reads there. -/
theorem tap2 (j : Fin 1024) : val_main_v80 (F := Ideal) x0 x1 x2 x4 x5 (ix1 j)
    = ∑ R : Fin 8192, (args x0 x1 x2 x3 x4 x5).dcwRow 2 R j := by
  have key : ∀ n s, val_main_v77 (F := Ideal) x0 x1 x2 x4 x5 (ix3 n s j) = (args x0 x1 x2 x3 x4 x5).dy ⟨n * 2048 + s, by omega⟩ j
      * (if h : 2 ≤ s.val then (args x0 x1 x2 x3 x4 x5).b ⟨n * 2048 + (s - 2), by omega⟩ j
        * (args x0 x1 x2 x3 x4 x5).xv ⟨n * 2048 + (s - 2), by omega⟩ j else 0) :=
    fun n s => congrArg₂ (· * ·) (dy x0 x1 x2 x3 x4 x5 n s j) (operand2 x0 x1 x2 x3 x4 x5 n s j)
  have hz : val_main_cst_14 (F := Ideal) (Shape.Idx.first h_S_) = 0 := by pointwise [val_main_cst_14]
  pointwise [val_main_v80]
  rw [sum_first_two]
  pointwise [val_main_v79, val_main_v78, val_main_cst_15]
  simp only [sum_first_two, key, hz, zero_add, Fin.sum_univ_one]
  unfold Args.dcwRow Args.up
  exact tap_sum (d := 2) (by omega) (fun R => (args x0 x1 x2 x3 x4 x5).dy R j)
    (fun R => (args x0 x1 x2 x3 x4 x5).b R j * (args x0 x1 x2 x3 x4 x5).xv R j)

/-- The operand of the convolution, one position earlier. -/
theorem operand1 (n : Fin 4) (s : Fin 2048) (j : Fin 1024) : val_main_v34 (F := Ideal) x0 x1 x2 (ix3 n s j)
    = if h : 1 ≤ s.val then (args x0 x1 x2 x3 x4 x5).b ⟨n * 2048 + (s - 1), by omega⟩ j
        * (args x0 x1 x2 x3 x4 x5).xv ⟨n * 2048 + (s - 1), by omega⟩ j else 0 := by
  pointwise [val_main_v34, val_main_v22, val_main_v21, val_main_v20, val_main_v19, val_main_v18, val_main_v16, val_main_cst_3, Args.b, Args.xv]
  by_cases hs : 1 ≤ s.val
  · rw [dif_neg (by omega), dif_pos hs]
    have e : (1 + s.val - 2 : ℕ) = s - 1 := by omega
    simp only [e]
    rfl
  · rw [dif_pos (by omega), dif_neg hs]

/-- The gradient of the tap that reads there. -/
theorem tap1 (j : Fin 1024) : val_main_v69 (F := Ideal) x0 x1 x2 x4 x5 (ix1 j)
    = ∑ R : Fin 8192, (args x0 x1 x2 x3 x4 x5).dcwRow 1 R j := by
  have key : ∀ n s, val_main_v66 (F := Ideal) x0 x1 x2 x4 x5 (ix3 n s j) = (args x0 x1 x2 x3 x4 x5).dy ⟨n * 2048 + s, by omega⟩ j
      * (if h : 1 ≤ s.val then (args x0 x1 x2 x3 x4 x5).b ⟨n * 2048 + (s - 1), by omega⟩ j
        * (args x0 x1 x2 x3 x4 x5).xv ⟨n * 2048 + (s - 1), by omega⟩ j else 0) :=
    fun n s => congrArg₂ (· * ·) (dy x0 x1 x2 x3 x4 x5 n s j) (operand1 x0 x1 x2 x3 x4 x5 n s j)
  have hz : val_main_cst_10 (F := Ideal) (Shape.Idx.first h_S_) = 0 := by pointwise [val_main_cst_10]
  pointwise [val_main_v69]
  rw [sum_first_two]
  pointwise [val_main_v68, val_main_v67, val_main_cst_11]
  simp only [sum_first_two, key, hz, zero_add, Fin.sum_univ_one]
  unfold Args.dcwRow Args.up
  exact tap_sum (d := 1) (by omega) (fun R => (args x0 x1 x2 x3 x4 x5).dy R j)
    (fun R => (args x0 x1 x2 x3 x4 x5).b R j * (args x0 x1 x2 x3 x4 x5).xv R j)

/-- The operand of the convolution, at the position. -/
theorem operand0 (n : Fin 4) (s : Fin 2048) (j : Fin 1024) : val_main_v41 (F := Ideal) x0 x1 x2 (ix3 n s j)
    = if h : 0 ≤ s.val then (args x0 x1 x2 x3 x4 x5).b ⟨n * 2048 + (s - 0), by omega⟩ j
        * (args x0 x1 x2 x3 x4 x5).xv ⟨n * 2048 + (s - 0), by omega⟩ j else 0 := by
  rw [dif_pos (Nat.zero_le _)]
  pointwise [val_main_v41, val_main_v22, val_main_v21, val_main_v20, val_main_v19, val_main_v18, val_main_v16, val_main_cst_3, Args.b, Args.xv]
  rfl

/-- The gradient of the tap that reads there. -/
theorem tap0 (j : Fin 1024) : val_main_v60 (F := Ideal) x0 x1 x2 x4 x5 (ix1 j)
    = ∑ R : Fin 8192, (args x0 x1 x2 x3 x4 x5).dcwRow 0 R j := by
  have key : ∀ n s, val_main_v57 (F := Ideal) x0 x1 x2 x4 x5 (ix3 n s j) = (args x0 x1 x2 x3 x4 x5).dy ⟨n * 2048 + s, by omega⟩ j
      * (if h : 0 ≤ s.val then (args x0 x1 x2 x3 x4 x5).b ⟨n * 2048 + (s - 0), by omega⟩ j
        * (args x0 x1 x2 x3 x4 x5).xv ⟨n * 2048 + (s - 0), by omega⟩ j else 0) :=
    fun n s => congrArg₂ (· * ·) (dy x0 x1 x2 x3 x4 x5 n s j) (operand0 x0 x1 x2 x3 x4 x5 n s j)
  have hz : val_main_cst_6 (F := Ideal) (Shape.Idx.first h_S_) = 0 := by pointwise [val_main_cst_6]
  pointwise [val_main_v60]
  rw [sum_first_two]
  pointwise [val_main_v59, val_main_v58, val_main_cst_7]
  simp only [sum_first_two, key, hz, zero_add, Fin.sum_univ_one]
  unfold Args.dcwRow Args.up
  exact tap_sum (d := 0) (by omega) (fun R => (args x0 x1 x2 x3 x4 x5).dy R j)
    (fun R => (args x0 x1 x2 x3 x4 x5).b R j * (args x0 x1 x2 x3 x4 x5).xv R j)

/-- The taps' gradient, with rows of zeros below it. -/
theorem dcw (q : Fin 8) (j : Fin 1024) :
    val_main_v119 (F := Ideal) x0 x1 x2 x4 x5 (ix2 q j) = (args x0 x1 x2 x3 x4 x5).dcw q j := by
  pointwise [val_main_v119, val_main_v118, val_main_v85, val_main_v84, val_main_v83, val_main_v74, val_main_v73, val_main_v72, val_main_v63,
    val_main_v62, val_main_cst_22, val_main_cst_17, val_main_cst_13, val_main_cst_9, tap0 x0 x1 x2 x3 x4 x5, tap1 x0 x1 x2 x3 x4 x5,
    tap2 x0 x1 x2 x3 x4 x5, Args.dcw]
  have hq := q.isLt
  by_cases h3 : q.val < 3
  · rw [dif_pos h3, if_pos h3]
    obtain h | h | h : q.val = 0 ∨ q.val = 1 ∨ q.val = 2 := by omega
    · rw [dif_neg (by omega), dif_neg (by omega), dif_pos (by omega), zero_add, zero_add, h]
    · rw [dif_neg (by omega), dif_pos (by omega), dif_neg (by omega), zero_add, add_zero, h]
    · rw [dif_pos (by omega), dif_neg (by omega), dif_neg (by omega), add_zero, add_zero, h]
  · rw [dif_neg h3, if_neg h3]

end Cert.Conv.Ref

end
-- ==== Proof.Conv.Host.lean ====
/- The convolution layer's gradient: the host's lines before the kernel are the reference's forward pass. -/
module

public import proofs.«01_k».proof.Defs
public import proofs.«01_k».proof.Proof.Conv.Arrays
public import proofs.«01_k».proof.Proof.Conv.Ref
public import Idealize.ShloMosaic.Lib.Claim

@[expose] public section

set_option maxRecDepth 16384

noncomputable section

namespace Cert.Conv

open Idealize.ShloMosaic Idealize.ShloMosaic.TcCoe Idealize.SL.Sem
open Cert.KernelIdeal Cert.KernelIdeal.Gen

/-- The arrays the kernel is launched on, of which the host computes the projection and the convolution, are the reference's. -/
theorem args_eq (m : (ℓ : Loc nD τ sig) → Buf (Elt Ideal) ℓ) (c : Dev nD) :
    Block.args m c = Ref.args (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Block.args Ref.args
  entry_read
  rfl

end Cert.Conv

end
-- ==== Proof.Conv.Claim.lean ====
/- The convolution layer's gradient: kernel and reference compute the same six arrays. -/
module

public import proofs.«01_k».proof.Defs
public import proofs.«01_k».proof.Proof.Conv.Host
public import Idealize.ShloMosaic.Lib.Claim

@[expose] public section

set_option maxRecDepth 16384

noncomputable section

namespace Cert.Conv

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A position of a matrix is its row and its column. -/
theorem pair {a b : Nat} (i : Shape.Idx ⟨2, ![a, b]⟩) : i = ix2 (i 0) (i 1) := by
  funext k; match k with | ⟨0, _⟩ => rfl | ⟨1, _⟩ => rfl

/-- The gradient of the layer's input. -/
theorem gx : Cert.ReferenceIdeal.Read.val_main_v114 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = (dats m 0 c).arrAt 8 cfg0.N := by
  rw [Arrays.gx, args_eq]
  funext i
  exact (congrArg _ (pair i)).trans (Ref.gx _ _ _ _ _ _ (i 0) (i 1))

/-- The gradient of the projection. -/
theorem dbcx : Cert.ReferenceIdeal.Read.val_main_v115 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = (dats m 0 c).arrAt 9 cfg0.N := by
  rw [Arrays.dbcx, args_eq]
  funext i
  exact (congrArg _ (pair i)).trans (Ref.dbcx _ _ _ _ _ _ (i 0) (i 1))

/-- The normalised rows times the gain. -/
theorem h : Cert.ReferenceIdeal.Read.val_main_v116 (F := Ideal) (m ((c.tc : Thread nD τ).loc main_arg0)) (m ((c.tc : Thread nD τ).loc main_arg1)) = (dats m 0 c).arrAt 10 cfg0.N := by
  rw [Arrays.h, args_eq]
  funext i
  exact (congrArg _ (pair i)).trans (Ref.h _ _ _ _ _ _ (i 0) (i 1))

/-- The incoming gradient, passed on. -/
theorem d16 : Cert.ReferenceIdeal.Read.val_main_v117 (F := Ideal) (m ((c.tc : Thread nD τ).loc main_arg5)) = (dats m 0 c).arrAt 11 cfg0.N := by
  rw [Arrays.d16, args_eq]
  funext i
  exact congrArg (m ((c.tc : Thread nD τ).loc main_arg5)) (pair i)

/-- The gradient of the convolution's taps. -/
theorem dcw : Cert.ReferenceIdeal.Read.val_main_v119 (F := Ideal) (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) = (dats m 0 c).arrAt 12 cfg0.N := by
  rw [Arrays.dcw, args_eq]
  funext i
  exact (congrArg _ (pair i)).trans (Ref.dcw _ _ _ _ _ _ (i 0) (i 1))

/-- The gradient of the gain. -/
theorem dg : Cert.ReferenceIdeal.Read.val_main_v121 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = (dats m 0 c).arrAt 13 cfg0.N := by
  rw [Arrays.dg, args_eq]
  funext i
  exact (congrArg _ (pair i)).trans (Ref.dg _ _ _ _ _ _ (i 0) (i 1))

set_option maxHeartbeats 3200000 in
/-- Kernel and reference end with the same arrays. -/
theorem algebraic : Cert.algebraic_KernelIdeal_ReferenceIdeal := by
  pair_intro
  · run_from Cert.KernelIdeal.Gen.run_main m g
  · run_from Cert.ReferenceIdeal.Value.run m' g'
    · obtain ⟨e0, e1, e2, e3, e4, e5⟩ := hagree c
      rw [Cert.ReferenceIdeal.Read.val_main_v114_eq, e0, e1, e2, e3, e4, e5]
      exact gx m c
    · obtain ⟨e0, e1, e2, e3, e4, e5⟩ := hagree c
      rw [Cert.ReferenceIdeal.Read.val_main_v115_eq, e0, e1, e2, e3, e4, e5]
      exact dbcx m c
    · exact h m c
    · exact d16 m c
    · obtain ⟨e0, e1, e2, e3, e4, e5⟩ := hagree c
      rw [Cert.ReferenceIdeal.Read.val_main_v119_eq, e0, e1, e2, e4, e5]
      exact dcw m c
    · obtain ⟨e0, e1, e2, e3, e4, e5⟩ := hagree c
      rw [Cert.ReferenceIdeal.Read.val_main_v121_eq, e0, e1, e2, e3, e4, e5]
      exact dg m c

end Cert.Conv

end
-- ==== Proof.Ffn.Spec.lean ====
/- The gradient of a SwiGLU layer, written row by row over the arrays the kernel reads.

   The projection's row is `[g, u]`, 2816 gates and 2816 values; the layer adds `(g · σ(g) · u) W` to its input, where the projection is taken of
   the normalised input. -/
module

public import Idealize.ShloMosaic.Lib.IdealHost
public import Idealize.ShloMosaic.Lib.Pointwise
public import proofs.«01_k».proof.Proof.Conv.Norm

@[expose] public section

noncomputable section

namespace Cert.Ffn

open Idealize.ShloMosaic
open scoped BigOperators

/-- The arrays the gradient is computed from: the incoming gradient, the layer's input, the normalisation's gain, the projection `[g, u]`,
    its weight, the weight of the product after the gate, and the weight of the product before the layer. -/
structure Args where
  ct : (⟨2, ![8192, 1024]⟩ : Shape).Idx → EReal
  x : (⟨2, ![8192, 1024]⟩ : Shape).Idx → EReal
  g : (⟨2, ![1, 1024]⟩ : Shape).Idx → EReal
  gu : (⟨2, ![8192, 5632]⟩ : Shape).Idx → EReal
  wgu : (⟨2, ![1024, 5632]⟩ : Shape).Idx → EReal
  wd : (⟨2, ![2816, 1024]⟩ : Shape).Idx → EReal
  wo : (⟨2, ![1024, 1024]⟩ : Shape).Idx → EReal

/-- The logistic function. -/
def logi (z : EReal) : EReal := Ideal.div 1 (1 + Ideal.exp (-z))

namespace Args

variable (a : Args)

/-- A row's gates. -/
def gate (R : Fin 8192) (k : Fin 2816) : EReal := a.gu (ix2 R ⟨k, by omega⟩)
/-- A row's values. -/
def up (R : Fin 8192) (k : Fin 2816) : EReal := a.gu (ix2 R ⟨2816 + k, by omega⟩)
/-- A row's gated values. -/
def act (R : Fin 8192) (k : Fin 2816) : EReal := a.gate R k * logi (a.gate R k) * a.up R k
/-- The gradient of the gated values. -/
def da (R : Fin 8192) (k : Fin 2816) : EReal := ∑ j : Fin 1024, a.ct (ix2 R j) * a.wd (ix2 k j)
/-- The gradient of the gates. -/
def dgate (R : Fin 8192) (k : Fin 2816) : EReal :=
  a.da R k * a.up R k * (logi (a.gate R k) + a.gate R k * logi (a.gate R k) * (1 - logi (a.gate R k)))
/-- The gradient of the values. -/
def dup (R : Fin 8192) (k : Fin 2816) : EReal := a.da R k * (a.gate R k * logi (a.gate R k))
/-- The gradient of the projection. -/
def dgu (R : Fin 8192) (k : Fin 5632) : EReal :=
  if h : k.val < 2816 then a.dgate R ⟨k, h⟩ else a.dup R ⟨k - 2816, by omega⟩
/-- The gradient of the normalised input. -/
def dh (R : Fin 8192) (j : Fin 1024) : EReal := ∑ k : Fin 5632, a.dgu R k * a.wgu (ix2 j k)

/-- The mean square of a row, with the small constant under the root. -/
def ms (R : Fin 8192) : EReal :=
  Ideal.div (∑ k : Fin 1024, a.x (ix2 R k) * a.x (ix2 R k)) (Ideal.ofBits .f32 0x44800000#32) + Ideal.ofBits .f32 0x358637BD#32
/-- The normalised row. -/
def xn (R : Fin 8192) (j : Fin 1024) : EReal := a.x (ix2 R j) * Ideal.rsqrt (a.ms R)
/-- The normalised row times the gain. -/
def h (R : Fin 8192) (j : Fin 1024) : EReal := a.xn R j * a.g (ix2 0 j)
/-- The gradient of the layer's input, through the residual and through the normalisation. -/
def gx (R : Fin 8192) (j : Fin 1024) : EReal :=
  a.ct (ix2 R j) + Ideal.rsqrt (a.ms R) * (a.dh R j * a.g (ix2 0 j)
    - a.xn R j * Ideal.div (∑ k : Fin 1024, a.dh R k * a.g (ix2 0 k) * a.xn R k) (Ideal.ofBits .f32 0x44800000#32))
/-- The gradient of what the product before the layer was taken of. -/
def dao (R : Fin 8192) (j : Fin 1024) : EReal := ∑ k : Fin 1024, a.gx R k * a.wo (ix2 j k)
/-- One row's part of the gain's gradient. -/
def dgRow (R : Fin 8192) (j : Fin 1024) : EReal := a.dh R j * a.xn R j
/-- The gain's gradient, below it zeros. -/
def dg (q : Fin 8) (j : Fin 1024) : EReal := if q.val < 1 then ∑ R : Fin 8192, a.dgRow R j else 0

/-- The first half of the projection's gradient; … -/
theorem dgu_gate (R : Fin 8192) {k : Fin 5632} {k' : Fin 2816} (h : k.val = k') : a.dgu R k = a.dgate R k' := by
  unfold dgu
  rw [dif_pos (by omega)]
  exact congrArg (a.dgate R) (Fin.ext h)

/-- … the second. -/
theorem dgu_up (R : Fin 8192) {k : Fin 5632} {k' : Fin 2816} (h : k.val = 2816 + k') : a.dgu R k = a.dup R k' := by
  unfold dgu
  rw [dif_neg (by omega)]
  exact congrArg (a.dup R) (Fin.ext (by simp only; omega))

end Args

/-- The row of the whole array that row `r` of grid point `t`'s block is. -/
def row (t : Fin 32) (r : Fin 256) : Fin 8192 := ⟨t * 256 + r, by omega⟩

/-- A sum over all rows is the sum over the grid points of the sums over their blocks' rows. -/
theorem sum_rows (f : Fin 8192 → EReal) : ∑ R : Fin 8192, f R = ∑ t : Fin 32, ∑ r : Fin 256, f (row t r) :=
  Fin.sum_univ_tiles 32 256 rfl f

/-- The three chunks' gates. -/
def o0 (k : Fin 1024) : Fin 2816 := ⟨k, by omega⟩
def o1 (k : Fin 1024) : Fin 2816 := ⟨1024 + k, by omega⟩
def o2 (k : Fin 768) : Fin 2816 := ⟨2048 + k, by omega⟩

/-- The columns of the projection in the order in which the kernel takes them up: chunks of 1024, 1024 and 768 gates, each followed by the
    values that belong to them. -/
theorem sum_chunks (f : Fin 5632 → EReal) : ∑ k : Fin 5632, f k
    = 0 + (∑ k : Fin 1024, f ⟨k, by omega⟩) + (∑ k : Fin 1024, f ⟨2816 + k, by omega⟩)
      + (∑ k : Fin 1024, f ⟨1024 + k, by omega⟩) + (∑ k : Fin 1024, f ⟨3840 + k, by omega⟩)
      + (∑ k : Fin 768, f ⟨2048 + k, by omega⟩) + (∑ k : Fin 768, f ⟨4864 + k, by omega⟩) := by
  have cut : ∀ (m n : ℕ) (f : Fin (m + n) → EReal),
      ∑ k, f k = (∑ k : Fin m, f ⟨k, by omega⟩) + ∑ k : Fin n, f ⟨m + k, by omega⟩ := fun m n f => Fin.sum_univ_add f
  have key : ∑ k : Fin 5632, f k = (∑ k : Fin 1024, f ⟨k, by omega⟩) + ((∑ k : Fin 1024, f ⟨1024 + k, by omega⟩)
      + ((∑ k : Fin 768, f ⟨2048 + k, by omega⟩) + ((∑ k : Fin 1024, f ⟨2816 + k, by omega⟩)
      + ((∑ k : Fin 1024, f ⟨3840 + k, by omega⟩) + ∑ k : Fin 768, f ⟨4864 + k, by omega⟩)))) := by
    refine (cut 1024 4608 f).trans (congrArg₂ (· + ·) rfl ?_)
    refine (cut 1024 3584 _).trans (congrArg₂ (· + ·) rfl ?_)
    refine (cut 768 2816 _).trans (congrArg₂ (· + ·) (Finset.sum_congr rfl fun k _ => congrArg f (Fin.ext (by simp only; omega))) ?_)
    refine (cut 1024 1792 _).trans (congrArg₂ (· + ·) (Finset.sum_congr rfl fun k _ => congrArg f (Fin.ext (by simp only; omega))) ?_)
    refine (cut 1024 768 _).trans (congrArg₂ (· + ·) ?_ ?_) <;>
      exact Finset.sum_congr rfl fun k _ => congrArg f (Fin.ext (by simp only; omega))
  rw [key, zero_add]
  abel

end Cert.Ffn

end
-- ==== Proof.Ffn.Payload.lean ====
/- What one block of the SwiGLU layer's gradient stores, entry by entry: each payload of the kernel's body at a row and a column is the
   gradient of that row (Spec.lean), given that the blocks it is computed from hold the arrays' rows. The body takes the 2816 gates in three
   chunks; a chunk's operands are columns of the projection and rows or columns of the weights. -/
module

public import proofs.«01_k».proof.Proof.Gen.Kernel2Ideal.Skeleton
public import Idealize.ShloMosaic.Lib.Pointwise
public import proofs.«01_k».proof.Proof.Ffn.Spec

@[expose] public section

set_option maxRecDepth 16384

noncomputable section

namespace Cert.Ffn.Payload

open Idealize.ShloMosaic Idealize.ShloMosaic.TcCoe Idealize.SL.Sem
open Cert.Kernel2Ideal Cert.Kernel2Ideal.Gen
open scoped BigOperators

/-- The blocks that grid point `t` computes from hold rows `row t ·` of the arrays. -/
structure Reads (a : Args) (t : Fin 32) (ct x : FVec Ideal S256x1024 .f32) (g : FVec Ideal S1x1024 .f32)
    (wo : FVec Ideal S1024x1024 .bf16) : Prop where
  ct : ∀ r j, ct (ix2 r j) = a.ct (ix2 (row t r) j)
  x : ∀ r j, x (ix2 r j) = a.x (ix2 (row t r) j)
  g : ∀ r j, g (ix2 r j) = a.g (ix2 r j)
  wo : ∀ r j, wo (ix2 r j) = a.wo (ix2 r j)

/-- A chunk's operands hold the gates `o` and the values and weights that belong to them. -/
structure Chunk (a : Args) (t : Fin 32) {n : ℕ} (o : Fin n → Fin 2816) (G U : FVec Ideal ⟨2, ![256, n]⟩ .f32)
    (WD : FVec Ideal ⟨2, ![n, 1024]⟩ .bf16) (WG WU : FVec Ideal ⟨2, ![1024, n]⟩ .bf16) : Prop where
  gate : ∀ r k, G (ix2 r k) = a.gate (row t r) (o k)
  up : ∀ r k, U (ix2 r k) = a.up (row t r) (o k)
  wd : ∀ k j, WD (ix2 k j) = a.wd (ix2 (o k) j)
  wg : ∀ j k, WG (ix2 j k) = a.wgu (ix2 j ⟨o k, by omega⟩)
  wu : ∀ j k, WU (ix2 j k) = a.wgu (ix2 j ⟨2816 + o k, by omega⟩)

variable {a : Args} {t : Fin 32} {ct x : FVec Ideal S256x1024 .f32} {g : FVec Ideal S1x1024 .f32} {wo : FVec Ideal S1024x1024 .bf16}
  {G0 U0 G1 U1 : FVec Ideal S256x1024 .f32} {WD0 WG0 WU0 WD1 WG1 WU1 : FVec Ideal S1024x1024 .bf16}
  {G2 U2 : FVec Ideal S256x768 .f32} {WD2 : FVec Ideal S768x1024 .bf16} {WG2 WU2 : FVec Ideal S1024x768 .bf16}

/-- The incoming gradient, narrowed: over the ideal numbers, itself. -/
theorem d16 (H : Reads a t ct x g wo) (r : Fin 256) (j : Fin 1024) : k0_pay6 (F := Ideal) ct (ix2 r j) = a.ct (ix2 (row t r) j) := by
  pointwise [k0_pay6, H.ct]

/-! ## The first chunk -/

theorem da0 (H : Reads a t ct x g wo) (C : Chunk a t (n := 1024) o0 G0 U0 WD0 WG0 WU0) (r : Fin 256) (k : Fin 1024) :
    k0_pay10 (F := Ideal) ct WD0 (ix2 r k) = a.da (row t r) (o0 k) := by
  pointwise [k0_pay10, d16 H, Args.da, C.wd]
theorem sig0 (C : Chunk a t (n := 1024) o0 G0 U0 WD0 WG0 WU0) (r : Fin 256) (k : Fin 1024) :
    k0_pay11 (F := Ideal) G0 (ix2 r k) = logi (a.gate (row t r) (o0 k)) := by
  pointwise [k0_pay11, k0_pay8, C.gate, logi, zero_sub]
theorem act0 (C : Chunk a t (n := 1024) o0 G0 U0 WD0 WG0 WU0) (r : Fin 256) (k : Fin 1024) :
    k0_pay13 (F := Ideal) G0 U0 (ix2 r k) = a.act (row t r) (o0 k) := by
  pointwise [k0_pay13, k0_pay12, k0_pay9, k0_pay8, sig0 C, C.gate, C.up, Args.act]
theorem dgate0 (H : Reads a t ct x g wo) (C : Chunk a t (n := 1024) o0 G0 U0 WD0 WG0 WU0) (r : Fin 256) (k : Fin 1024) :
    k0_pay14 (F := Ideal) ct G0 U0 WD0 (ix2 r k) = a.dgate (row t r) (o0 k) := by
  pointwise [k0_pay14, k0_pay12, k0_pay9, k0_pay8, da0 H C, sig0 C, C.gate, C.up, Args.dgate]
theorem dup0 (H : Reads a t ct x g wo) (C : Chunk a t (n := 1024) o0 G0 U0 WD0 WG0 WU0) (r : Fin 256) (k : Fin 1024) :
    k0_pay15 (F := Ideal) ct G0 WD0 (ix2 r k) = a.dup (row t r) (o0 k) := by
  pointwise [k0_pay15, k0_pay12, k0_pay8, da0 H C, sig0 C, C.gate, Args.dup]

/-! ## The second chunk -/

theorem da1 (H : Reads a t ct x g wo) (C : Chunk a t (n := 1024) o1 G1 U1 WD1 WG1 WU1) (r : Fin 256) (k : Fin 1024) :
    k0_pay19 (F := Ideal) (k0_pay6 ct) WD1 (ix2 r k) = a.da (row t r) (o1 k) := by
  pointwise [k0_pay19, d16 H, Args.da, C.wd]
theorem sig1 (C : Chunk a t (n := 1024) o1 G1 U1 WD1 WG1 WU1) (r : Fin 256) (k : Fin 1024) :
    k0_pay20 (F := Ideal) G1 (ix2 r k) = logi (a.gate (row t r) (o1 k)) := by
  pointwise [k0_pay20, k0_pay17, C.gate, logi, zero_sub]
theorem act1 (C : Chunk a t (n := 1024) o1 G1 U1 WD1 WG1 WU1) (r : Fin 256) (k : Fin 1024) :
    k0_pay22 (F := Ideal) G1 U1 (ix2 r k) = a.act (row t r) (o1 k) := by
  pointwise [k0_pay22, k0_pay21, k0_pay18, k0_pay17, sig1 C, C.gate, C.up, Args.act]
theorem dgate1 (H : Reads a t ct x g wo) (C : Chunk a t (n := 1024) o1 G1 U1 WD1 WG1 WU1) (r : Fin 256) (k : Fin 1024) :
    k0_pay23 (F := Ideal) (k0_pay6 ct) G1 U1 WD1 (ix2 r k) = a.dgate (row t r) (o1 k) := by
  pointwise [k0_pay23, k0_pay21, k0_pay18, k0_pay17, da1 H C, sig1 C, C.gate, C.up, Args.dgate]
theorem dup1 (H : Reads a t ct x g wo) (C : Chunk a t (n := 1024) o1 G1 U1 WD1 WG1 WU1) (r : Fin 256) (k : Fin 1024) :
    k0_pay25 (F := Ideal) (k0_pay24 (k0_pay6 ct) G1 WD1) (ix2 r k) = a.dup (row t r) (o1 k) := by
  pointwise [k0_pay25, k0_pay24, k0_pay21, k0_pay17, da1 H C, sig1 C, C.gate, Args.dup]

/-! ## The third chunk -/

theorem da2 (H : Reads a t ct x g wo) (C : Chunk a t (n := 768) o2 G2 U2 WD2 WG2 WU2) (r : Fin 256) (k : Fin 768) :
    k0_pay29 (F := Ideal) (k0_pay6 ct) WD2 (ix2 r k) = a.da (row t r) (o2 k) := by
  pointwise [k0_pay29, d16 H, Args.da, C.wd]
theorem sig2 (C : Chunk a t (n := 768) o2 G2 U2 WD2 WG2 WU2) (r : Fin 256) (k : Fin 768) :
    k0_pay30 (F := Ideal) G2 (ix2 r k) = logi (a.gate (row t r) (o2 k)) := by
  pointwise [k0_pay30, k0_pay27, C.gate, logi, zero_sub]
theorem act2 (C : Chunk a t (n := 768) o2 G2 U2 WD2 WG2 WU2) (r : Fin 256) (k : Fin 768) :
    k0_pay32 (F := Ideal) G2 U2 (ix2 r k) = a.act (row t r) (o2 k) := by
  pointwise [k0_pay32, k0_pay31, k0_pay28, k0_pay27, sig2 C, C.gate, C.up, Args.act]
theorem dgate2 (H : Reads a t ct x g wo) (C : Chunk a t (n := 768) o2 G2 U2 WD2 WG2 WU2) (r : Fin 256) (k : Fin 768) :
    k0_pay35 (F := Ideal) (k0_pay33 (k0_pay6 ct) U2 WD2) (k0_pay34 G2) (ix2 r k) = a.dgate (row t r) (o2 k) := by
  pointwise [k0_pay35, k0_pay34, k0_pay33, k0_pay31, k0_pay28, k0_pay27, da2 H C, sig2 C, C.gate, C.up, Args.dgate]
theorem dup2 (H : Reads a t ct x g wo) (C : Chunk a t (n := 768) o2 G2 U2 WD2 WG2 WU2) (r : Fin 256) (k : Fin 768) :
    k0_pay36 (F := Ideal) (k0_pay29 (k0_pay6 ct) WD2) (k0_pay31 G2) (ix2 r k) = a.dup (row t r) (o2 k) := by
  pointwise [k0_pay36, k0_pay31, k0_pay27, da2 H C, sig2 C, C.gate, Args.dup]

/-! ## The gradient of the normalised input -/

/-- The sum after the first chunk, … -/
theorem acc0 (H : Reads a t ct x g wo) (C : Chunk a t (n := 1024) o0 G0 U0 WD0 WG0 WU0) (r : Fin 256) (j : Fin 1024) :
    k0_pay16 (F := Ideal) k0_pay7 (k0_pay14 ct G0 U0 WD0) (k0_pay15 ct G0 WD0) WG0 WU0 (ix2 r j)
      = 0 + (∑ k : Fin 1024, a.dgate (row t r) (o0 k) * a.wgu (ix2 j ⟨o0 k, by omega⟩))
        + ∑ k : Fin 1024, a.dup (row t r) (o0 k) * a.wgu (ix2 j ⟨2816 + o0 k, by omega⟩) := by
  pointwise [k0_pay16, k0_pay7, dgate0 H C, dup0 H C, C.wg, C.wu]

/-- … with the second chunk's part, … -/
theorem acc1 (H : Reads a t ct x g wo) (C : Chunk a t (n := 1024) o1 G1 U1 WD1 WG1 WU1) (A : FVec Ideal S256x1024 .f32) (r : Fin 256)
    (j : Fin 1024) :
    k0_pay26 (F := Ideal) A (k0_pay23 (k0_pay6 ct) G1 U1 WD1) (k0_pay24 (k0_pay6 ct) G1 WD1) WG1 WU1 (ix2 r j)
      = A (ix2 r j) + (∑ k : Fin 1024, a.dgate (row t r) (o1 k) * a.wgu (ix2 j ⟨o1 k, by omega⟩))
        + ∑ k : Fin 1024, a.dup (row t r) (o1 k) * a.wgu (ix2 j ⟨2816 + o1 k, by omega⟩) := by
  pointwise [k0_pay26, dgate1 H C, dup1 H C, C.wg, C.wu]

/-- … and with the third's. -/
theorem acc2 (H : Reads a t ct x g wo) (C : Chunk a t (n := 768) o2 G2 U2 WD2 WG2 WU2) (A : FVec Ideal S256x1024 .f32) (r : Fin 256)
    (j : Fin 1024) :
    k0_pay37 (F := Ideal) A (k0_pay29 (k0_pay6 ct) WD2) (k0_pay31 G2) (k0_pay33 (k0_pay6 ct) U2 WD2) (k0_pay34 G2) WG2 WU2 (ix2 r j)
      = A (ix2 r j) + (∑ k : Fin 768, a.dgate (row t r) (o2 k) * a.wgu (ix2 j ⟨o2 k, by omega⟩))
        + ∑ k : Fin 768, a.dup (row t r) (o2 k) * a.wgu (ix2 j ⟨2816 + o2 k, by omega⟩) := by
  pointwise [k0_pay37, dgate2 H C, dup2 H C, C.wg, C.wu]

/-- A chunk's part of the sum over all columns: the gates' columns, … -/
theorem part_gate {n : ℕ} (R : Fin 8192) (j : Fin 1024) (o : Fin n → Fin 2816) (o' : Fin n → Fin 5632) (h : ∀ k, (o' k).val = o k) :
    ∑ k, a.dgate R (o k) * a.wgu (ix2 j ⟨o k, by omega⟩) = ∑ k, a.dgu R (o' k) * a.wgu (ix2 j (o' k)) :=
  Finset.sum_congr rfl fun k _ => congrArg₂ (· * ·) (a.dgu_gate R (h k)).symm (congrArg (fun q => a.wgu (ix2 j q)) (Fin.ext (h k).symm))
/-- … and the values'. -/
theorem part_up {n : ℕ} (R : Fin 8192) (j : Fin 1024) (o : Fin n → Fin 2816) (o' : Fin n → Fin 5632) (h : ∀ k, (o' k).val = 2816 + o k) :
    ∑ k, a.dup R (o k) * a.wgu (ix2 j ⟨2816 + o k, by omega⟩) = ∑ k, a.dgu R (o' k) * a.wgu (ix2 j (o' k)) :=
  Finset.sum_congr rfl fun k _ => congrArg₂ (· * ·) (a.dgu_up R (h k)).symm (congrArg (fun q => a.wgu (ix2 j q)) (Fin.ext (h k).symm))

/-- The gradient of the normalised input: the chunks make up the sum over all columns. -/
theorem dh (H : Reads a t ct x g wo) (C0 : Chunk a t (n := 1024) o0 G0 U0 WD0 WG0 WU0) (C1 : Chunk a t (n := 1024) o1 G1 U1 WD1 WG1 WU1)
    (C2 : Chunk a t (n := 768) o2 G2 U2 WD2 WG2 WU2) (r : Fin 256) (j : Fin 1024) :
    k0_pay37 (F := Ideal) (k0_pay26 (k0_pay16 k0_pay7 (k0_pay14 ct G0 U0 WD0) (k0_pay15 ct G0 WD0) WG0 WU0)
        (k0_pay23 (k0_pay6 ct) G1 U1 WD1) (k0_pay24 (k0_pay6 ct) G1 WD1) WG1 WU1)
      (k0_pay29 (k0_pay6 ct) WD2) (k0_pay31 G2) (k0_pay33 (k0_pay6 ct) U2 WD2) (k0_pay34 G2) WG2 WU2 (ix2 r j) = a.dh (row t r) j := by
  rw [acc2 H C2, acc1 H C1, acc0 H C0, Args.dh, sum_chunks]
  rw [part_gate _ _ o0 (fun k => ⟨k, by omega⟩) (fun k => rfl), part_up _ _ o0 (fun k => ⟨2816 + k, by omega⟩) (fun k => rfl),
    part_gate _ _ o1 (fun k => ⟨1024 + k, by omega⟩) (fun k => rfl), part_up _ _ o1 (fun k => ⟨3840 + k, by omega⟩) (fun k => by simp only [o1]; omega),
    part_gate _ _ o2 (fun k => ⟨2048 + k, by omega⟩) (fun k => rfl), part_up _ _ o2 (fun k => ⟨4864 + k, by omega⟩) (fun k => by simp only [o2]; omega)]

/-! ## Through the normalisation -/

variable {A : FVec Ideal S256x1024 .f32} {B0 B1 B2 B3 : FVec Ideal S256x768 .f32} {W0 W1 : FVec Ideal S1024x768 .bf16}

/-- The normalised input. -/
theorem xn (H : Reads a t ct x g wo) (r : Fin 256) (j : Fin 1024) : k0_pay40 (F := Ideal) x (ix2 r j) = a.xn (row t r) j := by
  pointwise [k0_pay40, k0_pay38, Args.xn, Args.ms, H.x]

/-- The normalised input times the gain. -/
theorem h (H : Reads a t ct x g wo) (r : Fin 256) (j : Fin 1024) : k0_pay39 (F := Ideal) x g (ix2 r j) = a.h (row t r) j := by
  pointwise [k0_pay39, k0_pay38, Args.h, Args.xn, Args.ms, H.x, H.g]

/-- The gradient of the layer's input. -/
theorem gx (H : Reads a t ct x g wo) (hD : ∀ r j, k0_pay37 (F := Ideal) A B0 B1 B2 B3 W0 W1 (ix2 r j) = a.dh (row t r) j)
    (r : Fin 256) (j : Fin 1024) :
    k0_pay2 (F := Ideal) ct (k0_pay38 x) (k0_pay40 x) (k0_pay41 A B0 B1 B2 B3 W0 W1 g) (k0_pay42 A B0 B1 B2 B3 W0 W1 x g) (ix2 r j)
      = a.gx (row t r) j := by
  pointwise [k0_pay2, k0_pay38, k0_pay41, k0_pay42, xn H, Args.gx, Args.ms, hD, H.x, H.ct, H.g]

/-- The same, narrowed. -/
theorem gx16 (H : Reads a t ct x g wo) (hD : ∀ r j, k0_pay37 (F := Ideal) A B0 B1 B2 B3 W0 W1 (ix2 r j) = a.dh (row t r) j)
    (r : Fin 256) (j : Fin 1024) :
    k0_pay3 (F := Ideal) ct (k0_pay38 x) (k0_pay40 x) (k0_pay41 A B0 B1 B2 B3 W0 W1 g) (k0_pay42 A B0 B1 B2 B3 W0 W1 x g) (ix2 r j)
      = a.gx (row t r) j := by
  pointwise [k0_pay3, gx H hD]

/-- The gradient of what the product before the layer was taken of. -/
theorem dao (H : Reads a t ct x g wo) (hD : ∀ r j, k0_pay37 (F := Ideal) A B0 B1 B2 B3 W0 W1 (ix2 r j) = a.dh (row t r) j)
    (r : Fin 256) (j : Fin 1024) :
    k0_pay4 (F := Ideal) ct (k0_pay38 x) (k0_pay40 x) (k0_pay41 A B0 B1 B2 B3 W0 W1 g) (k0_pay42 A B0 B1 B2 B3 W0 W1 x g) wo (ix2 r j)
      = a.dao (row t r) j := by
  pointwise [k0_pay4, gx16 H hD, Args.dao, H.wo]

/-- The gain's gradient accumulates the block's rows. -/
theorem dg (H : Reads a t ct x g wo) (hD : ∀ r j, k0_pay37 (F := Ideal) A B0 B1 B2 B3 W0 W1 (ix2 r j) = a.dh (row t r) j)
    (D : FVec Ideal S1x1024 .f32) (q : Fin 1) (j : Fin 1024) :
    k0_pay1 (F := Ideal) (k0_pay37 A B0 B1 B2 B3 W0 W1) (k0_pay40 x) D (ix2 q j)
      = D (ix2 q j) + ∑ r : Fin 256, a.dgRow (row t r) j := by
  pointwise [k0_pay1, xn H, Args.dgRow, hD]

end Cert.Ffn.Payload

end
-- ==== Proof.Ffn.Block.lean ====
/- The SwiGLU layer's gradient: the blocks that a grid point reads, whole or in part, hold the arrays' rows. -/
module

public import proofs.«01_k».proof.Proof.Gen.Kernel2Ideal.Value
public import Idealize.ShloMosaic.Lib.Pipeline.ValueKit
public import Idealize.ShloMosaic.Lib.Pipeline.ReadBack
public import Idealize.ShloMosaic.Lib.WritesUnit
public import proofs.«01_k».proof.Proof.Ffn.Payload

@[expose] public section

set_option maxRecDepth 16384

noncomputable section

namespace Cert.Ffn.Block

open Idealize.ShloMosaic Idealize.ShloMosaic.TcCoe Idealize.SL.Sem
open Cert.Kernel2Ideal Cert.Kernel2Ideal.Gen Cert.Ffn.Payload

variable (m : (ℓ : Loc nD τ sig) → Buf (Elt Ideal) ℓ) (c : Dev nD)

/-- The arrays the kernel is launched on. -/
def args : Args where
  ct := V m c main_arg5
  x := V m c main_arg0
  g := V m c main_arg1
  gu := V m c main_v12
  wgu := V m c main_v13
  wd := V m c main_v14
  wo := V m c main_v15

/-- A grid point as one of thirty-two. -/
def pt (t : Fin cfg0.N) : Fin 32 := ⟨t.val, lt_of_lt_of_eq t.isLt N_0⟩

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![t.val, 0] ∧ win0_14.index t = ![t.val, 0] :=
  (by decide +kernel : ∀ t : Fin grid0.N, _)

theorem blk_ct (t : Fin cfg0.N) (r : Fin 256) (j : Fin 1024) :
    (show FVec Ideal S256x1024 .f32 from iblk m c 0 t) (ix2 r j) = (args m c).ct (ix2 (row (pt t) r) j) := by
  unfold args row pt; blk_ext [iblk, idx t]
theorem blk_x (t : Fin cfg0.N) (r : Fin 256) (j : Fin 1024) :
    (show FVec Ideal S256x1024 .f32 from iblk m c 1 t) (ix2 r j) = (args m c).x (ix2 (row (pt t) r) j) := by
  unfold args row pt; blk_ext [iblk, idx t]
theorem blk_g (t : Fin cfg0.N) (r : Fin 1) (j : Fin 1024) :
    (show FVec Ideal S1x1024 .f32 from iblk m c 2 t) (ix2 r j) = (args m c).g (ix2 r j) := by
  unfold args; blk_ext [iblk, idx t]
theorem blk_gu (t : Fin cfg0.N) (r : Fin 256) (k : Fin 5632) :
    (show FVec Ideal S256x5632 .f32 from iblk m c 3 t) (ix2 r k) = (args m c).gu (ix2 (row (pt t) r) k) := by
  unfold args row pt; blk_ext [iblk, idx t]
theorem blk_wgu (t : Fin cfg0.N) (j : Fin 1024) (k : Fin 5632) :
    (show FVec Ideal S1024x5632 .bf16 from iblk m c 4 t) (ix2 j k) = (args m c).wgu (ix2 j k) := by
  unfold args; blk_ext [iblk, idx t]
theorem blk_wd (t : Fin cfg0.N) (k : Fin 2816) (j : Fin 1024) :
    (show FVec Ideal S2816x1024 .bf16 from iblk m c 5 t) (ix2 k j) = (args m c).wd (ix2 k j) := by
  unfold args; blk_ext [iblk, idx t]
theorem blk_wo (t : Fin cfg0.N) (r : Fin 1024) (j : Fin 1024) :
    (show FVec Ideal S1024x1024 .bf16 from iblk m c 6 t) (ix2 r j) = (args m c).wo (ix2 r j) := by
  unfold args; blk_ext [iblk, idx t]

/-- The blocks of a grid point. -/
theorem reads (t : Fin cfg0.N) : Reads (args m c) (pt t) (iblk m c 0 t) (iblk m c 1 t) (iblk m c 2 t) (iblk m c 6 t) where
  ct := blk_ct m c t
  x := blk_x m c t
  g := blk_g m c t
  wo := blk_wo m c t

/-! ## The chunks' operands are parts of the blocks -/

/-- A part of a block, entry by entry. -/
theorem part {A B P Q : ℕ} {e : EltTy} (X : (⟨2, ![A, B]⟩ : Shape).Idx → Elt Ideal e) (o p : ℕ)
    (inb : ∀ a : Fin 2, (![o, p] : Fin 2 → ℕ) a + (![P, Q] : Fin 2 → ℕ) a ≤ (![A, B] : Fin 2 → ℕ) a) (r : Fin P) (k : Fin Q) (i : Fin A)
    (j : Fin B) (hi : i.val = o + r) (hj : j.val = p + k) :
    View.ld (S := ⟨2, ![A, B]⟩) X (Rect.unit (s := ⟨2, ![A, B]⟩) ![o, p] ![P, Q] inb) (ix2 r k) = X (ix2 i j) :=
  View.ld_unit_apply_of X _ _ _ _ _ fun a => match a with
    | ⟨0, _⟩ => hi
    | ⟨1, _⟩ => hj

/-- The first chunk. -/
theorem chunk0 (t : Fin cfg0.N) : Chunk (args m c) (pt t) (n := 1024) o0
    (View.ld (iblk m c 3 t) (Rect.unit ![0, 0] ![256, 1024] inb_S256x5632_S256x1024_0_0))
    (View.ld (iblk m c 3 t) (Rect.unit ![0, 2816] ![256, 1024] inb_S256x5632_S256x1024_0_2816))
    (View.ld (iblk m c 5 t) (Rect.unit ![0, 0] ![1024, 1024] inb_S2816x1024_S1024x1024_0_0))
    (View.ld (iblk m c 4 t) (Rect.unit ![0, 0] ![1024, 1024] inb_S1024x5632_S1024x1024_0_0))
    (View.ld (iblk m c 4 t) (Rect.unit ![0, 2816] ![1024, 1024] inb_S1024x5632_S1024x1024_0_2816)) where
  gate r k := (part _ _ _ _ r k r ⟨o0 k, by omega⟩ (by omega) (by simp only [o0]; omega)).trans (blk_gu m c t _ _)
  up r k := (part _ _ _ _ r k r ⟨2816 + o0 k, by omega⟩ (by omega) rfl).trans (blk_gu m c t _ _)
  wd k j := (part _ _ _ _ k j (o0 k) j (by simp only [o0]; omega) (by omega)).trans (blk_wd m c t _ _)
  wg j k := (part _ _ _ _ j k j ⟨o0 k, by omega⟩ (by omega) (by simp only [o0]; omega)).trans (blk_wgu m c t _ _)
  wu j k := (part _ _ _ _ j k j ⟨2816 + o0 k, by omega⟩ (by omega) rfl).trans (blk_wgu m c t _ _)

/-- The second. -/
theorem chunk1 (t : Fin cfg0.N) : Chunk (args m c) (pt t) (n := 1024) o1
    (View.ld (iblk m c 3 t) (Rect.unit ![0, 1024] ![256, 1024] inb_S256x5632_S256x1024_0_1024))
    (View.ld (iblk m c 3 t) (Rect.unit ![0, 3840] ![256, 1024] inb_S256x5632_S256x1024_0_3840))
    (View.ld (iblk m c 5 t) (Rect.unit ![1024, 0] ![1024, 1024] inb_S2816x1024_S1024x1024_1024_0))
    (View.ld (iblk m c 4 t) (Rect.unit ![0, 1024] ![1024, 1024] inb_S1024x5632_S1024x1024_0_1024))
    (View.ld (iblk m c 4 t) (Rect.unit ![0, 3840] ![1024, 1024] inb_S1024x5632_S1024x1024_0_3840)) where
  gate r k := (part _ _ _ _ r k r ⟨o1 k, by omega⟩ (by omega) rfl).trans (blk_gu m c t _ _)
  up r k := (part _ _ _ _ r k r ⟨2816 + o1 k, by omega⟩ (by omega) (by simp only [o1]; omega)).trans (blk_gu m c t _ _)
  wd k j := (part _ _ _ _ k j (o1 k) j rfl (by omega)).trans (blk_wd m c t _ _)
  wg j k := (part _ _ _ _ j k j ⟨o1 k, by omega⟩ (by omega) rfl).trans (blk_wgu m c t _ _)
  wu j k := (part _ _ _ _ j k j ⟨2816 + o1 k, by omega⟩ (by omega) (by simp only [o1]; omega)).trans (blk_wgu m c t _ _)

/-- The third, of 768 gates. -/
theorem chunk2 (t : Fin cfg0.N) : Chunk (args m c) (pt t) (n := 768) o2
    (View.ld (iblk m c 3 t) (Rect.unit ![0, 2048] ![256, 768] inb_S256x5632_S256x768_0_2048))
    (View.ld (iblk m c 3 t) (Rect.unit ![0, 4864] ![256, 768] inb_S256x5632_S256x768_0_4864))
    (View.ld (iblk m c 5 t) (Rect.unit ![2048, 0] ![768, 1024] inb_S2816x1024_S768x1024_2048_0))
    (View.ld (iblk m c 4 t) (Rect.unit ![0, 2048] ![1024, 768] inb_S1024x5632_S1024x768_0_2048))
    (View.ld (iblk m c 4 t) (Rect.unit ![0, 4864] ![1024, 768] inb_S1024x5632_S1024x768_0_4864)) where
  gate r k := (part _ _ _ _ r k r ⟨o2 k, by omega⟩ (by omega) rfl).trans (blk_gu m c t _ _)
  up r k := (part _ _ _ _ r k r ⟨2816 + o2 k, by omega⟩ (by omega) (by simp only [o2]; omega)).trans (blk_gu m c t _ _)
  wd k j := (part _ _ _ _ k j (o2 k) j rfl (by omega)).trans (blk_wd m c t _ _)
  wg j k := (part _ _ _ _ j k j ⟨o2 k, by omega⟩ (by omega) rfl).trans (blk_wgu m c t _ _)
  wu j k := (part _ _ _ _ j k j ⟨2816 + o2 k, by omega⟩ (by omega) (by simp only [o2]; omega)).trans (blk_wgu m c t _ _)

end Cert.Ffn.Block

end
-- ==== Proof.Ffn.Outs.lean ====
/- The SwiGLU layer's gradient: what a grid point leaves in each output block and adds to the gain's gradient, entry by entry. -/
module

public import proofs.«01_k».proof.Proof.Ffn.Block

@[expose] public section

set_option maxRecDepth 16384

noncomputable section

namespace Cert.Ffn.Block

open Idealize.ShloMosaic Idealize.ShloMosaic.TcCoe Idealize.SL.Sem
open Cert.Kernel2Ideal Cert.Kernel2Ideal.Gen Cert.Ffn.Payload
open scoped BigOperators

/-! ## Several stores into one block -/

/-- A column that lies within a store's columns is one of those stored. -/
theorem mem_cols {B Q : ℕ} (p : ℕ) (inb : ∀ a : Fin 2, (![0, p] : Fin 2 → ℕ) a + (![256, Q] : Fin 2 → ℕ) a ≤ (![256, B] : Fin 2 → ℕ) a)
    (y : (⟨2, ![256, B]⟩ : Shape).Idx) (h : p ≤ (y 1).val) (h' : (y 1).val < p + Q) :
    y ∈ (Rect.unit (s := ⟨2, ![256, B]⟩) ![0, p] ![256, Q] inb).set :=
  Rect.mem_set_unit.2 fun a => match a with
    | ⟨0, _⟩ => ⟨Nat.zero_le _, (y 0).isLt.trans_eq (Nat.zero_add _).symm⟩
    | ⟨1, _⟩ => ⟨h, h'⟩

/-- The three chunks' gated values side by side. -/
theorem act_cols {P0 P1 : FVec Ideal S256x1024 .bf16} {P2 : FVec Ideal S256x768 .bf16} {G : Fin 256 → Fin 2816 → EReal}
    (h0 : ∀ r j, P0 (ix2 r j) = G r (o0 j)) (h1 : ∀ r j, P1 (ix2 r j) = G r (o1 j)) (h2 : ∀ r j, P2 (ix2 r j) = G r (o2 j))
    (y : S256x2816.Idx) :
    View.canon (Val := Elt Ideal) (s := S256x2816) (e := .bf16)
      [⟨Rect.unit ![0, 2048] ![256, 768] inb_S256x2816_S256x768_0_2048, P2⟩,
       ⟨Rect.unit ![0, 1024] ![256, 1024] inb_S256x2816_S256x1024_0_1024, P1⟩,
       ⟨Rect.unit ![0, 0] ![256, 1024] inb_S256x2816_S256x1024_0_0, P0⟩] y = G (y 0) (y 1) := by
  have hy : (y 1).val < 2816 := (y 1).isLt
  canon_tiles x e using (if c2 : 2048 ≤ (y 1).val then ⟨_, .head _, mem_cols _ inb_S256x2816_S256x768_0_2048 y c2 (by omega)⟩
    else if c1 : 1024 ≤ (y 1).val then ⟨_, .tail _ (.head _), mem_cols _ inb_S256x2816_S256x1024_0_1024 y c1 (by omega)⟩
    else ⟨_, .tail _ (.tail _ (.head _)), mem_cols _ inb_S256x2816_S256x1024_0_0 y (by omega) (by omega)⟩)
  · rw [eq_ix2 x]
    exact (h2 (x 0) (x 1)).trans (congrArg₂ G (Fin.ext e0.symm) (Fin.ext e1.symm))
  · rw [eq_ix2 x]
    exact (h1 (x 0) (x 1)).trans (congrArg₂ G (Fin.ext e0.symm) (Fin.ext e1.symm))
  · rw [eq_ix2 x]
    exact (h0 (x 0) (x 1)).trans (congrArg₂ G (Fin.ext e0.symm) (Fin.ext e1.symm))

/-- The three chunks' gradients of the gates and of the values side by side. -/
theorem dgu_cols {P0 P1 Q0 Q1 : FVec Ideal S256x1024 .bf16} {P2 Q2 : FVec Ideal S256x768 .bf16} {G : Fin 256 → Fin 5632 → EReal}
    (p0 : ∀ r j (k : Fin 5632), k.val = o0 j → P0 (ix2 r j) = G r k) (q0 : ∀ r j (k : Fin 5632), k.val = 2816 + o0 j → Q0 (ix2 r j) = G r k)
    (p1 : ∀ r j (k : Fin 5632), k.val = o1 j → P1 (ix2 r j) = G r k) (q1 : ∀ r j (k : Fin 5632), k.val = 2816 + o1 j → Q1 (ix2 r j) = G r k)
    (p2 : ∀ r j (k : Fin 5632), k.val = o2 j → P2 (ix2 r j) = G r k) (q2 : ∀ r j (k : Fin 5632), k.val = 2816 + o2 j → Q2 (ix2 r j) = G r k)
    (y : S256x5632.Idx) :
    View.canon (Val := Elt Ideal) (s := S256x5632) (e := .bf16)
      [⟨Rect.unit ![0, 4864] ![256, 768] inb_S256x5632_S256x768_0_4864, Q2⟩,
       ⟨Rect.unit ![0, 2048] ![256, 768] inb_S256x5632_S256x768_0_2048, P2⟩,
       ⟨Rect.unit ![0, 3840] ![256, 1024] inb_S256x5632_S256x1024_0_3840, Q1⟩,
       ⟨Rect.unit ![0, 1024] ![256, 1024] inb_S256x5632_S256x1024_0_1024, P1⟩,
       ⟨Rect.unit ![0, 2816] ![256, 1024] inb_S256x5632_S256x1024_0_2816, Q0⟩,
       ⟨Rect.unit ![0, 0] ![256, 1024] inb_S256x5632_S256x1024_0_0, P0⟩] y = G (y 0) (y 1) := by
  have hy : (y 1).val < 5632 := (y 1).isLt
  canon_tiles x e using (if c5 : 4864 ≤ (y 1).val then ⟨_, .head _, mem_cols _ inb_S256x5632_S256x768_0_4864 y c5 (by omega)⟩
    else if c4 : 3840 ≤ (y 1).val then ⟨_, .tail _ (.tail _ (.head _)), mem_cols _ inb_S256x5632_S256x1024_0_3840 y c4 (by omega)⟩
    else if c3 : 2816 ≤ (y 1).val then ⟨_, .tail _ (.tail _ (.tail _ (.tail _ (.head _)))), mem_cols _ inb_S256x5632_S256x1024_0_2816 y c3 (by omega)⟩
    else if c2 : 2048 ≤ (y 1).val then ⟨_, .tail _ (.head _), mem_cols _ inb_S256x5632_S256x768_0_2048 y c2 (by omega)⟩
    else if c1 : 1024 ≤ (y 1).val then ⟨_, .tail _ (.tail _ (.tail _ (.head _))), mem_cols _ inb_S256x5632_S256x1024_0_1024 y c1 (by omega)⟩
    else ⟨_, .tail _ (.tail _ (.tail _ (.tail _ (.tail _ (.head _))))), mem_cols _ inb_S256x5632_S256x1024_0_0 y (by omega) (by omega)⟩)
  all_goals rw [eq_ix2 x]
  · exact (q2 (x 0) (x 1) (y 1) (by simp only [o2]; omega)).trans (congrArg₂ G (Fin.ext e0.symm) rfl)
  · exact (p2 (x 0) (x 1) (y 1) (by simp only [o2]; omega)).trans (congrArg₂ G (Fin.ext e0.symm) rfl)
  · exact (q1 (x 0) (x 1) (y 1) (by simp only [o1]; omega)).trans (congrArg₂ G (Fin.ext e0.symm) rfl)
  · exact (p1 (x 0) (x 1) (y 1) (by simp only [o1]; omega)).trans (congrArg₂ G (Fin.ext e0.symm) rfl)
  · exact (q0 (x 0) (x 1) (y 1) (by simp only [o0]; omega)).trans (congrArg₂ G (Fin.ext e0.symm) rfl)
  · exact (p0 (x 0) (x 1) (y 1) (by simp only [o0]; omega)).trans (congrArg₂ G (Fin.ext e0.symm) rfl)

/-- One store of the first row over earlier contents. -/
theorem row0 {κ : Kind} {sp : Space} (v : View sig κ sp S8x1024 .f32) (f : v.ty.Contents (Elt Ideal))
    (L : List (View.Piece (Elt Ideal) S8x1024 .f32)) (P : FVec Ideal S1x1024 .f32) (q : Fin 8) (j : Fin 1024) :
    v.read (Elt Ideal) (v.writes (Elt Ideal) f (⟨Rect.unit ![0, 0] ![1, 1024] inb_S8x1024_S1x1024_0_0, P⟩ :: L)) (ix2 q j)
      = if q.val = 0 then P (ix2 0 j) else v.read (Elt Ideal) (v.writes (Elt Ideal) f L) (ix2 q j) := by
  by_cases h0 : q.val = 0
  · rw [if_pos h0]
    exact View.read_writes_cons_rows_of_mem v f _ _ _ (ix2 q j) (ix2 0 j) rfl (by simpa using h0) rfl
  rw [if_neg h0]
  exact View.read_writes_cons_rows_of_not_mem (W := 1) v f _ _ _ (ix2 q j) rfl rfl (by simp only [ix2_0]; omega)

variable (m : (ℓ : Loc nD τ sig) → Buf (Elt Ideal) ℓ) (c : Dev nD)

/-! ## The output blocks -/

/-- The block of the gated values. -/
theorem out_act (t : Fin cfg0.N) (r : Fin 256) (k : Fin 2816) :
    (show FVec Ideal S256x2816 .bf16 from (outsAt0 m c t.val t.isLt).2.1) (ix2 r k) = (args m c).act (row (pt t) r) k := by
  have key := act_cols (G := fun r k => (args m c).act (row (pt t) r) k) (Payload.act0 (chunk0 m c t)) (Payload.act1 (chunk1 m c t))
    (Payload.act2 (chunk2 m c t)) (ix2 r k)
  by_cases h0 : t.val % 32 = 0
  · rw [outsAt0_A m c t h0]; dsimp only; frame_out; exact key
  · rw [outsAt0_B m c t h0]; dsimp only; frame_out; exact key

/-- The block of the projection's gradient. -/
theorem out_dgu (t : Fin cfg0.N) (r : Fin 256) (k : Fin 5632) :
    (show FVec Ideal S256x5632 .bf16 from (outsAt0 m c t.val t.isLt).2.2.1) (ix2 r k) = (args m c).dgu (row (pt t) r) k := by
  have H := reads m c t
  have key := dgu_cols (G := fun r k => (args m c).dgu (row (pt t) r) k)
    (fun r j k h => (Payload.dgate0 H (chunk0 m c t) r j).trans (Args.dgu_gate _ _ h).symm)
    (fun r j k h => (Payload.dup0 H (chunk0 m c t) r j).trans (Args.dgu_up _ _ h).symm)
    (fun r j k h => (Payload.dgate1 H (chunk1 m c t) r j).trans (Args.dgu_gate _ _ h).symm)
    (fun r j k h => (Payload.dup1 H (chunk1 m c t) r j).trans (Args.dgu_up _ _ h).symm)
    (fun r j k h => (Payload.dgate2 H (chunk2 m c t) r j).trans (Args.dgu_gate _ _ h).symm)
    (fun r j k h => (Payload.dup2 H (chunk2 m c t) r j).trans (Args.dgu_up _ _ h).symm) (ix2 r k)
  by_cases h0 : t.val % 32 = 0
  · rw [outsAt0_A m c t h0]; dsimp only; frame_out; exact key
  · rw [outsAt0_B m c t h0]; dsimp only; frame_out; exact key

/-- The block of the input's gradient. -/
theorem out_gx (t : Fin cfg0.N) (r : Fin 256) (j : Fin 1024) :
    (show FVec Ideal S256x1024 .f32 from (outsAt0 m c t.val t.isLt).1) (ix2 r j) = (args m c).gx (row (pt t) r) j := by
  have key := Payload.gx (reads m c t) (Payload.dh (reads m c t) (chunk0 m c t) (chunk1 m c t) (chunk2 m c t)) r j
  by_cases h0 : t.val % 32 = 0
  · rw [outsAt0_A m c t h0]; dsimp only; frame_out; exact key
  · rw [outsAt0_B m c t h0]; dsimp only; frame_out; exact key

/-- The same block, narrowed. -/
theorem out_gx16 (t : Fin cfg0.N) (r : Fin 256) (j : Fin 1024) :
    (show FVec Ideal S256x1024 .bf16 from (outsAt0 m c t.val t.isLt).2.2.2.2.2.2.1) (ix2 r j) = (args m c).gx (row (pt t) r) j := by
  have key := Payload.gx16 (reads m c t) (Payload.dh (reads m c t) (chunk0 m c t) (chunk1 m c t) (chunk2 m c t)) r j
  by_cases h0 : t.val % 32 = 0
  · rw [outsAt0_A m c t h0]; dsimp only; frame_out; exact key
  · rw [outsAt0_B m c t h0]; dsimp only; frame_out; exact key

/-- The block of the gradient of what the product before the layer was taken of. -/
theorem out_dao (t : Fin cfg0.N) (r : Fin 256) (j : Fin 1024) :
    (show FVec Ideal S256x1024 .bf16 from (outsAt0 m c t.val t.isLt).2.2.2.2.2.2.2) (ix2 r j) = (args m c).dao (row (pt t) r) j := by
  have key := Payload.dao (reads m c t) (Payload.dh (reads m c t) (chunk0 m c t) (chunk1 m c t) (chunk2 m c t)) r j
  by_cases h0 : t.val % 32 = 0
  · rw [outsAt0_A m c t h0]; dsimp only; frame_out; exact key
  · rw [outsAt0_B m c t h0]; dsimp only; frame_out; exact key

/-- The block of the normalised input times the gain. -/
theorem out_h (t : Fin cfg0.N) (r : Fin 256) (j : Fin 1024) :
    (show FVec Ideal S256x1024 .bf16 from (outsAt0 m c t.val t.isLt).2.2.2.1) (ix2 r j) = (args m c).h (row (pt t) r) j := by
  have key := Payload.h (reads m c t) r j
  by_cases h0 : t.val % 32 = 0
  · rw [outsAt0_A m c t h0]; dsimp only; frame_out; exact key
  · rw [outsAt0_B m c t h0]; dsimp only; frame_out; exact key

/-- The block of the incoming gradient, narrowed. -/
theorem out_d16 (t : Fin cfg0.N) (r : Fin 256) (j : Fin 1024) :
    (show FVec Ideal S256x1024 .bf16 from (outsAt0 m c t.val t.isLt).2.2.2.2.1) (ix2 r j) = (args m c).ct (ix2 (row (pt t) r) j) := by
  have key := Payload.d16 (reads m c t) r j
  by_cases h0 : t.val % 32 = 0
  · rw [outsAt0_A m c t h0]; dsimp only; frame_out; exact key
  · rw [outsAt0_B m c t h0]; dsimp only; frame_out; exact key

/-! ## The gain's gradient -/

/-- What a grid point adds to the gain's gradient. -/
def dgTerm (a : Args) (t : Fin 32) (q : Fin 8) (j : Fin 1024) : EReal :=
  if q.val < 1 then ∑ r : Fin 256, a.dgRow (row t r) j else 0

/-- A first row that grows, and the rows below it left alone. -/
theorem grow (A : FVec Ideal S8x1024 .f32) (B : EReal) (q : Fin 8) (j : Fin 1024) :
    (if q.val = 0 then A (ix2 0 j) + B else A (ix2 q j)) = A (ix2 q j) + if q.val < 1 then B else 0 := by
  by_cases h0 : q.val = 0
  · obtain rfl : q = 0 := Fin.ext h0
    rfl
  rw [if_neg h0, if_neg (by omega), add_zero]

/-- At a point that is not the first the gain's gradient grows by the block's part. -/
theorem dg_step (t : Fin cfg0.N) (h0 : ¬ t.val % 32 = 0) (q : Fin 8) (j : Fin 1024) :
    (show FVec Ideal S8x1024 .f32 from (outsAt0 m c t.val t.isLt).2.2.2.2.2.1) (ix2 q j)
      = (show FVec Ideal S8x1024 .f32 from (outsAt0 m c (t.val - 1) (by have := t.isLt; omega)).2.2.2.2.2.1) (ix2 q j)
        + dgTerm (args m c) (pt t) q j := by
  have key := grow (outsAt0 m c (t.val - 1) (by have := t.isLt; omega)).2.2.2.2.2.1
    (∑ r : Fin 256, (args m c).dgRow (row (pt t) r) j) q j
  rw [outsAt0_B m c t h0]
  dsimp only
  frame_out
  refine (row0 (ms0_12 t).view _ [] _ q j).trans (Eq.trans ?_ key)
  refine if_congr Iff.rfl ?_ ?_
  · refine (Payload.dg (reads m c t) (Payload.dh (reads m c t) (chunk0 m c t) (chunk1 m c t) (chunk2 m c t)) _ 0 j).trans ?_
    pointwise
  · rw [View.writes_nil, (hs0_12 t).read_unread]

/-- The zeros the gain's gradient starts from. -/
theorem zeros (q : Fin 8) (j : Fin 1024) : k0_pay5 (F := Ideal) (ix2 q j) = 0 := by pointwise [k0_pay5]

/-- The first grid point leaves its own part of the gain's gradient. -/
theorem dg_first (t : Fin cfg0.N) (h0 : t.val % 32 = 0) (q : Fin 8) (j : Fin 1024) :
    (show FVec Ideal S8x1024 .f32 from (outsAt0 m c t.val t.isLt).2.2.2.2.2.1) (ix2 q j) = 0 + dgTerm (args m c) (pt t) q j := by
  have key := grow (k0_pay5 (F := Ideal)) (∑ r : Fin 256, (args m c).dgRow (row (pt t) r) j) q j
  rw [outsAt0_A m c t h0]
  dsimp only
  frame_open
  simp (disch := decide) only [↓ View.readCov_skip, ↓ View.readCov_fill]
  frame_out
  rw [← View.read_writes_junk_eq_canon (ms0_12 t).view]
  refine (row0 (ms0_12 t).view _ [_] _ q j).trans (Eq.trans ?_ (key.trans (by rw [zeros]; rfl)))
  refine if_congr Iff.rfl ?_ ?_
  · refine (Payload.dg (reads m c t) (Payload.dh (reads m c t) (chunk0 m c t) (chunk1 m c t) (chunk2 m c t)) _ 0 j).trans ?_
    pointwise
  · rw [View.read_writes_junk_eq_canon, View.canon_cons_unit_lit _ _ _ (by decide)]

end Cert.Ffn.Block

end
-- ==== Proof.Ffn.Arrays.lean ====
/- The SwiGLU layer's gradient: what the kernel's eight result arrays hold. Every block of seven of them is written once, by the grid point
   that handles its rows; the gain's gradient is written back after the last grid point, when it has taken up all blocks' parts. -/
module

public import proofs.«01_k».proof.Proof.Ffn.Outs
public import Idealize.ShloMosaic.Lib.Pipeline.Value

@[expose] public section

set_option maxRecDepth 16384

noncomputable section

namespace Cert.Ffn.Arrays

open Idealize.ShloMosaic Idealize.ShloMosaic.TcCoe Idealize.SL.Sem
open Cert.Kernel2Ideal Cert.Kernel2Ideal.Gen Cert.Ffn.Block
open scoped BigOperators

variable (m : (ℓ : Loc nD τ sig) → Buf (Elt Ideal) ℓ) (c : Dev nD)

/-- The gradient of the layer's input. -/
theorem gx : (dats m 0 c).arrAt 7 cfg0.N = fun i : S8192x1024.Idx => (args m c).gx (i 0) (i 1) := by
  refine (dats m 0 c).arrAt_eq_of_covers 7 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_7.blk t).view.emb (ix2 r k) = ix2 (row (pt t) r) k := by unfold row pt; blk_ext [idx t]
  blk_simp
  rw [after0_7]
  simp only [e]
  exact out_gx m c t r k

/-- The gated values. -/
theorem act : (dats m 0 c).arrAt 8 cfg0.N = fun i : S8192x2816.Idx => (args m c).act (i 0) (i 1) := by
  refine (dats m 0 c).arrAt_eq_of_covers 8 _ (by decide +kernel) fun t hf y => ?_
  obtain ⟨r, k, rfl⟩ : ∃ (r : Fin 256) (k : Fin 2816), y = ix2 r k := ⟨y 0, y 1, by funext a; match a with | ⟨0, _⟩ => rfl | ⟨1, _⟩ => rfl⟩
  have e : (win0_8.blk t).view.emb (ix2 r k) = ix2 (row (pt t) r) k := by unfold row pt; blk_ext [idx t]
  blk_simp
  rw [after0_8]
  simp only [e]
  exact out_act m c t r k

/-- The gradient of the projection. -/
theorem dgu : (dats m 0 c).arrAt 9 cfg0.N = fun i : S8192x5632.Idx => (args m c).dgu (i 0) (i 1) := by
  refine (dats m 0 c).arrAt_eq_of_covers 9 _ (by decide +kernel) fun t hf y => ?_
  obtain ⟨r, k, rfl⟩ : ∃ (r : Fin 256) (k : Fin 5632), y = ix2 r k := ⟨y 0, y 1, by funext a; match a with | ⟨0, _⟩ => rfl | ⟨1, _⟩ => rfl⟩
  have e : (win0_9.blk t).view.emb (ix2 r k) = ix2 (row (pt t) r) k := by unfold row pt; blk_ext [idx t]
  blk_simp
  rw [after0_9]
  simp only [e]
  exact out_dgu m c t r k

/-- The normalised rows times the gain. -/
theorem h : (dats m 0 c).arrAt 10 cfg0.N = fun i : S8192x1024.Idx => (args m c).h (i 0) (i 1) := by
  refine (dats m 0 c).arrAt_eq_of_covers 10 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_10.blk t).view.emb (ix2 r k) = ix2 (row (pt t) r) k := by unfold row pt; blk_ext [idx t]
  blk_simp
  rw [after0_10]
  simp only [e]
  exact out_h m c t r k

/-- The incoming gradient, passed on. -/
theorem d16 : (dats m 0 c).arrAt 11 cfg0.N = fun i : S8192x1024.Idx => (args m c).ct (ix2 (i 0) (i 1)) := by
  refine (dats m 0 c).arrAt_eq_of_covers 11 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_11.blk t).view.emb (ix2 r k) = ix2 (row (pt t) r) k := by unfold row pt; blk_ext [idx t]
  blk_simp
  rw [after0_11]
  simp only [e]
  exact out_d16 m c t r k

/-- The gradient of the layer's input, narrowed. -/
theorem gx16 : (dats m 0 c).arrAt 13 cfg0.N = fun i : S8192x1024.Idx => (args m c).gx (i 0) (i 1) := by
  refine (dats m 0 c).arrAt_eq_of_covers 13 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_13.blk t).view.emb (ix2 r k) = ix2 (row (pt t) r) k := by unfold row pt; blk_ext [idx t]
  blk_simp
  rw [after0_13]
  simp only [e]
  exact out_gx16 m c t r k

/-- The gradient of what the product before the layer was taken of. -/
theorem dao : (dats m 0 c).arrAt 14 cfg0.N = fun i : S8192x1024.Idx => (args m c).dao (i 0) (i 1) := by
  refine (dats m 0 c).arrAt_eq_of_covers 14 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_14.blk t).view.emb (ix2 r k) = ix2 (row (pt t) r) k := by unfold row pt; blk_ext [idx t]
  blk_simp
  rw [after0_14]
  simp only [e]
  exact out_dao m c t r k

/-- The grid points are thirty-two. -/
theorem sum_points (f : Fin 32 → EReal) : ∑ p : Fin cfg0.N, f (pt p) = ∑ t : Fin 32, f t := (finCongr N_0).sum_comp f

/-- The grid points' parts of the gain's gradient make up the whole. -/
theorem dg_points (a : Args) (q : Fin 8) (j : Fin 1024) : ∑ p : Fin cfg0.N, dgTerm a (pt p) q j = a.dg q j := by
  rw [sum_points (fun t => dgTerm a t q j)]
  unfold dgTerm Args.dg
  split
  · rw [sum_rows]
  · exact Finset.sum_const_zero

/-- The last grid point. -/
def last : Fin cfg0.N := ⟨31, lt_of_lt_of_eq (by decide : 31 < 32) N_0.symm⟩

/-- The gain's gradient. -/
theorem dg : (dats m 0 c).arrAt 12 cfg0.N = fun i : S8x1024.Idx => (args m c).dg (i 0) (i 1) := by
  refine (dats m 0 c).arrAt_eq_of_after_last 12 last (by decide +kernel) _ fun y => ?_
  obtain ⟨q, j, rfl⟩ : ∃ (q : Fin 8) (j : Fin 1024), y = ix2 q j := ⟨y 0, y 1, by funext a; match a with | ⟨0, _⟩ => rfl | ⟨1, _⟩ => rfl⟩
  blk_simp
  rw [after0_12, Pipeline.eq_sum_fin_of_reset_step_apply_last (fun n h => (outsAt0 m c n h).2.2.2.2.2.1) 32 (fun _ => 0)
    (fun t y => dgTerm (args m c) (pt t) (y 0) (y 1))
    (fun t h y => by
      obtain ⟨q, j, rfl⟩ : ∃ (q : Fin 8) (j : Fin 1024), y = ix2 q j := ⟨y 0, y 1, by funext a; match a with | ⟨0, _⟩ => rfl | ⟨1, _⟩ => rfl⟩
      exact dg_first m c t h q j)
    (fun t h y => by
      obtain ⟨q, j, rfl⟩ : ∃ (q : Fin 8) (j : Fin 1024), y = ix2 q j := ⟨y 0, y 1, by funext a; match a with | ⟨0, _⟩ => rfl | ⟨1, _⟩ => rfl⟩
      exact dg_step m c t h q j)
    (le_of_eq N_0) last rfl (ix2 q j)]
  rw [zero_add]
  exact (dg_points (args m c) q j)

end Cert.Ffn.Arrays

end
-- ==== Proof.Ffn.Real.lean ====
/- Extended reals that are real: the normalised row always is, and so is what products and sums make of real factors. Where they are, the
   two shapes of the gate's gradient agree. -/
module

public import proofs.«01_k».proof.Proof.Conv.Norm
public import proofs.«01_k».proof.Proof.Ffn.Spec

@[expose] public section

noncomputable section

namespace Cert.Ffn

open Idealize.ShloMosaic
open scoped BigOperators

/-- An extended real that is a real number. -/
def IsReal (x : EReal) : Prop := ∃ r : ℝ, x = r

namespace IsReal

theorem mul {x y : EReal} (hx : IsReal x) (hy : IsReal y) : IsReal (x * y) := by
  obtain ⟨a, rfl⟩ := hx
  obtain ⟨b, rfl⟩ := hy
  exact ⟨a * b, (EReal.coe_mul a b).symm⟩

theorem sum {ι : Type*} (s : Finset ι) {f : ι → EReal} (h : ∀ k, IsReal (f k)) : IsReal (∑ k ∈ s, f k) := by
  choose g hg using h
  exact ⟨∑ k ∈ s, g k, by rw [Conv.Norm.coe_sum]; exact Finset.sum_congr rfl fun k _ => hg k⟩

/-- What lies below infinity in absolute value is real. -/
theorem of_abs {x : EReal} (h : max x (-x) < ⊤) : IsReal x := by
  induction x with
  | bot => simp at h
  | top => simp at h
  | coe r => exact ⟨r, rfl⟩

/-- The logistic function of a real number is real. -/
theorem logi {x : EReal} (h : IsReal x) : IsReal (logi x) := by
  obtain ⟨z, rfl⟩ := h
  have h1 : (1 : EReal) + Ideal.exp (-(z : EReal)) = ((1 + Real.exp (-z) : ℝ) : EReal) := by
    rw [← EReal.coe_neg, Ideal.exp_coe, EReal.coe_add]
    rfl
  have h0 : (1 + Real.exp (-z) : ℝ) ≠ 0 := by positivity
  exact ⟨1 / (1 + Real.exp (-z)), by rw [Ffn.logi, h1, Ideal.div_coe h0, one_mul]⟩

end IsReal

/-- The normalised row is real: where an entry is infinite, the mean square is, and the row is zero. -/
theorem Args.xn_real (a : Args) (R : Fin 8192) (j : Fin 1024) : IsReal (a.xn R j) := by
  obtain ⟨e, he, hw⟩ := Conv.Norm.word_eps
  unfold Args.xn Args.ms
  rw [Conv.Norm.word_1024, hw, Ideal.div_coe (by norm_num)]
  rcases Conv.Norm.sum_sq_top_or_real (fun k => a.x (ix2 R k)) with h | ⟨y, hy⟩
  · rw [h, EReal.top_mul_coe_of_pos (by norm_num), EReal.top_add_coe]
    exact ⟨0, by simp⟩
  · simp only [hy]
    have hb : (0 : ℝ) < (∑ k, y k * y k) * (1 / 1024) + e := by
      have : 0 ≤ ∑ k, y k * y k := Finset.sum_nonneg fun k _ => mul_self_nonneg _
      positivity
    have hs : (∑ k, (y k : EReal) * (y k : EReal)) * ((1 / 1024 : ℝ) : EReal) + (e : EReal)
        = (((∑ k, y k * y k) * (1 / 1024) + e : ℝ) : EReal) := by
      rw [EReal.coe_add, EReal.coe_mul, Conv.Norm.coe_sum]
      simp only [EReal.coe_mul]
    rw [hs, Ideal.rsqrt_coe, if_neg (not_lt.mpr hb.le), if_neg hb.ne']
    exact IsReal.mul ⟨_, rfl⟩ ⟨_, rfl⟩

/-- The two shapes of the gate's gradient: the product rule's two terms, and the derivative of the gate as one factor. -/
theorem gate_backward {p g s : EReal} (hp : IsReal p) (hg : IsReal g) (hs : IsReal s) :
    p * (s + g * s * (1 - s)) = p * s + g * p * (s * (1 - s)) := by
  obtain ⟨p, rfl⟩ := hp
  obtain ⟨g, rfl⟩ := hg
  obtain ⟨s, rfl⟩ := hs
  norm_cast
  ring

end Cert.Ffn

end
-- ==== Proof.Ffn.Ref.lean ====
/- The SwiGLU layer's gradient: what the reference computes. Its results, entry by entry, are the gradient of Spec.lean at its own projection.
   The gate's gradient, which the reference takes by the product rule, is so where the factors are real. -/
module

public import proofs.«01_k».proof.Proof.Gen.Reference2Ideal.Read
public import Idealize.ShloMosaic.Lib.Pipeline.ValueKit
public import Idealize.ShloMosaic.Lib.Pointwise.Reduce
public import proofs.«01_k».proof.Proof.Ffn.Real

@[expose] public section

set_option maxRecDepth 16384

noncomputable section

namespace Cert.Ffn.Ref

open Idealize.ShloMosaic Idealize.ShloMosaic.TcCoe Idealize.SL.Sem
open Cert.Reference2Ideal Cert.Reference2Ideal.Gen Cert.Reference2Ideal.Read Cert.Conv
open scoped BigOperators

variable (x0 : FVec Ideal S8192x1024 .f32) (x1 : FVec Ideal S1x1024 .f32) (x2 : FVec Ideal S1024x5632 .f32)
  (x3 : FVec Ideal S2816x1024 .f32) (x4 : FVec Ideal S1024x1024 .f32) (x5 : FVec Ideal S8192x1024 .f32)

/-- The arrays of the gradient, as the reference has them. -/
def args : Args where
  ct := x5
  x := x0
  g := x1
  gu := val_main_v15 (F := Ideal) x0 x1 x2
  wgu := x2
  wd := x3
  wo := x4

/-! ## The forward pass -/

/-- The mean square of a row. -/
theorem ms (R : Fin 8192) (u : Fin 1) : val_main_v6 (F := Ideal) x0 (ix2 R u) = (args x0 x1 x2 x3 x4 x5).ms R := by
  pointwise [val_main_v6, val_main_v5, val_main_v4, val_main_v3, val_main_v2, val_main_v1, val_main_v0, val_main_cst, val_main_cst_0,
    val_main_cst_1, args, Args.ms]

/-- The normalised row. -/
theorem xn (R : Fin 8192) (j : Fin 1024) : val_main_v12 (F := Ideal) x0 (ix2 R j) = (args x0 x1 x2 x3 x4 x5).xn R j := by
  pointwise [val_main_v12, val_main_v11, val_main_v7, ms x0 x1 x2 x3 x4 x5, Args.xn]
  rfl

/-- The normalised row times the gain. -/
theorem h (R : Fin 8192) (j : Fin 1024) : val_main_v14 (F := Ideal) x0 x1 (ix2 R j) = (args x0 x1 x2 x3 x4 x5).h R j := by
  pointwise [val_main_v14, val_main_v13, xn x0 x1 x2 x3 x4 x5, Args.h]
  rfl

/-- The projection. -/
theorem gu (R : Fin 8192) (k : Fin 5632) :
    (args x0 x1 x2 x3 x4 x5).gu (ix2 R k) = ∑ j : Fin 1024, (args x0 x1 x2 x3 x4 x5).h R j * x2 (ix2 j k) := by
  unfold args
  pointwise [val_main_v15, h x0 x1 x2 x3 x4 x5]
  rfl

/-- The gates' logistic function. -/
theorem sgm (R : Fin 8192) (k : Fin 2816) :
    val_main_v18_2 (F := Ideal) x0 x1 x2 (ix2 R k) = logi ((args x0 x1 x2 x3 x4 x5).gate R k) := by
  pointwise [val_main_v18_2, val_main_call0_v4, val_main_call0_v3, val_main_call0_v2, val_main_call0_v1, val_main_call0_v0, val_main_call0_cst,
    val_main_call0_cst_0, val_main_v16, logi]
  rfl

/-- The gated values. -/
theorem act (R : Fin 8192) (k : Fin 2816) : val_main_v19 (F := Ideal) x0 x1 x2 (ix2 R k) = (args x0 x1 x2 x3 x4 x5).act R k := by
  pointwise [val_main_v19, val_main_v18_0, val_main_v17, val_main_v16, sgm x0 x1 x2 x3 x4 x5, Args.act]
  rfl

/-! ## The backward pass -/

/-- The gradient of the gated values. -/
theorem da (R : Fin 8192) (k : Fin 2816) : val_main_v25 (F := Ideal) x3 x5 (ix2 R k) = (args x0 x1 x2 x3 x4 x5).da R k := by
  pointwise [val_main_v25, args, Args.da]

/-- The gradient of the values. -/
theorem dup (R : Fin 8192) (k : Fin 2816) : val_main_v26 (F := Ideal) x0 x1 x2 x3 x5 (ix2 R k) = (args x0 x1 x2 x3 x4 x5).dup R k := by
  pointwise [val_main_v26, val_main_v18_0, val_main_v16, sgm x0 x1 x2 x3 x4 x5, da x0 x1 x2 x3 x4 x5, Args.dup]
  exact mul_comm _ _

variable (r1 : ∀ i, IsReal (x1 i)) (r2 : ∀ i, IsReal (x2 i)) (r3 : ∀ i, IsReal (x3 i)) (r5 : ∀ i, IsReal (x5 i))
include r1 r2 in
/-- With real weights and a real gain, the projection is real; … -/
theorem gu_real (R : Fin 8192) (k : Fin 5632) : IsReal ((args x0 x1 x2 x3 x4 x5).gu (ix2 R k)) := by
  rw [gu]
  exact IsReal.sum _ fun j => ((Args.xn_real _ R j).mul (r1 _)).mul (r2 _)

include r3 r5 in
/-- … with real weights and a real incoming gradient, the gated values' gradient is. -/
theorem da_real (R : Fin 8192) (k : Fin 2816) : IsReal ((args x0 x1 x2 x3 x4 x5).da R k) :=
  IsReal.sum _ fun j => (r5 _).mul (r3 _)

include r1 r2 r3 r5

/-- The gradient of the gates. -/
theorem dgate (R : Fin 8192) (k : Fin 2816) :
    val_main_v28 (F := Ideal) x0 x1 x2 x3 x5 (ix2 R k) = (args x0 x1 x2 x3 x4 x5).dgate R k := by
  pointwise [val_main_v28, val_main_call1_v2, val_main_call1_v1, val_main_call1_v0, val_main_v27, val_main_v18_1, val_main_call0_v7,
    val_main_call0_v6, val_main_call0_cst_1, val_main_v17, val_main_v16, sgm x0 x1 x2 x3 x4 x5, da x0 x1 x2 x3 x4 x5, Args.dgate]
  have hg : IsReal ((args x0 x1 x2 x3 x4 x5).gate R k) := gu_real x0 x1 x2 x3 x4 x5 r1 r2 R _
  have hp := (da_real x0 x1 x2 x3 x4 x5 r3 r5 R k).mul (gu_real x0 x1 x2 x3 x4 x5 r1 r2 R ⟨2816 + k, by omega⟩)
  exact (gate_backward hp hg hg.logi).symm

/-- The gradient of the projection. -/
theorem dgu (R : Fin 8192) (k : Fin 5632) :
    val_main_v29 (F := Ideal) x0 x1 x2 x3 x5 (ix2 R k) = (args x0 x1 x2 x3 x4 x5).dgu R k := by
  pointwise [val_main_v29, dgate x0 x1 x2 x3 x4 x5 r1 r2 r3 r5, dup x0 x1 x2 x3 x4 x5, Args.dgu]

/-- The gradient of the normalised input. -/
theorem dh (R : Fin 8192) (j : Fin 1024) : val_main_v32 (F := Ideal) x0 x1 x2 x3 x5 (ix2 R j) = (args x0 x1 x2 x3 x4 x5).dh R j := by
  pointwise [val_main_v32, dgu x0 x1 x2 x3 x4 x5 r1 r2 r3 r5, Args.dh]
  rfl

/-- The gradient of the layer's input. -/
theorem gx (R : Fin 8192) (j : Fin 1024) : val_main_v52 (F := Ideal) x0 x1 x2 x3 x5 (ix2 R j) = (args x0 x1 x2 x3 x4 x5).gx R j := by
  obtain ⟨e, he, hw⟩ := Norm.word_eps
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v10, val_main_v9,
    val_main_v8, val_main_v7, val_main_cst_2, val_main_cst_5, val_main_cst_6, val_main_cst_7,
    dh x0 x1 x2 x3 x4 x5 r1 r2 r3 r5, ms x0 x1 x2 x3 x4 x5, Args.gx]
  rw [Fin.sum_univ_one, Norm.word_1024, Norm.word_neg_half]
  have key := Norm.rms_backward (fun k => x0 (ix2 R k)) (fun k => (args x0 x1 x2 x3 x4 x5).dh R k * x1 (ix2 0 k)) (n := 1024) (by norm_num) he j
  have hm : (args x0 x1 x2 x3 x4 x5).ms R = Ideal.div (∑ k, x0 (ix2 R k) * x0 (ix2 R k)) ((1024 : ℝ) : EReal) + (e : EReal) := by
    rw [← hw, ← Norm.word_1024]; rfl
  unfold Args.xn
  rw [hm]
  exact congrArg (x5 (ix2 R j) + ·) key.symm

/-- The gradient of what the product before the layer was taken of. -/
theorem dao (R : Fin 8192) (j : Fin 1024) :
    val_main_v53 (F := Ideal) x0 x1 x2 x3 x4 x5 (ix2 R j) = (args x0 x1 x2 x3 x4 x5).dao R j := by
  pointwise [val_main_v53, gx x0 x1 x2 x3 x4 x5 r1 r2 r3 r5, Args.dao]
  rfl

/-- The gain's gradient, with rows of zeros below it. -/
theorem dg (q : Fin 8) (j : Fin 1024) : val_main_v59 (F := Ideal) x0 x1 x2 x3 x5 (ix2 q j) = (args x0 x1 x2 x3 x4 x5).dg q j := by
  pointwise [val_main_v59, val_main_v58, val_main_v35, val_main_v34, val_main_v33, val_main_cst_4, val_main_cst_8,
    xn x0 x1 x2 x3 x4 x5, dh x0 x1 x2 x3 x4 x5 r1 r2 r3 r5, Args.dg, Args.dgRow]
  split
  · exact Finset.sum_congr rfl fun R _ => mul_comm _ _
  · rfl

end Cert.Ffn.Ref

end
-- ==== Proof.Ffn.Host.lean ====
/- The SwiGLU layer's gradient: the host's lines before the kernel are the reference's forward pass. -/
module

public import proofs.«01_k».proof.Defs
public import proofs.«01_k».proof.Proof.Ffn.Arrays
public import proofs.«01_k».proof.Proof.Ffn.Ref
public import Idealize.ShloMosaic.Lib.Claim

@[expose] public section

set_option maxRecDepth 16384

noncomputable section

namespace Cert.Ffn

open Idealize.ShloMosaic Idealize.ShloMosaic.TcCoe Idealize.SL.Sem
open Cert.Kernel2Ideal Cert.Kernel2Ideal.Gen

/-- The arrays the kernel is launched on, of which the host computes the projection, are the reference's. -/
theorem args_eq (m : (ℓ : Loc nD τ sig) → Buf (Elt Ideal) ℓ) (c : Dev nD) :
    Block.args m c = Ref.args (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Block.args Ref.args
  entry_read
  rfl

end Cert.Ffn

end
-- ==== Proof.Ffn.Pre.lean ====
/- What the precondition of the SwiGLU layer's gradient says of the arrays: the entries of the gain, of the two weights and of the incoming
   gradient are real numbers. -/
module

public import proofs.«01_k».proof.Defs
public import Idealize.ShloMosaic.Lib.Pointwise
public import proofs.«01_k».proof.Proof.Ffn.Real

@[expose] public section

noncomputable section

namespace Cert.Ffn

open Idealize.ShloMosaic Idealize.ShloMosaic.TcCoe

/-- The f32 pattern `0x7F800000` is infinity. -/
theorem word_inf : Ideal.ofBits .f32 0x7F800000#32 = ⊤ := by
  simp [Ideal.ofBits, Ideal.ieee]

/-- An array all of whose entries lie below infinity in absolute value is real. -/
theorem real_of_below {s : Shape} {x : FVec Ideal s .f32} {y : FVec Ideal s .f32} (hy : ∀ i, y i = ⊤)
    (h : cmpf .olt (Host.absf x) y = fun _ => 1#1) (i : s.Idx) : IsReal (x i) := by
  have hi : Ideal.cmp .olt (max (x i) (-x i)) ⊤ = 1#1 := (congrArg (Ideal.cmp .olt (max (x i) (-x i))) (hy i).symm).trans (congrFun h i)
  refine IsReal.of_abs (lt_of_not_ge fun hn => ?_)
  simp [Ideal.cmp, not_lt.mpr hn] at hi

variable (m : (ℓ : Loc Cert.Kernel2Ideal.nD Cert.Kernel2Ideal.τ Cert.Kernel2Ideal.sig) → Buf (Elt Ideal) ℓ)

/-- The precondition's four arrays are real. -/
theorem real_args [hPre_finite : Cert.Pre_finite.Facts] (h : Cert.Pre_Kernel2Ideal_finite m) (c : Dev Cert.Kernel2Ideal.nD) :
    (∀ i, IsReal ((show FVec Ideal Cert.Kernel2Ideal.S1x1024 .f32 from m ((c.tc : Thread Cert.Kernel2Ideal.nD Cert.Kernel2Ideal.τ).loc Cert.Kernel2Ideal.main_arg1)) i))
    ∧ (∀ i, IsReal ((show FVec Ideal Cert.Kernel2Ideal.S1024x5632 .f32 from m ((c.tc : Thread Cert.Kernel2Ideal.nD Cert.Kernel2Ideal.τ).loc Cert.Kernel2Ideal.main_arg2)) i))
    ∧ (∀ i, IsReal ((show FVec Ideal Cert.Kernel2Ideal.S2816x1024 .f32 from m ((c.tc : Thread Cert.Kernel2Ideal.nD Cert.Kernel2Ideal.τ).loc Cert.Kernel2Ideal.main_arg3)) i))
    ∧ (∀ i, IsReal ((show FVec Ideal Cert.Kernel2Ideal.S8192x1024 .f32 from m ((c.tc : Thread Cert.Kernel2Ideal.nD Cert.Kernel2Ideal.τ).loc Cert.Kernel2Ideal.main_arg5)) i)) := by
  obtain ⟨h1, h2, h3, h5⟩ := h c
  exact ⟨real_of_below (fun _ => word_inf) h1, real_of_below (fun _ => word_inf) h2, real_of_below (fun _ => word_inf) h3,
    real_of_below (fun _ => word_inf) h5⟩

end Cert.Ffn

end
-- ==== Proof.Ffn.Claim.lean ====
/- The SwiGLU layer's gradient: kernel and reference compute the same eight arrays. -/
module

public import proofs.«01_k».proof.Defs
public import proofs.«01_k».proof.Proof.Ffn.Host
public import proofs.«01_k».proof.Proof.Ffn.Pre
public import Idealize.ShloMosaic.Lib.Claim

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- A position of a matrix is its row and its column. -/
theorem pair {a b : Nat} (i : Shape.Idx ⟨2, ![a, b]⟩) : i = ix2 (i 0) (i 1) := by
  funext k; match k with | ⟨0, _⟩ => rfl | ⟨1, _⟩ => rfl

/-- The gated values. -/
theorem act : Cert.Reference2Ideal.Read.val_main_v54 (F := Ideal) (m ((c.tc : Thread nD τ).loc main_arg0)) (m ((c.tc : Thread nD τ).loc main_arg1)) (m ((c.tc : Thread nD τ).loc main_arg2))
    = (dats m 0 c).arrAt 8 cfg0.N := by
  rw [Arrays.act, args_eq]
  funext i
  exact (congrArg _ (pair i)).trans (Ref.act _ _ _ _ _ _ (i 0) (i 1))

/-- The normalised rows times the gain. -/
theorem h : Cert.Reference2Ideal.Read.val_main_v56 (F := Ideal) (m ((c.tc : Thread nD τ).loc main_arg0)) (m ((c.tc : Thread nD τ).loc main_arg1))
    = (dats m 0 c).arrAt 10 cfg0.N := by
  rw [Arrays.h, args_eq]
  funext i
  exact (congrArg _ (pair i)).trans (Ref.h _ _ _ _ _ _ (i 0) (i 1))

/-- The incoming gradient, passed on. -/
theorem d16 : Cert.Reference2Ideal.Read.val_main_v57 (F := Ideal) (m ((c.tc : Thread nD τ).loc main_arg5))
    = (dats m 0 c).arrAt 11 cfg0.N := by
  rw [Arrays.d16, args_eq]
  funext i
  exact congrArg (m ((c.tc : Thread nD τ).loc main_arg5)) (pair i)

variable [hPre_finite : Cert.Pre_finite.Facts]

/-- The gradient of the layer's input. -/
theorem gx (hpre : Cert.Pre_Kernel2Ideal_finite m) : Cert.Reference2Ideal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    = (dats m 0 c).arrAt 7 cfg0.N := by
  obtain ⟨r1, r2, r3, r5⟩ := real_args m hpre c
  rw [Arrays.gx, args_eq]
  funext i
  exact (congrArg _ (pair i)).trans (Ref.gx _ _ _ _ _ _ r1 r2 r3 r5 (i 0) (i 1))

/-- The gradient of the projection. -/
theorem dgu (hpre : Cert.Pre_Kernel2Ideal_finite m) : Cert.Reference2Ideal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    = (dats m 0 c).arrAt 9 cfg0.N := by
  obtain ⟨r1, r2, r3, r5⟩ := real_args m hpre c
  rw [Arrays.dgu, args_eq]
  funext i
  exact (congrArg _ (pair i)).trans (Ref.dgu _ _ _ _ _ _ r1 r2 r3 r5 (i 0) (i 1))

/-- The gradient of the gain. -/
theorem dg (hpre : Cert.Pre_Kernel2Ideal_finite m) : Cert.Reference2Ideal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    = (dats m 0 c).arrAt 12 cfg0.N := by
  obtain ⟨r1, r2, r3, r5⟩ := real_args m hpre c
  rw [Arrays.dg, args_eq]
  funext i
  exact (congrArg _ (pair i)).trans (Ref.dg _ _ _ _ _ _ r1 r2 r3 r5 (i 0) (i 1))

/-- The gradient of the layer's input, narrowed. -/
theorem gx16 (hpre : Cert.Pre_Kernel2Ideal_finite m) : Cert.Reference2Ideal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    = (dats m 0 c).arrAt 13 cfg0.N := by
  obtain ⟨r1, r2, r3, r5⟩ := real_args m hpre c
  rw [Arrays.gx16, args_eq]
  funext i
  exact (congrArg _ (pair i)).trans (Ref.gx _ _ _ _ _ _ r1 r2 r3 r5 (i 0) (i 1))

/-- The gradient of what the product before the layer was taken of. -/
theorem dao (hpre : Cert.Pre_Kernel2Ideal_finite m) : Cert.Reference2Ideal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    = (dats m 0 c).arrAt 14 cfg0.N := by
  obtain ⟨r1, r2, r3, r5⟩ := real_args m hpre c
  rw [Arrays.dao, args_eq]
  funext i
  exact (congrArg _ (pair i)).trans (Ref.dao _ _ _ _ _ _ r1 r2 r3 r5 (i 0) (i 1))

set_option maxHeartbeats 3200000 in
/-- Kernel and reference end with the same arrays. -/
theorem algebraic : Cert.algebraic_Kernel2Ideal_Reference2Ideal_pre_finite := by
  pair_intro
  · run_from Cert.Kernel2Ideal.Gen.run_main m g
  · run_from Cert.Reference2Ideal.Value.run m' g'
    · obtain ⟨e0, e1, e2, e3, e4, e5⟩ := hagree c
      rw [Cert.Reference2Ideal.Read.val_main_v52_eq, e0, e1, e2, e3, e5]
      exact gx m c hpre
    · exact act m c
    · obtain ⟨e0, e1, e2, e3, e4, e5⟩ := hagree c
      rw [Cert.Reference2Ideal.Read.val_main_v55_eq, e0, e1, e2, e3, e5]
      exact dgu m c hpre
    · exact h m c
    · exact d16 m c
    · obtain ⟨e0, e1, e2, e3, e4, e5⟩ := hagree c
      rw [Cert.Reference2Ideal.Read.val_main_v59_eq, e0, e1, e2, e3, e5]
      exact dg m c hpre
    · obtain ⟨e0, e1, e2, e3, e4, e5⟩ := hagree c
      rw [Cert.Reference2Ideal.Read.val_main_v60_eq, e0, e1, e2, e3, e5]
      exact gx16 m c hpre
    · obtain ⟨e0, e1, e2, e3, e4, e5⟩ := hagree c
      rw [Cert.Reference2Ideal.Read.val_main_v61_eq, e0, e1, e2, e3, e4, e5]
      exact dao m c hpre

end Cert.Ffn

end
-- ==== Proof.FfnFwd.Spec.lean ====
/- The SwiGLU layer's forward pass, written row by row, and the squared error of what comes out of it. -/
module

public import proofs.«01_k».proof.Proof.Ffn.Spec

@[expose] public section

noncomputable section

namespace Cert.FfnFwd

open Idealize.ShloMosaic Cert.Ffn
open scoped BigOperators

/-- A layer: its input, the normalisation's gain, the weight of the projection onto gates and values, and the weight of the product after. -/
structure Layer where
  x : (⟨2, ![8192, 1024]⟩ : Shape).Idx → EReal
  g : (⟨2, ![1, 1024]⟩ : Shape).Idx → EReal
  wgu : (⟨2, ![1024, 5632]⟩ : Shape).Idx → EReal
  wd : (⟨2, ![2816, 1024]⟩ : Shape).Idx → EReal

namespace Layer

variable (a : Layer)

/-- The mean square of a row, with the small constant under the root. -/
def ms (R : Fin 8192) : EReal :=
  Ideal.div (∑ k : Fin 1024, a.x (ix2 R k) * a.x (ix2 R k)) (Ideal.ofBits .f32 0x44800000#32) + Ideal.ofBits .f32 0x358637BD#32
/-- The normalised row times the gain. -/
def h (R : Fin 8192) (j : Fin 1024) : EReal := a.x (ix2 R j) * Ideal.rsqrt (a.ms R) * a.g (ix2 0 j)
/-- The projection onto gates and values. -/
def gu (R : Fin 8192) (k : Fin 5632) : EReal := ∑ j : Fin 1024, a.h R j * a.wgu (ix2 j k)
/-- A row's gates. -/
def gate (R : Fin 8192) (k : Fin 2816) : EReal := a.gu R ⟨k, by omega⟩
/-- A row's values. -/
def up (R : Fin 8192) (k : Fin 2816) : EReal := a.gu R ⟨2816 + k, by omega⟩
/-- A row's gated values. -/
def act (R : Fin 8192) (k : Fin 2816) : EReal := a.gate R k * logi (a.gate R k) * a.up R k
/-- The layer's output, residual included. -/
def out (R : Fin 8192) (j : Fin 1024) : EReal := a.x (ix2 R j) + ∑ k : Fin 2816, a.act R k * a.wd (ix2 k j)

end Layer

/-- The last layer's call: the attention's output is multiplied by its weight and added to the residual before the layer, and what comes out
    is compared with a target. -/
structure Top where
  x : (⟨2, ![8192, 1024]⟩ : Shape).Idx → EReal
  g : (⟨2, ![1, 1024]⟩ : Shape).Idx → EReal
  wgu : (⟨2, ![1024, 5632]⟩ : Shape).Idx → EReal
  wd : (⟨2, ![2816, 1024]⟩ : Shape).Idx → EReal
  ao : (⟨2, ![8192, 1024]⟩ : Shape).Idx → EReal
  wo : (⟨2, ![1024, 1024]⟩ : Shape).Idx → EReal
  target : (⟨2, ![8192, 1024]⟩ : Shape).Idx → EReal

namespace Top

variable (b : Top)

/-- The layer's input. -/
def xin (R : Fin 8192) (j : Fin 1024) : EReal := b.x (ix2 R j) + ∑ k : Fin 1024, b.ao (ix2 R k) * b.wo (ix2 k j)
/-- The layer itself. -/
def layer : Layer := ⟨fun i => b.xin (i 0) (i 1), b.g, b.wgu, b.wd⟩
/-- The difference from the target. -/
def err (R : Fin 8192) (j : Fin 1024) : EReal := b.layer.out R j - b.target (ix2 R j)
/-- The gradient of half the sum over the rows of the mean squared difference. -/
def dxo (R : Fin 8192) (j : Fin 1024) : EReal := b.err R j * Ideal.ofBits .f32 0x3A800000#32
/-- A row's sum of squares. -/
def sqRow (R : Fin 8192) : EReal := ∑ j : Fin 1024, b.err R j * b.err R j
/-- The sum of all squares. -/
def sse : EReal := ∑ R : Fin 8192, b.sqRow R

end Top

/-- The gates in the three chunks in which the kernel takes them up. -/
theorem sum_gates (f : Fin 2816 → EReal) :
    ∑ k : Fin 2816, f k = (∑ k : Fin 1024, f (o0 k)) + (∑ k : Fin 1024, f (o1 k)) + ∑ k : Fin 768, f (o2 k) := by
  have cut : ∀ (m n : ℕ) (f : Fin (m + n) → EReal),
      ∑ k, f k = (∑ k : Fin m, f ⟨k, by omega⟩) + ∑ k : Fin n, f ⟨m + k, by omega⟩ := fun m n f => Fin.sum_univ_add f
  rw [add_assoc]
  refine (cut 1024 1792 f).trans (congrArg₂ (· + ·) rfl ((cut 1024 768 _).trans (congrArg₂ (· + ·) rfl ?_)))
  exact Finset.sum_congr rfl fun k _ => congrArg f (Fin.ext (by simp only [o2]; omega))

/-! ## What a block is computed from -/

/-- A block of rows `ρ` of the layer's input, and the gain. -/
structure Reads {H : ℕ} (a : Layer) (ρ : Fin H → Fin 8192) (x : FVec Ideal ⟨2, ![H, 1024]⟩ .f32) (g : FVec Ideal ⟨2, ![1, 1024]⟩ .f32) :
    Prop where
  x : ∀ r j, x (ix2 r j) = a.x (ix2 (ρ r) j)
  g : ∀ r j, g (ix2 r j) = a.g (ix2 r j)

/-- The weights that belong to the gates `o`. -/
structure Chunk (a : Layer) {n : ℕ} (o : Fin n → Fin 2816) (WG WU : FVec Ideal ⟨2, ![1024, n]⟩ .bf16) (WD : FVec Ideal ⟨2, ![n, 1024]⟩ .bf16) :
    Prop where
  wg : ∀ j k, WG (ix2 j k) = a.wgu (ix2 j ⟨o k, by omega⟩)
  wu : ∀ j k, WU (ix2 j k) = a.wgu (ix2 j ⟨2816 + o k, by omega⟩)
  wd : ∀ k j, WD (ix2 k j) = a.wd (ix2 (o k) j)

end Cert.FfnFwd

end
-- ==== Proof.FfnFwd.Cols.lean ====
/- The three chunks of a block's gates: the parts of the weights that belong to them, and the six stores that make up the projection's block. -/
module

public import Idealize.ShloMosaic.Lib.Pipeline.ValueKit
public import Idealize.ShloMosaic.Lib.Pipeline.ReadBack
public import Idealize.ShloMosaic.Lib.WritesUnit
public import proofs.«01_k».proof.Proof.FfnFwd.Spec

@[expose] public section

set_option maxRecDepth 16384

noncomputable section

namespace Cert.FfnFwd

open Idealize.ShloMosaic Cert.Ffn

/-- A rectangle of a matrix lies inside it. -/
abbrev Inside (A B o p P Q : ℕ) : Prop := ∀ a : Fin 2, (![o, p] : Fin 2 → ℕ) a + (![P, Q] : Fin 2 → ℕ) a ≤ (![A, B] : Fin 2 → ℕ) a

/-- A part of a block, entry by entry. -/
theorem part {A B P Q : ℕ} {e : EltTy} (X : (⟨2, ![A, B]⟩ : Shape).Idx → Elt Ideal e) (o p : ℕ) (inb : Inside A B o p P Q) (r : Fin P)
    (k : Fin Q) (i : Fin A) (j : Fin B) (hi : i.val = o + r) (hj : j.val = p + k) :
    View.ld (S := ⟨2, ![A, B]⟩) X (Rect.unit (s := ⟨2, ![A, B]⟩) ![o, p] ![P, Q] inb) (ix2 r k) = X (ix2 i j) :=
  View.ld_unit_apply_of X _ _ _ _ _ fun a => match a with
    | ⟨0, _⟩ => hi
    | ⟨1, _⟩ => hj

variable {a : Layer} {WGU : (⟨2, ![1024, 5632]⟩ : Shape).Idx → Elt Ideal .bf16} {WD : (⟨2, ![2816, 1024]⟩ : Shape).Idx → Elt Ideal .bf16}

/-- The columns and rows of the weights from gate `p` on belong to the gates from there on. -/
theorem chunk {n : ℕ} (p : ℕ) (o : Fin n → Fin 2816) (ho : ∀ k, (o k).val = p + k) (hgu : ∀ j k, WGU (ix2 j k) = a.wgu (ix2 j k))
    (hd : ∀ k j, WD (ix2 k j) = a.wd (ix2 k j)) (q : ℕ) (hq : q = 2816 + p) (i0 : Inside 1024 5632 0 p 1024 n)
    (i1 : Inside 1024 5632 0 q 1024 n)
    (i2 : Inside 2816 1024 p 0 n 1024) :
    Chunk a o (View.ld (S := ⟨2, ![1024, 5632]⟩) WGU (Rect.unit (s := ⟨2, ![1024, 5632]⟩) ![0, p] ![1024, n] i0))
      (View.ld (S := ⟨2, ![1024, 5632]⟩) WGU (Rect.unit (s := ⟨2, ![1024, 5632]⟩) ![0, q] ![1024, n] i1))
      (View.ld (S := ⟨2, ![2816, 1024]⟩) WD (Rect.unit (s := ⟨2, ![2816, 1024]⟩) ![p, 0] ![n, 1024] i2)) where
  wg j k := (part WGU 0 p i0 j k j ⟨o k, by omega⟩ (Nat.zero_add _).symm (ho k)).trans (hgu _ _)
  wu j k := (part WGU 0 q i1 j k j ⟨2816 + o k, by omega⟩ (Nat.zero_add _).symm (by have := ho k; simp only; omega)).trans (hgu _ _)
  wd k j := (part WD p 0 i2 k j (o k) j (ho k) (Nat.zero_add _).symm).trans (hd _ _)

/-- A column that lies within a store's columns is one of those stored. -/
theorem mem_cols {H B Q : ℕ} (p : ℕ) (inb : Inside H B 0 p H Q) (y : (⟨2, ![H, B]⟩ : Shape).Idx) (h : p ≤ (y 1).val) (h' : (y 1).val < p + Q) :
    y ∈ (Rect.unit (s := ⟨2, ![H, B]⟩) ![0, p] ![H, Q] inb).set :=
  Rect.mem_set_unit.2 fun a => match a with
    | ⟨0, _⟩ => ⟨Nat.zero_le _, (y 0).isLt.trans_eq (Nat.zero_add _).symm⟩
    | ⟨1, _⟩ => ⟨h, h'⟩

/-- A store of columns, at a position it covers. -/
theorem tile {H n : ℕ} (p : ℕ) {P : FVec Ideal ⟨2, ![H, n]⟩ .f32} {ρ : Fin H → Fin 8192}
    (hP : ∀ (r : Fin H) (j : Fin n) (k : Fin 5632), k.val = p + j → P (ix2 r j) = a.gu (ρ r) k) (y : (⟨2, ![H, 5632]⟩ : Shape).Idx) :
    View.TileAt (Val := Elt Ideal) (S := ⟨2, ![H, 5632]⟩) (e := .f32) y ![0, p] ![H, n] P (a.gu (ρ (y 0)) (y 1)) := by
  intro x hx
  have e0 : y 0 = x 0 := Fin.ext ((hx 0).trans (Nat.zero_add _))
  rw [eq_ix2 x, e0]
  exact hP (x 0) (x 1) (y 1) (hx 1)

/-- The three chunks' gates and values side by side. -/
theorem gu_cols {H : ℕ} {P0 P1 Q0 Q1 : FVec Ideal ⟨2, ![H, 1024]⟩ .f32} {P2 Q2 : FVec Ideal ⟨2, ![H, 768]⟩ .f32} {ρ : Fin H → Fin 8192}
    (p0 : ∀ r j, P0 (ix2 r j) = a.gate (ρ r) (o0 j)) (q0 : ∀ r j, Q0 (ix2 r j) = a.up (ρ r) (o0 j))
    (p1 : ∀ r j, P1 (ix2 r j) = a.gate (ρ r) (o1 j)) (q1 : ∀ r j, Q1 (ix2 r j) = a.up (ρ r) (o1 j))
    (p2 : ∀ r j, P2 (ix2 r j) = a.gate (ρ r) (o2 j)) (q2 : ∀ r j, Q2 (ix2 r j) = a.up (ρ r) (o2 j))
    (i0 : Inside H 5632 0 0 H 1024) (i1 : Inside H 5632 0 2816 H 1024) (i2 : Inside H 5632 0 1024 H 1024) (i3 : Inside H 5632 0 3840 H 1024)
    (i4 : Inside H 5632 0 2048 H 768) (i5 : Inside H 5632 0 4864 H 768) (y : (⟨2, ![H, 5632]⟩ : Shape).Idx) :
    View.canon (Val := Elt Ideal) (s := ⟨2, ![H, 5632]⟩) (e := .f32)
      [⟨Rect.unit ![0, 4864] ![H, 768] i5, Q2⟩, ⟨Rect.unit ![0, 2048] ![H, 768] i4, P2⟩,
       ⟨Rect.unit ![0, 3840] ![H, 1024] i3, Q1⟩, ⟨Rect.unit ![0, 1024] ![H, 1024] i2, P1⟩,
       ⟨Rect.unit ![0, 2816] ![H, 1024] i1, Q0⟩, ⟨Rect.unit ![0, 0] ![H, 1024] i0, P0⟩] y = a.gu (ρ (y 0)) (y 1) := by
  have hy : (y 1).val < 5632 := (y 1).isLt
  refine View.canon_eq_of_allAt _ y _ ?_ ?_
  · exact if c5 : 4864 ≤ (y 1).val then ⟨_, .head _, mem_cols _ i5 y c5 (by omega)⟩
      else if c4 : 3840 ≤ (y 1).val then ⟨_, .tail _ (.tail _ (.head _)), mem_cols _ i3 y c4 (by omega)⟩
      else if c3 : 2816 ≤ (y 1).val then ⟨_, .tail _ (.tail _ (.tail _ (.tail _ (.head _)))), mem_cols _ i1 y c3 (by omega)⟩
      else if c2 : 2048 ≤ (y 1).val then ⟨_, .tail _ (.head _), mem_cols _ i4 y c2 (by omega)⟩
      else if c1 : 1024 ≤ (y 1).val then ⟨_, .tail _ (.tail _ (.tail _ (.head _))), mem_cols _ i2 y c1 (by omega)⟩
      else ⟨_, .tail _ (.tail _ (.tail _ (.tail _ (.tail _ (.head _))))), mem_cols _ i0 y (by omega) (by omega)⟩
  · refine View.allAt_cons_unit _ _ _ _ _ (tile 4864 (fun r (j : Fin _) k hk => ?_) y) <|
      View.allAt_cons_unit _ _ _ _ _ (tile 2048 (fun r (j : Fin _) k hk => ?_) y) <|
      View.allAt_cons_unit _ _ _ _ _ (tile 3840 (fun r (j : Fin _) k hk => ?_) y) <|
      View.allAt_cons_unit _ _ _ _ _ (tile 1024 (fun r (j : Fin _) k hk => ?_) y) <|
      View.allAt_cons_unit _ _ _ _ _ (tile 2816 (fun r (j : Fin _) k hk => ?_) y) <|
      View.allAt_cons_unit _ _ _ _ _ (tile 0 (fun r (j : Fin _) k hk => ?_) y) (View.allAt_nil _ _)
    · exact (q2 r j).trans (congrArg (a.gu (ρ r)) (Fin.ext (by simp only [o2]; omega)))
    · exact (p2 r j).trans (congrArg (a.gu (ρ r)) (Fin.ext (by simp only [o2]; omega)))
    · exact (q1 r j).trans (congrArg (a.gu (ρ r)) (Fin.ext (by simp only [o1]; omega)))
    · exact (p1 r j).trans (congrArg (a.gu (ρ r)) (Fin.ext (by simp only [o1]; omega)))
    · exact (q0 r j).trans (congrArg (a.gu (ρ r)) (Fin.ext (by simp only [o0]; omega)))
    · exact (p0 r j).trans (congrArg (a.gu (ρ r)) (Fin.ext (by simp only [o0]; omega)))

end Cert.FfnFwd

end
-- ==== Proof.FfnFwd.L0.Payload.lean ====
/- The first SwiGLU layer's forward call: what one block stores, entry by entry. Each payload of the kernel's body at a row and a column is the
   layer's (Spec.lean) at that row, given that the blocks it is computed from hold the arrays' rows. -/
module

public import proofs.«01_k».proof.Proof.Gen.Kernel8Ideal.Skeleton
public import Idealize.ShloMosaic.Lib.Pointwise
public import proofs.«01_k».proof.Proof.FfnFwd.Spec

@[expose] public section

set_option maxRecDepth 16384

noncomputable section

namespace Cert.FfnFwd.L0.Payload

open Idealize.ShloMosaic Idealize.ShloMosaic.TcCoe Idealize.SL.Sem
open Cert.Kernel8Ideal Cert.Kernel8Ideal.Gen Cert.Ffn
open scoped BigOperators

variable {a : Layer} {ρ : Fin 512 → Fin 8192} {x : FVec Ideal S512x1024 .f32} {g : FVec Ideal S1x1024 .f32}
  {WG0 WU0 WD0 WG1 WU1 WD1 : FVec Ideal S1024x1024 .bf16} {WG2 WU2 : FVec Ideal S1024x768 .bf16} {WD2 : FVec Ideal S768x1024 .bf16}

/-- The normalised rows times the gain. -/
theorem h (H : Reads a ρ x g) (r : Fin 512) (j : Fin 1024) : k0_pay2 (F := Ideal) x g (ix2 r j) = a.h (ρ r) j := by
  pointwise [k0_pay2, H.x, H.g, Layer.h, Layer.ms]

/-! ## The first chunk -/

theorem gate0 (H : Reads a ρ x g) (C : Chunk a (n := 1024) o0 WG0 WU0 WD0) (r : Fin 512) (k : Fin 1024) :
    k0_pay3 (F := Ideal) x g WG0 (ix2 r k) = a.gate (ρ r) (o0 k) := by
  pointwise [k0_pay3, h H, C.wg, Layer.gate, Layer.gu]
theorem up0 (H : Reads a ρ x g) (C : Chunk a (n := 1024) o0 WG0 WU0 WD0) (r : Fin 512) (k : Fin 1024) :
    k0_pay4 (F := Ideal) x g WU0 (ix2 r k) = a.up (ρ r) (o0 k) := by
  pointwise [k0_pay4, h H, C.wu, Layer.up, Layer.gu]
theorem act0 (H : Reads a ρ x g) (C : Chunk a (n := 1024) o0 WG0 WU0 WD0) (r : Fin 512) (k : Fin 1024) :
    k0_pay5 (F := Ideal) x g WG0 WU0 (ix2 r k) = a.act (ρ r) (o0 k) := by
  pointwise [k0_pay5, gate0 H C, up0 H C, Layer.act, logi, zero_sub]
theorem wd0 (C : Chunk a (n := 1024) o0 WG0 WU0 WD0) (k j : Fin 1024) : k0_pay6 (F := Ideal) WD0 (ix2 k j) = a.wd (ix2 (o0 k) j) := by
  pointwise [k0_pay6, C.wd]

/-! ## The second chunk -/

theorem gate1 (H : Reads a ρ x g) (C : Chunk a (n := 1024) o1 WG1 WU1 WD1) (r : Fin 512) (k : Fin 1024) :
    k0_pay7 (F := Ideal) (k0_pay2 x g) WG1 (ix2 r k) = a.gate (ρ r) (o1 k) := by
  pointwise [k0_pay7, h H, C.wg, Layer.gate, Layer.gu]
theorem up1 (H : Reads a ρ x g) (C : Chunk a (n := 1024) o1 WG1 WU1 WD1) (r : Fin 512) (k : Fin 1024) :
    k0_pay8 (F := Ideal) (k0_pay2 x g) WU1 (ix2 r k) = a.up (ρ r) (o1 k) := by
  pointwise [k0_pay8, h H, C.wu, Layer.up, Layer.gu]

/-- The residual and the first two chunks' parts of the product. -/
theorem acc (H : Reads a ρ x g) (C0 : Chunk a (n := 1024) o0 WG0 WU0 WD0) (C1 : Chunk a (n := 1024) o1 WG1 WU1 WD1) (r : Fin 512)
    (j : Fin 1024) :
    k0_pay9 (F := Ideal) x (k0_pay2 x g) (k0_pay5 x g WG0 WU0) (k0_pay6 WD0) WG1 WU1 WD1 (ix2 r j)
      = a.x (ix2 (ρ r) j) + (∑ k : Fin 1024, a.act (ρ r) (o0 k) * a.wd (ix2 (o0 k) j))
        + ∑ k : Fin 1024, a.act (ρ r) (o1 k) * a.wd (ix2 (o1 k) j) := by
  pointwise [k0_pay9, H.x, act0 H C0, wd0 C0, gate1 H C1, up1 H C1, C1.wd, Layer.act, logi, zero_sub]

/-! ## The third chunk -/

theorem gate2 (H : Reads a ρ x g) (C : Chunk a (n := 768) o2 WG2 WU2 WD2) (r : Fin 512) (k : Fin 768) :
    k0_pay10 (F := Ideal) (k0_pay2 x g) WG2 (ix2 r k) = a.gate (ρ r) (o2 k) := by
  pointwise [k0_pay10, h H, C.wg, Layer.gate, Layer.gu]
theorem up2 (H : Reads a ρ x g) (C : Chunk a (n := 768) o2 WG2 WU2 WD2) (r : Fin 512) (k : Fin 768) :
    k0_pay11 (F := Ideal) (k0_pay2 x g) WU2 (ix2 r k) = a.up (ρ r) (o2 k) := by
  pointwise [k0_pay11, h H, C.wu, Layer.up, Layer.gu]

/-- The layer's output. -/
theorem out (H : Reads a ρ x g) (C0 : Chunk a (n := 1024) o0 WG0 WU0 WD0) (C1 : Chunk a (n := 1024) o1 WG1 WU1 WD1)
    (C2 : Chunk a (n := 768) o2 WG2 WU2 WD2) (r : Fin 512) (j : Fin 1024) :
    k0_pay1 (F := Ideal) (k0_pay9 x (k0_pay2 x g) (k0_pay5 x g WG0 WU0) (k0_pay6 WD0) WG1 WU1 WD1) (k0_pay10 (k0_pay2 x g) WG2)
      (k0_pay11 (k0_pay2 x g) WU2) WD2 (ix2 r j) = a.out (ρ r) j := by
  pointwise [k0_pay1, acc H C0 C1, gate2 H C2, up2 H C2, C2.wd, Layer.out, sum_gates, Layer.act, logi, zero_sub, add_assoc]

end Cert.FfnFwd.L0.Payload

end
-- ==== Proof.FfnFwd.L0.Block.lean ====
/- The first SwiGLU layer's forward call: what a grid point reads and what it leaves in the two output blocks. -/
module

public import proofs.«01_k».proof.Proof.Gen.Kernel8Ideal.Value
public import proofs.«01_k».proof.Proof.FfnFwd.Cols
public import proofs.«01_k».proof.Proof.FfnFwd.L0.Payload

@[expose] public section

set_option maxRecDepth 16384

noncomputable section

namespace Cert.FfnFwd.L0.Block

open Idealize.ShloMosaic Idealize.ShloMosaic.TcCoe Idealize.SL.Sem
open Cert.Kernel8Ideal Cert.Kernel8Ideal.Gen Cert.Ffn

variable (m : (ℓ : Loc nD τ sig) → Buf (Elt Ideal) ℓ) (c : Dev nD)

/-- The arrays the kernel is launched on. -/
def args : Layer where
  x := V m c main_arg0
  g := V m c main_arg1
  wgu := V m c main_v0
  wd := V m c main_v1

/-- The rows of a grid point's blocks. -/
def rows (t : Fin cfg0.N) (r : Fin 512) : Fin 8192 := ⟨512 * t.val + r, by have := lt_of_lt_of_eq t.isLt N_0; omega⟩

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem blk_x (t : Fin cfg0.N) (r : Fin 512) (j : Fin 1024) :
    (show FVec Ideal S512x1024 .f32 from iblk m c 0 t) (ix2 r j) = (args m c).x (ix2 (rows t r) j) := by
  unfold args rows; blk_ext [iblk, idx t]
theorem blk_g (t : Fin cfg0.N) (r : Fin 1) (j : Fin 1024) :
    (show FVec Ideal S1x1024 .f32 from iblk m c 1 t) (ix2 r j) = (args m c).g (ix2 r j) := by
  unfold args; blk_ext [iblk, idx t]
theorem blk_wgu (t : Fin cfg0.N) (j : Fin 1024) (k : Fin 5632) :
    (show FVec Ideal S1024x5632 .bf16 from iblk m c 2 t) (ix2 j k) = (args m c).wgu (ix2 j k) := by
  unfold args; blk_ext [iblk, idx t]
theorem blk_wd (t : Fin cfg0.N) (k : Fin 2816) (j : Fin 1024) :
    (show FVec Ideal S2816x1024 .bf16 from iblk m c 3 t) (ix2 k j) = (args m c).wd (ix2 k j) := by
  unfold args; blk_ext [iblk, idx t]

/-- The blocks of a grid point. -/
theorem reads (t : Fin cfg0.N) : Reads (args m c) (rows t) (iblk m c 0 t) (iblk m c 1 t) where
  x := blk_x m c t
  g := blk_g m c t

/-- The first chunk's weights. -/
theorem chunk0 (t : Fin cfg0.N) : Chunk (args m c) (n := 1024) o0
    (View.ld (iblk m c 2 t) (Rect.unit ![0, 0] ![1024, 1024] inb_S1024x5632_S1024x1024_0_0))
    (View.ld (iblk m c 2 t) (Rect.unit ![0, 2816] ![1024, 1024] inb_S1024x5632_S1024x1024_0_2816))
    (View.ld (iblk m c 3 t) (Rect.unit ![0, 0] ![1024, 1024] inb_S2816x1024_S1024x1024_0_0)) :=
  chunk 0 o0 (fun k => (Nat.zero_add _).symm) (blk_wgu m c t) (blk_wd m c t) 2816 rfl _ _ _
/-- The second's. -/
theorem chunk1 (t : Fin cfg0.N) : Chunk (args m c) (n := 1024) o1
    (View.ld (iblk m c 2 t) (Rect.unit ![0, 1024] ![1024, 1024] inb_S1024x5632_S1024x1024_0_1024))
    (View.ld (iblk m c 2 t) (Rect.unit ![0, 3840] ![1024, 1024] inb_S1024x5632_S1024x1024_0_3840))
    (View.ld (iblk m c 3 t) (Rect.unit ![1024, 0] ![1024, 1024] inb_S2816x1024_S1024x1024_1024_0)) :=
  chunk 1024 o1 (fun k => rfl) (blk_wgu m c t) (blk_wd m c t) 3840 rfl _ _ _
/-- The third's. -/
theorem chunk2 (t : Fin cfg0.N) : Chunk (args m c) (n := 768) o2
    (View.ld (iblk m c 2 t) (Rect.unit ![0, 2048] ![1024, 768] inb_S1024x5632_S1024x768_0_2048))
    (View.ld (iblk m c 2 t) (Rect.unit ![0, 4864] ![1024, 768] inb_S1024x5632_S1024x768_0_4864))
    (View.ld (iblk m c 3 t) (Rect.unit ![2048, 0] ![768, 1024] inb_S2816x1024_S768x1024_2048_0)) :=
  chunk 2048 o2 (fun k => rfl) (blk_wgu m c t) (blk_wd m c t) 4864 rfl _ _ _

/-- The block of the layer's output. -/
theorem out_xo (t : Fin cfg0.N) (r : Fin 512) (j : Fin 1024) :
    (show FVec Ideal S512x1024 .f32 from (outsAt0 m c t).1) (ix2 r j) = (args m c).out (rows t r) j := by
  have key := Payload.out (reads m c t) (chunk0 m c t) (chunk1 m c t) (chunk2 m c t) r j
  unfold outsAt0; dsimp only; frame_out; exact key

/-- The block of the projection. -/
theorem out_gu (t : Fin cfg0.N) (r : Fin 512) (k : Fin 5632) :
    (show FVec Ideal S512x5632 .f32 from (outsAt0 m c t).2) (ix2 r k) = (args m c).gu (rows t r) k := by
  have H := reads m c t
  have key := gu_cols (a := args m c) (ρ := rows t) (Payload.gate0 H (chunk0 m c t)) (Payload.up0 H (chunk0 m c t))
    (Payload.gate1 H (chunk1 m c t)) (Payload.up1 H (chunk1 m c t)) (Payload.gate2 H (chunk2 m c t)) (Payload.up2 H (chunk2 m c t))
    inb_S512x5632_S512x1024_0_0 inb_S512x5632_S512x1024_0_2816 inb_S512x5632_S512x1024_0_1024 inb_S512x5632_S512x1024_0_3840
    inb_S512x5632_S512x768_0_2048 inb_S512x5632_S512x768_0_4864 (ix2 r k)
  unfold outsAt0; dsimp only; frame_out; exact key

end Cert.FfnFwd.L0.Block

end
-- ==== Proof.FfnFwd.L0.Arrays.lean ====
/- The first SwiGLU layer's forward call: what the kernel's two result arrays hold. Each block is written once, by the grid point that
   handles its rows. -/
module

public import proofs.«01_k».proof.Proof.FfnFwd.L0.Block
public import Idealize.ShloMosaic.Lib.Pipeline.Value

@[expose] public section

set_option maxRecDepth 16384

noncomputable section

namespace Cert.FfnFwd.L0.Arrays

open Idealize.ShloMosaic Idealize.ShloMosaic.TcCoe Idealize.SL.Sem
open Cert.Kernel8Ideal Cert.Kernel8Ideal.Gen Cert.FfnFwd.L0.Block

variable (m : (ℓ : Loc nD τ sig) → Buf (Elt Ideal) ℓ) (c : Dev nD)

/-- The layer's output. -/
theorem xo : (dats m 0 c).arrAt 4 cfg0.N = fun i : S8192x1024.Idx => (args m c).out (i 0) (i 1) := by
  refine (dats m 0 c).arrAt_eq_of_covers 4 _ (by decide +kernel) fun t hf y => ?_
  obtain ⟨r, k, rfl⟩ : ∃ (r : Fin 512) (k : Fin 1024), y = ix2 r k := ⟨y 0, y 1, by funext a; match a with | ⟨0, _⟩ => rfl | ⟨1, _⟩ => rfl⟩
  have e : (win0_4.blk t).view.emb (ix2 r k) = ix2 (rows t r) k := by unfold rows; blk_ext [idx t]
  blk_simp
  rw [after0_4]
  simp only [e]
  exact out_xo m c t r k

/-- The projection onto gates and values. -/
theorem gu : (dats m 0 c).arrAt 5 cfg0.N = fun i : S8192x5632.Idx => (args m c).gu (i 0) (i 1) := by
  refine (dats m 0 c).arrAt_eq_of_covers 5 _ (by decide +kernel) fun t hf y => ?_
  obtain ⟨r, k, rfl⟩ : ∃ (r : Fin 512) (k : Fin 5632), y = ix2 r k := ⟨y 0, y 1, by funext a; match a with | ⟨0, _⟩ => rfl | ⟨1, _⟩ => rfl⟩
  have e : (win0_5.blk t).view.emb (ix2 r k) = ix2 (rows t r) k := by unfold rows; blk_ext [idx t]
  blk_simp
  rw [after0_5]
  simp only [e]
  exact out_gu m c t r k

end Cert.FfnFwd.L0.Arrays

end
-- ==== Proof.FfnFwd.L0.Ref.lean ====
/- The first SwiGLU layer's forward call: what the reference computes, entry by entry. -/
module

public import proofs.«01_k».proof.Proof.Gen.Reference8Ideal.Read
public import Idealize.ShloMosaic.Lib.Pipeline.ValueKit
public import Idealize.ShloMosaic.Lib.Pointwise.Reduce
public import proofs.«01_k».proof.Proof.FfnFwd.Spec

@[expose] public section

set_option maxRecDepth 16384

noncomputable section

namespace Cert.FfnFwd.L0.Ref

open Idealize.ShloMosaic Idealize.ShloMosaic.TcCoe Idealize.SL.Sem
open Cert.Reference8Ideal Cert.Reference8Ideal.Gen Cert.Reference8Ideal.Read Cert.Ffn
open scoped BigOperators

variable (x0 : FVec Ideal S8192x1024 .f32) (x1 : FVec Ideal S1x1024 .f32) (x2 : FVec Ideal S1024x5632 .f32)
  (x3 : FVec Ideal S2816x1024 .f32)

/-- The arrays of the layer, as the reference has them. -/
def args : Layer := ⟨x0, x1, x2, x3⟩

/-- The mean square of a row. -/
theorem ms (R : Fin 8192) (u : Fin 1) : val_main_v6 (F := Ideal) x0 (ix2 R u) = (args x0 x1 x2 x3).ms R := by
  pointwise [val_main_v6, val_main_v5, val_main_v4, val_main_v3, val_main_v2, val_main_v1, val_main_v0, val_main_cst, val_main_cst_0,
    val_main_cst_1, args, Layer.ms]

/-- The normalised row times the gain. -/
theorem h (R : Fin 8192) (j : Fin 1024) : val_main_v11 (F := Ideal) x0 x1 (ix2 R j) = (args x0 x1 x2 x3).h R j := by
  pointwise [val_main_v11, val_main_v10, val_main_v9, val_main_v8, val_main_v7, ms x0 x1 x2 x3, Layer.h]
  rfl

/-- The projection. -/
theorem gu (R : Fin 8192) (k : Fin 5632) : val_main_v12 (F := Ideal) x0 x1 x2 (ix2 R k) = (args x0 x1 x2 x3).gu R k := by
  pointwise [val_main_v12, h x0 x1 x2 x3, Layer.gu]
  rfl

/-- The gates' logistic function. -/
theorem sgm (R : Fin 8192) (k : Fin 2816) :
    val_main_call0_v5 (F := Ideal) x0 x1 x2 (ix2 R k) = logi ((args x0 x1 x2 x3).gate R k) := by
  pointwise [val_main_call0_v5, val_main_call0_v4, val_main_call0_v3, val_main_call0_v2, val_main_call0_v1, val_main_call0_v0,
    val_main_call0_cst, val_main_call0_cst_0, val_main_v13, gu x0 x1 x2 x3, logi, Layer.gate]

/-- The gated values. -/
theorem act (R : Fin 8192) (k : Fin 2816) : val_main_v16 (F := Ideal) x0 x1 x2 (ix2 R k) = (args x0 x1 x2 x3).act R k := by
  pointwise [val_main_v16, val_main_v15, val_main_v14, val_main_v13, sgm x0 x1 x2 x3, gu x0 x1 x2 x3, Layer.act, Layer.gate, Layer.up]

/-- The layer's output. -/
theorem out (R : Fin 8192) (j : Fin 1024) : val_main_v18 (F := Ideal) x0 x1 x2 x3 (ix2 R j) = (args x0 x1 x2 x3).out R j := by
  pointwise [val_main_v18, val_main_v17, act x0 x1 x2 x3, Layer.out]
  rfl

end Cert.FfnFwd.L0.Ref

end
-- ==== Proof.FfnFwd.L0.Claim.lean ====
/- The first SwiGLU layer's forward call: kernel and reference compute the same output and the same projection. -/
module

public import proofs.«01_k».proof.Defs
public import proofs.«01_k».proof.Proof.FfnFwd.L0.Arrays
public import proofs.«01_k».proof.Proof.FfnFwd.L0.Ref
public import Idealize.ShloMosaic.Lib.Claim

@[expose] public section

set_option maxRecDepth 16384

noncomputable section

namespace Cert.FfnFwd.L0

open Idealize.ShloMosaic Idealize.ShloMosaic.TcCoe Idealize.SL.Sem
open Cert.Kernel8Ideal Cert.Kernel8Ideal.Gen

variable (m : (ℓ : Loc nD τ sig) → Buf (Elt Ideal) ℓ) (c : Dev nD)

/-- The arrays the kernel is launched on, of which the host narrows the weights, are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) := by
  unfold Block.args Ref.args
  entry_read
  rfl

/-- The layer's output. -/
theorem xo : Cert.Reference8Ideal.Read.val_main_v18 (F := Ideal) (m ((c.tc : Thread nD τ).loc main_arg0)) (m ((c.tc : Thread nD τ).loc main_arg1))
    (m ((c.tc : Thread nD τ).loc main_arg2)) (m ((c.tc : Thread nD τ).loc main_arg3)) = (dats m 0 c).arrAt 4 cfg0.N := by
  rw [Arrays.xo, args_eq]
  funext i
  exact (congrArg _ (eq_ix2 i)).trans (Ref.out _ _ _ _ (i 0) (i 1))

/-- The projection. -/
theorem gu : Cert.Reference8Ideal.Read.val_main_v12 (F := Ideal) (m ((c.tc : Thread nD τ).loc main_arg0)) (m ((c.tc : Thread nD τ).loc main_arg1))
    (m ((c.tc : Thread nD τ).loc main_arg2)) = (dats m 0 c).arrAt 5 cfg0.N := by
  rw [Arrays.gu, args_eq]
  funext i
  exact (congrArg _ (eq_ix2 i)).trans (Ref.gu _ _ _ _ (i 0) (i 1))

set_option maxHeartbeats 3200000 in
/-- Kernel and reference end with the same arrays. -/
theorem algebraic : Cert.algebraic_Kernel8Ideal_Reference8Ideal := by
  pair_intro
  · run_from Cert.Kernel8Ideal.Gen.run_main m g
  · run_from Cert.Reference8Ideal.Value.run m' g'
    · exact xo m c
    · exact gu m c

end Cert.FfnFwd.L0

end
-- ==== Proof.FfnFwd.L1.Payload.lean ====
/- The last SwiGLU layer's forward call: what one block stores, entry by entry. Each payload of the kernel's body at a row and a column is the
   layer's (Spec.lean) at that row, given that the blocks it is computed from hold the arrays' rows. -/
module

public import proofs.«01_k».proof.Proof.Gen.Kernel9Ideal.Skeleton
public import Idealize.ShloMosaic.Lib.Pointwise
public import proofs.«01_k».proof.Proof.FfnFwd.Spec

@[expose] public section

set_option maxRecDepth 16384

noncomputable section

namespace Cert.FfnFwd.L1.Payload

open Idealize.ShloMosaic Idealize.ShloMosaic.TcCoe Idealize.SL.Sem
open Cert.Kernel9Ideal Cert.Kernel9Ideal.Gen Cert.Ffn
open scoped BigOperators

/-- The blocks of a grid point that handles the rows `ρ`. -/
structure Blocks (b : Top) (ρ : Fin 256 → Fin 8192) (x : FVec Ideal S256x1024 .f32) (ao : FVec Ideal S256x1024 .bf16)
    (wo : FVec Ideal S1024x1024 .bf16) (g : FVec Ideal S1x1024 .f32) (tgt : FVec Ideal S256x1024 .f32) : Prop where
  x : ∀ r j, x (ix2 r j) = b.x (ix2 (ρ r) j)
  ao : ∀ r j, ao (ix2 r j) = b.ao (ix2 (ρ r) j)
  wo : ∀ r j, wo (ix2 r j) = b.wo (ix2 r j)
  g : ∀ r j, g (ix2 r j) = b.g (ix2 r j)
  tgt : ∀ r j, tgt (ix2 r j) = b.target (ix2 (ρ r) j)

variable {b : Top} {ρ : Fin 256 → Fin 8192} {x tgt : FVec Ideal S256x1024 .f32} {ao : FVec Ideal S256x1024 .bf16}
  {wo : FVec Ideal S1024x1024 .bf16} {g : FVec Ideal S1x1024 .f32}
  {WG0 WU0 WD0 WG1 WU1 WD1 : FVec Ideal S1024x1024 .bf16} {WG2 WU2 : FVec Ideal S1024x768 .bf16} {WD2 : FVec Ideal S768x1024 .bf16}

/-- The layer's input. -/
theorem xin (H : Blocks b ρ x ao wo g tgt) (r : Fin 256) (j : Fin 1024) : k0_pay2 (F := Ideal) x ao wo (ix2 r j) = b.xin (ρ r) j := by
  pointwise [k0_pay2, H.x, H.ao, H.wo, Top.xin]

/-- What the layer is computed from. -/
theorem reads (H : Blocks b ρ x ao wo g tgt) : Reads b.layer ρ (k0_pay2 (F := Ideal) x ao wo) g where
  x := xin H
  g := H.g

/-- The normalised rows times the gain. -/
theorem h (H : Blocks b ρ x ao wo g tgt) (r : Fin 256) (j : Fin 1024) : k0_pay3 (F := Ideal) x ao wo g (ix2 r j) = b.layer.h (ρ r) j := by
  pointwise [k0_pay3, (reads H).x, (reads H).g, Layer.h, Layer.ms]

/-! ## The first chunk -/

theorem gate0 (H : Blocks b ρ x ao wo g tgt) (C : Chunk b.layer (n := 1024) o0 WG0 WU0 WD0) (r : Fin 256) (k : Fin 1024) :
    k0_pay4 (F := Ideal) x ao wo g WG0 (ix2 r k) = b.layer.gate (ρ r) (o0 k) := by
  pointwise [k0_pay4, h H, C.wg, Layer.gate, Layer.gu]
theorem up0 (H : Blocks b ρ x ao wo g tgt) (C : Chunk b.layer (n := 1024) o0 WG0 WU0 WD0) (r : Fin 256) (k : Fin 1024) :
    k0_pay5 (F := Ideal) x ao wo g WU0 (ix2 r k) = b.layer.up (ρ r) (o0 k) := by
  pointwise [k0_pay5, h H, C.wu, Layer.up, Layer.gu]
theorem neg0 (H : Blocks b ρ x ao wo g tgt) (C : Chunk b.layer (n := 1024) o0 WG0 WU0 WD0) (r : Fin 256) (k : Fin 1024) :
    k0_pay6 (F := Ideal) x ao wo g WG0 (ix2 r k) = -b.layer.gate (ρ r) (o0 k) := by
  pointwise [k0_pay6, gate0 H C, zero_sub]

/-! ## The second chunk -/

theorem gate1 (H : Blocks b ρ x ao wo g tgt) (C : Chunk b.layer (n := 1024) o1 WG1 WU1 WD1) (r : Fin 256) (k : Fin 1024) :
    k0_pay7 (F := Ideal) (k0_pay3 x ao wo g) WG1 (ix2 r k) = b.layer.gate (ρ r) (o1 k) := by
  pointwise [k0_pay7, h H, C.wg, Layer.gate, Layer.gu]
theorem up1 (H : Blocks b ρ x ao wo g tgt) (C : Chunk b.layer (n := 1024) o1 WG1 WU1 WD1) (r : Fin 256) (k : Fin 1024) :
    k0_pay8 (F := Ideal) (k0_pay3 x ao wo g) WU1 (ix2 r k) = b.layer.up (ρ r) (o1 k) := by
  pointwise [k0_pay8, h H, C.wu, Layer.up, Layer.gu]

/-- The residual and the first two chunks' parts of the product. -/
theorem acc (H : Blocks b ρ x ao wo g tgt) (C0 : Chunk b.layer (n := 1024) o0 WG0 WU0 WD0)
    (C1 : Chunk b.layer (n := 1024) o1 WG1 WU1 WD1) (r : Fin 256) (j : Fin 1024) :
    k0_pay9 (F := Ideal) (k0_pay2 x ao wo) (k0_pay3 x ao wo g) (k0_pay4 x ao wo g WG0) (k0_pay5 x ao wo g WU0) (k0_pay6 x ao wo g WG0)
        WD0 WG1 WU1 WD1 (ix2 r j)
      = b.layer.x (ix2 (ρ r) j) + (∑ k : Fin 1024, b.layer.act (ρ r) (o0 k) * b.layer.wd (ix2 (o0 k) j))
        + ∑ k : Fin 1024, b.layer.act (ρ r) (o1 k) * b.layer.wd (ix2 (o1 k) j) := by
  pointwise [k0_pay9, (reads H).x, gate0 H C0, up0 H C0, neg0 H C0, C0.wd, gate1 H C1, up1 H C1, C1.wd, Layer.act, logi, zero_sub]

/-! ## The third chunk -/

theorem gate2 (H : Blocks b ρ x ao wo g tgt) (C : Chunk b.layer (n := 768) o2 WG2 WU2 WD2) (r : Fin 256) (k : Fin 768) :
    k0_pay10 (F := Ideal) (k0_pay3 x ao wo g) WG2 (ix2 r k) = b.layer.gate (ρ r) (o2 k) := by
  pointwise [k0_pay10, h H, C.wg, Layer.gate, Layer.gu]
theorem up2 (H : Blocks b ρ x ao wo g tgt) (C : Chunk b.layer (n := 768) o2 WG2 WU2 WD2) (r : Fin 256) (k : Fin 768) :
    k0_pay11 (F := Ideal) (k0_pay3 x ao wo g) WU2 (ix2 r k) = b.layer.up (ρ r) (o2 k) := by
  pointwise [k0_pay11, h H, C.wu, Layer.up, Layer.gu]

/-- A block of the residual and the first two chunks' parts. -/
abbrev accB (x : FVec Ideal S256x1024 .f32) (ao : FVec Ideal S256x1024 .bf16) (wo : FVec Ideal S1024x1024 .bf16) (g : FVec Ideal S1x1024 .f32)
    (WG0 WU0 WD0 WG1 WU1 WD1 : FVec Ideal S1024x1024 .bf16) : FVec Ideal S256x1024 .f32 :=
  k0_pay9 (k0_pay2 x ao wo) (k0_pay3 x ao wo g) (k0_pay4 x ao wo g WG0) (k0_pay5 x ao wo g WU0) (k0_pay6 x ao wo g WG0) WD0 WG1 WU1 WD1

/-- The difference from the target. -/
theorem err (H : Blocks b ρ x ao wo g tgt) (C0 : Chunk b.layer (n := 1024) o0 WG0 WU0 WD0)
    (C1 : Chunk b.layer (n := 1024) o1 WG1 WU1 WD1) (C2 : Chunk b.layer (n := 768) o2 WG2 WU2 WD2) (r : Fin 256) (j : Fin 1024) :
    k0_pay13 (F := Ideal) (k0_pay3 x ao wo g) (accB x ao wo g WG0 WU0 WD0 WG1 WU1 WD1) WG2 WU2 WD2 tgt (ix2 r j) = b.err (ρ r) j := by
  pointwise [k0_pay13, acc H C0 C1, gate2 H C2, up2 H C2, C2.wd, H.tgt, Top.err, Layer.out, sum_gates, Layer.act, logi, zero_sub, add_assoc]

/-- The gradient of the mean squared difference. -/
theorem dxo (H : Blocks b ρ x ao wo g tgt) (C0 : Chunk b.layer (n := 1024) o0 WG0 WU0 WD0)
    (C1 : Chunk b.layer (n := 1024) o1 WG1 WU1 WD1) (C2 : Chunk b.layer (n := 768) o2 WG2 WU2 WD2) (r : Fin 256) (j : Fin 1024) :
    k0_pay14 (F := Ideal) (k0_pay3 x ao wo g) (accB x ao wo g WG0 WU0 WD0 WG1 WU1 WD1) WG2 WU2 WD2 tgt (ix2 r j) = b.dxo (ρ r) j := by
  pointwise [k0_pay14, err H C0 C1 C2, Top.dxo]

/-- What a grid point leaves of the sum of squares. -/
theorem sse (H : Blocks b ρ x ao wo g tgt) (C0 : Chunk b.layer (n := 1024) o0 WG0 WU0 WD0)
    (C1 : Chunk b.layer (n := 1024) o1 WG1 WU1 WD1) (C2 : Chunk b.layer (n := 768) o2 WG2 WU2 WD2) (S : FVec Ideal S8x128 .f32)
    (q : Fin 8) (l : Fin 128) :
    k0_pay1 (F := Ideal) (k0_pay15 S)
      (k0_pay16 (k0_pay3 x ao wo g) (accB x ao wo g WG0 WU0 WD0 WG1 WU1 WD1) WG2 WU2 WD2 tgt) (ix2 q l)
      = S (ix2 q l) + ∑ r : Fin 256, b.sqRow (ρ r) := by
  pointwise [k0_pay1, k0_pay15, k0_pay16, err H C0 C1 C2, Top.sqRow]

/-- The zeros the sum of squares starts from. -/
theorem zeros (q : Fin 8) (l : Fin 128) : k0_pay12 (F := Ideal) (ix2 q l) = 0 := by pointwise [k0_pay12]

end Cert.FfnFwd.L1.Payload

end
-- ==== Proof.FfnFwd.L1.Block.lean ====
/- The last SwiGLU layer's forward call: what a grid point reads, what it leaves in the output blocks and what it adds to the sum of squares. -/
module

public import proofs.«01_k».proof.Proof.Gen.Kernel9Ideal.Value
public import proofs.«01_k».proof.Proof.FfnFwd.Cols
public import proofs.«01_k».proof.Proof.FfnFwd.L1.Payload

@[expose] public section

set_option maxRecDepth 16384

noncomputable section

namespace Cert.FfnFwd.L1.Block

open Idealize.ShloMosaic Idealize.ShloMosaic.TcCoe Idealize.SL.Sem
open Cert.Kernel9Ideal Cert.Kernel9Ideal.Gen Cert.Ffn Cert.FfnFwd.L1.Payload
open scoped BigOperators

variable (m : (ℓ : Loc nD τ sig) → Buf (Elt Ideal) ℓ) (c : Dev nD)

/-- The arrays the kernel is launched on. -/
def args : Top where
  x := V m c main_arg0
  g := V m c main_arg1
  wgu := V m c main_v0
  wd := V m c main_v1
  ao := V m c main_arg4
  wo := V m c main_v2
  target := V m c main_arg6

/-- A grid point as one of thirty-two. -/
def pt (t : Fin cfg0.N) : Fin 32 := ⟨t.val, lt_of_lt_of_eq t.isLt N_0⟩

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

theorem blk_x (t : Fin cfg0.N) (r : Fin 256) (j : Fin 1024) :
    (show FVec Ideal S256x1024 .f32 from iblk m c 0 t) (ix2 r j) = (args m c).x (ix2 (row (pt t) r) j) := by
  unfold args row pt; blk_ext [iblk, idx t]
theorem blk_g (t : Fin cfg0.N) (r : Fin 1) (j : Fin 1024) :
    (show FVec Ideal S1x1024 .f32 from iblk m c 1 t) (ix2 r j) = (args m c).g (ix2 r j) := by
  unfold args; blk_ext [iblk, idx t]
theorem blk_wgu (t : Fin cfg0.N) (j : Fin 1024) (k : Fin 5632) :
    (show FVec Ideal S1024x5632 .bf16 from iblk m c 2 t) (ix2 j k) = (args m c).wgu (ix2 j k) := by
  unfold args; blk_ext [iblk, idx t]
theorem blk_wd (t : Fin cfg0.N) (k : Fin 2816) (j : Fin 1024) :
    (show FVec Ideal S2816x1024 .bf16 from iblk m c 3 t) (ix2 k j) = (args m c).wd (ix2 k j) := by
  unfold args; blk_ext [iblk, idx t]
theorem blk_ao (t : Fin cfg0.N) (r : Fin 256) (j : Fin 1024) :
    (show FVec Ideal S256x1024 .bf16 from iblk m c 4 t) (ix2 r j) = (args m c).ao (ix2 (row (pt t) r) j) := by
  unfold args row pt; blk_ext [iblk, idx t]
theorem blk_wo (t : Fin cfg0.N) (r : Fin 1024) (j : Fin 1024) :
    (show FVec Ideal S1024x1024 .bf16 from iblk m c 5 t) (ix2 r j) = (args m c).wo (ix2 r j) := by
  unfold args; blk_ext [iblk, idx t]
theorem blk_tgt (t : Fin cfg0.N) (r : Fin 256) (j : Fin 1024) :
    (show FVec Ideal S256x1024 .f32 from iblk m c 6 t) (ix2 r j) = (args m c).target (ix2 (row (pt t) r) j) := by
  unfold args row pt; blk_ext [iblk, idx t]

/-- The blocks of a grid point. -/
theorem blocks (t : Fin cfg0.N) :
    Blocks (args m c) (row (pt t)) (iblk m c 0 t) (iblk m c 4 t) (iblk m c 5 t) (iblk m c 1 t) (iblk m c 6 t) where
  x := blk_x m c t
  ao := blk_ao m c t
  wo := blk_wo m c t
  g := blk_g m c t
  tgt := blk_tgt m c t

/-- The first chunk's weights. -/
theorem chunk0 (t : Fin cfg0.N) : Chunk (args m c).layer (n := 1024) o0
    (View.ld (iblk m c 2 t) (Rect.unit ![0, 0] ![1024, 1024] inb_S1024x5632_S1024x1024_0_0))
    (View.ld (iblk m c 2 t) (Rect.unit ![0, 2816] ![1024, 1024] inb_S1024x5632_S1024x1024_0_2816))
    (View.ld (iblk m c 3 t) (Rect.unit ![0, 0] ![1024, 1024] inb_S2816x1024_S1024x1024_0_0)) :=
  chunk (a := (args m c).layer) 0 o0 (fun k => (Nat.zero_add _).symm) (blk_wgu m c t) (blk_wd m c t) 2816 rfl _ _ _
/-- The second's. -/
theorem chunk1 (t : Fin cfg0.N) : Chunk (args m c).layer (n := 1024) o1
    (View.ld (iblk m c 2 t) (Rect.unit ![0, 1024] ![1024, 1024] inb_S1024x5632_S1024x1024_0_1024))
    (View.ld (iblk m c 2 t) (Rect.unit ![0, 3840] ![1024, 1024] inb_S1024x5632_S1024x1024_0_3840))
    (View.ld (iblk m c 3 t) (Rect.unit ![1024, 0] ![1024, 1024] inb_S2816x1024_S1024x1024_1024_0)) :=
  chunk (a := (args m c).layer) 1024 o1 (fun k => rfl) (blk_wgu m c t) (blk_wd m c t) 3840 rfl _ _ _
/-- The third's. -/
theorem chunk2 (t : Fin cfg0.N) : Chunk (args m c).layer (n := 768) o2
    (View.ld (iblk m c 2 t) (Rect.unit ![0, 2048] ![1024, 768] inb_S1024x5632_S1024x768_0_2048))
    (View.ld (iblk m c 2 t) (Rect.unit ![0, 4864] ![1024, 768] inb_S1024x5632_S1024x768_0_4864))
    (View.ld (iblk m c 3 t) (Rect.unit ![2048, 0] ![768, 1024] inb_S2816x1024_S768x1024_2048_0)) :=
  chunk (a := (args m c).layer) 2048 o2 (fun k => rfl) (blk_wgu m c t) (blk_wd m c t) 4864 rfl _ _ _

/-! ## The output blocks -/

/-- The block of the layer's input. -/
theorem out_xin (t : Fin cfg0.N) (r : Fin 256) (j : Fin 1024) :
    (show FVec Ideal S256x1024 .f32 from (outsAt0 m c t.val t.isLt).1) (ix2 r j) = (args m c).xin (row (pt t) r) j := by
  have key := Payload.xin (blocks m c t) r j
  by_cases h0 : t.val % 32 = 0
  · rw [outsAt0_A m c t h0]; dsimp only; frame_out; exact key
  · rw [outsAt0_B m c t h0]; dsimp only; frame_out; exact key

/-- The block of the squared error's gradient. -/
theorem out_dxo (t : Fin cfg0.N) (r : Fin 256) (j : Fin 1024) :
    (show FVec Ideal S256x1024 .f32 from (outsAt0 m c t.val t.isLt).2.1) (ix2 r j) = (args m c).dxo (row (pt t) r) j := by
  have key := Payload.dxo (blocks m c t) (chunk0 m c t) (chunk1 m c t) (chunk2 m c t) r j
  by_cases h0 : t.val % 32 = 0
  · rw [outsAt0_A m c t h0]; dsimp only; frame_out; exact key
  · rw [outsAt0_B m c t h0]; dsimp only; frame_out; exact key

/-- The block of the projection. -/
theorem out_gu (t : Fin cfg0.N) (r : Fin 256) (k : Fin 5632) :
    (show FVec Ideal S256x5632 .f32 from (outsAt0 m c t.val t.isLt).2.2.1) (ix2 r k) = (args m c).layer.gu (row (pt t) r) k := by
  have H := blocks m c t
  have key := gu_cols (a := (args m c).layer) (ρ := row (pt t)) (Payload.gate0 H (chunk0 m c t)) (Payload.up0 H (chunk0 m c t))
    (Payload.gate1 H (chunk1 m c t)) (Payload.up1 H (chunk1 m c t)) (Payload.gate2 H (chunk2 m c t)) (Payload.up2 H (chunk2 m c t))
    inb_S256x5632_S256x1024_0_0 inb_S256x5632_S256x1024_0_2816 inb_S256x5632_S256x1024_0_1024 inb_S256x5632_S256x1024_0_3840
    inb_S256x5632_S256x768_0_2048 inb_S256x5632_S256x768_0_4864 (ix2 r k)
  by_cases h0 : t.val % 32 = 0
  · rw [outsAt0_A m c t h0]; dsimp only; frame_out; exact key
  · rw [outsAt0_B m c t h0]; dsimp only; frame_out; exact key

/-! ## The sum of squares -/

/-- What a grid point adds to every element of the sum of squares' block. -/
def sqTerm (b : Top) (t : Fin 32) : EReal := ∑ r : Fin 256, b.sqRow (row t r)

/-- At a point that is not the first the sum grows by the block's rows. -/
theorem sse_step (t : Fin cfg0.N) (h0 : ¬ t.val % 32 = 0) (q : Fin 8) (l : Fin 128) :
    (show FVec Ideal S8x128 .f32 from (outsAt0 m c t.val t.isLt).2.2.2) (ix2 q l)
      = (show FVec Ideal S8x128 .f32 from (outsAt0 m c (t.val - 1) (by have := t.isLt; omega)).2.2.2) (ix2 q l)
        + sqTerm (args m c) (pt t) := by
  have key := Payload.sse (blocks m c t) (chunk0 m c t) (chunk1 m c t) (chunk2 m c t)
    (outsAt0 m c (t.val - 1) (by have := t.isLt; omega)).2.2.2 q l
  rw [outsAt0_B m c t h0]
  dsimp only
  frame_out
  exact key

/-- The first grid point leaves its own rows' sum. -/
theorem sse_first (t : Fin cfg0.N) (h0 : t.val % 32 = 0) (q : Fin 8) (l : Fin 128) :
    (show FVec Ideal S8x128 .f32 from (outsAt0 m c t.val t.isLt).2.2.2) (ix2 q l) = 0 + sqTerm (args m c) (pt t) := by
  have key := Payload.sse (blocks m c t) (chunk0 m c t) (chunk1 m c t) (chunk2 m c t) (k0_pay12 (F := Ideal)) q l
  rw [zeros] at key
  rw [outsAt0_A m c t h0]
  dsimp only
  frame_open
  simp (disch := decide) only [↓ View.readCov_skip, ↓ View.readCov_fill]
  frame_out
  exact key

end Cert.FfnFwd.L1.Block

end
-- ==== Proof.FfnFwd.L1.Arrays.lean ====
/- The last SwiGLU layer's forward call: what the kernel's four result arrays hold. Every block of three of them is written once, by the grid
   point that handles its rows; the sum of squares is written back after the last grid point, when it has taken up all rows. -/
module

public import proofs.«01_k».proof.Proof.FfnFwd.L1.Block
public import Idealize.ShloMosaic.Lib.Pipeline.Value

@[expose] public section

set_option maxRecDepth 16384

noncomputable section

namespace Cert.FfnFwd.L1.Arrays

open Idealize.ShloMosaic Idealize.ShloMosaic.TcCoe Idealize.SL.Sem
open Cert.Kernel9Ideal Cert.Kernel9Ideal.Gen Cert.Ffn Cert.FfnFwd.L1.Block
open scoped BigOperators

variable (m : (ℓ : Loc nD τ sig) → Buf (Elt Ideal) ℓ) (c : Dev nD)

/-- The layer's input. -/
theorem xin : (dats m 0 c).arrAt 7 cfg0.N = fun i : S8192x1024.Idx => (args m c).xin (i 0) (i 1) := by
  refine (dats m 0 c).arrAt_eq_of_covers 7 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_7.blk t).view.emb (ix2 r k) = ix2 (row (pt t) r) k := by unfold row pt; blk_ext [idx t]
  blk_simp
  rw [after0_7]
  simp only [e]
  exact out_xin m c t r k

/-- The squared error's gradient. -/
theorem dxo : (dats m 0 c).arrAt 8 cfg0.N = fun i : S8192x1024.Idx => (args m c).dxo (i 0) (i 1) := by
  refine (dats m 0 c).arrAt_eq_of_covers 8 _ (by decide +kernel) fun t hf y => ?_
  obtain ⟨r, k, rfl⟩ : ∃ (r : Fin 256) (k : Fin 1024), y = ix2 r k := ⟨y 0, y 1, by funext a; match a with | ⟨0, _⟩ => rfl | ⟨1, _⟩ => rfl⟩
  have e : (win0_8.blk t).view.emb (ix2 r k) = ix2 (row (pt t) r) k := by unfold row pt; blk_ext [idx t]
  blk_simp
  rw [after0_8]
  simp only [e]
  exact out_dxo m c t r k

/-- The projection onto gates and values. -/
theorem gu : (dats m 0 c).arrAt 9 cfg0.N = fun i : S8192x5632.Idx => (args m c).layer.gu (i 0) (i 1) := by
  refine (dats m 0 c).arrAt_eq_of_covers 9 _ (by decide +kernel) fun t hf y => ?_
  obtain ⟨r, k, rfl⟩ : ∃ (r : Fin 256) (k : Fin 5632), y = ix2 r k := ⟨y 0, y 1, by funext a; match a with | ⟨0, _⟩ => rfl | ⟨1, _⟩ => rfl⟩
  have e : (win0_9.blk t).view.emb (ix2 r k) = ix2 (row (pt t) r) k := by unfold row pt; blk_ext [idx t]
  blk_simp
  rw [after0_9]
  simp only [e]
  exact out_gu m c t r k

/-- The grid points' rows are all rows. -/
theorem sq_points (b : Top) : ∑ p : Fin cfg0.N, sqTerm b (pt p) = b.sse :=
  ((finCongr N_0).sum_comp (sqTerm b)).trans (sum_rows b.sqRow).symm

/-- The last grid point. -/
def last : Fin cfg0.N := ⟨31, lt_of_lt_of_eq (by decide : 31 < 32) N_0.symm⟩

/-- The sum of squares, in every element of its block. -/
theorem sse : (dats m 0 c).arrAt 10 cfg0.N = fun _ : S8x128.Idx => (args m c).sse := by
  refine (dats m 0 c).arrAt_eq_of_after_last 10 last (by decide +kernel) _ fun y => ?_
  obtain ⟨q, l, rfl⟩ : ∃ (q : Fin 8) (l : Fin 128), y = ix2 q l := ⟨y 0, y 1, by funext a; match a with | ⟨0, _⟩ => rfl | ⟨1, _⟩ => rfl⟩
  blk_simp
  rw [after0_10, Pipeline.eq_sum_fin_of_reset_step_apply_last (fun n h => (outsAt0 m c n h).2.2.2) 32 (fun _ => 0)
    (fun t _ => sqTerm (args m c) (pt t))
    (fun t h y => by
      obtain ⟨q, l, rfl⟩ : ∃ (q : Fin 8) (l : Fin 128), y = ix2 q l := ⟨y 0, y 1, by funext a; match a with | ⟨0, _⟩ => rfl | ⟨1, _⟩ => rfl⟩
      exact sse_first m c t h q l)
    (fun t h y => by
      obtain ⟨q, l, rfl⟩ : ∃ (q : Fin 8) (l : Fin 128), y = ix2 q l := ⟨y 0, y 1, by funext a; match a with | ⟨0, _⟩ => rfl | ⟨1, _⟩ => rfl⟩
      exact sse_step m c t h q l)
    (le_of_eq N_0) last rfl (ix2 q l)]
  rw [zero_add]
  exact sq_points (args m c)

end Cert.FfnFwd.L1.Arrays

end
-- ==== Proof.FfnFwd.L1.Ref.lean ====
/- The last SwiGLU layer's forward call: what the reference computes, entry by entry. -/
module

public import proofs.«01_k».proof.Proof.Gen.Reference9Ideal.Read
public import Idealize.ShloMosaic.Lib.Pipeline.ValueKit
public import Idealize.ShloMosaic.Lib.Pointwise.Reduce
public import proofs.«01_k».proof.Proof.Conv.Norm
public import proofs.«01_k».proof.Proof.FfnFwd.Spec

@[expose] public section

set_option maxRecDepth 16384

noncomputable section

namespace Cert.FfnFwd.L1.Ref

open Idealize.ShloMosaic Idealize.ShloMosaic.TcCoe Idealize.SL.Sem
open Cert.Reference9Ideal Cert.Reference9Ideal.Gen Cert.Reference9Ideal.Read Cert.Ffn
open scoped BigOperators

variable (x0 : FVec Ideal S8192x1024 .f32) (x1 : FVec Ideal S1x1024 .f32) (x2 : FVec Ideal S1024x5632 .f32)
  (x3 : FVec Ideal S2816x1024 .f32) (x4 : FVec Ideal S8192x1024 .bf16) (x5 : FVec Ideal S1024x1024 .f32) (x6 : FVec Ideal S8192x1024 .f32)

/-- The arrays of the call, as the reference has them. -/
def args : Top := ⟨x0, x1, x2, x3, x4, x5, x6⟩

/-- The layer's input. -/
theorem xin (R : Fin 8192) (j : Fin 1024) : val_main_v2 (F := Ideal) x0 x4 x5 (ix2 R j) = (args x0 x1 x2 x3 x4 x5 x6).xin R j := by
  pointwise [val_main_v2, val_main_v1, val_main_v0, args, Top.xin]

/-- The mean square of a row. -/
theorem ms (R : Fin 8192) (u : Fin 1) : val_main_v9 (F := Ideal) x0 x4 x5 (ix2 R u) = (args x0 x1 x2 x3 x4 x5 x6).layer.ms R := by
  pointwise [val_main_v9, val_main_v8, val_main_v7, val_main_v6, val_main_v5, val_main_v4, val_main_v3, val_main_cst, val_main_cst_0,
    val_main_cst_1, xin x0 x1 x2 x3 x4 x5 x6, Top.layer, Layer.ms]

/-- The normalised row times the gain. -/
theorem h (R : Fin 8192) (j : Fin 1024) : val_main_v14 (F := Ideal) x0 x1 x4 x5 (ix2 R j) = (args x0 x1 x2 x3 x4 x5 x6).layer.h R j := by
  pointwise [val_main_v14, val_main_v13, val_main_v12, val_main_v11, val_main_v10, ms x0 x1 x2 x3 x4 x5 x6, xin x0 x1 x2 x3 x4 x5 x6, Layer.h]
  rfl

/-- The projection. -/
theorem gu (R : Fin 8192) (k : Fin 5632) :
    val_main_v15 (F := Ideal) x0 x1 x2 x4 x5 (ix2 R k) = (args x0 x1 x2 x3 x4 x5 x6).layer.gu R k := by
  pointwise [val_main_v15, h x0 x1 x2 x3 x4 x5 x6, Layer.gu]
  rfl

/-- The gates' logistic function. -/
theorem sgm (R : Fin 8192) (k : Fin 2816) :
    val_main_call0_v5 (F := Ideal) x0 x1 x2 x4 x5 (ix2 R k) = logi ((args x0 x1 x2 x3 x4 x5 x6).layer.gate R k) := by
  pointwise [val_main_call0_v5, val_main_call0_v4, val_main_call0_v3, val_main_call0_v2, val_main_call0_v1, val_main_call0_v0,
    val_main_call0_cst, val_main_call0_cst_0, val_main_v16, gu x0 x1 x2 x3 x4 x5 x6, logi, Layer.gate]

/-- The gated values. -/
theorem act (R : Fin 8192) (k : Fin 2816) :
    val_main_v19 (F := Ideal) x0 x1 x2 x4 x5 (ix2 R k) = (args x0 x1 x2 x3 x4 x5 x6).layer.act R k := by
  pointwise [val_main_v19, val_main_v18, val_main_v17, val_main_v16, sgm x0 x1 x2 x3 x4 x5 x6, gu x0 x1 x2 x3 x4 x5 x6, Layer.act,
    Layer.gate, Layer.up]

/-- The difference from the target. -/
theorem err (R : Fin 8192) (j : Fin 1024) :
    val_main_v22 (F := Ideal) x0 x1 x2 x3 x4 x5 x6 (ix2 R j) = (args x0 x1 x2 x3 x4 x5 x6).err R j := by
  pointwise [val_main_v22, val_main_v21, val_main_v20, act x0 x1 x2 x3 x4 x5 x6, xin x0 x1 x2 x3 x4 x5 x6, Top.err, Layer.out]
  rfl

/-- Half the difference's square, divided by 1024, has the difference over 1024 for its gradient. -/
theorem half_square (e : EReal) :
    Ideal.div (Ideal.ofBits .f32 0x3F000000#32) (Ideal.ofBits .f32 0x44800000#32)
      * (Ideal.ofBits .f32 0x40000000#32 * e) = e * Ideal.ofBits .f32 0x3A800000#32 := by
  have half : Ideal.ofBits .f32 0x3F000000#32 = ((1 / 2 : ℝ) : EReal) := by simp [Ideal.ofBits, Ideal.ieee, -EReal.coe_mul]; norm_num
  have two : Ideal.ofBits .f32 0x40000000#32 = ((2 : ℝ) : EReal) := by simp [Ideal.ofBits, Ideal.ieee, -EReal.coe_mul]; norm_num
  have inv : Ideal.ofBits .f32 0x3A800000#32 = ((1 / 1024 : ℝ) : EReal) := by simp [Ideal.ofBits, Ideal.ieee, -EReal.coe_mul]; norm_num
  rw [half, two, inv, Cert.Conv.Norm.word_1024, Ideal.div_coe (by norm_num), ← EReal.coe_mul, ← mul_assoc, ← EReal.coe_mul, mul_comm e]
  norm_num

/-- The squared error's gradient. -/
theorem dxo (R : Fin 8192) (j : Fin 1024) :
    val_main_v36 (F := Ideal) x0 x1 x2 x3 x4 x5 x6 (ix2 R j) = (args x0 x1 x2 x3 x4 x5 x6).dxo R j := by
  pointwise [val_main_v36, val_main_v35, val_main_v34, val_main_v33, val_main_v32, val_main_v31, val_main_v25, val_main_v24, val_main_cst_2,
    val_main_cst_7, val_main_cst_8, val_main_cst_9, err x0 x1 x2 x3 x4 x5 x6, Top.dxo]
  exact half_square _

/-- The sum of squares. -/
theorem sse (q : Fin 8) (l : Fin 128) :
    val_main_v40 (F := Ideal) x0 x1 x2 x3 x4 x5 x6 (ix2 q l) = (args x0 x1 x2 x3 x4 x5 x6).sse := by
  have same : val_main_v37 (F := Ideal) x0 x1 x2 x3 x4 x5 x6 = val_main_v22 (F := Ideal) x0 x1 x2 x3 x4 x5 x6 := rfl
  pointwise [val_main_v40, val_main_v39, val_main_v38, val_main_cst_10, same, err x0 x1 x2 x3 x4 x5 x6, Top.sse, Top.sqRow]

end Cert.FfnFwd.L1.Ref

end
-- ==== Proof.FfnFwd.L1.Claim.lean ====
/- The last SwiGLU layer's forward call: kernel and reference compute the same four arrays. -/
module

public import proofs.«01_k».proof.Defs
public import proofs.«01_k».proof.Proof.FfnFwd.L1.Arrays
public import proofs.«01_k».proof.Proof.FfnFwd.L1.Ref
public import Idealize.ShloMosaic.Lib.Claim

@[expose] public section

set_option maxRecDepth 16384

noncomputable section

namespace Cert.FfnFwd.L1

open Idealize.ShloMosaic Idealize.ShloMosaic.TcCoe Idealize.SL.Sem
open Cert.Kernel9Ideal Cert.Kernel9Ideal.Gen

variable (m : (ℓ : Loc nD τ sig) → Buf (Elt Ideal) ℓ) (c : Dev nD)

/-- The arrays the kernel is launched on, of which the host narrows the weights, are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  unfold Block.args Ref.args
  entry_read
  rfl

/-- The layer's input. -/
theorem xin : Cert.Reference9Ideal.Read.val_main_v2 (F := Ideal) (m ((c.tc : Thread nD τ).loc main_arg0)) (m ((c.tc : Thread nD τ).loc main_arg4))
    (m ((c.tc : Thread nD τ).loc main_arg5)) = (dats m 0 c).arrAt 7 cfg0.N := by
  rw [Arrays.xin, args_eq]
  funext i
  exact (congrArg _ (eq_ix2 i)).trans (Ref.xin _ _ _ _ _ _ _ (i 0) (i 1))

/-- The squared error's gradient. -/
theorem dxo : Cert.Reference9Ideal.Read.val_main_v36 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = (dats m 0 c).arrAt 8 cfg0.N := by
  rw [Arrays.dxo, args_eq]
  funext i
  exact (congrArg _ (eq_ix2 i)).trans (Ref.dxo _ _ _ _ _ _ _ (i 0) (i 1))

/-- The projection. -/
theorem gu : Cert.Reference9Ideal.Read.val_main_v15 (F := Ideal) (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))
    = (dats m 0 c).arrAt 9 cfg0.N := by
  rw [Arrays.gu, args_eq]
  funext i
  exact (congrArg _ (eq_ix2 i)).trans (Ref.gu _ _ _ _ _ _ _ (i 0) (i 1))

/-- The sum of squares. -/
theorem sse : Cert.Reference9Ideal.Read.val_main_v40 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = (dats m 0 c).arrAt 10 cfg0.N := by
  rw [Arrays.sse, args_eq]
  funext i
  exact (congrArg _ (eq_ix2 i)).trans (Ref.sse _ _ _ _ _ _ _ (i 0) (i 1))

set_option maxHeartbeats 3200000 in
/-- Kernel and reference end with the same arrays. -/
theorem algebraic : Cert.algebraic_Kernel9Ideal_Reference9Ideal := by
  pair_intro
  · run_from Cert.Kernel9Ideal.Gen.run_main m g
  · refine θ_run_mono (Cert.Reference9Ideal.Value.run m' g') fun r hr c => ?_
    obtain ⟨r0, r1, r2, r3, kept⟩ := hr c
    obtain ⟨e0, e1, e2, e3, e4, e5, e6⟩ := hagree c
    rw [Cert.Reference9Ideal.Read.val_main_v2_eq, e0, e4, e5] at r0
    rw [Cert.Reference9Ideal.Read.val_main_v36_eq, e0, e1, e2, e3, e4, e5, e6] at r1
    rw [Cert.Reference9Ideal.Read.val_main_v15_eq, e0, e1, e2, e4, e5] at r2
    rw [Cert.Reference9Ideal.Read.val_main_v40_eq, e0, e1, e2, e3, e4, e5, e6] at r3
    exact ⟨r0.trans (xin m c), r1.trans (dxo m c), r2.trans (gu m c), r3.trans (sse m c), kept⟩

end Cert.FfnFwd.L1

end
-- ==== Proof.Wgrad.Spec.lean ====
/- The gradient of a weight that multiplies rows: entry (i, j) is the sum, over the step's 8192 rows, of column i of the operand times column
   j of the incoming gradient. -/
module

public import Idealize.ShloMosaic.Lib.Pointwise

@[expose] public section

noncomputable section

namespace Cert.Wgrad

open Idealize.ShloMosaic
open scoped BigOperators

/-- The weight's gradient. -/
def grad {n k : ℕ} (a : FVec Ideal ⟨2, ![8192, n]⟩ .bf16) (ct : FVec Ideal ⟨2, ![8192, k]⟩ .bf16) (i : Fin n) (j : Fin k) : EReal :=
  ∑ R : Fin 8192, a (ix2 R i) * ct (ix2 R j)

/-- Row `r` of the `s`-th block of `K` rows. -/
def row {J K : ℕ} (h : J * K = 8192) (s : Fin J) (r : Fin K) : Fin 8192 := ⟨s.val * K + r.val, by
  have hs := s.isLt
  have hr := r.isLt
  calc s.val * K + r.val < (s.val + 1) * K := by rw [Nat.add_mul, Nat.one_mul]; omega
    _ ≤ J * K := Nat.mul_le_mul_right _ (by omega)
    _ = 8192 := h⟩

/-- What one block of rows adds to the weight's gradient. -/
def part {n k J K : ℕ} (h : J * K = 8192) (a : FVec Ideal ⟨2, ![8192, n]⟩ .bf16) (ct : FVec Ideal ⟨2, ![8192, k]⟩ .bf16) (i : Fin n)
    (j : Fin k) (s : Fin J) : EReal :=
  ∑ r : Fin K, a (ix2 (row h s r) i) * ct (ix2 (row h s r) j)

/-- The blocks' parts make up the whole. -/
theorem sum_part {n k J K : ℕ} (h : J * K = 8192) (a : FVec Ideal ⟨2, ![8192, n]⟩ .bf16) (ct : FVec Ideal ⟨2, ![8192, k]⟩ .bf16)
    (i : Fin n) (j : Fin k) : ∑ s : Fin J, part h a ct i j s = grad a ct i j :=
  (Fin.sum_univ_tiles J K h fun R => a (ix2 R i) * ct (ix2 R j)).symm

/-- A position of a matrix is its row and its column. -/
theorem ix2_eta {a b : ℕ} (i : Shape.Idx ⟨2, ![a, b]⟩) : i = ix2 (i 0) (i 1) := by
  funext k; match k with | ⟨0, _⟩ => rfl | ⟨1, _⟩ => rfl

/-- A position of a stack of matrices is its layer, its row and its column. -/
theorem ix3_eta {a b c : ℕ} (i : Shape.Idx ⟨3, ![a, b, c]⟩) : i = ix3 (i 0) (i 1) (i 2) := by
  funext k; match k with | ⟨0, _⟩ => rfl | ⟨1, _⟩ => rfl | ⟨2, _⟩ => rfl

/-- … and in a stack of one, its row and its column. -/
theorem ix3_one {b c : ℕ} (i : Shape.Idx ⟨3, ![1, b, c]⟩) : i = ix3 (0 : Fin 1) (i 1) (i 2) := by
  funext k; match k with | ⟨0, _⟩ => exact Subsingleton.elim (α := Fin 1) _ _ | ⟨1, _⟩ => rfl | ⟨2, _⟩ => rfl

end Cert.Wgrad

end
-- ==== Proof.Wgrad.Gu.lean ====
/- The gradient of the feed-forward layer's first weight: the kernel's grid points each hold all rows and 512 of the columns. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Claim
public import proofs.«01_k».proof.Proof.Wgrad.Spec

@[expose] public section

set_option maxRecDepth 16384

noncomputable section

namespace Cert.Wgrad.Gu

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The operand and the incoming gradient. -/
abbrev a : FVec Ideal S8192x1024 .bf16 := m ((c.tc : Thread nD τ).loc main_arg0)
abbrev ct : FVec Ideal S8192x5632 .bf16 := m ((c.tc : Thread nD τ).loc main_arg1)

/-- The windows' block indices. -/
theorem idx : ∀ t : Fin cfg0.N, win0_0.index t = ![0, 0] ∧ win0_1.index t = ![0, t.val] ∧ win0_2.index t = ![0, t.val] :=
  (by decide +kernel : ∀ t : Fin grid0.N, _)

/-- Column `j` of grid point `t`'s block. -/
def col (t : Fin cfg0.N) (j : Fin 512) : Fin 5632 := ⟨t.val * 512 + j.val, by have := lt_of_lt_of_eq t.isLt N_0; omega⟩

theorem blk_a (t : Fin cfg0.N) (R : Fin 8192) (i : Fin 1024) :
    (show FVec Ideal S8192x1024 .bf16 from iblk m c 0 t) (ix2 R i) = a m c (ix2 R i) := by
  rw [a, ← V_main_arg0 m c]; blk_ext [iblk, idx t]
theorem blk_ct (t : Fin cfg0.N) (R : Fin 8192) (j : Fin 512) :
    (show FVec Ideal S8192x512 .bf16 from iblk m c 1 t) (ix2 R j) = ct m c (ix2 R (col t j)) := by
  rw [ct, ← V_main_arg1 m c]; unfold col; blk_ext [iblk, idx t]

/-- What a grid point stores is its columns of the weight's gradient. -/
theorem payload {n : Fin cfg0.N} {A : FVec Ideal S8192x1024 .bf16} {B : FVec Ideal S8192x512 .bf16}
    (hA : ∀ R i, A (ix2 R i) = a m c (ix2 R i)) (hB : ∀ R j, B (ix2 R j) = ct m c (ix2 R (col n j))) (i : Fin 1024) (j : Fin 512) :
    k0_pay3 (F := Ideal) (k0_pay2 (F := Ideal) (k0_pay1 (F := Ideal)) A B) (ix2 i j) = grad (a m c) (ct m c) i (col n j) := by
  pointwise [k0_pay3, k0_pay2, k0_pay1, grad, hA, hB]

/-- The result array is the weight's gradient. -/
theorem array : (dats m 0 c).arrAt 2 cfg0.N = fun i : S1024x5632.Idx => grad (a m c) (ct m c) (i 0) (i 1) := by
  refine (dats m 0 c).arrAt_eq_of_covers 2 _ (by decide +kernel) fun t hf y => ?_
  obtain ⟨r, k, rfl⟩ : ∃ (r : Fin 1024) (k : Fin 512), y = ix2 r k := ⟨y 0, y 1, ix2_eta y⟩
  have e : (win0_2.blk t).view.emb (ix2 r k) = ix2 r (col t k) := by unfold col; blk_ext [idx t]
  blk_simp
  rw [after0_2]
  simp only [e, outsAt0]
  frame_out
  exact payload m c (blk_a m c t) (blk_ct m c t) r k

/-- The reference's gradient. -/
theorem ref (x0 : FVec Ideal S8192x1024 .bf16) (x1 : FVec Ideal S8192x5632 .bf16) (i : Fin 1024) (j : Fin 5632) :
    Cert.Reference3Ideal.Read.val_main_v6 (F := Ideal) x0 x1 (ix2 i j) = grad x0 x1 i j := by
  pointwise [Cert.Reference3Ideal.Read.val_main_v6, Cert.Reference3Ideal.Read.val_main_v5, Cert.Reference3Ideal.Read.val_main_v4,
    Cert.Reference3Ideal.Read.val_main_v3, Cert.Reference3Ideal.Read.val_main_v1, grad]
  exact Finset.sum_congr rfl fun R _ => mul_comm _ _

/-- Kernel and reference end with the same array. -/
theorem algebraic : Cert.algebraic_Kernel3Ideal_Reference3Ideal := by
  pair_intro
  · run_from Cert.Kernel3Ideal.Gen.run_main m g
  · run_from Cert.Reference3Ideal.Value.run m' g'
    · refine Eq.trans ?_ (array m c).symm
      funext i
      exact (congrArg _ (ix2_eta i)).trans (ref _ _ (i 0) (i 1))

end Cert.Wgrad.Gu

end
-- ==== Proof.Wgrad.Acc.lean ====
/- A weight's gradient gathered block of rows by block of rows: an accumulator that starts from zero, takes up one block's part at every grid
   point and is written back after the last block holds the whole gradient. -/
module

public import proofs.«01_k».proof.Proof.Wgrad.Spec
public import Idealize.ShloMosaic.Lib.Pipeline.ValueKit

@[expose] public section

noncomputable section

namespace Cert.Wgrad

open Idealize.ShloMosaic
open scoped BigOperators

/-- The block of rows a grid point handles, the rows being the grid's inner coordinate. -/
def blockOf {N : ℕ} (J : ℕ) [NeZero J] (t : Fin N) : Fin J := ⟨t.val % J, Nat.mod_lt _ (NeZero.pos J)⟩

/-- `f` is the accumulator after each grid point, `ci` and `cj` the columns of the two arrays the point's run of blocks handles. -/
theorem acc {N J K n k n' k' : ℕ} [NeZero J] (h : J * K = 8192) (a : FVec Ideal ⟨2, ![8192, n]⟩ .bf16)
    (ct : FVec Ideal ⟨2, ![8192, k]⟩ .bf16) (f : (x : ℕ) → x < N → FVec Ideal ⟨2, ![n', k']⟩ .f32)
    (ci : Fin N → Fin n' → Fin n) (cj : Fin N → Fin k' → Fin k)
    (hi : ∀ t t' : Fin N, t.val / J = t'.val / J → ci t = ci t') (hj : ∀ t t' : Fin N, t.val / J = t'.val / J → cj t = cj t')
    (h0 : ∀ t : Fin N, t.val % J = 0 → ∀ i j, f t.val t.isLt (ix2 i j) = 0 + part h a ct (ci t i) (cj t j) (blockOf J t))
    (hs : ∀ t : Fin N, ¬ t.val % J = 0 → ∀ i j, f t.val t.isLt (ix2 i j)
      = f (t.val - 1) (Nat.lt_of_le_of_lt (Nat.sub_le _ _) t.isLt) (ix2 i j) + part h a ct (ci t i) (cj t j) (blockOf J t))
    (t : Fin N) (hr : t.val % J = J - 1) (i : Fin n') (j : Fin k') :
    f t.val t.isLt (ix2 i j) = grad a ct (ci t i) (cj t j) := by
  rw [Pipeline.eq_sum_fin_of_reset_step_of_flush (fun x hx => f x hx (ix2 i j)) J 0
    (fun t => part h a ct (ci t i) (cj t j) (blockOf J t)) (fun t ht => h0 t ht i j) (fun t ht => hs t ht i j) t hr, zero_add,
    ← sum_part h]
  refine Finset.sum_congr rfl fun s _ => ?_
  have hd : (J * (t.val / J) + s.val) / J = t.val / J := by
    rw [Nat.mul_add_div (NeZero.pos J), Nat.div_eq_of_lt s.isLt, Nat.add_zero]
  have hm : (J * (t.val / J) + s.val) % J = s.val := by rw [Nat.mul_add_mod, Nat.mod_eq_of_lt s.isLt]
  rw [hi ⟨J * (t.val / J) + s.val, _⟩ t hd, hj ⟨J * (t.val / J) + s.val, _⟩ t hd]
  exact congrArg _ (Fin.ext hm)

end Cert.Wgrad

end
-- ==== Proof.Wgrad.D.lean ====
/- The gradient of the feed-forward layer's second weight: the grid runs over two halves of the weight's rows and, inside, four blocks of
   the step's rows; a half is gathered in the carried accumulator and stored after its last block. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ReadBack
public import Idealize.ShloMosaic.Lib.Claim
public import proofs.«01_k».proof.Proof.Wgrad.Acc

@[expose] public section

set_option maxRecDepth 16384

noncomputable section

namespace Cert.Wgrad.D

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The operand and the incoming gradient. -/
abbrev a : FVec Ideal S8192x2816 .bf16 := m ((c.tc : Thread nD τ).loc main_arg0)
abbrev ct : FVec Ideal S8192x1024 .bf16 := m ((c.tc : Thread nD τ).loc main_arg1)

/-- The windows' block indices. -/
theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

/-- Column `i` of the half grid point `t` handles. -/
def col (t : Fin cfg0.N) (i : Fin 1408) : Fin 2816 := ⟨t.val / 4 * 1408 + i.val, by have := lt_of_lt_of_eq t.isLt N_0; omega⟩

/-- The rows come in four blocks of 2048. -/
theorem tiles : 4 * 2048 = 8192 := rfl

theorem blk_a (t : Fin cfg0.N) (r : Fin 2048) (i : Fin 1408) :
    (show FVec Ideal S2048x1408 .bf16 from iblk m c 0 t) (ix2 r i) = a m c (ix2 (row tiles (blockOf 4 t) r) (col t i)) := by
  rw [a, ← V_main_arg0 m c]; unfold row blockOf col; blk_ext [iblk, idx t]
theorem blk_ct (t : Fin cfg0.N) (r : Fin 2048) (j : Fin 1024) :
    (show FVec Ideal S2048x1024 .bf16 from iblk m c 1 t) (ix2 r j) = ct m c (ix2 (row tiles (blockOf 4 t) r) j) := by
  rw [ct, ← V_main_arg1 m c]; unfold row blockOf; blk_ext [iblk, idx t]

/-- The accumulator takes up the block's part. -/
theorem step (t : Fin cfg0.N) {A : FVec Ideal S2048x1408 .bf16} {B : FVec Ideal S2048x1024 .bf16}
    (hA : ∀ r i, A (ix2 r i) = a m c (ix2 (row tiles (blockOf 4 t) r) (col t i)))
    (hB : ∀ r j, B (ix2 r j) = ct m c (ix2 (row tiles (blockOf 4 t) r) j)) (S : FVec Ideal S1408x1024 .f32) (i : Fin 1408) (j : Fin 1024) :
    k0_pay2 (F := Ideal) S A B (ix2 i j) = S (ix2 i j) + part tiles (a m c) (ct m c) (col t i) j (blockOf 4 t) := by
  pointwise [k0_pay2, part, hA, hB]

/-- The zeros it starts from. -/
theorem zeros (i : Fin 1408) (j : Fin 1024) : k0_pay1 (F := Ideal) (ix2 i j) = 0 := by pointwise [k0_pay1]

/-- After the last block of rows the accumulator holds the half's gradient. -/
theorem whole (t : Fin cfg0.N) (h : t.val % 4 = 3) (i : Fin 1408) (j : Fin 1024) :
    (show FVec Ideal S1408x1024 .f32 from (outsAt0 m c t.val t.isLt).2) (ix2 i j) = grad (a m c) (ct m c) (col t i) j := by
  refine acc tiles (a m c) (ct m c) (fun x hx => (outsAt0 m c x hx).2) col (fun _ => id)
    (fun t t' h => by funext i; exact Fin.ext (by simp only [col, h])) (fun _ _ _ => rfl) (fun t h0 i j => ?_) (fun t h0 i j => ?_) t h i j
  · rw [outsAt0_A m c t h0 (by omega)]
    dsimp only
    frame_out
    refine (step m c t (blk_a m c t) (blk_ct m c t) _ i j).trans ?_
    rw [zeros]
    rfl
  · by_cases h1 : t.val % 4 = 3
    · rw [outsAt0_C m c t h0 h1]
      dsimp only
      frame_out
      simp only [read_unread_whole]
      exact step m c t (blk_a m c t) (blk_ct m c t) _ i j
    · rw [outsAt0_B m c t h0 h1]
      dsimp only
      frame_out
      simp only [read_unread_whole]
      exact step m c t (blk_a m c t) (blk_ct m c t) _ i j

/-- What the last point of a half stores is what the accumulator then holds. -/
theorem stored (t : Fin cfg0.N) (h : t.val % 4 = 3) (i : Fin 1408) (j : Fin 1024) :
    (show FVec Ideal S1x1408x1024 .bf16 from (outsAt0 m c t.val t.isLt).1) (ix3 0 i j) = grad (a m c) (ct m c) (col t i) j := by
  refine Eq.trans ?_ (whole m c t h i j)
  rw [outsAt0_C m c t (by omega) h]
  dsimp only
  frame_out
  pointwise [k0_pay3]

/-- The result: the weight's gradient, half by half. -/
def result (p : Fin 2) (i : Fin 1408) (j : Fin 1024) : EReal := grad (a m c) (ct m c) ⟨p.val * 1408 + i.val, by omega⟩ j

/-- What the result array holds. -/
theorem array : (dats m 0 c).arrAt 2 cfg0.N = fun i : S2x1408x1024.Idx => result m c (i 0) (i 1) (i 2) := by
  refine (dats m 0 c).arrAt_eq_of_covers 2 _ (by decide +kernel) fun t hf y => ?_
  obtain ⟨r, k, rfl⟩ : ∃ (r : Fin 1408) (k : Fin 1024), y = ix3 (0 : Fin 1) r k := ⟨y 1, y 2, ix3_one y⟩
  have e : (win0_2.blk t).view.emb (ix3 0 r k) = ix3 ⟨t.val / 4, by have := lt_of_lt_of_eq t.isLt N_0; omega⟩ r k := by blk_ext [idx t]
  blk_simp
  rw [after0_2]
  simp only [e]
  exact stored m c t ((flush0_2 t).mp hf) r k

/-- The reference's gradient. -/
theorem ref (x0 : FVec Ideal S8192x2816 .bf16) (x1 : FVec Ideal S8192x1024 .bf16) (p : Fin 2) (i : Fin 1408) (j : Fin 1024) :
    Cert.Reference4Ideal.Read.val_main_v7 (F := Ideal) x0 x1 (ix3 p i j) = grad x0 x1 ⟨p.val * 1408 + i.val, by omega⟩ j := by
  pointwise [Cert.Reference4Ideal.Read.val_main_v7, Cert.Reference4Ideal.Read.val_main_v6, Cert.Reference4Ideal.Read.val_main_v5,
    Cert.Reference4Ideal.Read.val_main_v4, Cert.Reference4Ideal.Read.val_main_v3, Cert.Reference4Ideal.Read.val_main_v1, grad]
  exact Finset.sum_congr rfl fun R _ => mul_comm _ _

/-- Kernel and reference end with the same array. -/
theorem algebraic : Cert.algebraic_Kernel4Ideal_Reference4Ideal := by
  pair_intro
  · run_from Cert.Kernel4Ideal.Gen.run_main m g
  · run_from Cert.Reference4Ideal.Value.run m' g'
    · refine Eq.trans ?_ (array m c).symm
      funext i
      exact (congrArg _ (ix3_eta i)).trans (ref _ _ (i 0) (i 1) (i 2))

end Cert.Wgrad.D

end
-- ==== Proof.Wgrad.O.lean ====
/- The gradient of a square output weight (the attention's and the convolution's): the grid runs over two blocks of the step's rows; the
   gradient is gathered in the carried accumulator and stored after the second. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ReadBack
public import Idealize.ShloMosaic.Lib.Claim
public import proofs.«01_k».proof.Proof.Wgrad.Acc

@[expose] public section

set_option maxRecDepth 16384

noncomputable section

namespace Cert.Wgrad.O

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- The operand and the incoming gradient. -/
abbrev a : FVec Ideal S8192x1024 .bf16 := m ((c.tc : Thread nD τ).loc main_arg0)
abbrev ct : FVec Ideal S8192x1024 .bf16 := m ((c.tc : Thread nD τ).loc main_arg1)

/-- The windows' block indices. -/
theorem idx : ∀ t : Fin cfg0.N, win0_0.index t = ![t.val % 2, 0] ∧ win0_1.index t = ![t.val % 2, 0] ∧ win0_2.index t = ![0, 0, 0] :=
  (by decide +kernel : ∀ t : Fin grid0.N, _)

/-- The rows come in two blocks of 4096. -/
theorem tiles : 2 * 4096 = 8192 := rfl

theorem blk_a (t : Fin cfg0.N) (r : Fin 4096) (i : Fin 1024) :
    (show FVec Ideal S4096x1024 .bf16 from iblk m c 0 t) (ix2 r i) = a m c (ix2 (row tiles (blockOf 2 t) r) i) := by
  rw [a, ← V_main_arg0 m c]; unfold row blockOf; blk_ext [iblk, idx t]
theorem blk_ct (t : Fin cfg0.N) (r : Fin 4096) (j : Fin 1024) :
    (show FVec Ideal S4096x1024 .bf16 from iblk m c 1 t) (ix2 r j) = ct m c (ix2 (row tiles (blockOf 2 t) r) j) := by
  rw [ct, ← V_main_arg1 m c]; unfold row blockOf; blk_ext [iblk, idx t]

/-- The accumulator takes up the block's part. -/
theorem step (s : Fin 2) {A B : FVec Ideal S4096x1024 .bf16} (hA : ∀ r i, A (ix2 r i) = a m c (ix2 (row tiles s r) i))
    (hB : ∀ r j, B (ix2 r j) = ct m c (ix2 (row tiles s r) j)) (S : FVec Ideal S1024x1024 .f32) (i j : Fin 1024) :
    k0_pay2 (F := Ideal) S A B (ix2 i j) = S (ix2 i j) + part tiles (a m c) (ct m c) i j s := by
  pointwise [k0_pay2, part, hA, hB]

/-- The zeros it starts from. -/
theorem zeros (i j : Fin 1024) : k0_pay1 (F := Ideal) (ix2 i j) = 0 := by pointwise [k0_pay1]

/-- After the last block of rows the accumulator holds the gradient. -/
theorem whole (t : Fin cfg0.N) (h : t.val % 2 = 1) (i j : Fin 1024) :
    (show FVec Ideal S1024x1024 .f32 from (outsAt0 m c t.val t.isLt).2) (ix2 i j) = grad (a m c) (ct m c) i j := by
  refine acc tiles (a m c) (ct m c) (fun x hx => (outsAt0 m c x hx).2) (fun _ => id) (fun _ => id)
    (fun _ _ _ => rfl) (fun _ _ _ => rfl) (fun t h0 i j => ?_) (fun t h0 i j => ?_) t h i j
  · rw [outsAt0_A m c t h0 (by omega)]
    dsimp only
    frame_out
    refine (step m c _ (blk_a m c t) (blk_ct m c t) _ i j).trans ?_
    rw [zeros]
    rfl
  · rw [outsAt0_B m c t h0 (by omega)]
    dsimp only
    frame_out
    simp only [read_unread_whole]
    exact step m c _ (blk_a m c t) (blk_ct m c t) _ i j

/-- What the last point stores is what the accumulator then holds. -/
theorem stored (t : Fin cfg0.N) (h : t.val % 2 = 1) (i j : Fin 1024) :
    (show FVec Ideal S1x1024x1024 .bf16 from (outsAt0 m c t.val t.isLt).1) (ix3 0 i j) = grad (a m c) (ct m c) i j := by
  refine Eq.trans ?_ (whole m c t h i j)
  rw [outsAt0_B m c t (by omega) h]
  dsimp only
  frame_out
  pointwise [k0_pay3]

/-- What the result array holds. -/
theorem array : (dats m 0 c).arrAt 2 cfg0.N = fun i : S1x1024x1024.Idx => grad (a m c) (ct m c) (i 1) (i 2) := by
  refine (dats m 0 c).arrAt_eq_of_covers 2 _ (by decide +kernel) fun t hf y => ?_
  obtain ⟨r, k, rfl⟩ : ∃ (r k : Fin 1024), y = ix3 (0 : Fin 1) r k := ⟨y 1, y 2, ix3_one y⟩
  have e : (win0_2.blk t).view.emb (ix3 0 r k) = ix3 (0 : Fin 1) r k := by blk_ext [idx t]
  blk_simp
  rw [after0_2]
  simp only [e]
  exact stored m c t ((flush0_2 t).mp hf) r k

/-- The reference's gradient. -/
theorem ref (x0 x1 : FVec Ideal S8192x1024 .bf16) (p : Fin 1) (i j : Fin 1024) :
    Cert.Reference5Ideal.Read.val_main_v7 (F := Ideal) x0 x1 (ix3 p i j) = grad x0 x1 i j := by
  pointwise [Cert.Reference5Ideal.Read.val_main_v7, Cert.Reference5Ideal.Read.val_main_v6, Cert.Reference5Ideal.Read.val_main_v5,
    Cert.Reference5Ideal.Read.val_main_v4, Cert.Reference5Ideal.Read.val_main_v3, Cert.Reference5Ideal.Read.val_main_v1, grad]
  exact Finset.sum_congr rfl fun R _ => mul_comm _ _

/-- Kernel and reference end with the same array. -/
theorem algebraic : Cert.algebraic_Kernel5Ideal_Reference5Ideal := by
  pair_intro
  · run_from Cert.Kernel5Ideal.Gen.run_main m g
  · run_from Cert.Reference5Ideal.Value.run m' g'
    · refine Eq.trans ?_ (array m c).symm
      funext i
      exact (congrArg _ (ix3_eta i)).trans (ref _ _ (i 0) (i 1) (i 2))

end Cert.Wgrad.O

end
-- ==== Proof.Wgrad.Qkv.lean ====
/- The gradient of the weight of the attention's three projections: the grid runs over four blocks of the step's rows; the
   gradient is gathered in the carried accumulator and stored after the last. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ReadBack
public import Idealize.ShloMosaic.Lib.Claim
public import proofs.«01_k».proof.Proof.Wgrad.Acc

@[expose] public section

set_option maxRecDepth 16384

noncomputable section

namespace Cert.Wgrad.Qkv

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- The operand and the incoming gradient. -/
abbrev a : FVec Ideal S8192x1024 .bf16 := m ((c.tc : Thread nD τ).loc main_arg0)
abbrev ct : FVec Ideal S8192x1536 .bf16 := m ((c.tc : Thread nD τ).loc main_arg1)

/-- The windows' block indices. -/
theorem idx : ∀ t : Fin cfg0.N, win0_0.index t = ![t.val % 4, 0] ∧ win0_1.index t = ![t.val % 4, 0] ∧ win0_2.index t = ![0, 0, 0] :=
  (by decide +kernel : ∀ t : Fin grid0.N, _)

/-- The rows come in four blocks of 2048. -/
theorem tiles : 4 * 2048 = 8192 := rfl

theorem blk_a (t : Fin cfg0.N) (r : Fin 2048) (i : Fin 1024) :
    (show FVec Ideal S2048x1024 .bf16 from iblk m c 0 t) (ix2 r i) = a m c (ix2 (row tiles (blockOf 4 t) r) i) := by
  rw [a, ← V_main_arg0 m c]; unfold row blockOf; blk_ext [iblk, idx t]
theorem blk_ct (t : Fin cfg0.N) (r : Fin 2048) (j : Fin 1536) :
    (show FVec Ideal S2048x1536 .bf16 from iblk m c 1 t) (ix2 r j) = ct m c (ix2 (row tiles (blockOf 4 t) r) j) := by
  rw [ct, ← V_main_arg1 m c]; unfold row blockOf; blk_ext [iblk, idx t]

/-- The accumulator takes up the block's part. -/
theorem step (s : Fin 4) {A : FVec Ideal S2048x1024 .bf16} {B : FVec Ideal S2048x1536 .bf16} (hA : ∀ r i, A (ix2 r i) = a m c (ix2 (row tiles s r) i))
    (hB : ∀ r j, B (ix2 r j) = ct m c (ix2 (row tiles s r) j)) (S : FVec Ideal S1024x1536 .f32) (i : Fin 1024) (j : Fin 1536) :
    k0_pay2 (F := Ideal) S A B (ix2 i j) = S (ix2 i j) + part tiles (a m c) (ct m c) i j s := by
  pointwise [k0_pay2, part, hA, hB]

/-- The zeros it starts from. -/
theorem zeros (i : Fin 1024) (j : Fin 1536) : k0_pay1 (F := Ideal) (ix2 i j) = 0 := by pointwise [k0_pay1]

/-- After the last block of rows the accumulator holds the gradient. -/
theorem whole (t : Fin cfg0.N) (h : t.val % 4 = 3) (i : Fin 1024) (j : Fin 1536) :
    (show FVec Ideal S1024x1536 .f32 from (outsAt0 m c t.val t.isLt).2) (ix2 i j) = grad (a m c) (ct m c) i j := by
  refine acc tiles (a m c) (ct m c) (fun x hx => (outsAt0 m c x hx).2) (fun _ => id) (fun _ => id)
    (fun _ _ _ => rfl) (fun _ _ _ => rfl) (fun t h0 i j => ?_) (fun t h0 i j => ?_) t h i j
  · rw [outsAt0_A m c t h0 (by omega)]
    dsimp only
    frame_out
    refine (step m c _ (blk_a m c t) (blk_ct m c t) _ i j).trans ?_
    rw [zeros]
    rfl
  · by_cases h1 : t.val % 4 = 3
    · rw [outsAt0_C m c t h0 h1]
      dsimp only
      frame_out
      simp only [read_unread_whole]
      exact step m c _ (blk_a m c t) (blk_ct m c t) _ i j
    · rw [outsAt0_B m c t h0 h1]
      dsimp only
      frame_out
      simp only [read_unread_whole]
      exact step m c _ (blk_a m c t) (blk_ct m c t) _ i j

/-- What the last point stores is what the accumulator then holds. -/
theorem stored (t : Fin cfg0.N) (h : t.val % 4 = 3) (i : Fin 1024) (j : Fin 1536) :
    (show FVec Ideal S1x1024x1536 .bf16 from (outsAt0 m c t.val t.isLt).1) (ix3 0 i j) = grad (a m c) (ct m c) i j := by
  refine Eq.trans ?_ (whole m c t h i j)
  rw [outsAt0_C m c t (by omega) h]
  dsimp only
  frame_out
  pointwise [k0_pay3]

/-- What the result array holds. -/
theorem array : (dats m 0 c).arrAt 2 cfg0.N = fun i : S1x1024x1536.Idx => grad (a m c) (ct m c) (i 1) (i 2) := by
  refine (dats m 0 c).arrAt_eq_of_covers 2 _ (by decide +kernel) fun t hf y => ?_
  obtain ⟨r, k, rfl⟩ : ∃ (r : Fin 1024) (k : Fin 1536), y = ix3 (0 : Fin 1) r k := ⟨y 1, y 2, ix3_one y⟩
  have e : (win0_2.blk t).view.emb (ix3 0 r k) = ix3 (0 : Fin 1) r k := by blk_ext [idx t]
  blk_simp
  rw [after0_2]
  simp only [e]
  exact stored m c t ((flush0_2 t).mp hf) r k

/-- The reference's gradient. -/
theorem ref (x0 : FVec Ideal S8192x1024 .bf16) (x1 : FVec Ideal S8192x1536 .bf16) (p : Fin 1) (i : Fin 1024) (j : Fin 1536) :
    Cert.Reference6Ideal.Read.val_main_v7 (F := Ideal) x0 x1 (ix3 p i j) = grad x0 x1 i j := by
  pointwise [Cert.Reference6Ideal.Read.val_main_v7, Cert.Reference6Ideal.Read.val_main_v6, Cert.Reference6Ideal.Read.val_main_v5,
    Cert.Reference6Ideal.Read.val_main_v4, Cert.Reference6Ideal.Read.val_main_v3, Cert.Reference6Ideal.Read.val_main_v1, grad]
  exact Finset.sum_congr rfl fun R _ => mul_comm _ _

/-- Kernel and reference end with the same array. -/
theorem algebraic : Cert.algebraic_Kernel6Ideal_Reference6Ideal := by
  pair_intro
  · run_from Cert.Kernel6Ideal.Gen.run_main m g
  · run_from Cert.Reference6Ideal.Value.run m' g'
    · refine Eq.trans ?_ (array m c).symm
      funext i
      exact (congrArg _ (ix3_eta i)).trans (ref _ _ (i 0) (i 1) (i 2))

end Cert.Wgrad.Qkv

end
-- ==== Proof.Wgrad.In.lean ====
/- The gradient of the convolution layer's first weight, laid out as eight groups of 384 columns: the grid runs over four pairs of groups and,
   inside, two blocks of the step's rows; a pair is gathered in the carried accumulator and its two groups stored after the second block. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ReadBack
public import Idealize.ShloMosaic.Lib.Claim
public import proofs.«01_k».proof.Proof.Wgrad.Acc

@[expose] public section

set_option maxRecDepth 16384

noncomputable section

namespace Cert.Wgrad.In

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

/-- The operand and the incoming gradient. -/
abbrev a : FVec Ideal S8192x1024 .bf16 := m ((c.tc : Thread nD τ).loc main_arg0)
abbrev ct : FVec Ideal S8192x3072 .bf16 := m ((c.tc : Thread nD τ).loc main_arg1)

/-- The windows' block indices. -/
theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

/-- Column `j` of the pair of groups grid point `t` handles. -/
def col (t : Fin cfg0.N) (j : Fin 768) : Fin 3072 := ⟨t.val / 2 * 768 + j.val, by have := lt_of_lt_of_eq t.isLt N_0; omega⟩

/-- The rows come in two blocks of 4096. -/
theorem tiles : 2 * 4096 = 8192 := rfl

theorem blk_a (t : Fin cfg0.N) (r : Fin 4096) (i : Fin 1024) :
    (show FVec Ideal S4096x1024 .bf16 from iblk m c 0 t) (ix2 r i) = a m c (ix2 (row tiles (blockOf 2 t) r) i) := by
  rw [a, ← V_main_arg0 m c]; unfold row blockOf; blk_ext [iblk, idx t]
theorem blk_ct (t : Fin cfg0.N) (r : Fin 4096) (j : Fin 768) :
    (show FVec Ideal S4096x768 .bf16 from iblk m c 1 t) (ix2 r j) = ct m c (ix2 (row tiles (blockOf 2 t) r) (col t j)) := by
  rw [ct, ← V_main_arg1 m c]; unfold row blockOf col; blk_ext [iblk, idx t]

/-- The accumulator takes up the block's part. -/
theorem step (t : Fin cfg0.N) {A : FVec Ideal S4096x1024 .bf16} {B : FVec Ideal S4096x768 .bf16}
    (hA : ∀ r i, A (ix2 r i) = a m c (ix2 (row tiles (blockOf 2 t) r) i))
    (hB : ∀ r j, B (ix2 r j) = ct m c (ix2 (row tiles (blockOf 2 t) r) (col t j))) (S : FVec Ideal S1024x768 .f32) (i : Fin 1024) (j : Fin 768) :
    k0_pay2 (F := Ideal) S A B (ix2 i j) = S (ix2 i j) + part tiles (a m c) (ct m c) i (col t j) (blockOf 2 t) := by
  pointwise [k0_pay2, part, hA, hB]

/-- The zeros it starts from. -/
theorem zeros (i : Fin 1024) (j : Fin 768) : k0_pay1 (F := Ideal) (ix2 i j) = 0 := by pointwise [k0_pay1]

/-- After the last block of rows the accumulator holds the pair's gradient. -/
theorem whole (t : Fin cfg0.N) (h : t.val % 2 = 1) (i : Fin 1024) (j : Fin 768) :
    (show FVec Ideal S1024x768 .f32 from (outsAt0 m c t.val t.isLt).2) (ix2 i j) = grad (a m c) (ct m c) i (col t j) := by
  refine acc tiles (a m c) (ct m c) (fun x hx => (outsAt0 m c x hx).2) (fun _ => id) col
    (fun _ _ _ => rfl) (fun t t' h => by funext i; exact Fin.ext (by simp only [col, h])) (fun t h0 i j => ?_) (fun t h0 i j => ?_) t h i j
  · rw [outsAt0_A m c t h0 (by omega)]
    dsimp only
    frame_out
    refine (step m c t (blk_a m c t) (blk_ct m c t) _ i j).trans ?_
    rw [zeros]
    rfl
  · rw [outsAt0_B m c t h0 (by omega)]
    dsimp only
    frame_out
    simp only [read_unread_whole]
    exact step m c t (blk_a m c t) (blk_ct m c t) _ i j

/-- The two groups, stored one after the other, hold the pair's columns. -/
theorem groups {P0 P1 : FVec Ideal S1x1024x384 .bf16} {G : Fin 2 → Fin 1024 → Fin 384 → EReal}
    (hP0 : ∀ i j, P0 (ix3 0 i j) = G 0 i j) (hP1 : ∀ i j, P1 (ix3 0 i j) = G 1 i j) (y : S2x1024x384.Idx) :
    View.canon (Val := Elt Ideal) (s := S2x1024x384) (e := .bf16)
      [⟨Rect.unit ![1, 0, 0] ![1, 1024, 384] inb_S2x1024x384_S1x1024x384_1_0_0, P1⟩,
       ⟨Rect.unit ![0, 0, 0] ![1, 1024, 384] inb_S2x1024x384_S1x1024x384_0_0_0, P0⟩] y = G (y 0) (y 1) (y 2) := by
  canon_tiles x h
  · rw [ix3_one x]
    exact (hP1 (x 1) (x 2)).trans (by
      congr 1 <;> apply Fin.ext
      · simp only [Fin.val_one]; omega
      · exact h1.symm
      · exact h2.symm)
  · rw [ix3_one x]
    exact (hP0 (x 1) (x 2)).trans (by
      congr 1 <;> apply Fin.ext
      · simp only [Fin.val_zero]; omega
      · exact h1.symm
      · exact h2.symm)

/-- What the last point of a pair stores is what the accumulator then holds. -/
theorem stored (t : Fin cfg0.N) (h : t.val % 2 = 1) (g : Fin 2) (i : Fin 1024) (j : Fin 384) :
    (show FVec Ideal S2x1024x384 .bf16 from (outsAt0 m c t.val t.isLt).1) (ix3 g i j)
      = grad (a m c) (ct m c) i (col t ⟨g.val * 384 + j.val, by omega⟩) := by
  have w := whole m c t h
  rw [outsAt0_B m c t (by omega) h] at w ⊢
  dsimp only at w ⊢
  revert w
  frame_out
  intro w
  simp only [View.readCov_eq_canon']
  refine groups (G := fun g i j => grad (a m c) (ct m c) i (col t ⟨g.val * 384 + j.val, by omega⟩)) (fun i j => ?_) (fun i j => ?_) (ix3 g i j)
  · pointwise [k0_pay3]
    rw [View.canon_cons_unit_lit _ _ _ (by decide)]
    exact w i _
  · pointwise [k0_pay4]
    rw [View.canon_cons_unit_lit _ _ _ (by decide)]
    exact w i _

/-- The result: the weight's gradient, group by group. -/
def result (p : Fin 8) (i : Fin 1024) (j : Fin 384) : EReal := grad (a m c) (ct m c) i ⟨p.val * 384 + j.val, by omega⟩

/-- What the result array holds. -/
theorem array : (dats m 0 c).arrAt 2 cfg0.N = fun i : S8x1024x384.Idx => result m c (i 0) (i 1) (i 2) := by
  refine (dats m 0 c).arrAt_eq_of_covers 2 _ (by decide +kernel) fun t hf y => ?_
  obtain ⟨g, r, k, rfl⟩ : ∃ (g : Fin 2) (r : Fin 1024) (k : Fin 384), y = ix3 g r k := ⟨y 0, y 1, y 2, ix3_eta y⟩
  have e : (win0_2.blk t).view.emb (ix3 g r k) = ix3 ⟨t.val / 2 * 2 + g.val, by have := lt_of_lt_of_eq t.isLt N_0; omega⟩ r k := by blk_ext [idx t]
  blk_simp
  rw [after0_2]
  simp only [e]
  refine (stored m c t ((flush0_2 t).mp hf) g r k).trans (congrArg (grad (a m c) (ct m c) r) (Fin.ext ?_))
  simp only [col, ix3_0, ix3_2]
  omega

/-- The reference's gradient. -/
theorem ref (x0 : FVec Ideal S8192x1024 .bf16) (x1 : FVec Ideal S8192x3072 .bf16) (p : Fin 8) (i : Fin 1024) (j : Fin 384) :
    Cert.Reference7Ideal.Read.val_main_v8 (F := Ideal) x0 x1 (ix3 p i j) = grad x0 x1 i ⟨p.val * 384 + j.val, by omega⟩ := by
  pointwise [Cert.Reference7Ideal.Read.val_main_v8, Cert.Reference7Ideal.Read.val_main_v7, Cert.Reference7Ideal.Read.val_main_v6,
    Cert.Reference7Ideal.Read.val_main_v5, Cert.Reference7Ideal.Read.val_main_v4, Cert.Reference7Ideal.Read.val_main_v3,
    Cert.Reference7Ideal.Read.val_main_v1, grad]
  exact Finset.sum_congr rfl fun R _ => mul_comm _ _

/-- Kernel and reference end with the same array. -/
theorem algebraic : Cert.algebraic_Kernel7Ideal_Reference7Ideal := by
  pair_intro
  · run_from Cert.Kernel7Ideal.Gen.run_main m g
  · run_from Cert.Reference7Ideal.Value.run m' g'
    · refine Eq.trans ?_ (array m c).symm
      funext i
      exact (congrArg _ (ix3_eta i)).trans (ref _ _ (i 0) (i 1) (i 2))

end Cert.Wgrad.In

end
-- ==== Proof.Adam.Spec.lean ====
/- One step of the optimiser on an array of rows: the gradient is the sum of the devices' shares, of which this device's own is at hand and
   the others were received; the moments and the step follow from it. Both sides of every optimiser call are brought to these functions. -/
module

public import Idealize.ShloMosaic.Lib.Pointwise
public import Idealize.ShloMosaic.Lib.Pointwise.Reduce

@[expose] public section

noncomputable section

namespace Cert.Adam

open Idealize.ShloMosaic Idealize.ShloMosaic.TcCoe Idealize.SL.Sem
open scoped BigOperators

/-- What a step is computed from. -/
@[ext] structure Step (R C : ℕ) where
  /-- the device's number -/
  me : BitVec 32
  /-- the shares received, one a device -/
  part : Fin 8 → Fin R → Fin C → EReal
  /-- the device's own share; where its block lies in an array with one block a device, this is that block -/
  own : Fin R → Fin C → EReal
  /-- the parameters -/
  w : Fin R → Fin C → EReal
  /-- the first moment -/
  μ : Fin R → Fin C → EReal
  /-- the second moment -/
  v : Fin R → Fin C → EReal

namespace Step

variable {R C : ℕ} (a : Step R C)

/-- The share of device `s`: this device's own if `s` is its number, else the one received. -/
def share (s : Fin 8) (r : Fin R) (j : Fin C) : EReal := if a.me = BitVec.ofNat 32 s.val then a.own r j else a.part s r j

/-- The gradient. -/
def g (r : Fin R) (j : Fin C) : EReal := ∑ s : Fin 8, a.share s r j

/-- The first moment after the step. -/
def newμ (r : Fin R) (j : Fin C) : EReal := Ideal.ofBits .f32 0x3F666666#32 * a.μ r j + Ideal.ofBits .f32 0x3DCCCCCD#32 * a.g r j

/-- The second moment after the step. -/
def newv (r : Fin R) (j : Fin C) : EReal :=
  Ideal.ofBits .f32 0x3F7FBE77#32 * a.v r j + Ideal.ofBits .f32 0x3A83126F#32 * (a.g r j * a.g r j)

/-- What is to be added to the parameters. -/
def delta (r : Fin R) (j : Fin C) : EReal :=
  Ideal.ofBits .f32 0xBA83126F#32 * (Ideal.div (Ideal.div (a.newμ r j) (Ideal.ofBits .f32 0x3F26BD02#32))
      (Ideal.sqrt (Ideal.div (a.newv r j) (Ideal.ofBits .f32 0x3C231ACC#32)) + Ideal.ofBits .f32 0x322BCC77#32)
    + Ideal.ofBits .f32 0x3C23D70A#32 * a.w r j)

end Step

/-- A choice on the equality of two words. -/
theorem choose (x y : BitVec 32) (p q : EReal) : Scalar.select (Scalar.cmpi .eq x y) p q = if x = y then p else q :=
  (Scalar.select_ofBool (x == y) p q).trans (by by_cases h : x = y <;> simp [h])

/-- A grid point's blocks hold the rows `ρ` of the arrays. -/
structure Reads {R C b : ℕ} (a : Step R C) (ρ : Fin b → Fin R) (p : Fin 8 → Fin b → Fin C → EReal) (own w μ v : Fin b → Fin C → EReal) :
    Prop where
  part : ∀ s r j, p s r j = a.part s (ρ r) j
  own : ∀ r j, own r j = a.own (ρ r) j
  w : ∀ r j, w r j = a.w (ρ r) j
  μ : ∀ r j, μ r j = a.μ (ρ r) j
  v : ∀ r j, v r j = a.v (ρ r) j

/-- The kernel adds the eight shares one after the other. -/
theorem sum_shares {R C : ℕ} (a : Step R C) (r : Fin R) (j : Fin C) :
    a.g r j = a.share 0 r j + a.share 1 r j + a.share 2 r j + a.share 3 r j + a.share 4 r j + a.share 5 r j + a.share 6 r j + a.share 7 r j := by
  unfold Step.g; exact Fin.sum_univ_eight _

end Cert.Adam

end
-- ==== Proof.Adam.Small.Payload.lean ====
/- The optimiser's call on the small parameters: what the block stores, entry by entry. -/
module

public import proofs.«01_k».proof.Proof.Gen.Kernel10Ideal.Skeleton
public import proofs.«01_k».proof.Proof.Adam.Spec

@[expose] public section

set_option maxRecDepth 16384

noncomputable section

namespace Cert.Adam.Small.Payload

open Idealize.ShloMosaic Idealize.ShloMosaic.TcCoe Idealize.SL.Sem
open Cert.Kernel10Ideal Cert.Kernel10Ideal.Gen

variable {a : Step 8 1024} {ρ : Fin 8 → Fin 8} {p : Fin 8 → FVec Ideal S1x8x1024 .f32} {own w μ v : FVec Ideal S8x1024 .f32}

/-- The first five shares, added. -/
abbrev five (me : BitVec 32) (own : FVec Ideal S8x1024 .f32) (p : Fin 8 → FVec Ideal S1x8x1024 .f32) : FVec Ideal S8x1024 .f32 :=
  k0_pay2 own me (p 0) me (p 1) me (p 2) me (p 3) me (p 4)

variable (H : Reads a ρ (fun s r j => p s (ix3 0 r j)) (fun r j => own (ix2 r j)) (fun r j => w (ix2 r j)) (fun r j => μ (ix2 r j))
  fun r j => v (ix2 r j))
include H

/-- The gradient. -/
theorem g (r : Fin 8) (j : Fin 1024) :
    k0_pay3 (F := Ideal) own (five a.me own p) a.me (p 5) a.me (p 6) a.me (p 7) (ix2 r j) = a.g (ρ r) j := by
  pointwise [k0_pay3, k0_pay2, H.part, H.own, choose, sum_shares, Step.share]

/-- The first moment. -/
theorem μ' (r : Fin 8) (j : Fin 1024) :
    k0_pay4 (F := Ideal) own (five a.me own p) a.me (p 5) a.me (p 6) a.me (p 7) μ (ix2 r j) = a.newμ (ρ r) j := by
  pointwise [k0_pay4, g H, H.μ, Step.newμ]

/-- The second moment. -/
theorem v' (r : Fin 8) (j : Fin 1024) :
    k0_pay5 (F := Ideal) own (five a.me own p) a.me (p 5) a.me (p 6) a.me (p 7) v (ix2 r j) = a.newv (ρ r) j := by
  pointwise [k0_pay5, g H, H.v, Step.newv]

/-- What is to be added. -/
theorem d (r : Fin 8) (j : Fin 1024) :
    k0_pay1 (F := Ideal) w (k0_pay4 own (five a.me own p) a.me (p 5) a.me (p 6) a.me (p 7) μ)
      (k0_pay5 own (five a.me own p) a.me (p 5) a.me (p 6) a.me (p 7) v) (Scalar.ofBits .f32 0x3F26BD02#32) (ix2 r j) = a.delta (ρ r) j := by
  pointwise [k0_pay1, μ' H, v' H, H.w, Step.delta]

end Cert.Adam.Small.Payload

end
-- ==== Proof.Adam.Load.lean ====
/- The shares of the devices as the optimiser's kernels load them: one slab of the block a device. -/
module

public import Idealize.ShloMosaic.Lib.Pipeline.ValueKit
public import Idealize.ShloMosaic.Lib.Pointwise

@[expose] public section

noncomputable section

namespace Cert.Adam

open Idealize.ShloMosaic Idealize.ShloMosaic.TcCoe Idealize.SL.Sem

variable {b C : ℕ} {e : EltTy}

/-- A device's slab lies within the block. -/
theorem inside (s : Fin 8) (d : Fin 3) : (![s.val, 0, 0] : Fin 3 → ℕ) d + (![1, b, C] : Fin 3 → ℕ) d ≤ (![8, b, C] : Fin 3 → ℕ) d :=
  match d with
  | ⟨0, _⟩ => s.isLt
  | ⟨1, _⟩ => (Nat.zero_add b).le
  | ⟨2, _⟩ => (Nat.zero_add C).le

/-- A device's slab. -/
abbrev slab (X : (⟨3, ![8, b, C]⟩ : Shape).Idx → Elt Ideal e) (s : Fin 8) : (⟨3, ![1, b, C]⟩ : Shape).Idx → Elt Ideal e :=
  View.ld (S := ⟨3, ![8, b, C]⟩) X (Rect.unit (s := ⟨3, ![8, b, C]⟩) ![s.val, 0, 0] ![1, b, C] (inside s))

/-- Its entries. -/
theorem slab_apply (X : (⟨3, ![8, b, C]⟩ : Shape).Idx → Elt Ideal e) (s : Fin 8) (r : Fin b) (j : Fin C) :
    slab X s (ix3 0 r j) = X (ix3 s r j) :=
  View.ld_unit_apply_of X _ _ _ _ _ fun d => match d with
    | ⟨0, _⟩ => rfl
    | ⟨1, _⟩ => (Nat.zero_add _).symm
    | ⟨2, _⟩ => (Nat.zero_add _).symm

end Cert.Adam

end
-- ==== Proof.Adam.Small.Block.lean ====
/- The optimiser's call on the small parameters: what the grid point reads and what it leaves in the four output blocks. -/
module

public import proofs.«01_k».proof.Proof.Gen.Kernel10Ideal.Frame
public import Idealize.ShloMosaic.Lib.Pipeline.ValueKit
public import proofs.«01_k».proof.Proof.Adam.Small.Payload
public import proofs.«01_k».proof.Proof.Adam.Load

@[expose] public section

set_option maxRecDepth 16384

noncomputable section

namespace Cert.Adam.Small.Block

open Idealize.ShloMosaic Idealize.ShloMosaic.TcCoe Idealize.SL.Sem
open Cert.Kernel10Ideal Cert.Kernel10Ideal.Gen

variable (m : (ℓ : Loc nD τ sig) → Buf (Elt Ideal) ℓ) (c : Dev nD) (hO : Ok m)

/-- The arrays the kernel is launched on. -/
def args : Step 8 1024 where
  me := (show IVec S1 32 from V m c main_arg0) (ix1 0)
  part s r j := (show FVec Ideal S8x8x1024 .f32 from V m c main_arg1) (ix3 s r j)
  own r j := (show FVec Ideal S8x1024 .f32 from V m c main_arg2) (ix2 r j)
  w r j := (show FVec Ideal S8x1024 .f32 from V m c main_arg3) (ix2 r j)
  μ r j := (show FVec Ideal S8x1024 .f32 from V m c main_arg4) (ix2 r j)
  v r j := (show FVec Ideal S8x1024 .f32 from V m c main_arg5) (ix2 r j)

/-- The windows' block indices. -/
theorem idx : ∀ t : Fin (cfgM m hO).N, ((cfgM m hO).win 0).index t = ![0, 0, 0] ∧ ((cfgM m hO).win 1).index t = ![0, 0]
    ∧ ((cfgM m hO).win 2).index t = ![0, 0] ∧ ((cfgM m hO).win 3).index t = ![0, 0] ∧ ((cfgM m hO).win 4).index t = ![0, 0]
    ∧ ((cfgM m hO).win 5).index t = ![0, 0] ∧ ((cfgM m hO).win 6).index t = ![0, 0] ∧ ((cfgM m hO).win 7).index t = ![0, 0]
    ∧ ((cfgM m hO).win 8).index t = ![0, 0] :=
  (by decide +kernel : ∀ t : Fin grid0.N, cc0_transform_0 (grid0.coords t) = ![0, 0, 0] ∧ cc0_transform_1 (grid0.coords t) = ![0, 0]
    ∧ cc0_transform_2 (grid0.coords t) = ![0, 0] ∧ cc0_transform_3 (grid0.coords t) = ![0, 0] ∧ cc0_transform_4 (grid0.coords t) = ![0, 0]
    ∧ cc0_transform_5 (grid0.coords t) = ![0, 0] ∧ cc0_transform_6 (grid0.coords t) = ![0, 0] ∧ cc0_transform_7 (grid0.coords t) = ![0, 0]
    ∧ cc0_transform_8 (grid0.coords t) = ![0, 0])

theorem blk_part (t : Fin (cfgM m hO).N) (s r : Fin 8) (j : Fin 1024) :
    (show FVec Ideal S8x8x1024 .f32 from iblk m hO c 0 t) (ix3 s r j) = (args m c).part s r j := by
  have e := idx m hO t
  dsimp only [cfgM] at e
  unfold args; blk_ext [iblk, e]
theorem blk_own (t : Fin (cfgM m hO).N) (r : Fin 8) (j : Fin 1024) :
    (show FVec Ideal S8x1024 .f32 from iblk m hO c 1 t) (ix2 r j) = (args m c).own r j := by
  have e := idx m hO t
  dsimp only [cfgM] at e
  unfold args; blk_ext [iblk, e]
theorem blk_w (t : Fin (cfgM m hO).N) (r : Fin 8) (j : Fin 1024) :
    (show FVec Ideal S8x1024 .f32 from iblk m hO c 2 t) (ix2 r j) = (args m c).w r j := by
  have e := idx m hO t
  dsimp only [cfgM] at e
  unfold args; blk_ext [iblk, e]
theorem blk_μ (t : Fin (cfgM m hO).N) (r : Fin 8) (j : Fin 1024) :
    (show FVec Ideal S8x1024 .f32 from iblk m hO c 3 t) (ix2 r j) = (args m c).μ r j := by
  have e := idx m hO t
  dsimp only [cfgM] at e
  unfold args; blk_ext [iblk, e]
theorem blk_v (t : Fin (cfgM m hO).N) (r : Fin 8) (j : Fin 1024) :
    (show FVec Ideal S8x1024 .f32 from iblk m hO c 4 t) (ix2 r j) = (args m c).v r j := by
  have e := idx m hO t
  dsimp only [cfgM] at e
  unfold args; blk_ext [iblk, e]

/-- The blocks of the grid point. -/
theorem reads (t : Fin (cfgM m hO).N) : Reads (args m c) id
    (fun s r j => slab (b := 8) (C := 1024) (e := .f32) (iblk m hO c 0 t) s (ix3 0 r j))
    (fun r j => (show FVec Ideal S8x1024 .f32 from iblk m hO c 1 t) (ix2 r j)) (fun r j => (show FVec Ideal S8x1024 .f32 from iblk m hO c 2 t) (ix2 r j))
    (fun r j => (show FVec Ideal S8x1024 .f32 from iblk m hO c 3 t) (ix2 r j)) fun r j => (show FVec Ideal S8x1024 .f32 from iblk m hO c 4 t) (ix2 r j) where
  part s r j := (slab_apply _ s r j).trans (blk_part m c hO t s r j)
  own := blk_own m c hO t
  w := blk_w m c hO t
  μ := blk_μ m c hO t
  v := blk_v m c hO t

/-- The word the kernel reads is the device's number. -/
theorem word (h) : View.readAt (Elt Ideal) (View.whole main_arg0) (Rect.unit ![0] ![1] inb_S1_S1_0).toLoadRect (tbl m 0) (Shape.Idx.first h)
    = (args m c).me := by
  obtain rfl : c = 0 := Subsingleton.elim _ _
  exact congrArg (tbl m 0) (funext fun a => match a with | ⟨0, _⟩ => Subsingleton.elim (α := Fin 1) _ _)

/-- The gradient's block. -/
theorem out_g (t : Fin (cfgM m hO).N) (r : Fin 8) (j : Fin 1024) :
    (show FVec Ideal S8x1024 .f32 from (outsAt0 m hO c t).1) (ix2 r j) = (args m c).g r j := by
  have key := Payload.g (reads m c hO t) r j
  have e0 := (hs0_0 m hO t).read_unread (Val := Elt Ideal) (iblk m hO c 0 t)
  have e1 := (hs0_1 m hO t).read_unread (Val := Elt Ideal) (iblk m hO c 1 t)
  unfold outsAt0; dsimp only; frame_out
  rw [e0, e1, word m c]
  exact key

/-- The block of what is to be added. -/
theorem out_delta (t : Fin (cfgM m hO).N) (r : Fin 8) (j : Fin 1024) :
    (show FVec Ideal S8x1024 .f32 from (outsAt0 m hO c t).2.1) (ix2 r j) = (args m c).delta r j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  unfold outsAt0; dsimp only; frame_out
  rw [e0, e1, e2, e3, e4, word m c]
  exact key

/-- The first moment's block. -/
theorem out_μ (t : Fin (cfgM m hO).N) (r : Fin 8) (j : Fin 1024) :
    (show FVec Ideal S8x1024 .f32 from (outsAt0 m hO c t).2.2.1) (ix2 r j) = (args m c).newμ r j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e3 := (hs0_3 m hO t).read_unread (Val := Elt Ideal) (iblk m hO c 3 t)
  unfold outsAt0; dsimp only; frame_out
  rw [e0, e1, e3, word m c]
  exact key

/-- The second moment's block. -/
theorem out_v (t : Fin (cfgM m hO).N) (r : Fin 8) (j : Fin 1024) :
    (show FVec Ideal S8x1024 .f32 from (outsAt0 m hO c t).2.2.2) (ix2 r j) = (args m c).newv r j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e4 := (hs0_4 m hO t).read_unread (Val := Elt Ideal) (iblk m hO c 4 t)
  unfold outsAt0; dsimp only; frame_out
  rw [e0, e1, e4, word m c]
  exact key

end Cert.Adam.Small.Block

end
-- ==== Proof.Adam.Small.Arrays.lean ====
/- The optimiser's call on the small parameters: what the kernel's four result arrays hold, and that they are what a run ends with. -/
module

public import proofs.«01_k».proof.Proof.Adam.Small.Block
public import Idealize.ShloMosaic.Lib.Pipeline.Value
public import Idealize.ShloMosaic.Lib.Pipeline.Covers

@[expose] public section

set_option maxRecDepth 16384

noncomputable section

namespace Cert.Adam.Small.Arrays

open Idealize.ShloMosaic Idealize.ShloMosaic.TcCoe Idealize.SL.Sem
open Cert.Kernel10Ideal Cert.Kernel10Ideal.Gen Cert.Adam.Small.Block

variable (m : (ℓ : Loc nD τ sig) → Buf (Elt Ideal) ℓ) (c : Dev nD) (hO : Ok m)

/-- An output block is not empty. -/
theorem full : ∀ a : Fin 2, 0 < S8x1024.size a := by decide

/-- Every block of an output array is written. -/
theorem every : ∀ β : (a : Fin 2) → Fin ((S8x1024.size a + S8x1024.size a - 1) / S8x1024.size a), ∃ t : Fin grid0.N,
    ∀ a, cc0_transform_5 (grid0.coords t) a = β a := by decide +kernel

/-- The gradient. -/
theorem g : (dats m hO 0 c).arrAt 5 (cfgM m hO).N = fun i : S8x1024.Idx => (args m c).g (i 0) (i 1) := by
  refine (dats m hO 0 c).arrAt_eq_of_covers 5 _ (((cfgM m hO).win 5).covers_of_index_surj rfl full every) fun t hf (y : S8x1024.Idx) => ?_
  obtain ⟨r, k, rfl⟩ : ∃ (r : Fin 8) (k : Fin 1024), y = ix2 r k := ⟨y 0, y 1, by funext a; match a with | ⟨0, _⟩ => rfl | ⟨1, _⟩ => rfl⟩
  have i := idx m hO t
  dsimp only [cfgM] at i
  have e : (((cfgM m hO).win 5).blk t).view.emb (ix2 r k) = ix2 r k := by blk_ext [i]
  blk_simp
  rw [after0_5]
  simp only [e]
  exact out_g m c hO t r k

/-- What is to be added. -/
theorem delta : (dats m hO 0 c).arrAt 6 (cfgM m hO).N = fun i : S8x1024.Idx => (args m c).delta (i 0) (i 1) := by
  refine (dats m hO 0 c).arrAt_eq_of_covers 6 _ (((cfgM m hO).win 6).covers_of_index_surj rfl full every) fun t hf (y : S8x1024.Idx) => ?_
  obtain ⟨r, k, rfl⟩ : ∃ (r : Fin 8) (k : Fin 1024), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 r k := by blk_ext [i]
  blk_simp
  rw [after0_6]
  simp only [e]
  exact out_delta m c hO t r k

/-- The first moment. -/
theorem μ : (dats m hO 0 c).arrAt 7 (cfgM m hO).N = fun i : S8x1024.Idx => (args m c).newμ (i 0) (i 1) := by
  refine (dats m hO 0 c).arrAt_eq_of_covers 7 _ (((cfgM m hO).win 7).covers_of_index_surj rfl full every) fun t hf (y : S8x1024.Idx) => ?_
  obtain ⟨r, k, rfl⟩ : ∃ (r : Fin 8) (k : Fin 1024), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 r k := by blk_ext [i]
  blk_simp
  rw [after0_7]
  simp only [e]
  exact out_μ m c hO t r k

/-- The second moment. -/
theorem v : (dats m hO 0 c).arrAt 8 (cfgM m hO).N = fun i : S8x1024.Idx => (args m c).newv (i 0) (i 1) := by
  refine (dats m hO 0 c).arrAt_eq_of_covers 8 _ (((cfgM m hO).win 8).covers_of_index_surj rfl full every) fun t hf (y : S8x1024.Idx) => ?_
  obtain ⟨r, k, rfl⟩ : ∃ (r : Fin 8) (k : Fin 1024), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 r k := by blk_ext [i]
  blk_simp
  rw [after0_8]
  simp only [e]
  exact out_v m c hO t r k

end Cert.Adam.Small.Arrays

end
-- ==== Proof.Adam.Small.Ref.lean ====
/- The optimiser's call on the small parameters: what the reference computes, entry by entry. -/
module

public import proofs.«01_k».proof.Proof.Gen.Reference10Ideal.Read
public import Idealize.ShloMosaic.Lib.Pipeline.ValueKit
public import Idealize.ShloMosaic.Lib.Pointwise.Reduce
public import proofs.«01_k».proof.Proof.Adam.Spec

@[expose] public section

set_option maxRecDepth 16384

noncomputable section

namespace Cert.Adam.Small.Ref

open Idealize.ShloMosaic Idealize.ShloMosaic.TcCoe Idealize.SL.Sem
open Cert.Reference10Ideal Cert.Reference10Ideal.Gen Cert.Reference10Ideal.Read

variable (x0 : IVec S1 32) (x1 : FVec Ideal S8x8x1024 .f32) (x2 x3 x4 x5 : FVec Ideal S8x1024 .f32)

/-- The arrays of the step, as the reference has them. -/
def args : Step 8 1024 := ⟨x0 (ix1 0), fun s r j => x1 (ix3 s r j), fun r j => x2 (ix2 r j), fun r j => x3 (ix2 r j), fun r j => x4 (ix2 r j),
  fun r j => x5 (ix2 r j)⟩

/-- A device's share. -/
theorem share (s r : Fin 8) (j : Fin 1024) : val_main_v5 (F := Ideal) x0 x1 x2 (ix3 s r j) = (args x0 x1 x2 x3 x4 x5).share s r j := by
  pointwise [val_main_v5, val_main_call0_v0, val_main_call0_v1, val_main_v4, val_main_v3, val_main_v2, val_main_v1, val_main_v0, args, Step.share]
  exact (choose _ _ _ _).trans (if_congr eq_comm rfl rfl)

/-- The gradient. -/
theorem g (r : Fin 8) (j : Fin 1024) : val_main_v6 (F := Ideal) x0 x1 x2 (ix2 r j) = (args x0 x1 x2 x3 x4 x5).g r j := by
  pointwise [val_main_v6, val_main_cst, share x0 x1 x2 x3 x4 x5, Step.g]

/-- The first moment. -/
theorem μ (r : Fin 8) (j : Fin 1024) : val_main_v11 (F := Ideal) x0 x1 x2 x4 (ix2 r j) = (args x0 x1 x2 x3 x4 x5).newμ r j := by
  pointwise [val_main_v11, val_main_v10, val_main_v9, val_main_v8, val_main_v7, val_main_cst_0, val_main_cst_1, g x0 x1 x2 x3 x4 x5, Step.newμ]
  rfl

/-- The second moment. -/
theorem v (r : Fin 8) (j : Fin 1024) : val_main_v17 (F := Ideal) x0 x1 x2 x5 (ix2 r j) = (args x0 x1 x2 x3 x4 x5).newv r j := by
  pointwise [val_main_v17, val_main_v16, val_main_v15, val_main_v14, val_main_v13, val_main_v12, val_main_cst_2, val_main_cst_3,
    g x0 x1 x2 x3 x4 x5, Step.newv]
  rfl

/-- What is to be added. -/
theorem delta (r : Fin 8) (j : Fin 1024) : val_main_v30 (F := Ideal) x0 x1 x2 x3 x4 x5 (ix2 r j) = (args x0 x1 x2 x3 x4 x5).delta r j := by
  pointwise [val_main_v30, val_main_v29, val_main_v28, val_main_v27, val_main_v26, val_main_v25, val_main_v24, val_main_v23, val_main_v22,
    val_main_v21, val_main_v20, val_main_v19, val_main_v18, val_main_cst_4, val_main_cst_5, val_main_cst_6, val_main_cst_7, val_main_cst_8,
    μ x0 x1 x2 x3 x4 x5, v x0 x1 x2 x3 x4 x5, Step.delta]
  rfl

end Cert.Adam.Small.Ref

end
-- ==== Proof.Adam.Small.Claim.lean ====
/- The optimiser's call on the small parameters: kernel and reference compute the same gradient, moments and step. -/
module

public import proofs.«01_k».proof.Defs
public import proofs.«01_k».proof.Proof.Adam.Small.Arrays
public import proofs.«01_k».proof.Proof.Adam.Small.Ref
public import Idealize.ShloMosaic.Lib.Claim

@[expose] public section

set_option maxRecDepth 16384

noncomputable section

namespace Cert.Adam.Small

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

/-- No block index depends on the device's number, so every number is admitted. -/
theorem ok : Ok m := trivial

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

/-- The gradient. -/
theorem g : Cert.Reference10Ideal.Read.val_main_v6 (F := Ideal) (m ((c.tc : Thread nD τ).loc main_arg0)) (m ((c.tc : Thread nD τ).loc main_arg1))
    (m ((c.tc : Thread nD τ).loc main_arg2)) = (dats m (ok m) 0 c).arrAt 5 (cfgM m (ok m)).N := by
  rw [Arrays.g, args_eq]
  funext i
  exact (congrArg _ (eq_ix2 i)).trans (Ref.g _ _ _ _ _ _ (i 0) (i 1))

/-- What is to be added. -/
theorem delta : Cert.Reference10Ideal.Read.val_main_v30 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = (dats m (ok m) 0 c).arrAt 6 (cfgM m (ok m)).N := by
  rw [Arrays.delta, args_eq]
  funext i
  exact (congrArg _ (eq_ix2 i)).trans (Ref.delta _ _ _ _ _ _ (i 0) (i 1))

/-- The first moment. -/
theorem μ : Cert.Reference10Ideal.Read.val_main_v11 (F := Ideal) (m ((c.tc : Thread nD τ).loc main_arg0)) (m ((c.tc : Thread nD τ).loc main_arg1))
    (m ((c.tc : Thread nD τ).loc main_arg2)) (m ((c.tc : Thread nD τ).loc main_arg4)) = (dats m (ok m) 0 c).arrAt 7 (cfgM m (ok m)).N := by
  rw [Arrays.μ, args_eq]
  funext i
  exact (congrArg _ (eq_ix2 i)).trans (Ref.μ _ _ _ _ _ _ (i 0) (i 1))

/-- The second moment. -/
theorem v : Cert.Reference10Ideal.Read.val_main_v17 (F := Ideal) (m ((c.tc : Thread nD τ).loc main_arg0)) (m ((c.tc : Thread nD τ).loc main_arg1))
    (m ((c.tc : Thread nD τ).loc main_arg2)) (m ((c.tc : Thread nD τ).loc main_arg5)) = (dats m (ok m) 0 c).arrAt 8 (cfgM m (ok m)).N := by
  rw [Arrays.v, args_eq]
  funext i
  exact (congrArg _ (eq_ix2 i)).trans (Ref.v _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m (ok m) 0 c).arrAt 5 (cfgM m (ok m)).N
    ∧ r.2.mem ((c.tc : Thread nD τ).loc main_v0_1) = (dats m (ok m) 0 c).arrAt 6 (cfgM m (ok m)).N
    ∧ r.2.mem ((c.tc : Thread nD τ).loc main_v0_2) = (dats m (ok m) 0 c).arrAt 7 (cfgM m (ok m)).N
    ∧ r.2.mem ((c.tc : Thread nD τ).loc main_v0_3) = (dats m (ok m) 0 c).arrAt 8 (cfgM m (ok m)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  θ_run_mono (run_main m ρ (ok m)) fun _ h c =>
    have staged (w : Fin 9) (hw : _) := ((h c).1 w).trans (((dats m (ok m) 0 c).arrAt_in w hw _).trans (A_eq m (ok m) c w))
    ⟨(h c).1 5, (h c).1 6, (h c).1 7, (h c).1 8,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c)⟩

set_option maxHeartbeats 3200000 in
/-- Kernel and reference end with the same arrays. -/
theorem algebraic : Cert.algebraic_Kernel10Ideal_Reference10Ideal := by
  intro m ρ m' ρ' _ hagree
  refine ⟨_, _, _, _, ends m ρ, θ_run_mono (Cert.Reference10Ideal.Value.run m' ρ') fun r hr c => ?_⟩
  obtain ⟨r0, r1, r2, r3, kept⟩ := hr c
  obtain ⟨e0, e1, e2, e3, e4, e5⟩ := hagree c
  rw [Cert.Reference10Ideal.Read.val_main_v6_eq, e0, e1, e2] at r0
  rw [Cert.Reference10Ideal.Read.val_main_v30_eq, e0, e1, e2, e3, e4, e5] at r1
  rw [Cert.Reference10Ideal.Read.val_main_v11_eq, e0, e1, e2, e4] at r2
  rw [Cert.Reference10Ideal.Read.val_main_v17_eq, e0, e1, e2, e5] at r3
  exact ⟨r0.trans (g m c), r1.trans (delta m c), r2.trans (μ m c), r3.trans (v m c), kept⟩

end Cert.Adam.Small

end
-- ==== Proof.Adam.Out.Payload.lean ====
/- The optimiser's call on the output weights: what a block stores, entry by entry. -/
module

public import proofs.«01_k».proof.Proof.Gen.Kernel11Ideal.Skeleton
public import proofs.«01_k».proof.Proof.Adam.Spec

@[expose] public section

set_option maxRecDepth 16384

noncomputable section

namespace Cert.Adam.Out.Payload

open Idealize.ShloMosaic Idealize.ShloMosaic.TcCoe Idealize.SL.Sem
open Cert.Kernel11Ideal Cert.Kernel11Ideal.Gen

variable {a : Step 128 1024} {ρ : Fin 64 → Fin 128} {p : Fin 8 → FVec Ideal S1x64x1024 .bf16} {own : FVec Ideal S1x64x1024 .bf16}
  {w μ v : FVec Ideal S64x1024 .f32}

/-- The shares, added: the first four, then the others. -/
abbrev grad (me : BitVec 32) (own : FVec Ideal S1x64x1024 .bf16) (p : Fin 8 → FVec Ideal S1x64x1024 .bf16) : FVec Ideal S64x1024 .f32 :=
  k0_pay6 (k0_pay4 own) (k0_pay5 own me (p 0) me (p 1) me (p 2) me (p 3)) (Scalar.cmpi .eq me 4#32) (p 4) me (p 5) me (p 6) me (p 7)

variable (H : Reads a ρ (fun s r j => p s (ix3 0 r j)) (fun r j => own (ix3 0 r j)) (fun r j => w (ix2 r j)) (fun r j => μ (ix2 r j))
  fun r j => v (ix2 r j))
include H

/-- The gradient. -/
theorem g (r : Fin 64) (j : Fin 1024) : grad a.me own p (ix2 r j) = a.g (ρ r) j := by
  pointwise [k0_pay6, k0_pay5, k0_pay4, H.part, H.own, choose, sum_shares, Step.share]

/-- The first moment. -/
theorem μ' (r : Fin 64) (j : Fin 1024) :
    k0_pay1 (F := Ideal) (grad a.me own p) (k0_pay7 μ) k0_pay8 (ix2 r j) = a.newμ (ρ r) j := by
  pointwise [k0_pay1, k0_pay7, k0_pay8, g H, H.μ, Step.newμ]

/-- The second moment. -/
theorem v' (r : Fin 64) (j : Fin 1024) : k0_pay2 (F := Ideal) (grad a.me own p) v (ix2 r j) = a.newv (ρ r) j := by
  pointwise [k0_pay2, g H, H.v, Step.newv]

/-- What is to be added. -/
theorem d (r : Fin 64) (j : Fin 1024) :
    k0_pay3 (F := Ideal) (grad a.me own p) w v (k0_pay7 μ) k0_pay8 (ix2 r j) = a.delta (ρ r) j := by
  pointwise [k0_pay3, μ' H, v' H, H.w, Step.delta]

end Cert.Adam.Out.Payload

end
-- ==== Proof.Adam.Own.lean ====
/- The device's own share where it lies in an array with one block a device: the kernel fetches the block with the device's number. -/
module

public import proofs.«01_k».proof.Proof.Adam.Spec
public import Idealize.ShloMosaic.Lib.Affine

@[expose] public section

noncomputable section

namespace Cert.Adam

open Idealize.ShloMosaic Idealize.ShloMosaic.TcCoe Idealize.SL.Sem

variable {R C : ℕ} (X : Fin 8 → Fin R → Fin C → EReal) (n : BitVec 32)

/-- Block `n` of the array, and zeros if there is none. -/
def block (r : Fin R) (j : Fin C) : EReal := if h : n.toNat < 8 then X ⟨n.toNat, h⟩ r j else 0

theorem block_of (h : n.toNat < 8) (r : Fin R) (j : Fin C) : block X n r j = X ⟨n.toNat, h⟩ r j := dif_pos h

theorem block_ofNat (s : Fin 8) (e : n = BitVec.ofNat 32 s.val) (r : Fin R) (j : Fin C) : block X n r j = X s r j := by
  have v : n.toNat = s.val := by rw [e, BitVec.toNat_ofNat]; omega
  rw [block_of X n (v ▸ s.isLt)]
  exact congrArg (fun s' => X s' r j) (Fin.ext v)

/-- A word that is at least 0 and below 8, as signed numbers, is the number of a device. -/
theorem below {x : BitVec 32} (h : IntOp.andi (IntOp.cmpi .sge x 0#32) (IntOp.cmpi .slt x 8#32) = 1#1) : x.toNat < 8 := by
  have h' : 0 ≤ x.toInt ∧ x.toInt < 8 := by
    simp only [IntOp.andi, IntOp.cmpi] at h
    cases hp : (0#32).sle x <;> cases hq : x.slt 8#32 <;> rw [hp, hq] at h <;> first | exact absurd h (by decide) | skip
    exact ⟨by simpa [BitVec.sle] using hp, by simpa [BitVec.slt] using hq⟩
  have := BitVec.toInt_eq_toNat_cond x
  omega

/-- The remainder of a word on division by a positive one, as an index map computes it. -/
def modulo (x n : BitVec 32) : BitVec 32 :=
  let d := Scalar.select (Scalar.cmpi .eq n 0#32) 1#32 n
  Scalar.select (Scalar.andi (Scalar.xori (Scalar.cmpi .slt (Scalar.remsi x d) 0#32) (Scalar.cmpi .slt d 0#32)) (Scalar.cmpi .ne (Scalar.remsi x d) 0#32))
    (Scalar.addi (Scalar.remsi x d) d) (Scalar.remsi x d)

/-- On the numbers of the grid points it is the remainder. -/
theorem modulo_eq : ∀ n ∈ [2, 4], ∀ k : Fin 8, (modulo (BitVec.ofNat 32 k) (BitVec.ofNat 32 n)).toNat = k.val % n := by decide +kernel

/-- A device's block lies within the array, and its transfer moves whole words. -/
theorem fits {e : EltTy} {b : ℕ} {x : Fin 3 → ℕ} {i : ℕ} (hx : x = ![n.toNat, i, 0]) (hn : n.toNat < 8) (hi : (i + 1) * b ≤ R)
    (hb : EltTy.packing e ∣ b) :
    ∃ h : ∀ a, (x a + 1) * (![1, b, C] : Fin 3 → ℕ) a ≤ (![8, R, C] : Fin 3 → ℕ) a, EltTy.bits e = 32
      ∨ (Rect.block (s := ⟨3, ![8, R, C]⟩) ![1, b, C] x h).WholeWords (EltTy.packing e) := by
  subst hx
  exact ⟨fun a => match a with
    | ⟨0, _⟩ => by simpa using hn
    | ⟨1, _⟩ => hi
    | ⟨2, _⟩ => (by simp), .inr (Affine.block_words_dvd (of_decide_eq_true rfl) hb)⟩

end Cert.Adam

end
-- ==== Proof.Adam.Out.Own.lean ====
/- The optimiser's call on the output weights: which block of the own shares a grid point fetches. Said for any numbers, as both runs need it. -/
module

public import proofs.«01_k».proof.Proof.Gen.Kernel11Ideal.Frame
public import proofs.«01_k».proof.Proof.Adam.Own

@[expose] public section

set_option maxRecDepth 16384

noncomputable section

namespace Cert.Adam.Out.Own

open Idealize.ShloMosaic Idealize.ShloMosaic.TcCoe Idealize.SL.Sem
open Cert.Kernel11Ideal Cert.Kernel11Ideal.Gen

variable {F : FTy → Type} [FloatOps F] (m : (ℓ : Loc nD τ sig) → Buf (Elt F) ℓ)

/-- The device's number. -/
def me : BitVec 32 := (show IVec S1 32 from V m 0 main_arg0) (ix1 0)

/-- The word that the index map reads. -/
theorem word : (tbl m).at 0 (Rect.unit (s := S1) ![0] S1.size inb_S1_S1_0) numel1_S1 = me m :=
  congrArg (tbl m 0) (funext fun a => match a with | ⟨0, _⟩ => Subsingleton.elim (α := Fin 1) _ _)

/-- The index of the block. -/
theorem at_point (i : grid0.Coords) : cc0_transform_1 inb_S1_S1_0 numel1_S1 (tbl m) i = ![(me m).toNat, (i 0).val, 0] := by
  rw [← word m]
  have k : (i 0).val < 2 := (i 0).isLt
  funext a
  match a with
  | ⟨0, _⟩ => rfl
  | ⟨1, _⟩ => exact (modulo_eq 2 (by decide) ⟨(i 0).val, by omega⟩).trans (Nat.mod_eq_of_lt k)
  | ⟨2, _⟩ => rfl

/-- It lies within the array. -/
theorem ok (h : (me m).toNat < 8) : Ok m := fun i =>
  fits _ (at_point m i) h (by have : (i 0).val < 2 := (i 0).isLt; omega) (by decide)

/-- The device's number is below 8 if every block lies within the array. -/
theorem number (hO : Ok m) : (me m).toNat < 8 := by
  obtain ⟨h, _⟩ := hO (grid0.coords t0_0)
  have h0 := h 0
  rw [at_point m] at h0
  exact (Nat.mul_one _).symm.trans_le h0

end Cert.Adam.Out.Own

end
-- ==== Proof.Adam.Out.Block.lean ====
/- The optimiser's call on the output weights: what each grid point reads and what it leaves in the four output blocks. -/
module

public import proofs.«01_k».proof.Proof.Gen.Kernel11Ideal.Frame
public import Idealize.ShloMosaic.Lib.Pipeline.ValueKit
public import proofs.«01_k».proof.Proof.Adam.Out.Payload
public import proofs.«01_k».proof.Proof.Adam.Load
public import proofs.«01_k».proof.Proof.Adam.Out.Own

@[expose] public section

set_option maxRecDepth 16384

noncomputable section

namespace Cert.Adam.Out.Block

open Idealize.ShloMosaic Idealize.ShloMosaic.TcCoe Idealize.SL.Sem
open Cert.Kernel11Ideal Cert.Kernel11Ideal.Gen

variable (m : (ℓ : Loc nD τ sig) → Buf (Elt Ideal) ℓ) (c : Dev nD) (hO : Ok m)

/-- The arrays the kernel is launched on. -/
def args : Step 128 1024 where
  me := Own.me m
  part s r j := (show FVec Ideal S8x128x1024 .bf16 from V m c main_arg1) (ix3 s r j)
  own := block (fun s r j => (show FVec Ideal S8x128x1024 .bf16 from V m c main_arg2) (ix3 s r j)) (Own.me m)
  w r j := (show FVec Ideal S128x1024 .f32 from V m c main_arg3) (ix2 r j)
  μ r j := (show FVec Ideal S128x1024 .f32 from V m c main_arg4) (ix2 r j)
  v r j := (show FVec Ideal S128x1024 .f32 from V m c main_arg5) (ix2 r j)

/-- The rows of a grid point's blocks. -/
def rows (t : Fin grid0.N) (r : Fin 64) : Fin 128 := ⟨64 * t.val + r, by have := lt_of_lt_of_eq t.isLt N_0; omega⟩

/-- The word the kernel reads is the device's number. -/
theorem word (h) : View.readAt (Elt Ideal) (View.whole main_arg0) (Rect.unit ![0] ![1] inb_S1_S1_0).toLoadRect (tbl m 0) (Shape.Idx.first h)
    = (args m c).me :=
  congrArg (tbl m 0) (funext fun a => match a with | ⟨0, _⟩ => Subsingleton.elim (α := Fin 1) _ _)

/-- The windows' block indices. -/
theorem idx : ∀ t : Fin (cfgM m hO).N, ((cfgM m hO).win 0).index t = ![0, t.val, 0]
    ∧ ((cfgM m hO).win 2).index t = ![t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] :=
  (by decide +kernel : ∀ t : Fin grid0.N, cc0_transform_0 (grid0.coords t) = ![0, t.val, 0]
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0] ∧ cc0_transform_7 (grid0.coords t) = ![t.val, 0]
    ∧ cc0_transform_8 (grid0.coords t) = ![t.val, 0])

theorem idx_own (t : Fin (cfgM m hO).N) : ((cfgM m hO).win 1).index t = ![(Own.me m).toNat, t.val, 0] :=
  (Own.at_point m (grid0.coords t)).trans (by rw [(by decide +kernel : ∀ t : Fin grid0.N, (grid0.coords t 0).val = t.val) t])

theorem blk_part (t : Fin (cfgM m hO).N) (s : Fin 8) (r : Fin 64) (j : Fin 1024) :
    (show FVec Ideal S8x64x1024 .bf16 from iblk m hO c 0 t) (ix3 s r j) = (args m c).part s (rows t r) j := by
  have e := idx m hO t
  dsimp only [cfgM] at e
  unfold args rows; blk_ext [iblk, e]
theorem blk_own (t : Fin (cfgM m hO).N) (r : Fin 64) (j : Fin 1024) :
    (show FVec Ideal S1x64x1024 .bf16 from iblk m hO c 1 t) (ix3 0 r j) = (args m c).own (rows t r) j := by
  have e := idx_own m hO t
  dsimp only [cfgM] at e
  unfold args; dsimp only
  rw [block_of _ _ (Own.number m hO)]
  unfold rows; blk_ext [iblk, e]
theorem blk_w (t : Fin (cfgM m hO).N) (r : Fin 64) (j : Fin 1024) :
    (show FVec Ideal S64x1024 .f32 from iblk m hO c 2 t) (ix2 r j) = (args m c).w (rows t r) j := by
  have e := idx m hO t
  dsimp only [cfgM] at e
  unfold args rows; blk_ext [iblk, e]
theorem blk_μ (t : Fin (cfgM m hO).N) (r : Fin 64) (j : Fin 1024) :
    (show FVec Ideal S64x1024 .f32 from iblk m hO c 3 t) (ix2 r j) = (args m c).μ (rows t r) j := by
  have e := idx m hO t
  dsimp only [cfgM] at e
  unfold args rows; blk_ext [iblk, e]
theorem blk_v (t : Fin (cfgM m hO).N) (r : Fin 64) (j : Fin 1024) :
    (show FVec Ideal S64x1024 .f32 from iblk m hO c 4 t) (ix2 r j) = (args m c).v (rows t r) j := by
  have e := idx m hO t
  dsimp only [cfgM] at e
  unfold args rows; blk_ext [iblk, e]

/-- The blocks of a grid point. -/
theorem reads (t : Fin (cfgM m hO).N) : Reads (args m c) (rows t)
    (fun s r j => slab (b := 64) (C := 1024) (e := .bf16) (iblk m hO c 0 t) s (ix3 0 r j))
    (fun r j => (show FVec Ideal S1x64x1024 .bf16 from iblk m hO c 1 t) (ix3 0 r j)) (fun r j => (show FVec Ideal S64x1024 .f32 from iblk m hO c 2 t) (ix2 r j))
    (fun r j => (show FVec Ideal S64x1024 .f32 from iblk m hO c 3 t) (ix2 r j)) fun r j => (show FVec Ideal S64x1024 .f32 from iblk m hO c 4 t) (ix2 r j) where
  part s r j := (slab_apply _ s r j).trans (blk_part m c hO t s r j)
  own := blk_own m c hO t
  w := blk_w m c hO t
  μ := blk_μ m c hO t
  v := blk_v m c hO t

/-- The gradient's block. -/
theorem out_g (t : Fin (cfgM m hO).N) (r : Fin 64) (j : Fin 1024) :
    (show FVec Ideal S64x1024 .f32 from (outsAt0 m hO c t).1) (ix2 r j) = (args m c).g (rows t r) j := by
  have key := Payload.g (reads m c hO t) r j
  have e0 := (hs0_0 m hO t).read_unread (Val := Elt Ideal) (iblk m hO c 0 t)
  have e1 := (hs0_1 m hO t).read_unread (Val := Elt Ideal) (iblk m hO c 1 t)
  unfold outsAt0; dsimp only; frame_out
  rw [e0, e1, word m c]
  exact key

/-- The block of what is to be added. -/
theorem out_delta (t : Fin (cfgM m hO).N) (r : Fin 64) (j : Fin 1024) :
    (show FVec Ideal S64x1024 .f32 from (outsAt0 m hO c t).2.1) (ix2 r j) = (args m c).delta (rows t r) j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  unfold outsAt0; dsimp only; frame_out
  rw [e0, e1, e2, e3, e4, word m c]
  exact key

/-- The first moment's block. -/
theorem out_μ (t : Fin (cfgM m hO).N) (r : Fin 64) (j : Fin 1024) :
    (show FVec Ideal S64x1024 .f32 from (outsAt0 m hO c t).2.2.1) (ix2 r j) = (args m c).newμ (rows t r) j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e3 := (hs0_3 m hO t).read_unread (Val := Elt Ideal) (iblk m hO c 3 t)
  unfold outsAt0; dsimp only; frame_out
  rw [e0, e1, e3, word m c]
  exact key

/-- The second moment's block. -/
theorem out_v (t : Fin (cfgM m hO).N) (r : Fin 64) (j : Fin 1024) :
    (show FVec Ideal S64x1024 .f32 from (outsAt0 m hO c t).2.2.2) (ix2 r j) = (args m c).newv (rows t r) j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e4 := (hs0_4 m hO t).read_unread (Val := Elt Ideal) (iblk m hO c 4 t)
  unfold outsAt0; dsimp only; frame_out
  rw [e0, e1, e4, word m c]
  exact key

end Cert.Adam.Out.Block

end
-- ==== Proof.Adam.Out.Arrays.lean ====
/- The optimiser's call on the output weights: what the kernel's four result arrays hold, and that they are what a run ends with. -/
module

public import proofs.«01_k».proof.Proof.Adam.Out.Block
public import Idealize.ShloMosaic.Lib.Pipeline.Value
public import Idealize.ShloMosaic.Lib.Pipeline.Covers

@[expose] public section

set_option maxRecDepth 16384

noncomputable section

namespace Cert.Adam.Out.Arrays

open Idealize.ShloMosaic Idealize.ShloMosaic.TcCoe Idealize.SL.Sem
open Cert.Kernel11Ideal Cert.Kernel11Ideal.Gen Cert.Adam.Out.Block

variable (m : (ℓ : Loc nD τ sig) → Buf (Elt Ideal) ℓ) (c : Dev nD) (hO : Ok m)

/-- An output block is not empty. -/
theorem full : ∀ a : Fin 2, 0 < S64x1024.size a := by decide

/-- Every block of an output array is written. -/
theorem every : ∀ β : (a : Fin 2) → Fin ((S128x1024.size a + S64x1024.size a - 1) / S64x1024.size a), ∃ t : Fin grid0.N,
    ∀ a, cc0_transform_5 (grid0.coords t) a = β a := by decide +kernel

/-- The gradient. -/
theorem g : (dats m hO 0 c).arrAt 5 (cfgM m hO).N = fun i : S128x1024.Idx => (args m c).g (i 0) (i 1) := by
  refine (dats m hO 0 c).arrAt_eq_of_covers 5 _ (((cfgM m hO).win 5).covers_of_index_surj rfl full every) fun t hf (y : S64x1024.Idx) => ?_
  obtain ⟨r, k, rfl⟩ : ∃ (r : Fin 64) (k : Fin 1024), y = ix2 r k := ⟨y 0, y 1, by funext a; match a with | ⟨0, _⟩ => rfl | ⟨1, _⟩ => rfl⟩
  have i := idx m hO t
  dsimp only [cfgM] at i
  have e : (((cfgM m hO).win 5).blk t).view.emb (ix2 r k) = ix2 (rows t r) k := by unfold rows; blk_ext [i]
  blk_simp
  rw [after0_5]
  simp only [e]
  exact out_g m c hO t r k

/-- What is to be added. -/
theorem delta : (dats m hO 0 c).arrAt 6 (cfgM m hO).N = fun i : S128x1024.Idx => (args m c).delta (i 0) (i 1) := by
  refine (dats m hO 0 c).arrAt_eq_of_covers 6 _ (((cfgM m hO).win 6).covers_of_index_surj rfl full every) fun t hf (y : S64x1024.Idx) => ?_
  obtain ⟨r, k, rfl⟩ : ∃ (r : Fin 64) (k : Fin 1024), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 (rows t r) k := by unfold rows; blk_ext [i]
  blk_simp
  rw [after0_6]
  simp only [e]
  exact out_delta m c hO t r k

/-- The first moment. -/
theorem μ : (dats m hO 0 c).arrAt 7 (cfgM m hO).N = fun i : S128x1024.Idx => (args m c).newμ (i 0) (i 1) := by
  refine (dats m hO 0 c).arrAt_eq_of_covers 7 _ (((cfgM m hO).win 7).covers_of_index_surj rfl full every) fun t hf (y : S64x1024.Idx) => ?_
  obtain ⟨r, k, rfl⟩ : ∃ (r : Fin 64) (k : Fin 1024), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 (rows t r) k := by unfold rows; blk_ext [i]
  blk_simp
  rw [after0_7]
  simp only [e]
  exact out_μ m c hO t r k

/-- The second moment. -/
theorem v : (dats m hO 0 c).arrAt 8 (cfgM m hO).N = fun i : S128x1024.Idx => (args m c).newv (i 0) (i 1) := by
  refine (dats m hO 0 c).arrAt_eq_of_covers 8 _ (((cfgM m hO).win 8).covers_of_index_surj rfl full every) fun t hf (y : S64x1024.Idx) => ?_
  obtain ⟨r, k, rfl⟩ : ∃ (r : Fin 64) (k : Fin 1024), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 (rows t r) k := by unfold rows; blk_ext [i]
  blk_simp
  rw [after0_8]
  simp only [e]
  exact out_v m c hO t r k

end Cert.Adam.Out.Arrays

end
-- ==== Proof.Adam.Out.Ref.lean ====
/- The optimiser's call on the output weights: what the reference computes, entry by entry. -/
module

public import proofs.«01_k».proof.Proof.Gen.Reference11Ideal.Read
public import Idealize.ShloMosaic.Lib.Pipeline.ValueKit
public import Idealize.ShloMosaic.Lib.Pointwise.Reduce
public import proofs.«01_k».proof.Proof.Adam.Own

@[expose] public section

set_option maxRecDepth 16384

noncomputable section

namespace Cert.Adam.Out.Ref

open Idealize.ShloMosaic Idealize.ShloMosaic.TcCoe Idealize.SL.Sem
open Cert.Reference11Ideal Cert.Reference11Ideal.Gen Cert.Reference11Ideal.Read

variable (x0 : IVec S1 32) (x1 x2 : FVec Ideal S8x128x1024 .bf16) (x3 x4 x5 : FVec Ideal S128x1024 .f32)

/-- The arrays of the step, as the reference has them. -/
def args : Step 128 1024 := ⟨x0 (ix1 0), fun s r j => x1 (ix3 s r j), block (fun s r j => x2 (ix3 s r j)) (x0 (ix1 0)), fun r j => x3 (ix2 r j), fun r j => x4 (ix2 r j),
  fun r j => x5 (ix2 r j)⟩

/-- A device's share. -/
theorem share (s : Fin 8) (r : Fin 128) (j : Fin 1024) : val_main_v6 (F := Ideal) x0 x1 x2 (ix3 s r j) = (args x0 x1 x2 x3 x4 x5).share s r j := by
  pointwise [val_main_v6, val_main_v5, val_main_call0_v0, val_main_v4, val_main_v3, val_main_v2, val_main_v1, val_main_v0, args, Step.share]
  exact (choose _ _ _ _).trans (ite_congr (propext eq_comm) (fun e => (block_ofNat (fun s r j => x2 (ix3 s r j)) _ s e r j).symm) fun _ => rfl)

/-- The gradient. -/
theorem g (r : Fin 128) (j : Fin 1024) : val_main_v7 (F := Ideal) x0 x1 x2 (ix2 r j) = (args x0 x1 x2 x3 x4 x5).g r j := by
  pointwise [val_main_v7, val_main_cst, share x0 x1 x2 x3 x4 x5, Step.g]

/-- The first moment. -/
theorem μ (r : Fin 128) (j : Fin 1024) : val_main_v12 (F := Ideal) x0 x1 x2 x4 (ix2 r j) = (args x0 x1 x2 x3 x4 x5).newμ r j := by
  pointwise [val_main_v12, val_main_v11, val_main_v10, val_main_v9, val_main_v8, val_main_cst_0, val_main_cst_1, g x0 x1 x2 x3 x4 x5, Step.newμ]
  rfl

/-- The second moment. -/
theorem v (r : Fin 128) (j : Fin 1024) : val_main_v18 (F := Ideal) x0 x1 x2 x5 (ix2 r j) = (args x0 x1 x2 x3 x4 x5).newv r j := by
  pointwise [val_main_v18, val_main_v17, val_main_v16, val_main_v15, val_main_v14, val_main_v13, val_main_cst_2, val_main_cst_3,
    g x0 x1 x2 x3 x4 x5, Step.newv]
  rfl

/-- What is to be added. -/
theorem delta (r : Fin 128) (j : Fin 1024) : val_main_v31 (F := Ideal) x0 x1 x2 x3 x4 x5 (ix2 r j) = (args x0 x1 x2 x3 x4 x5).delta r j := by
  pointwise [val_main_v31, val_main_v30, val_main_v29, val_main_v28, val_main_v27, val_main_v26, val_main_v25, val_main_v24, val_main_v23,
    val_main_v22, val_main_v21, val_main_v20, val_main_v19, val_main_cst_4, val_main_cst_5, val_main_cst_6, val_main_cst_7, val_main_cst_8,
    μ x0 x1 x2 x3 x4 x5, v x0 x1 x2 x3 x4 x5, Step.delta]
  rfl

end Cert.Adam.Out.Ref

end
-- ==== Proof.Adam.Out.Claim.lean ====
/- The optimiser's call on the output weights: kernel and reference compute the same gradient, moments and step. -/
module

public import proofs.«01_k».proof.Defs
public import proofs.«01_k».proof.Proof.Gen.Kernel11.Frame
public import proofs.«01_k».proof.Proof.Adam.Out.Arrays
public import proofs.«01_k».proof.Proof.Adam.Out.Ref
public import Idealize.ShloMosaic.Lib.Claim

@[expose] public section

set_option maxRecDepth 16384

noncomputable section

namespace Cert.Adam.Out

open Idealize.ShloMosaic Idealize.ShloMosaic.TcCoe Idealize.SL.Sem
open Cert.Kernel11Ideal Cert.Kernel11Ideal.Gen

variable (m : (ℓ : Loc nD τ sig) → Buf (Elt Ideal) ℓ) (c : Dev nD)

/-- Under the precondition every block lies within its array. -/
theorem ok [Cert.Pre_on_mesh_w_out.Facts] (h : Cert.Pre_Kernel11Ideal m) : Ok m := Own.ok m (below (congrFun (h 0) (ix1 0)))

/-- The same over machine numbers. -/
theorem ok_bits [Cert.Pre_on_mesh_w_out.Facts] (m : (ℓ : Loc nD τ sig) → Buf (Elt Bits) ℓ) (h : Cert.Pre_Kernel11 m) : Cert.Kernel11.Gen.Ok m :=
  Own.ok (F := Bits) m (below (congrFun (h 0) (ix1 0)))

variable (hO : Ok m)

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  obtain rfl : c = 0 := Subsingleton.elim _ _
  rfl

/-- The gradient. -/
theorem g : Cert.Reference11Ideal.Read.val_main_v7 (F := Ideal) (m ((c.tc : Thread nD τ).loc main_arg0)) (m ((c.tc : Thread nD τ).loc main_arg1))
    (m ((c.tc : Thread nD τ).loc main_arg2)) = (dats m hO 0 c).arrAt 5 (cfgM m hO).N := by
  rw [Arrays.g, args_eq]
  funext i
  exact (congrArg _ (eq_ix2 i)).trans (Ref.g _ _ _ _ _ _ (i 0) (i 1))

/-- What is to be added. -/
theorem delta : Cert.Reference11Ideal.Read.val_main_v31 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = (dats m hO 0 c).arrAt 6 (cfgM m hO).N := by
  rw [Arrays.delta, args_eq]
  funext i
  exact (congrArg _ (eq_ix2 i)).trans (Ref.delta _ _ _ _ _ _ (i 0) (i 1))

/-- The first moment. -/
theorem μ : Cert.Reference11Ideal.Read.val_main_v12 (F := Ideal) (m ((c.tc : Thread nD τ).loc main_arg0)) (m ((c.tc : Thread nD τ).loc main_arg1))
    (m ((c.tc : Thread nD τ).loc main_arg2)) (m ((c.tc : Thread nD τ).loc main_arg4)) = (dats m hO 0 c).arrAt 7 (cfgM m hO).N := by
  rw [Arrays.μ, args_eq]
  funext i
  exact (congrArg _ (eq_ix2 i)).trans (Ref.μ _ _ _ _ _ _ (i 0) (i 1))

/-- The second moment. -/
theorem v : Cert.Reference11Ideal.Read.val_main_v18 (F := Ideal) (m ((c.tc : Thread nD τ).loc main_arg0)) (m ((c.tc : Thread nD τ).loc main_arg1))
    (m ((c.tc : Thread nD τ).loc main_arg2)) (m ((c.tc : Thread nD τ).loc main_arg5)) = (dats m hO 0 c).arrAt 8 (cfgM m hO).N := by
  rw [Arrays.v, args_eq]
  funext i
  exact (congrArg _ (eq_ix2 i)).trans (Ref.v _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m hO 0 c).arrAt 5 (cfgM m hO).N
    ∧ r.2.mem ((c.tc : Thread nD τ).loc main_v0_1) = (dats m hO 0 c).arrAt 6 (cfgM m hO).N
    ∧ r.2.mem ((c.tc : Thread nD τ).loc main_v0_2) = (dats m hO 0 c).arrAt 7 (cfgM m hO).N
    ∧ r.2.mem ((c.tc : Thread nD τ).loc main_v0_3) = (dats m hO 0 c).arrAt 8 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  θ_run_mono (run_main m ρ hO) fun _ h c =>
    have staged (w : Fin 9) (hw : _) := ((h c).1 w).trans (((dats m hO 0 c).arrAt_in w hw _).trans (A_eq m hO c w))
    ⟨(h c).1 5, (h c).1 6, (h c).1 7, (h c).1 8,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c)⟩

set_option maxHeartbeats 3200000 in
/-- Kernel and reference end with the same arrays. -/
theorem algebraic [Cert.Pre_on_mesh_w_out.Facts] : Cert.algebraic_Kernel11Ideal_Reference11Ideal := by
  intro m ρ m' ρ' h hagree
  refine ⟨_, _, _, _, ends m (ok m h) ρ, θ_run_mono (Cert.Reference11Ideal.Value.run m' ρ') fun r hr c => ?_⟩
  obtain ⟨r0, r1, r2, r3, kept⟩ := hr c
  obtain ⟨e0, e1, e2, e3, e4, e5⟩ := hagree c
  rw [Cert.Reference11Ideal.Read.val_main_v7_eq, e0, e1, e2] at r0
  rw [Cert.Reference11Ideal.Read.val_main_v31_eq, e0, e1, e2, e3, e4, e5] at r1
  rw [Cert.Reference11Ideal.Read.val_main_v12_eq, e0, e1, e2, e4] at r2
  rw [Cert.Reference11Ideal.Read.val_main_v18_eq, e0, e1, e2, e5] at r3
  exact ⟨r0.trans (g m c (ok m h)), r1.trans (delta m c (ok m h)), r2.trans (μ m c (ok m h)), r3.trans (v m c (ok m h)), kept⟩

end Cert.Adam.Out

end
-- ==== Proof.Adam.In.Payload.lean ====
/- The optimiser's call on the input weights: what a block stores, entry by entry. -/
module

public import proofs.«01_k».proof.Proof.Gen.Kernel12Ideal.Skeleton
public import proofs.«01_k».proof.Proof.Adam.Spec

@[expose] public section

set_option maxRecDepth 16384

noncomputable section

namespace Cert.Adam.In.Payload

open Idealize.ShloMosaic Idealize.ShloMosaic.TcCoe Idealize.SL.Sem
open Cert.Kernel12Ideal Cert.Kernel12Ideal.Gen

variable {a : Step 1024 384} {ρ : Fin 256 → Fin 1024} {p : Fin 8 → FVec Ideal S1x256x384 .bf16} {own : FVec Ideal S1x256x384 .bf16}
  {w μ v : FVec Ideal S256x384 .f32}

/-- The shares, added: the first four, then the others. -/
abbrev grad (me : BitVec 32) (own : FVec Ideal S1x256x384 .bf16) (p : Fin 8 → FVec Ideal S1x256x384 .bf16) : FVec Ideal S256x384 .f32 :=
  k0_pay6 (k0_pay4 own) (k0_pay5 own me (p 0) me (p 1) me (p 2) me (p 3)) (Scalar.cmpi .eq me 4#32) (p 4) me (p 5) me (p 6) me (p 7)

variable (H : Reads a ρ (fun s r j => p s (ix3 0 r j)) (fun r j => own (ix3 0 r j)) (fun r j => w (ix2 r j)) (fun r j => μ (ix2 r j))
  fun r j => v (ix2 r j))
include H

/-- The gradient. -/
theorem g (r : Fin 256) (j : Fin 384) : grad a.me own p (ix2 r j) = a.g (ρ r) j := by
  pointwise [k0_pay6, k0_pay5, k0_pay4, H.part, H.own, choose, sum_shares, Step.share]

/-- The first moment. -/
theorem μ' (r : Fin 256) (j : Fin 384) :
    k0_pay1 (F := Ideal) (grad a.me own p) (k0_pay7 μ) k0_pay8 (ix2 r j) = a.newμ (ρ r) j := by
  pointwise [k0_pay1, k0_pay7, k0_pay8, g H, H.μ, Step.newμ]

/-- The second moment. -/
theorem v' (r : Fin 256) (j : Fin 384) : k0_pay2 (F := Ideal) (grad a.me own p) v (ix2 r j) = a.newv (ρ r) j := by
  pointwise [k0_pay2, g H, H.v, Step.newv]

/-- What is to be added. -/
theorem d (r : Fin 256) (j : Fin 384) :
    k0_pay3 (F := Ideal) (grad a.me own p) w v (k0_pay7 μ) k0_pay8 (ix2 r j) = a.delta (ρ r) j := by
  pointwise [k0_pay3, μ' H, v' H, H.w, Step.delta]

end Cert.Adam.In.Payload

end
-- ==== Proof.Adam.In.Own.lean ====
/- The optimiser's call on the input weights: which block of the own shares a grid point fetches. Said for any numbers, as both runs need it. -/
module

public import proofs.«01_k».proof.Proof.Gen.Kernel12Ideal.Frame
public import proofs.«01_k».proof.Proof.Adam.Own

@[expose] public section

set_option maxRecDepth 16384

noncomputable section

namespace Cert.Adam.In.Own

open Idealize.ShloMosaic Idealize.ShloMosaic.TcCoe Idealize.SL.Sem
open Cert.Kernel12Ideal Cert.Kernel12Ideal.Gen

variable {F : FTy → Type} [FloatOps F] (m : (ℓ : Loc nD τ sig) → Buf (Elt F) ℓ)

/-- The device's number. -/
def me : BitVec 32 := (show IVec S1 32 from V m 0 main_arg0) (ix1 0)

/-- The word that the index map reads. -/
theorem word : (tbl m).at 0 (Rect.unit (s := S1) ![0] S1.size inb_S1_S1_0) numel1_S1 = me m :=
  congrArg (tbl m 0) (funext fun a => match a with | ⟨0, _⟩ => Subsingleton.elim (α := Fin 1) _ _)

/-- The index of the block. -/
theorem at_point (i : grid0.Coords) : cc0_transform_1 inb_S1_S1_0 numel1_S1 (tbl m) i = ![(me m).toNat, (i 0).val, 0] := by
  rw [← word m]
  have k : (i 0).val < 4 := (i 0).isLt
  funext a
  match a with
  | ⟨0, _⟩ => rfl
  | ⟨1, _⟩ => exact (modulo_eq 4 (by decide) ⟨(i 0).val, by omega⟩).trans (Nat.mod_eq_of_lt k)
  | ⟨2, _⟩ => rfl

/-- It lies within the array. -/
theorem ok (h : (me m).toNat < 8) : Ok m := fun i =>
  fits _ (at_point m i) h (by have : (i 0).val < 4 := (i 0).isLt; omega) (by decide)

/-- The device's number is below 8 if every block lies within the array. -/
theorem number (hO : Ok m) : (me m).toNat < 8 := by
  obtain ⟨h, _⟩ := hO (grid0.coords t0_0)
  have h0 := h 0
  rw [at_point m] at h0
  exact (Nat.mul_one _).symm.trans_le h0

end Cert.Adam.In.Own

end
-- ==== Proof.Adam.In.Block.lean ====
/- The optimiser's call on the input weights: what each grid point reads and what it leaves in the four output blocks. -/
module

public import proofs.«01_k».proof.Proof.Gen.Kernel12Ideal.Frame
public import Idealize.ShloMosaic.Lib.Pipeline.ValueKit
public import proofs.«01_k».proof.Proof.Adam.In.Payload
public import proofs.«01_k».proof.Proof.Adam.Load
public import proofs.«01_k».proof.Proof.Adam.In.Own

@[expose] public section

set_option maxRecDepth 16384

noncomputable section

namespace Cert.Adam.In.Block

open Idealize.ShloMosaic Idealize.ShloMosaic.TcCoe Idealize.SL.Sem
open Cert.Kernel12Ideal Cert.Kernel12Ideal.Gen

variable (m : (ℓ : Loc nD τ sig) → Buf (Elt Ideal) ℓ) (c : Dev nD) (hO : Ok m)

/-- The arrays the kernel is launched on. -/
def args : Step 1024 384 where
  me := Own.me m
  part s r j := (show FVec Ideal S8x1024x384 .bf16 from V m c main_arg1) (ix3 s r j)
  own := block (fun s r j => (show FVec Ideal S8x1024x384 .bf16 from V m c main_arg2) (ix3 s r j)) (Own.me m)
  w r j := (show FVec Ideal S1024x384 .f32 from V m c main_arg3) (ix2 r j)
  μ r j := (show FVec Ideal S1024x384 .f32 from V m c main_arg4) (ix2 r j)
  v r j := (show FVec Ideal S1024x384 .f32 from V m c main_arg5) (ix2 r j)

/-- The rows of a grid point's blocks. -/
def rows (t : Fin grid0.N) (r : Fin 256) : Fin 1024 := ⟨256 * t.val + r, by have := lt_of_lt_of_eq t.isLt N_0; omega⟩

/-- The word the kernel reads is the device's number. -/
theorem word (h) : View.readAt (Elt Ideal) (View.whole main_arg0) (Rect.unit ![0] ![1] inb_S1_S1_0).toLoadRect (tbl m 0) (Shape.Idx.first h)
    = (args m c).me :=
  congrArg (tbl m 0) (funext fun a => match a with | ⟨0, _⟩ => Subsingleton.elim (α := Fin 1) _ _)

/-- The windows' block indices. -/
theorem idx : ∀ t : Fin (cfgM m hO).N, ((cfgM m hO).win 0).index t = ![0, t.val, 0]
    ∧ ((cfgM m hO).win 2).index t = ![t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] :=
  (by decide +kernel : ∀ t : Fin grid0.N, cc0_transform_0 (grid0.coords t) = ![0, t.val, 0]
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0] ∧ cc0_transform_7 (grid0.coords t) = ![t.val, 0]
    ∧ cc0_transform_8 (grid0.coords t) = ![t.val, 0])

theorem idx_own (t : Fin (cfgM m hO).N) : ((cfgM m hO).win 1).index t = ![(Own.me m).toNat, t.val, 0] :=
  (Own.at_point m (grid0.coords t)).trans (by rw [(by decide +kernel : ∀ t : Fin grid0.N, (grid0.coords t 0).val = t.val) t])

theorem blk_part (t : Fin (cfgM m hO).N) (s : Fin 8) (r : Fin 256) (j : Fin 384) :
    (show FVec Ideal S8x256x384 .bf16 from iblk m hO c 0 t) (ix3 s r j) = (args m c).part s (rows t r) j := by
  have e := idx m hO t
  dsimp only [cfgM] at e
  unfold args rows; blk_ext [iblk, e]
theorem blk_own (t : Fin (cfgM m hO).N) (r : Fin 256) (j : Fin 384) :
    (show FVec Ideal S1x256x384 .bf16 from iblk m hO c 1 t) (ix3 0 r j) = (args m c).own (rows t r) j := by
  have e := idx_own m hO t
  dsimp only [cfgM] at e
  unfold args; dsimp only
  rw [block_of _ _ (Own.number m hO)]
  unfold rows; blk_ext [iblk, e]
theorem blk_w (t : Fin (cfgM m hO).N) (r : Fin 256) (j : Fin 384) :
    (show FVec Ideal S256x384 .f32 from iblk m hO c 2 t) (ix2 r j) = (args m c).w (rows t r) j := by
  have e := idx m hO t
  dsimp only [cfgM] at e
  unfold args rows; blk_ext [iblk, e]
theorem blk_μ (t : Fin (cfgM m hO).N) (r : Fin 256) (j : Fin 384) :
    (show FVec Ideal S256x384 .f32 from iblk m hO c 3 t) (ix2 r j) = (args m c).μ (rows t r) j := by
  have e := idx m hO t
  dsimp only [cfgM] at e
  unfold args rows; blk_ext [iblk, e]
theorem blk_v (t : Fin (cfgM m hO).N) (r : Fin 256) (j : Fin 384) :
    (show FVec Ideal S256x384 .f32 from iblk m hO c 4 t) (ix2 r j) = (args m c).v (rows t r) j := by
  have e := idx m hO t
  dsimp only [cfgM] at e
  unfold args rows; blk_ext [iblk, e]

/-- The blocks of a grid point. -/
theorem reads (t : Fin (cfgM m hO).N) : Reads (args m c) (rows t)
    (fun s r j => slab (b := 256) (C := 384) (e := .bf16) (iblk m hO c 0 t) s (ix3 0 r j))
    (fun r j => (show FVec Ideal S1x256x384 .bf16 from iblk m hO c 1 t) (ix3 0 r j)) (fun r j => (show FVec Ideal S256x384 .f32 from iblk m hO c 2 t) (ix2 r j))
    (fun r j => (show FVec Ideal S256x384 .f32 from iblk m hO c 3 t) (ix2 r j)) fun r j => (show FVec Ideal S256x384 .f32 from iblk m hO c 4 t) (ix2 r j) where
  part s r j := (slab_apply _ s r j).trans (blk_part m c hO t s r j)
  own := blk_own m c hO t
  w := blk_w m c hO t
  μ := blk_μ m c hO t
  v := blk_v m c hO t

/-- The gradient's block. -/
theorem out_g (t : Fin (cfgM m hO).N) (r : Fin 256) (j : Fin 384) :
    (show FVec Ideal S256x384 .f32 from (outsAt0 m hO c t).1) (ix2 r j) = (args m c).g (rows t r) j := by
  have key := Payload.g (reads m c hO t) r j
  have e0 := (hs0_0 m hO t).read_unread (Val := Elt Ideal) (iblk m hO c 0 t)
  have e1 := (hs0_1 m hO t).read_unread (Val := Elt Ideal) (iblk m hO c 1 t)
  unfold outsAt0; dsimp only; frame_out
  rw [e0, e1, word m c]
  exact key

/-- The block of what is to be added. -/
theorem out_delta (t : Fin (cfgM m hO).N) (r : Fin 256) (j : Fin 384) :
    (show FVec Ideal S256x384 .f32 from (outsAt0 m hO c t).2.1) (ix2 r j) = (args m c).delta (rows t r) j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  unfold outsAt0; dsimp only; frame_out
  rw [e0, e1, e2, e3, e4, word m c]
  exact key

/-- The first moment's block. -/
theorem out_μ (t : Fin (cfgM m hO).N) (r : Fin 256) (j : Fin 384) :
    (show FVec Ideal S256x384 .f32 from (outsAt0 m hO c t).2.2.1) (ix2 r j) = (args m c).newμ (rows t r) j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e3 := (hs0_3 m hO t).read_unread (Val := Elt Ideal) (iblk m hO c 3 t)
  unfold outsAt0; dsimp only; frame_out
  rw [e0, e1, e3, word m c]
  exact key

/-- The second moment's block. -/
theorem out_v (t : Fin (cfgM m hO).N) (r : Fin 256) (j : Fin 384) :
    (show FVec Ideal S256x384 .f32 from (outsAt0 m hO c t).2.2.2) (ix2 r j) = (args m c).newv (rows t r) j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e4 := (hs0_4 m hO t).read_unread (Val := Elt Ideal) (iblk m hO c 4 t)
  unfold outsAt0; dsimp only; frame_out
  rw [e0, e1, e4, word m c]
  exact key

end Cert.Adam.In.Block

end
-- ==== Proof.Adam.In.Arrays.lean ====
/- The optimiser's call on the input weights: what the kernel's four result arrays hold, and that they are what a run ends with. -/
module

public import proofs.«01_k».proof.Proof.Adam.In.Block
public import Idealize.ShloMosaic.Lib.Pipeline.Value
public import Idealize.ShloMosaic.Lib.Pipeline.Covers

@[expose] public section

set_option maxRecDepth 16384

noncomputable section

namespace Cert.Adam.In.Arrays

open Idealize.ShloMosaic Idealize.ShloMosaic.TcCoe Idealize.SL.Sem
open Cert.Kernel12Ideal Cert.Kernel12Ideal.Gen Cert.Adam.In.Block

variable (m : (ℓ : Loc nD τ sig) → Buf (Elt Ideal) ℓ) (c : Dev nD) (hO : Ok m)

/-- An output block is not empty. -/
theorem full : ∀ a : Fin 2, 0 < S256x384.size a := by decide

/-- Every block of an output array is written. -/
theorem every : ∀ β : (a : Fin 2) → Fin ((S1024x384.size a + S256x384.size a - 1) / S256x384.size a), ∃ t : Fin grid0.N,
    ∀ a, cc0_transform_5 (grid0.coords t) a = β a := by decide +kernel

/-- The gradient. -/
theorem g : (dats m hO 0 c).arrAt 5 (cfgM m hO).N = fun i : S1024x384.Idx => (args m c).g (i 0) (i 1) := by
  refine (dats m hO 0 c).arrAt_eq_of_covers 5 _ (((cfgM m hO).win 5).covers_of_index_surj rfl full every) fun t hf (y : S256x384.Idx) => ?_
  obtain ⟨r, k, rfl⟩ : ∃ (r : Fin 256) (k : Fin 384), y = ix2 r k := ⟨y 0, y 1, by funext a; match a with | ⟨0, _⟩ => rfl | ⟨1, _⟩ => rfl⟩
  have i := idx m hO t
  dsimp only [cfgM] at i
  have e : (((cfgM m hO).win 5).blk t).view.emb (ix2 r k) = ix2 (rows t r) k := by unfold rows; blk_ext [i]
  blk_simp
  rw [after0_5]
  simp only [e]
  exact out_g m c hO t r k

/-- What is to be added. -/
theorem delta : (dats m hO 0 c).arrAt 6 (cfgM m hO).N = fun i : S1024x384.Idx => (args m c).delta (i 0) (i 1) := by
  refine (dats m hO 0 c).arrAt_eq_of_covers 6 _ (((cfgM m hO).win 6).covers_of_index_surj rfl full every) fun t hf (y : S256x384.Idx) => ?_
  obtain ⟨r, k, rfl⟩ : ∃ (r : Fin 256) (k : Fin 384), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 (rows t r) k := by unfold rows; blk_ext [i]
  blk_simp
  rw [after0_6]
  simp only [e]
  exact out_delta m c hO t r k

/-- The first moment. -/
theorem μ : (dats m hO 0 c).arrAt 7 (cfgM m hO).N = fun i : S1024x384.Idx => (args m c).newμ (i 0) (i 1) := by
  refine (dats m hO 0 c).arrAt_eq_of_covers 7 _ (((cfgM m hO).win 7).covers_of_index_surj rfl full every) fun t hf (y : S256x384.Idx) => ?_
  obtain ⟨r, k, rfl⟩ : ∃ (r : Fin 256) (k : Fin 384), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 (rows t r) k := by unfold rows; blk_ext [i]
  blk_simp
  rw [after0_7]
  simp only [e]
  exact out_μ m c hO t r k

/-- The second moment. -/
theorem v : (dats m hO 0 c).arrAt 8 (cfgM m hO).N = fun i : S1024x384.Idx => (args m c).newv (i 0) (i 1) := by
  refine (dats m hO 0 c).arrAt_eq_of_covers 8 _ (((cfgM m hO).win 8).covers_of_index_surj rfl full every) fun t hf (y : S256x384.Idx) => ?_
  obtain ⟨r, k, rfl⟩ : ∃ (r : Fin 256) (k : Fin 384), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 (rows t r) k := by unfold rows; blk_ext [i]
  blk_simp
  rw [after0_8]
  simp only [e]
  exact out_v m c hO t r k

end Cert.Adam.In.Arrays

end
-- ==== Proof.Adam.In.Ref.lean ====
/- The optimiser's call on the input weights: what the reference computes, entry by entry. -/
module

public import proofs.«01_k».proof.Proof.Gen.Reference12Ideal.Read
public import Idealize.ShloMosaic.Lib.Pipeline.ValueKit
public import Idealize.ShloMosaic.Lib.Pointwise.Reduce
public import proofs.«01_k».proof.Proof.Adam.Own

@[expose] public section

set_option maxRecDepth 16384

noncomputable section

namespace Cert.Adam.In.Ref

open Idealize.ShloMosaic Idealize.ShloMosaic.TcCoe Idealize.SL.Sem
open Cert.Reference12Ideal Cert.Reference12Ideal.Gen Cert.Reference12Ideal.Read

variable (x0 : IVec S1 32) (x1 x2 : FVec Ideal S8x1024x384 .bf16) (x3 x4 x5 : FVec Ideal S1024x384 .f32)

/-- The arrays of the step, as the reference has them. -/
def args : Step 1024 384 := ⟨x0 (ix1 0), fun s r j => x1 (ix3 s r j), block (fun s r j => x2 (ix3 s r j)) (x0 (ix1 0)), fun r j => x3 (ix2 r j), fun r j => x4 (ix2 r j),
  fun r j => x5 (ix2 r j)⟩

/-- A device's share. -/
theorem share (s : Fin 8) (r : Fin 1024) (j : Fin 384) : val_main_v6 (F := Ideal) x0 x1 x2 (ix3 s r j) = (args x0 x1 x2 x3 x4 x5).share s r j := by
  pointwise [val_main_v6, val_main_v5, val_main_call0_v0, val_main_v4, val_main_v3, val_main_v2, val_main_v1, val_main_v0, args, Step.share]
  exact (choose _ _ _ _).trans (ite_congr (propext eq_comm) (fun e => (block_ofNat (fun s r j => x2 (ix3 s r j)) _ s e r j).symm) fun _ => rfl)

/-- The gradient. -/
theorem g (r : Fin 1024) (j : Fin 384) : val_main_v7 (F := Ideal) x0 x1 x2 (ix2 r j) = (args x0 x1 x2 x3 x4 x5).g r j := by
  pointwise [val_main_v7, val_main_cst, share x0 x1 x2 x3 x4 x5, Step.g]

/-- The first moment. -/
theorem μ (r : Fin 1024) (j : Fin 384) : val_main_v12 (F := Ideal) x0 x1 x2 x4 (ix2 r j) = (args x0 x1 x2 x3 x4 x5).newμ r j := by
  pointwise [val_main_v12, val_main_v11, val_main_v10, val_main_v9, val_main_v8, val_main_cst_0, val_main_cst_1, g x0 x1 x2 x3 x4 x5, Step.newμ]
  rfl

/-- The second moment. -/
theorem v (r : Fin 1024) (j : Fin 384) : val_main_v18 (F := Ideal) x0 x1 x2 x5 (ix2 r j) = (args x0 x1 x2 x3 x4 x5).newv r j := by
  pointwise [val_main_v18, val_main_v17, val_main_v16, val_main_v15, val_main_v14, val_main_v13, val_main_cst_2, val_main_cst_3,
    g x0 x1 x2 x3 x4 x5, Step.newv]
  rfl

/-- What is to be added. -/
theorem delta (r : Fin 1024) (j : Fin 384) : val_main_v31 (F := Ideal) x0 x1 x2 x3 x4 x5 (ix2 r j) = (args x0 x1 x2 x3 x4 x5).delta r j := by
  pointwise [val_main_v31, val_main_v30, val_main_v29, val_main_v28, val_main_v27, val_main_v26, val_main_v25, val_main_v24, val_main_v23,
    val_main_v22, val_main_v21, val_main_v20, val_main_v19, val_main_cst_4, val_main_cst_5, val_main_cst_6, val_main_cst_7, val_main_cst_8,
    μ x0 x1 x2 x3 x4 x5, v x0 x1 x2 x3 x4 x5, Step.delta]
  rfl

end Cert.Adam.In.Ref

end
-- ==== Proof.Adam.In.Claim.lean ====
/- The optimiser's call on the input weights: kernel and reference compute the same gradient, moments and step. -/
module

public import proofs.«01_k».proof.Defs
public import proofs.«01_k».proof.Proof.Gen.Kernel12.Frame
public import proofs.«01_k».proof.Proof.Adam.In.Arrays
public import proofs.«01_k».proof.Proof.Adam.In.Ref
public import Idealize.ShloMosaic.Lib.Claim

@[expose] public section

set_option maxRecDepth 16384

noncomputable section

namespace Cert.Adam.In

open Idealize.ShloMosaic Idealize.ShloMosaic.TcCoe Idealize.SL.Sem
open Cert.Kernel12Ideal Cert.Kernel12Ideal.Gen

variable (m : (ℓ : Loc nD τ sig) → Buf (Elt Ideal) ℓ) (c : Dev nD)

/-- Under the precondition every block lies within its array. -/
theorem ok [Cert.Pre_on_mesh_w_in.Facts] (h : Cert.Pre_Kernel12Ideal m) : Ok m := Own.ok m (below (congrFun (h 0) (ix1 0)))

/-- The same over machine numbers. -/
theorem ok_bits [Cert.Pre_on_mesh_w_in.Facts] (m : (ℓ : Loc nD τ sig) → Buf (Elt Bits) ℓ) (h : Cert.Pre_Kernel12 m) : Cert.Kernel12.Gen.Ok m :=
  Own.ok (F := Bits) m (below (congrFun (h 0) (ix1 0)))

variable (hO : Ok m)

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  obtain rfl : c = 0 := Subsingleton.elim _ _
  rfl

/-- The gradient. -/
theorem g : Cert.Reference12Ideal.Read.val_main_v7 (F := Ideal) (m ((c.tc : Thread nD τ).loc main_arg0)) (m ((c.tc : Thread nD τ).loc main_arg1))
    (m ((c.tc : Thread nD τ).loc main_arg2)) = (dats m hO 0 c).arrAt 5 (cfgM m hO).N := by
  rw [Arrays.g, args_eq]
  funext i
  exact (congrArg _ (eq_ix2 i)).trans (Ref.g _ _ _ _ _ _ (i 0) (i 1))

/-- What is to be added. -/
theorem delta : Cert.Reference12Ideal.Read.val_main_v31 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = (dats m hO 0 c).arrAt 6 (cfgM m hO).N := by
  rw [Arrays.delta, args_eq]
  funext i
  exact (congrArg _ (eq_ix2 i)).trans (Ref.delta _ _ _ _ _ _ (i 0) (i 1))

/-- The first moment. -/
theorem μ : Cert.Reference12Ideal.Read.val_main_v12 (F := Ideal) (m ((c.tc : Thread nD τ).loc main_arg0)) (m ((c.tc : Thread nD τ).loc main_arg1))
    (m ((c.tc : Thread nD τ).loc main_arg2)) (m ((c.tc : Thread nD τ).loc main_arg4)) = (dats m hO 0 c).arrAt 7 (cfgM m hO).N := by
  rw [Arrays.μ, args_eq]
  funext i
  exact (congrArg _ (eq_ix2 i)).trans (Ref.μ _ _ _ _ _ _ (i 0) (i 1))

/-- The second moment. -/
theorem v : Cert.Reference12Ideal.Read.val_main_v18 (F := Ideal) (m ((c.tc : Thread nD τ).loc main_arg0)) (m ((c.tc : Thread nD τ).loc main_arg1))
    (m ((c.tc : Thread nD τ).loc main_arg2)) (m ((c.tc : Thread nD τ).loc main_arg5)) = (dats m hO 0 c).arrAt 8 (cfgM m hO).N := by
  rw [Arrays.v, args_eq]
  funext i
  exact (congrArg _ (eq_ix2 i)).trans (Ref.v _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m hO 0 c).arrAt 5 (cfgM m hO).N
    ∧ r.2.mem ((c.tc : Thread nD τ).loc main_v0_1) = (dats m hO 0 c).arrAt 6 (cfgM m hO).N
    ∧ r.2.mem ((c.tc : Thread nD τ).loc main_v0_2) = (dats m hO 0 c).arrAt 7 (cfgM m hO).N
    ∧ r.2.mem ((c.tc : Thread nD τ).loc main_v0_3) = (dats m hO 0 c).arrAt 8 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  θ_run_mono (run_main m ρ hO) fun _ h c =>
    have staged (w : Fin 9) (hw : _) := ((h c).1 w).trans (((dats m hO 0 c).arrAt_in w hw _).trans (A_eq m hO c w))
    ⟨(h c).1 5, (h c).1 6, (h c).1 7, (h c).1 8,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c)⟩

set_option maxHeartbeats 3200000 in
/-- Kernel and reference end with the same arrays. -/
theorem algebraic [Cert.Pre_on_mesh_w_in.Facts] : Cert.algebraic_Kernel12Ideal_Reference12Ideal := by
  intro m ρ m' ρ' h hagree
  refine ⟨_, _, _, _, ends m (ok m h) ρ, θ_run_mono (Cert.Reference12Ideal.Value.run m' ρ') fun r hr c => ?_⟩
  obtain ⟨r0, r1, r2, r3, kept⟩ := hr c
  obtain ⟨e0, e1, e2, e3, e4, e5⟩ := hagree c
  rw [Cert.Reference12Ideal.Read.val_main_v7_eq, e0, e1, e2] at r0
  rw [Cert.Reference12Ideal.Read.val_main_v31_eq, e0, e1, e2, e3, e4, e5] at r1
  rw [Cert.Reference12Ideal.Read.val_main_v12_eq, e0, e1, e2, e4] at r2
  rw [Cert.Reference12Ideal.Read.val_main_v18_eq, e0, e1, e2, e5] at r3
  exact ⟨r0.trans (g m c (ok m h)), r1.trans (delta m c (ok m h)), r2.trans (μ m c (ok m h)), r3.trans (v m c (ok m h)), kept⟩

end Cert.Adam.In

end
-- ==== Proof.Adam.Qkv.Payload.lean ====
/- The optimiser's call on the query, key and value weights: what a block stores, entry by entry. -/
module

public import proofs.«01_k».proof.Proof.Gen.Kernel13Ideal.Skeleton
public import proofs.«01_k».proof.Proof.Adam.Spec

@[expose] public section

set_option maxRecDepth 16384

noncomputable section

namespace Cert.Adam.Qkv.Payload

open Idealize.ShloMosaic Idealize.ShloMosaic.TcCoe Idealize.SL.Sem
open Cert.Kernel13Ideal Cert.Kernel13Ideal.Gen

variable {a : Step 1024 192} {ρ : Fin 256 → Fin 1024} {p : Fin 8 → FVec Ideal S1x256x192 .bf16} {own : FVec Ideal S1x256x192 .bf16}
  {w μ v : FVec Ideal S256x192 .f32}

/-- The shares, added: the first four, then the others. -/
abbrev grad (me : BitVec 32) (own : FVec Ideal S1x256x192 .bf16) (p : Fin 8 → FVec Ideal S1x256x192 .bf16) : FVec Ideal S256x192 .f32 :=
  k0_pay6 (k0_pay4 own) (k0_pay5 own me (p 0) me (p 1) me (p 2) me (p 3)) (Scalar.cmpi .eq me 4#32) (p 4) me (p 5) me (p 6) me (p 7)

variable (H : Reads a ρ (fun s r j => p s (ix3 0 r j)) (fun r j => own (ix3 0 r j)) (fun r j => w (ix2 r j)) (fun r j => μ (ix2 r j))
  fun r j => v (ix2 r j))
include H

/-- The gradient. -/
theorem g (r : Fin 256) (j : Fin 192) : grad a.me own p (ix2 r j) = a.g (ρ r) j := by
  pointwise [k0_pay6, k0_pay5, k0_pay4, H.part, H.own, choose, sum_shares, Step.share]

/-- The first moment. -/
theorem μ' (r : Fin 256) (j : Fin 192) :
    k0_pay1 (F := Ideal) (grad a.me own p) (k0_pay7 μ) k0_pay8 (ix2 r j) = a.newμ (ρ r) j := by
  pointwise [k0_pay1, k0_pay7, k0_pay8, g H, H.μ, Step.newμ]

/-- The second moment. -/
theorem v' (r : Fin 256) (j : Fin 192) : k0_pay2 (F := Ideal) (grad a.me own p) v (ix2 r j) = a.newv (ρ r) j := by
  pointwise [k0_pay2, g H, H.v, Step.newv]

/-- What is to be added. -/
theorem d (r : Fin 256) (j : Fin 192) :
    k0_pay3 (F := Ideal) (grad a.me own p) w v (k0_pay7 μ) k0_pay8 (ix2 r j) = a.delta (ρ r) j := by
  pointwise [k0_pay3, μ' H, v' H, H.w, Step.delta]

end Cert.Adam.Qkv.Payload

end
-- ==== Proof.Adam.Qkv.Own.lean ====
/- The optimiser's call on the query, key and value weights: which block of the own shares a grid point fetches. Said for any numbers, as both runs need it. -/
module

public import proofs.«01_k».proof.Proof.Gen.Kernel13Ideal.Frame
public import proofs.«01_k».proof.Proof.Adam.Own

@[expose] public section

set_option maxRecDepth 16384

noncomputable section

namespace Cert.Adam.Qkv.Own

open Idealize.ShloMosaic Idealize.ShloMosaic.TcCoe Idealize.SL.Sem
open Cert.Kernel13Ideal Cert.Kernel13Ideal.Gen

variable {F : FTy → Type} [FloatOps F] (m : (ℓ : Loc nD τ sig) → Buf (Elt F) ℓ)

/-- The device's number. -/
def me : BitVec 32 := (show IVec S1 32 from V m 0 main_arg0) (ix1 0)

/-- The word that the index map reads. -/
theorem word : (tbl m).at 0 (Rect.unit (s := S1) ![0] S1.size inb_S1_S1_0) numel1_S1 = me m :=
  congrArg (tbl m 0) (funext fun a => match a with | ⟨0, _⟩ => Subsingleton.elim (α := Fin 1) _ _)

/-- The index of the block. -/
theorem at_point (i : grid0.Coords) : cc0_transform_1 inb_S1_S1_0 numel1_S1 (tbl m) i = ![(me m).toNat, (i 0).val, 0] := by
  rw [← word m]
  have k : (i 0).val < 4 := (i 0).isLt
  funext a
  match a with
  | ⟨0, _⟩ => rfl
  | ⟨1, _⟩ => exact (modulo_eq 4 (by decide) ⟨(i 0).val, by omega⟩).trans (Nat.mod_eq_of_lt k)
  | ⟨2, _⟩ => rfl

/-- It lies within the array. -/
theorem ok (h : (me m).toNat < 8) : Ok m := fun i =>
  fits _ (at_point m i) h (by have : (i 0).val < 4 := (i 0).isLt; omega) (by decide)

/-- The device's number is below 8 if every block lies within the array. -/
theorem number (hO : Ok m) : (me m).toNat < 8 := by
  obtain ⟨h, _⟩ := hO (grid0.coords t0_0)
  have h0 := h 0
  rw [at_point m] at h0
  exact (Nat.mul_one _).symm.trans_le h0

end Cert.Adam.Qkv.Own

end
-- ==== Proof.Adam.Qkv.Block.lean ====
/- The optimiser's call on the query, key and value weights: what each grid point reads and what it leaves in the four output blocks. -/
module

public import proofs.«01_k».proof.Proof.Gen.Kernel13Ideal.Frame
public import Idealize.ShloMosaic.Lib.Pipeline.ValueKit
public import proofs.«01_k».proof.Proof.Adam.Qkv.Payload
public import proofs.«01_k».proof.Proof.Adam.Load
public import proofs.«01_k».proof.Proof.Adam.Qkv.Own

@[expose] public section

set_option maxRecDepth 16384

noncomputable section

namespace Cert.Adam.Qkv.Block

open Idealize.ShloMosaic Idealize.ShloMosaic.TcCoe Idealize.SL.Sem
open Cert.Kernel13Ideal Cert.Kernel13Ideal.Gen

variable (m : (ℓ : Loc nD τ sig) → Buf (Elt Ideal) ℓ) (c : Dev nD) (hO : Ok m)

/-- The arrays the kernel is launched on. -/
def args : Step 1024 192 where
  me := Own.me m
  part s r j := (show FVec Ideal S8x1024x192 .bf16 from V m c main_arg1) (ix3 s r j)
  own := block (fun s r j => (show FVec Ideal S8x1024x192 .bf16 from V m c main_arg2) (ix3 s r j)) (Own.me m)
  w r j := (show FVec Ideal S1024x192 .f32 from V m c main_arg3) (ix2 r j)
  μ r j := (show FVec Ideal S1024x192 .f32 from V m c main_arg4) (ix2 r j)
  v r j := (show FVec Ideal S1024x192 .f32 from V m c main_arg5) (ix2 r j)

/-- The rows of a grid point's blocks. -/
def rows (t : Fin grid0.N) (r : Fin 256) : Fin 1024 := ⟨256 * t.val + r, by have := lt_of_lt_of_eq t.isLt N_0; omega⟩

/-- The word the kernel reads is the device's number. -/
theorem word (h) : View.readAt (Elt Ideal) (View.whole main_arg0) (Rect.unit ![0] ![1] inb_S1_S1_0).toLoadRect (tbl m 0) (Shape.Idx.first h)
    = (args m c).me :=
  congrArg (tbl m 0) (funext fun a => match a with | ⟨0, _⟩ => Subsingleton.elim (α := Fin 1) _ _)

/-- The windows' block indices. -/
theorem idx : ∀ t : Fin (cfgM m hO).N, ((cfgM m hO).win 0).index t = ![0, t.val, 0]
    ∧ ((cfgM m hO).win 2).index t = ![t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] :=
  (by decide +kernel : ∀ t : Fin grid0.N, cc0_transform_0 (grid0.coords t) = ![0, t.val, 0]
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0] ∧ cc0_transform_7 (grid0.coords t) = ![t.val, 0]
    ∧ cc0_transform_8 (grid0.coords t) = ![t.val, 0])

theorem idx_own (t : Fin (cfgM m hO).N) : ((cfgM m hO).win 1).index t = ![(Own.me m).toNat, t.val, 0] :=
  (Own.at_point m (grid0.coords t)).trans (by rw [(by decide +kernel : ∀ t : Fin grid0.N, (grid0.coords t 0).val = t.val) t])

theorem blk_part (t : Fin (cfgM m hO).N) (s : Fin 8) (r : Fin 256) (j : Fin 192) :
    (show FVec Ideal S8x256x192 .bf16 from iblk m hO c 0 t) (ix3 s r j) = (args m c).part s (rows t r) j := by
  have e := idx m hO t
  dsimp only [cfgM] at e
  unfold args rows; blk_ext [iblk, e]
theorem blk_own (t : Fin (cfgM m hO).N) (r : Fin 256) (j : Fin 192) :
    (show FVec Ideal S1x256x192 .bf16 from iblk m hO c 1 t) (ix3 0 r j) = (args m c).own (rows t r) j := by
  have e := idx_own m hO t
  dsimp only [cfgM] at e
  unfold args; dsimp only
  rw [block_of _ _ (Own.number m hO)]
  unfold rows; blk_ext [iblk, e]
theorem blk_w (t : Fin (cfgM m hO).N) (r : Fin 256) (j : Fin 192) :
    (show FVec Ideal S256x192 .f32 from iblk m hO c 2 t) (ix2 r j) = (args m c).w (rows t r) j := by
  have e := idx m hO t
  dsimp only [cfgM] at e
  unfold args rows; blk_ext [iblk, e]
theorem blk_μ (t : Fin (cfgM m hO).N) (r : Fin 256) (j : Fin 192) :
    (show FVec Ideal S256x192 .f32 from iblk m hO c 3 t) (ix2 r j) = (args m c).μ (rows t r) j := by
  have e := idx m hO t
  dsimp only [cfgM] at e
  unfold args rows; blk_ext [iblk, e]
theorem blk_v (t : Fin (cfgM m hO).N) (r : Fin 256) (j : Fin 192) :
    (show FVec Ideal S256x192 .f32 from iblk m hO c 4 t) (ix2 r j) = (args m c).v (rows t r) j := by
  have e := idx m hO t
  dsimp only [cfgM] at e
  unfold args rows; blk_ext [iblk, e]

/-- The blocks of a grid point. -/
theorem reads (t : Fin (cfgM m hO).N) : Reads (args m c) (rows t)
    (fun s r j => slab (b := 256) (C := 192) (e := .bf16) (iblk m hO c 0 t) s (ix3 0 r j))
    (fun r j => (show FVec Ideal S1x256x192 .bf16 from iblk m hO c 1 t) (ix3 0 r j)) (fun r j => (show FVec Ideal S256x192 .f32 from iblk m hO c 2 t) (ix2 r j))
    (fun r j => (show FVec Ideal S256x192 .f32 from iblk m hO c 3 t) (ix2 r j)) fun r j => (show FVec Ideal S256x192 .f32 from iblk m hO c 4 t) (ix2 r j) where
  part s r j := (slab_apply _ s r j).trans (blk_part m c hO t s r j)
  own := blk_own m c hO t
  w := blk_w m c hO t
  μ := blk_μ m c hO t
  v := blk_v m c hO t

/-- The gradient's block. -/
theorem out_g (t : Fin (cfgM m hO).N) (r : Fin 256) (j : Fin 192) :
    (show FVec Ideal S256x192 .f32 from (outsAt0 m hO c t).1) (ix2 r j) = (args m c).g (rows t r) j := by
  have key := Payload.g (reads m c hO t) r j
  have e0 := (hs0_0 m hO t).read_unread (Val := Elt Ideal) (iblk m hO c 0 t)
  have e1 := (hs0_1 m hO t).read_unread (Val := Elt Ideal) (iblk m hO c 1 t)
  unfold outsAt0; dsimp only; frame_out
  rw [e0, e1, word m c]
  exact key

/-- The block of what is to be added. -/
theorem out_delta (t : Fin (cfgM m hO).N) (r : Fin 256) (j : Fin 192) :
    (show FVec Ideal S256x192 .f32 from (outsAt0 m hO c t).2.1) (ix2 r j) = (args m c).delta (rows t r) j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  unfold outsAt0; dsimp only; frame_out
  rw [e0, e1, e2, e3, e4, word m c]
  exact key

/-- The first moment's block. -/
theorem out_μ (t : Fin (cfgM m hO).N) (r : Fin 256) (j : Fin 192) :
    (show FVec Ideal S256x192 .f32 from (outsAt0 m hO c t).2.2.1) (ix2 r j) = (args m c).newμ (rows t r) j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e3 := (hs0_3 m hO t).read_unread (Val := Elt Ideal) (iblk m hO c 3 t)
  unfold outsAt0; dsimp only; frame_out
  rw [e0, e1, e3, word m c]
  exact key

/-- The second moment's block. -/
theorem out_v (t : Fin (cfgM m hO).N) (r : Fin 256) (j : Fin 192) :
    (show FVec Ideal S256x192 .f32 from (outsAt0 m hO c t).2.2.2) (ix2 r j) = (args m c).newv (rows t r) j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e4 := (hs0_4 m hO t).read_unread (Val := Elt Ideal) (iblk m hO c 4 t)
  unfold outsAt0; dsimp only; frame_out
  rw [e0, e1, e4, word m c]
  exact key

end Cert.Adam.Qkv.Block

end
-- ==== Proof.Adam.Qkv.Arrays.lean ====
/- The optimiser's call on the query, key and value weights: what the kernel's four result arrays hold, and that they are what a run ends with. -/
module

public import proofs.«01_k».proof.Proof.Adam.Qkv.Block
public import Idealize.ShloMosaic.Lib.Pipeline.Value
public import Idealize.ShloMosaic.Lib.Pipeline.Covers

@[expose] public section

set_option maxRecDepth 16384

noncomputable section

namespace Cert.Adam.Qkv.Arrays

open Idealize.ShloMosaic Idealize.ShloMosaic.TcCoe Idealize.SL.Sem
open Cert.Kernel13Ideal Cert.Kernel13Ideal.Gen Cert.Adam.Qkv.Block

variable (m : (ℓ : Loc nD τ sig) → Buf (Elt Ideal) ℓ) (c : Dev nD) (hO : Ok m)

/-- An output block is not empty. -/
theorem full : ∀ a : Fin 2, 0 < S256x192.size a := by decide

/-- Every block of an output array is written. -/
theorem every : ∀ β : (a : Fin 2) → Fin ((S1024x192.size a + S256x192.size a - 1) / S256x192.size a), ∃ t : Fin grid0.N,
    ∀ a, cc0_transform_5 (grid0.coords t) a = β a := by decide +kernel

/-- The gradient. -/
theorem g : (dats m hO 0 c).arrAt 5 (cfgM m hO).N = fun i : S1024x192.Idx => (args m c).g (i 0) (i 1) := by
  refine (dats m hO 0 c).arrAt_eq_of_covers 5 _ (((cfgM m hO).win 5).covers_of_index_surj rfl full every) fun t hf (y : S256x192.Idx) => ?_
  obtain ⟨r, k, rfl⟩ : ∃ (r : Fin 256) (k : Fin 192), y = ix2 r k := ⟨y 0, y 1, by funext a; match a with | ⟨0, _⟩ => rfl | ⟨1, _⟩ => rfl⟩
  have i := idx m hO t
  dsimp only [cfgM] at i
  have e : (((cfgM m hO).win 5).blk t).view.emb (ix2 r k) = ix2 (rows t r) k := by unfold rows; blk_ext [i]
  blk_simp
  rw [after0_5]
  simp only [e]
  exact out_g m c hO t r k

/-- What is to be added. -/
theorem delta : (dats m hO 0 c).arrAt 6 (cfgM m hO).N = fun i : S1024x192.Idx => (args m c).delta (i 0) (i 1) := by
  refine (dats m hO 0 c).arrAt_eq_of_covers 6 _ (((cfgM m hO).win 6).covers_of_index_surj rfl full every) fun t hf (y : S256x192.Idx) => ?_
  obtain ⟨r, k, rfl⟩ : ∃ (r : Fin 256) (k : Fin 192), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 (rows t r) k := by unfold rows; blk_ext [i]
  blk_simp
  rw [after0_6]
  simp only [e]
  exact out_delta m c hO t r k

/-- The first moment. -/
theorem μ : (dats m hO 0 c).arrAt 7 (cfgM m hO).N = fun i : S1024x192.Idx => (args m c).newμ (i 0) (i 1) := by
  refine (dats m hO 0 c).arrAt_eq_of_covers 7 _ (((cfgM m hO).win 7).covers_of_index_surj rfl full every) fun t hf (y : S256x192.Idx) => ?_
  obtain ⟨r, k, rfl⟩ : ∃ (r : Fin 256) (k : Fin 192), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 (rows t r) k := by unfold rows; blk_ext [i]
  blk_simp
  rw [after0_7]
  simp only [e]
  exact out_μ m c hO t r k

/-- The second moment. -/
theorem v : (dats m hO 0 c).arrAt 8 (cfgM m hO).N = fun i : S1024x192.Idx => (args m c).newv (i 0) (i 1) := by
  refine (dats m hO 0 c).arrAt_eq_of_covers 8 _ (((cfgM m hO).win 8).covers_of_index_surj rfl full every) fun t hf (y : S256x192.Idx) => ?_
  obtain ⟨r, k, rfl⟩ : ∃ (r : Fin 256) (k : Fin 192), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 (rows t r) k := by unfold rows; blk_ext [i]
  blk_simp
  rw [after0_8]
  simp only [e]
  exact out_v m c hO t r k

end Cert.Adam.Qkv.Arrays

end
-- ==== Proof.Adam.Qkv.Ref.lean ====
/- The optimiser's call on the query, key and value weights: what the reference computes, entry by entry. -/
module

public import proofs.«01_k».proof.Proof.Gen.Reference13Ideal.Read
public import Idealize.ShloMosaic.Lib.Pipeline.ValueKit
public import Idealize.ShloMosaic.Lib.Pointwise.Reduce
public import proofs.«01_k».proof.Proof.Adam.Own

@[expose] public section

set_option maxRecDepth 16384

noncomputable section

namespace Cert.Adam.Qkv.Ref

open Idealize.ShloMosaic Idealize.ShloMosaic.TcCoe Idealize.SL.Sem
open Cert.Reference13Ideal Cert.Reference13Ideal.Gen Cert.Reference13Ideal.Read

variable (x0 : IVec S1 32) (x1 x2 : FVec Ideal S8x1024x192 .bf16) (x3 x4 x5 : FVec Ideal S1024x192 .f32)

/-- The arrays of the step, as the reference has them. -/
def args : Step 1024 192 := ⟨x0 (ix1 0), fun s r j => x1 (ix3 s r j), block (fun s r j => x2 (ix3 s r j)) (x0 (ix1 0)), fun r j => x3 (ix2 r j), fun r j => x4 (ix2 r j),
  fun r j => x5 (ix2 r j)⟩

/-- A device's share. -/
theorem share (s : Fin 8) (r : Fin 1024) (j : Fin 192) : val_main_v6 (F := Ideal) x0 x1 x2 (ix3 s r j) = (args x0 x1 x2 x3 x4 x5).share s r j := by
  pointwise [val_main_v6, val_main_v5, val_main_call0_v0, val_main_v4, val_main_v3, val_main_v2, val_main_v1, val_main_v0, args, Step.share]
  exact (choose _ _ _ _).trans (ite_congr (propext eq_comm) (fun e => (block_ofNat (fun s r j => x2 (ix3 s r j)) _ s e r j).symm) fun _ => rfl)

/-- The gradient. -/
theorem g (r : Fin 1024) (j : Fin 192) : val_main_v7 (F := Ideal) x0 x1 x2 (ix2 r j) = (args x0 x1 x2 x3 x4 x5).g r j := by
  pointwise [val_main_v7, val_main_cst, share x0 x1 x2 x3 x4 x5, Step.g]

/-- The first moment. -/
theorem μ (r : Fin 1024) (j : Fin 192) : val_main_v12 (F := Ideal) x0 x1 x2 x4 (ix2 r j) = (args x0 x1 x2 x3 x4 x5).newμ r j := by
  pointwise [val_main_v12, val_main_v11, val_main_v10, val_main_v9, val_main_v8, val_main_cst_0, val_main_cst_1, g x0 x1 x2 x3 x4 x5, Step.newμ]
  rfl

/-- The second moment. -/
theorem v (r : Fin 1024) (j : Fin 192) : val_main_v18 (F := Ideal) x0 x1 x2 x5 (ix2 r j) = (args x0 x1 x2 x3 x4 x5).newv r j := by
  pointwise [val_main_v18, val_main_v17, val_main_v16, val_main_v15, val_main_v14, val_main_v13, val_main_cst_2, val_main_cst_3,
    g x0 x1 x2 x3 x4 x5, Step.newv]
  rfl

/-- What is to be added. -/
theorem delta (r : Fin 1024) (j : Fin 192) : val_main_v31 (F := Ideal) x0 x1 x2 x3 x4 x5 (ix2 r j) = (args x0 x1 x2 x3 x4 x5).delta r j := by
  pointwise [val_main_v31, val_main_v30, val_main_v29, val_main_v28, val_main_v27, val_main_v26, val_main_v25, val_main_v24, val_main_v23,
    val_main_v22, val_main_v21, val_main_v20, val_main_v19, val_main_cst_4, val_main_cst_5, val_main_cst_6, val_main_cst_7, val_main_cst_8,
    μ x0 x1 x2 x3 x4 x5, v x0 x1 x2 x3 x4 x5, Step.delta]
  rfl

end Cert.Adam.Qkv.Ref

end
-- ==== Proof.Adam.Qkv.Claim.lean ====
/- The optimiser's call on the query, key and value weights: kernel and reference compute the same gradient, moments and step. -/
module

public import proofs.«01_k».proof.Defs
public import proofs.«01_k».proof.Proof.Gen.Kernel13.Frame
public import proofs.«01_k».proof.Proof.Adam.Qkv.Arrays
public import proofs.«01_k».proof.Proof.Adam.Qkv.Ref
public import Idealize.ShloMosaic.Lib.Claim

@[expose] public section

set_option maxRecDepth 16384

noncomputable section

namespace Cert.Adam.Qkv

open Idealize.ShloMosaic Idealize.ShloMosaic.TcCoe Idealize.SL.Sem
open Cert.Kernel13Ideal Cert.Kernel13Ideal.Gen

variable (m : (ℓ : Loc nD τ sig) → Buf (Elt Ideal) ℓ) (c : Dev nD)

/-- Under the precondition every block lies within its array. -/
theorem ok [Cert.Pre_on_mesh_w_qkv.Facts] (h : Cert.Pre_Kernel13Ideal m) : Ok m := Own.ok m (below (congrFun (h 0) (ix1 0)))

/-- The same over machine numbers. -/
theorem ok_bits [Cert.Pre_on_mesh_w_qkv.Facts] (m : (ℓ : Loc nD τ sig) → Buf (Elt Bits) ℓ) (h : Cert.Pre_Kernel13 m) : Cert.Kernel13.Gen.Ok m :=
  Own.ok (F := Bits) m (below (congrFun (h 0) (ix1 0)))

variable (hO : Ok m)

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  obtain rfl : c = 0 := Subsingleton.elim _ _
  rfl

/-- The gradient. -/
theorem g : Cert.Reference13Ideal.Read.val_main_v7 (F := Ideal) (m ((c.tc : Thread nD τ).loc main_arg0)) (m ((c.tc : Thread nD τ).loc main_arg1))
    (m ((c.tc : Thread nD τ).loc main_arg2)) = (dats m hO 0 c).arrAt 5 (cfgM m hO).N := by
  rw [Arrays.g, args_eq]
  funext i
  exact (congrArg _ (eq_ix2 i)).trans (Ref.g _ _ _ _ _ _ (i 0) (i 1))

/-- What is to be added. -/
theorem delta : Cert.Reference13Ideal.Read.val_main_v31 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = (dats m hO 0 c).arrAt 6 (cfgM m hO).N := by
  rw [Arrays.delta, args_eq]
  funext i
  exact (congrArg _ (eq_ix2 i)).trans (Ref.delta _ _ _ _ _ _ (i 0) (i 1))

/-- The first moment. -/
theorem μ : Cert.Reference13Ideal.Read.val_main_v12 (F := Ideal) (m ((c.tc : Thread nD τ).loc main_arg0)) (m ((c.tc : Thread nD τ).loc main_arg1))
    (m ((c.tc : Thread nD τ).loc main_arg2)) (m ((c.tc : Thread nD τ).loc main_arg4)) = (dats m hO 0 c).arrAt 7 (cfgM m hO).N := by
  rw [Arrays.μ, args_eq]
  funext i
  exact (congrArg _ (eq_ix2 i)).trans (Ref.μ _ _ _ _ _ _ (i 0) (i 1))

/-- The second moment. -/
theorem v : Cert.Reference13Ideal.Read.val_main_v18 (F := Ideal) (m ((c.tc : Thread nD τ).loc main_arg0)) (m ((c.tc : Thread nD τ).loc main_arg1))
    (m ((c.tc : Thread nD τ).loc main_arg2)) (m ((c.tc : Thread nD τ).loc main_arg5)) = (dats m hO 0 c).arrAt 8 (cfgM m hO).N := by
  rw [Arrays.v, args_eq]
  funext i
  exact (congrArg _ (eq_ix2 i)).trans (Ref.v _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m hO 0 c).arrAt 5 (cfgM m hO).N
    ∧ r.2.mem ((c.tc : Thread nD τ).loc main_v0_1) = (dats m hO 0 c).arrAt 6 (cfgM m hO).N
    ∧ r.2.mem ((c.tc : Thread nD τ).loc main_v0_2) = (dats m hO 0 c).arrAt 7 (cfgM m hO).N
    ∧ r.2.mem ((c.tc : Thread nD τ).loc main_v0_3) = (dats m hO 0 c).arrAt 8 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  θ_run_mono (run_main m ρ hO) fun _ h c =>
    have staged (w : Fin 9) (hw : _) := ((h c).1 w).trans (((dats m hO 0 c).arrAt_in w hw _).trans (A_eq m hO c w))
    ⟨(h c).1 5, (h c).1 6, (h c).1 7, (h c).1 8,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c)⟩

set_option maxHeartbeats 3200000 in
/-- Kernel and reference end with the same arrays. -/
theorem algebraic [Cert.Pre_on_mesh_w_qkv.Facts] : Cert.algebraic_Kernel13Ideal_Reference13Ideal := by
  intro m ρ m' ρ' h hagree
  refine ⟨_, _, _, _, ends m (ok m h) ρ, θ_run_mono (Cert.Reference13Ideal.Value.run m' ρ') fun r hr c => ?_⟩
  obtain ⟨r0, r1, r2, r3, kept⟩ := hr c
  obtain ⟨e0, e1, e2, e3, e4, e5⟩ := hagree c
  rw [Cert.Reference13Ideal.Read.val_main_v7_eq, e0, e1, e2] at r0
  rw [Cert.Reference13Ideal.Read.val_main_v31_eq, e0, e1, e2, e3, e4, e5] at r1
  rw [Cert.Reference13Ideal.Read.val_main_v12_eq, e0, e1, e2, e4] at r2
  rw [Cert.Reference13Ideal.Read.val_main_v18_eq, e0, e1, e2, e5] at r3
  exact ⟨r0.trans (g m c (ok m h)), r1.trans (delta m c (ok m h)), r2.trans (μ m c (ok m h)), r3.trans (v m c (ok m h)), kept⟩

end Cert.Adam.Qkv

end
-- ==== Proof.Adam.Cw.Payload.lean ====
/- The optimiser's call on the convolution's weights: what a block stores, entry by entry. -/
module

public import proofs.«01_k».proof.Proof.Gen.Kernel14Ideal.Skeleton
public import proofs.«01_k».proof.Proof.Adam.Spec

@[expose] public section

set_option maxRecDepth 16384

noncomputable section

namespace Cert.Adam.Cw.Payload

open Idealize.ShloMosaic Idealize.ShloMosaic.TcCoe Idealize.SL.Sem
open Cert.Kernel14Ideal Cert.Kernel14Ideal.Gen

variable {a : Step 3 128} {ρ : Fin 3 → Fin 3} {p : Fin 8 → FVec Ideal S1x3x128 .f32} {own : FVec Ideal S1x3x128 .f32}
  {w μ v : FVec Ideal S3x128 .f32}

/-- The first five shares, added. -/
abbrev five (me : BitVec 32) (own : FVec Ideal S1x3x128 .f32) (p : Fin 8 → FVec Ideal S1x3x128 .f32) : FVec Ideal S3x128 .f32 :=
  k0_pay4 own me (p 0) me (p 1) me (p 2) me (p 3) me (p 4)

variable (H : Reads a ρ (fun s r j => p s (ix3 0 r j)) (fun r j => own (ix3 0 r j)) (fun r j => w (ix2 r j)) (fun r j => μ (ix2 r j))
  fun r j => v (ix2 r j))
include H

/-- The gradient. -/
theorem g (r : Fin 3) (j : Fin 128) :
    k0_pay5 (F := Ideal) (k0_pay3 own) (five a.me own p) a.me (p 5) a.me (p 6) a.me (p 7) (ix2 r j) = a.g (ρ r) j := by
  pointwise [k0_pay5, k0_pay4, k0_pay3, H.part, H.own, choose, sum_shares, Step.share]

/-- The first moment. -/
theorem μ' (r : Fin 3) (j : Fin 128) :
    k0_pay6 (F := Ideal) (k0_pay3 own) (five a.me own p) a.me (p 5) a.me (p 6) a.me (p 7) μ (ix2 r j) = a.newμ (ρ r) j := by
  pointwise [k0_pay6, g H, H.μ, Step.newμ]

/-- The second moment. -/
theorem v' (r : Fin 3) (j : Fin 128) :
    k0_pay1 (F := Ideal) (k0_pay7 v) (k0_pay8 (k0_pay3 own) (five a.me own p) a.me (p 5) a.me (p 6) a.me (p 7)) (ix2 r j) = a.newv (ρ r) j := by
  pointwise [k0_pay1, k0_pay7, k0_pay8, g H, H.v, Step.newv]

/-- What is to be added. -/
theorem d (r : Fin 3) (j : Fin 128) :
    k0_pay2 (F := Ideal) w (k0_pay6 (k0_pay3 own) (five a.me own p) a.me (p 5) a.me (p 6) a.me (p 7) μ) (k0_pay7 v)
      (k0_pay8 (k0_pay3 own) (five a.me own p) a.me (p 5) a.me (p 6) a.me (p 7)) (ix2 r j) = a.delta (ρ r) j := by
  pointwise [k0_pay2, μ' H, v' H, H.w, Step.delta]

end Cert.Adam.Cw.Payload

end
-- ==== Proof.Adam.Cw.Own.lean ====
/- The optimiser's call on the convolution's weights: which block of the own shares a grid point fetches. Said for any numbers, as both runs need it. -/
module

public import proofs.«01_k».proof.Proof.Gen.Kernel14Ideal.Frame
public import proofs.«01_k».proof.Proof.Adam.Own

@[expose] public section

set_option maxRecDepth 16384

noncomputable section

namespace Cert.Adam.Cw.Own

open Idealize.ShloMosaic Idealize.ShloMosaic.TcCoe Idealize.SL.Sem
open Cert.Kernel14Ideal Cert.Kernel14Ideal.Gen

variable {F : FTy → Type} [FloatOps F] (m : (ℓ : Loc nD τ sig) → Buf (Elt F) ℓ)

/-- The device's number. -/
def me : BitVec 32 := (show IVec S1 32 from V m 0 main_arg0) (ix1 0)

/-- The word that the index map reads. -/
theorem word : (tbl m).at 0 (Rect.unit (s := S1) ![0] S1.size inb_S1_S1_0) numel1_S1 = me m :=
  congrArg (tbl m 0) (funext fun a => match a with | ⟨0, _⟩ => Subsingleton.elim (α := Fin 1) _ _)

/-- The index of the block. -/
theorem at_point (i : grid0.Coords) : cc0_transform_1 inb_S1_S1_0 numel1_S1 (tbl m) i = ![(me m).toNat, (i 0).val, 0] := by
  rw [← word m]
  funext a
  match a with
  | ⟨0, _⟩ => rfl
  | ⟨1, _⟩ => exact (Nat.lt_one_iff.1 (i 0).isLt).symm
  | ⟨2, _⟩ => rfl

/-- It lies within the array. -/
theorem ok (h : (me m).toNat < 8) : Ok m := fun i =>
  fits _ (at_point m i) h (by have : (i 0).val < 1 := (i 0).isLt; omega) (by decide)

/-- The device's number is below 8 if every block lies within the array. -/
theorem number (hO : Ok m) : (me m).toNat < 8 := by
  obtain ⟨h, _⟩ := hO (grid0.coords t0_0)
  have h0 := h 0
  rw [at_point m] at h0
  exact (Nat.mul_one _).symm.trans_le h0

end Cert.Adam.Cw.Own

end
-- ==== Proof.Adam.Cw.Block.lean ====
/- The optimiser's call on the convolution's weights: what each grid point reads and what it leaves in the four output blocks. -/
module

public import proofs.«01_k».proof.Proof.Gen.Kernel14Ideal.Frame
public import Idealize.ShloMosaic.Lib.Pipeline.ValueKit
public import proofs.«01_k».proof.Proof.Adam.Cw.Payload
public import proofs.«01_k».proof.Proof.Adam.Load
public import proofs.«01_k».proof.Proof.Adam.Cw.Own

@[expose] public section

set_option maxRecDepth 16384

noncomputable section

namespace Cert.Adam.Cw.Block

open Idealize.ShloMosaic Idealize.ShloMosaic.TcCoe Idealize.SL.Sem
open Cert.Kernel14Ideal Cert.Kernel14Ideal.Gen

variable (m : (ℓ : Loc nD τ sig) → Buf (Elt Ideal) ℓ) (c : Dev nD) (hO : Ok m)

/-- The arrays the kernel is launched on. -/
def args : Step 3 128 where
  me := Own.me m
  part s r j := (show FVec Ideal S8x3x128 .f32 from V m c main_arg1) (ix3 s r j)
  own := block (fun s r j => (show FVec Ideal S8x3x128 .f32 from V m c main_arg2) (ix3 s r j)) (Own.me m)
  w r j := (show FVec Ideal S3x128 .f32 from V m c main_arg3) (ix2 r j)
  μ r j := (show FVec Ideal S3x128 .f32 from V m c main_arg4) (ix2 r j)
  v r j := (show FVec Ideal S3x128 .f32 from V m c main_arg5) (ix2 r j)

/-- The rows of a grid point's blocks. -/
def rows (t : Fin grid0.N) (r : Fin 3) : Fin 3 := ⟨3 * t.val + r, by have := lt_of_lt_of_eq t.isLt N_0; omega⟩

/-- The word the kernel reads is the device's number. -/
theorem word (h) : View.readAt (Elt Ideal) (View.whole main_arg0) (Rect.unit ![0] ![1] inb_S1_S1_0).toLoadRect (tbl m 0) (Shape.Idx.first h)
    = (args m c).me :=
  congrArg (tbl m 0) (funext fun a => match a with | ⟨0, _⟩ => Subsingleton.elim (α := Fin 1) _ _)

/-- The windows' block indices. -/
theorem idx : ∀ t : Fin (cfgM m hO).N, ((cfgM m hO).win 0).index t = ![0, t.val, 0]
    ∧ ((cfgM m hO).win 2).index t = ![t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] :=
  (by decide +kernel : ∀ t : Fin grid0.N, cc0_transform_0 (grid0.coords t) = ![0, t.val, 0]
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0] ∧ cc0_transform_7 (grid0.coords t) = ![t.val, 0]
    ∧ cc0_transform_8 (grid0.coords t) = ![t.val, 0])

theorem idx_own (t : Fin (cfgM m hO).N) : ((cfgM m hO).win 1).index t = ![(Own.me m).toNat, t.val, 0] :=
  (Own.at_point m (grid0.coords t)).trans (by rw [(by decide +kernel : ∀ t : Fin grid0.N, (grid0.coords t 0).val = t.val) t])

theorem blk_part (t : Fin (cfgM m hO).N) (s : Fin 8) (r : Fin 3) (j : Fin 128) :
    (show FVec Ideal S8x3x128 .f32 from iblk m hO c 0 t) (ix3 s r j) = (args m c).part s (rows t r) j := by
  have e := idx m hO t
  dsimp only [cfgM] at e
  unfold args rows; blk_ext [iblk, e]
theorem blk_own (t : Fin (cfgM m hO).N) (r : Fin 3) (j : Fin 128) :
    (show FVec Ideal S1x3x128 .f32 from iblk m hO c 1 t) (ix3 0 r j) = (args m c).own (rows t r) j := by
  have e := idx_own m hO t
  dsimp only [cfgM] at e
  unfold args; dsimp only
  rw [block_of _ _ (Own.number m hO)]
  unfold rows; blk_ext [iblk, e]
theorem blk_w (t : Fin (cfgM m hO).N) (r : Fin 3) (j : Fin 128) :
    (show FVec Ideal S3x128 .f32 from iblk m hO c 2 t) (ix2 r j) = (args m c).w (rows t r) j := by
  have e := idx m hO t
  dsimp only [cfgM] at e
  unfold args rows; blk_ext [iblk, e]
theorem blk_μ (t : Fin (cfgM m hO).N) (r : Fin 3) (j : Fin 128) :
    (show FVec Ideal S3x128 .f32 from iblk m hO c 3 t) (ix2 r j) = (args m c).μ (rows t r) j := by
  have e := idx m hO t
  dsimp only [cfgM] at e
  unfold args rows; blk_ext [iblk, e]
theorem blk_v (t : Fin (cfgM m hO).N) (r : Fin 3) (j : Fin 128) :
    (show FVec Ideal S3x128 .f32 from iblk m hO c 4 t) (ix2 r j) = (args m c).v (rows t r) j := by
  have e := idx m hO t
  dsimp only [cfgM] at e
  unfold args rows; blk_ext [iblk, e]

/-- The blocks of a grid point. -/
theorem reads (t : Fin (cfgM m hO).N) : Reads (args m c) (rows t)
    (fun s r j => slab (b := 3) (C := 128) (e := .f32) (iblk m hO c 0 t) s (ix3 0 r j))
    (fun r j => (show FVec Ideal S1x3x128 .f32 from iblk m hO c 1 t) (ix3 0 r j)) (fun r j => (show FVec Ideal S3x128 .f32 from iblk m hO c 2 t) (ix2 r j))
    (fun r j => (show FVec Ideal S3x128 .f32 from iblk m hO c 3 t) (ix2 r j)) fun r j => (show FVec Ideal S3x128 .f32 from iblk m hO c 4 t) (ix2 r j) where
  part s r j := (slab_apply _ s r j).trans (blk_part m c hO t s r j)
  own := blk_own m c hO t
  w := blk_w m c hO t
  μ := blk_μ m c hO t
  v := blk_v m c hO t

/-- The gradient's block. -/
theorem out_g (t : Fin (cfgM m hO).N) (r : Fin 3) (j : Fin 128) :
    (show FVec Ideal S3x128 .f32 from (outsAt0 m hO c t).1) (ix2 r j) = (args m c).g (rows t r) j := by
  have key := Payload.g (reads m c hO t) r j
  have e0 := (hs0_0 m hO t).read_unread (Val := Elt Ideal) (iblk m hO c 0 t)
  have e1 := (hs0_1 m hO t).read_unread (Val := Elt Ideal) (iblk m hO c 1 t)
  unfold outsAt0; dsimp only; frame_out
  rw [e0, e1, word m c]
  exact key

/-- The block of what is to be added. -/
theorem out_delta (t : Fin (cfgM m hO).N) (r : Fin 3) (j : Fin 128) :
    (show FVec Ideal S3x128 .f32 from (outsAt0 m hO c t).2.1) (ix2 r j) = (args m c).delta (rows t r) j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  unfold outsAt0; dsimp only; frame_out
  rw [e0, e1, e2, e3, e4, word m c]
  exact key

/-- The first moment's block. -/
theorem out_μ (t : Fin (cfgM m hO).N) (r : Fin 3) (j : Fin 128) :
    (show FVec Ideal S3x128 .f32 from (outsAt0 m hO c t).2.2.1) (ix2 r j) = (args m c).newμ (rows t r) j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e3 := (hs0_3 m hO t).read_unread (Val := Elt Ideal) (iblk m hO c 3 t)
  unfold outsAt0; dsimp only; frame_out
  rw [e0, e1, e3, word m c]
  exact key

/-- The second moment's block. -/
theorem out_v (t : Fin (cfgM m hO).N) (r : Fin 3) (j : Fin 128) :
    (show FVec Ideal S3x128 .f32 from (outsAt0 m hO c t).2.2.2) (ix2 r j) = (args m c).newv (rows t r) j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e4 := (hs0_4 m hO t).read_unread (Val := Elt Ideal) (iblk m hO c 4 t)
  unfold outsAt0; dsimp only; frame_out
  rw [e0, e1, e4, word m c]
  exact key

end Cert.Adam.Cw.Block

end
-- ==== Proof.Adam.Cw.Arrays.lean ====
/- The optimiser's call on the convolution's weights: what the kernel's four result arrays hold, and that they are what a run ends with. -/
module

public import proofs.«01_k».proof.Proof.Adam.Cw.Block
public import Idealize.ShloMosaic.Lib.Pipeline.Value
public import Idealize.ShloMosaic.Lib.Pipeline.Covers

@[expose] public section

set_option maxRecDepth 16384

noncomputable section

namespace Cert.Adam.Cw.Arrays

open Idealize.ShloMosaic Idealize.ShloMosaic.TcCoe Idealize.SL.Sem
open Cert.Kernel14Ideal Cert.Kernel14Ideal.Gen Cert.Adam.Cw.Block

variable (m : (ℓ : Loc nD τ sig) → Buf (Elt Ideal) ℓ) (c : Dev nD) (hO : Ok m)

/-- An output block is not empty. -/
theorem full : ∀ a : Fin 2, 0 < S3x128.size a := by decide

/-- Every block of an output array is written. -/
theorem every : ∀ β : (a : Fin 2) → Fin ((S3x128.size a + S3x128.size a - 1) / S3x128.size a), ∃ t : Fin grid0.N,
    ∀ a, cc0_transform_5 (grid0.coords t) a = β a := by decide +kernel

/-- The gradient. -/
theorem g : (dats m hO 0 c).arrAt 5 (cfgM m hO).N = fun i : S3x128.Idx => (args m c).g (i 0) (i 1) := by
  refine (dats m hO 0 c).arrAt_eq_of_covers 5 _ (((cfgM m hO).win 5).covers_of_index_surj rfl full every) fun t hf (y : S3x128.Idx) => ?_
  obtain ⟨r, k, rfl⟩ : ∃ (r : Fin 3) (k : Fin 128), y = ix2 r k := ⟨y 0, y 1, by funext a; match a with | ⟨0, _⟩ => rfl | ⟨1, _⟩ => rfl⟩
  have i := idx m hO t
  dsimp only [cfgM] at i
  have e : (((cfgM m hO).win 5).blk t).view.emb (ix2 r k) = ix2 (rows t r) k := by unfold rows; blk_ext [i]
  blk_simp
  rw [after0_5]
  simp only [e]
  exact out_g m c hO t r k

/-- What is to be added. -/
theorem delta : (dats m hO 0 c).arrAt 6 (cfgM m hO).N = fun i : S3x128.Idx => (args m c).delta (i 0) (i 1) := by
  refine (dats m hO 0 c).arrAt_eq_of_covers 6 _ (((cfgM m hO).win 6).covers_of_index_surj rfl full every) fun t hf (y : S3x128.Idx) => ?_
  obtain ⟨r, k, rfl⟩ : ∃ (r : Fin 3) (k : Fin 128), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 (rows t r) k := by unfold rows; blk_ext [i]
  blk_simp
  rw [after0_6]
  simp only [e]
  exact out_delta m c hO t r k

/-- The first moment. -/
theorem μ : (dats m hO 0 c).arrAt 7 (cfgM m hO).N = fun i : S3x128.Idx => (args m c).newμ (i 0) (i 1) := by
  refine (dats m hO 0 c).arrAt_eq_of_covers 7 _ (((cfgM m hO).win 7).covers_of_index_surj rfl full every) fun t hf (y : S3x128.Idx) => ?_
  obtain ⟨r, k, rfl⟩ : ∃ (r : Fin 3) (k : Fin 128), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 (rows t r) k := by unfold rows; blk_ext [i]
  blk_simp
  rw [after0_7]
  simp only [e]
  exact out_μ m c hO t r k

/-- The second moment. -/
theorem v : (dats m hO 0 c).arrAt 8 (cfgM m hO).N = fun i : S3x128.Idx => (args m c).newv (i 0) (i 1) := by
  refine (dats m hO 0 c).arrAt_eq_of_covers 8 _ (((cfgM m hO).win 8).covers_of_index_surj rfl full every) fun t hf (y : S3x128.Idx) => ?_
  obtain ⟨r, k, rfl⟩ : ∃ (r : Fin 3) (k : Fin 128), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 (rows t r) k := by unfold rows; blk_ext [i]
  blk_simp
  rw [after0_8]
  simp only [e]
  exact out_v m c hO t r k

end Cert.Adam.Cw.Arrays

end
-- ==== Proof.Adam.Cw.Ref.lean ====
/- The optimiser's call on the convolution's weights: what the reference computes, entry by entry. -/
module

public import proofs.«01_k».proof.Proof.Gen.Reference14Ideal.Read
public import Idealize.ShloMosaic.Lib.Pipeline.ValueKit
public import Idealize.ShloMosaic.Lib.Pointwise.Reduce
public import proofs.«01_k».proof.Proof.Adam.Own

@[expose] public section

set_option maxRecDepth 16384

noncomputable section

namespace Cert.Adam.Cw.Ref

open Idealize.ShloMosaic Idealize.ShloMosaic.TcCoe Idealize.SL.Sem
open Cert.Reference14Ideal Cert.Reference14Ideal.Gen Cert.Reference14Ideal.Read

variable (x0 : IVec S1 32) (x1 x2 : FVec Ideal S8x3x128 .f32) (x3 x4 x5 : FVec Ideal S3x128 .f32)

/-- The arrays of the step, as the reference has them. -/
def args : Step 3 128 := ⟨x0 (ix1 0), fun s r j => x1 (ix3 s r j), block (fun s r j => x2 (ix3 s r j)) (x0 (ix1 0)), fun r j => x3 (ix2 r j), fun r j => x4 (ix2 r j),
  fun r j => x5 (ix2 r j)⟩

/-- A device's share. -/
theorem share (s : Fin 8) (r : Fin 3) (j : Fin 128) : val_main_v5 (F := Ideal) x0 x1 x2 (ix3 s r j) = (args x0 x1 x2 x3 x4 x5).share s r j := by
  pointwise [val_main_v5, val_main_call0_v0, val_main_v4, val_main_v3, val_main_v2, val_main_v1, val_main_v0, args, Step.share]
  exact (choose _ _ _ _).trans (ite_congr (propext eq_comm) (fun e => (block_ofNat (fun s r j => x2 (ix3 s r j)) _ s e r j).symm) fun _ => rfl)

/-- The gradient. -/
theorem g (r : Fin 3) (j : Fin 128) : val_main_v6 (F := Ideal) x0 x1 x2 (ix2 r j) = (args x0 x1 x2 x3 x4 x5).g r j := by
  pointwise [val_main_v6, val_main_cst, share x0 x1 x2 x3 x4 x5, Step.g]

/-- The first moment. -/
theorem μ (r : Fin 3) (j : Fin 128) : val_main_v11 (F := Ideal) x0 x1 x2 x4 (ix2 r j) = (args x0 x1 x2 x3 x4 x5).newμ r j := by
  pointwise [val_main_v11, val_main_v10, val_main_v9, val_main_v8, val_main_v7, val_main_cst_0, val_main_cst_1, g x0 x1 x2 x3 x4 x5, Step.newμ]
  rfl

/-- The second moment. -/
theorem v (r : Fin 3) (j : Fin 128) : val_main_v17 (F := Ideal) x0 x1 x2 x5 (ix2 r j) = (args x0 x1 x2 x3 x4 x5).newv r j := by
  pointwise [val_main_v17, val_main_v16, val_main_v15, val_main_v14, val_main_v13, val_main_v12, val_main_cst_2, val_main_cst_3,
    g x0 x1 x2 x3 x4 x5, Step.newv]
  rfl

/-- What is to be added. -/
theorem delta (r : Fin 3) (j : Fin 128) : val_main_v30 (F := Ideal) x0 x1 x2 x3 x4 x5 (ix2 r j) = (args x0 x1 x2 x3 x4 x5).delta r j := by
  pointwise [val_main_v30, val_main_v29, val_main_v28, val_main_v27, val_main_v26, val_main_v25, val_main_v24, val_main_v23, val_main_v22,
    val_main_v21, val_main_v20, val_main_v19, val_main_v18, val_main_cst_4, val_main_cst_5, val_main_cst_6, val_main_cst_7, val_main_cst_8,
    μ x0 x1 x2 x3 x4 x5, v x0 x1 x2 x3 x4 x5, Step.delta]
  rfl

end Cert.Adam.Cw.Ref

end
-- ==== Proof.Adam.Cw.Claim.lean ====
/- The optimiser's call on the convolution's weights: kernel and reference compute the same gradient, moments and step. -/
module

public import proofs.«01_k».proof.Defs
public import proofs.«01_k».proof.Proof.Gen.Kernel14.Frame
public import proofs.«01_k».proof.Proof.Adam.Cw.Arrays
public import proofs.«01_k».proof.Proof.Adam.Cw.Ref
public import Idealize.ShloMosaic.Lib.Claim

@[expose] public section

set_option maxRecDepth 16384

noncomputable section

namespace Cert.Adam.Cw

open Idealize.ShloMosaic Idealize.ShloMosaic.TcCoe Idealize.SL.Sem
open Cert.Kernel14Ideal Cert.Kernel14Ideal.Gen

variable (m : (ℓ : Loc nD τ sig) → Buf (Elt Ideal) ℓ) (c : Dev nD)

/-- Under the precondition every block lies within its array. -/
theorem ok [Cert.Pre_on_mesh_cw.Facts] (h : Cert.Pre_Kernel14Ideal m) : Ok m := Own.ok m (below (congrFun (h 0) (ix1 0)))

/-- The same over machine numbers. -/
theorem ok_bits [Cert.Pre_on_mesh_cw.Facts] (m : (ℓ : Loc nD τ sig) → Buf (Elt Bits) ℓ) (h : Cert.Pre_Kernel14 m) : Cert.Kernel14.Gen.Ok m :=
  Own.ok (F := Bits) m (below (congrFun (h 0) (ix1 0)))

variable (hO : Ok m)

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  obtain rfl : c = 0 := Subsingleton.elim _ _
  rfl

/-- The gradient. -/
theorem g : Cert.Reference14Ideal.Read.val_main_v6 (F := Ideal) (m ((c.tc : Thread nD τ).loc main_arg0)) (m ((c.tc : Thread nD τ).loc main_arg1))
    (m ((c.tc : Thread nD τ).loc main_arg2)) = (dats m hO 0 c).arrAt 5 (cfgM m hO).N := by
  rw [Arrays.g, args_eq]
  funext i
  exact (congrArg _ (eq_ix2 i)).trans (Ref.g _ _ _ _ _ _ (i 0) (i 1))

/-- What is to be added. -/
theorem delta : Cert.Reference14Ideal.Read.val_main_v30 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = (dats m hO 0 c).arrAt 6 (cfgM m hO).N := by
  rw [Arrays.delta, args_eq]
  funext i
  exact (congrArg _ (eq_ix2 i)).trans (Ref.delta _ _ _ _ _ _ (i 0) (i 1))

/-- The first moment. -/
theorem μ : Cert.Reference14Ideal.Read.val_main_v11 (F := Ideal) (m ((c.tc : Thread nD τ).loc main_arg0)) (m ((c.tc : Thread nD τ).loc main_arg1))
    (m ((c.tc : Thread nD τ).loc main_arg2)) (m ((c.tc : Thread nD τ).loc main_arg4)) = (dats m hO 0 c).arrAt 7 (cfgM m hO).N := by
  rw [Arrays.μ, args_eq]
  funext i
  exact (congrArg _ (eq_ix2 i)).trans (Ref.μ _ _ _ _ _ _ (i 0) (i 1))

/-- The second moment. -/
theorem v : Cert.Reference14Ideal.Read.val_main_v17 (F := Ideal) (m ((c.tc : Thread nD τ).loc main_arg0)) (m ((c.tc : Thread nD τ).loc main_arg1))
    (m ((c.tc : Thread nD τ).loc main_arg2)) (m ((c.tc : Thread nD τ).loc main_arg5)) = (dats m hO 0 c).arrAt 8 (cfgM m hO).N := by
  rw [Arrays.v, args_eq]
  funext i
  exact (congrArg _ (eq_ix2 i)).trans (Ref.v _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m hO 0 c).arrAt 5 (cfgM m hO).N
    ∧ r.2.mem ((c.tc : Thread nD τ).loc main_v0_1) = (dats m hO 0 c).arrAt 6 (cfgM m hO).N
    ∧ r.2.mem ((c.tc : Thread nD τ).loc main_v0_2) = (dats m hO 0 c).arrAt 7 (cfgM m hO).N
    ∧ r.2.mem ((c.tc : Thread nD τ).loc main_v0_3) = (dats m hO 0 c).arrAt 8 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  θ_run_mono (run_main m ρ hO) fun _ h c =>
    have staged (w : Fin 9) (hw : _) := ((h c).1 w).trans (((dats m hO 0 c).arrAt_in w hw _).trans (A_eq m hO c w))
    ⟨(h c).1 5, (h c).1 6, (h c).1 7, (h c).1 8,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c)⟩

set_option maxHeartbeats 3200000 in
/-- Kernel and reference end with the same arrays. -/
theorem algebraic [Cert.Pre_on_mesh_cw.Facts] : Cert.algebraic_Kernel14Ideal_Reference14Ideal := by
  intro m ρ m' ρ' h hagree
  refine ⟨_, _, _, _, ends m (ok m h) ρ, θ_run_mono (Cert.Reference14Ideal.Value.run m' ρ') fun r hr c => ?_⟩
  obtain ⟨r0, r1, r2, r3, kept⟩ := hr c
  obtain ⟨e0, e1, e2, e3, e4, e5⟩ := hagree c
  rw [Cert.Reference14Ideal.Read.val_main_v6_eq, e0, e1, e2] at r0
  rw [Cert.Reference14Ideal.Read.val_main_v30_eq, e0, e1, e2, e3, e4, e5] at r1
  rw [Cert.Reference14Ideal.Read.val_main_v11_eq, e0, e1, e2, e4] at r2
  rw [Cert.Reference14Ideal.Read.val_main_v17_eq, e0, e1, e2, e5] at r3
  exact ⟨r0.trans (g m c (ok m h)), r1.trans (delta m c (ok m h)), r2.trans (μ m c (ok m h)), r3.trans (v m c (ok m h)), kept⟩

end Cert.Adam.Cw

end
-- ==== Proof.Adam.Layers.lean ====
/- A parameter of two layers: its rows lie one layer after the other, and each layer's own shares lie in an array of their own. The kernel picks
   the layer from the number of the grid point. -/
module

public import proofs.«01_k».proof.Proof.Adam.Own
public import Idealize.ShloMosaic.Lib.Pipeline.Value

@[expose] public section

noncomputable section

namespace Cert.Adam

open Idealize.ShloMosaic Idealize.ShloMosaic.TcCoe Idealize.SL.Sem

variable {R R' C : ℕ}

/-- The rows of two layers, one after the other. -/
def both (X Y : Fin R → Fin C → EReal) (r : Fin R') (j : Fin C) : EReal :=
  if h : r.val < R then X ⟨r.val, h⟩ j else if h : r.val - R < R then Y ⟨r.val - R, h⟩ j else 0

theorem both_first (X Y : Fin R → Fin C → EReal) (r : Fin R') (j : Fin C) (q : Fin R) (e : r.val = q.val) : both X Y r j = X q j := by
  have h : r.val < R := e ▸ q.isLt
  unfold both
  rw [dif_pos h]
  exact congrArg (fun q' => X q' j) (Fin.ext e)

theorem both_second (X Y : Fin R → Fin C → EReal) (r : Fin R') (j : Fin C) (q : Fin R) (e : r.val = R + q.val) : both X Y r j = Y q j := by
  have h : ¬ r.val < R := by omega
  have h' : r.val - R < R := by have := q.isLt; omega
  unfold both
  rw [dif_neg h, dif_pos h']
  exact congrArg (fun q' => Y q' j) (Fin.ext (by dsimp only; omega))

/-- The reference joins the layers' arrays along the rows. -/
theorem joined (hR : R' = R + R) (X Y : (⟨3, ![8, R, C]⟩ : Shape).Idx → EReal)
    (h : Shape.Concatenates [⟨3, ![8, R, C]⟩, ⟨3, ![8, R, C]⟩] ⟨3, ![8, R', C]⟩ 1) (s : Fin 8) (r : Fin R') (j : Fin C) :
    concatenate ⟨3, ![8, R', C]⟩ 1 [⟨⟨3, ![8, R, C]⟩, X⟩, ⟨⟨3, ![8, R, C]⟩, Y⟩] h (ix3 s r j)
      = both (fun r j => X (ix3 s r j)) (fun r j => Y (ix3 s r j)) r j := by
  rw [concatenate_pair_apply]
  by_cases hr : r.val < R
  · rw [both_first _ _ r j ⟨r.val, hr⟩ rfl]
    exact (dif_pos hr).trans (congrArg X (funext fun a => match a with | ⟨0, _⟩ => rfl | ⟨1, _⟩ => rfl | ⟨2, _⟩ => rfl))
  · rw [both_second _ _ r j ⟨r.val - R, by have := r.isLt; omega⟩ (by dsimp only; omega)]
    exact (dif_neg hr).trans (congrArg Y (funext fun a => match a with | ⟨0, _⟩ => rfl | ⟨1, _⟩ => rfl | ⟨2, _⟩ => rfl))

/-- The quotient of two words, rounded down, as the kernel computes it. -/
def quotient (x n : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt n 0#32)) (Scalar.extui (Scalar.cmpi .slt n 0#32)))) (Scalar.cmpi .ne (Scalar.remsi x n) 0#32))
    (Scalar.subi (Scalar.divsi x n) 1#32) (Scalar.divsi x n)

/-- The last four of the eight grid points are the second layer's. -/
theorem second : ∀ k : Fin 8, Scalar.cmpi .eq (quotient (BitVec.ofNat 32 k) 4#32) 1#32 = BitVec.ofBool (decide (4 ≤ k.val)) := by decide +kernel

end Cert.Adam

end
-- ==== Proof.Adam.Gu.Payload.lean ====
/- The optimiser's call on the gate and up weights: what a block stores, entry by entry. -/
module

public import proofs.«01_k».proof.Proof.Gen.Kernel15Ideal.Skeleton
public import proofs.«01_k».proof.Proof.Adam.Layers

@[expose] public section

set_option maxRecDepth 16384

noncomputable section

namespace Cert.Adam.Gu.Payload

open Idealize.ShloMosaic Idealize.ShloMosaic.TcCoe Idealize.SL.Sem
open Cert.Kernel15Ideal Cert.Kernel15Ideal.Gen

variable {a : Step 2048 704} {ρ : Fin 256 → Fin 2048} {p : Fin 8 → FVec Ideal S1x256x704 .bf16} {i : grid0.Coords}
  {x y : FVec Ideal S1x256x704 .bf16} {w μ v : FVec Ideal S256x704 .f32}

/-- The own share of a grid point: the first layer's or the second's. -/
theorem pick (x y : FVec Ideal S1x256x704 .bf16) (i : grid0.Coords) (r : Fin 256) (j : Fin 704) :
    k0_pay2 (F := Ideal) i x y (ix2 r j) = (if 4 ≤ (i 0).val then y (ix3 0 r j) else x (ix3 0 r j) : EReal) := by
  have k : (i 0).val < 8 := (i 0).isLt
  refine (congrArg (fun c => (Scalar.select c (k0_pay6 (F := Ideal) y) (k0_pay6 (F := Ideal) x)) (ix2 r j)) (second ⟨(i 0).val, k⟩)).trans ?_
  by_cases h : 4 ≤ (i 0).val
  · simp only [h, decide_true, if_true]; pointwise [k0_pay6]
  · simp only [h, decide_false, if_false]; pointwise [k0_pay6, Bool.false_eq_true, if_false]

/-- The first six shares, added. -/
abbrev six (me : BitVec 32) (i : grid0.Coords) (x y : FVec Ideal S1x256x704 .bf16) (p : Fin 8 → FVec Ideal S1x256x704 .bf16) : FVec Ideal S256x704 .f32 :=
  k0_pay5 (k0_pay2 i x y) (k0_pay3 i x y me (p 0)) (Scalar.cmpi .eq me 1#32) (k0_pay4 (p 1)) me (p 2) me (p 3) me (p 4) me (p 5)

variable (H : Reads a ρ (fun s r j => p s (ix3 0 r j)) (fun r j => k0_pay2 (F := Ideal) i x y (ix2 r j)) (fun r j => w (ix2 r j)) (fun r j => μ (ix2 r j))
  fun r j => v (ix2 r j))
include H

/-- The gradient. -/
theorem g (r : Fin 256) (j : Fin 704) :
    k0_pay7 (F := Ideal) (k0_pay2 i x y) (six a.me i x y p) (Scalar.cmpi .eq a.me 6#32) (k0_pay6 (p 6)) a.me (p 7) (ix2 r j) = a.g (ρ r) j := by
  pointwise [k0_pay7, k0_pay6, k0_pay5, k0_pay4, k0_pay3, H.part, H.own, choose, sum_shares, Step.share]

/-- The first moment. -/
theorem μ' (r : Fin 256) (j : Fin 704) :
    k0_pay8 (F := Ideal) (k0_pay2 i x y) (six a.me i x y p) (Scalar.cmpi .eq a.me 6#32) (k0_pay6 (p 6)) a.me (p 7) μ (ix2 r j)
      = a.newμ (ρ r) j := by
  pointwise [k0_pay8, g H, H.μ, Step.newμ]

/-- The second moment. -/
theorem v' (r : Fin 256) (j : Fin 704) :
    k0_pay9 (F := Ideal) (k0_pay2 i x y) (six a.me i x y p) (Scalar.cmpi .eq a.me 6#32) (k0_pay6 (p 6)) a.me (p 7) v (ix2 r j)
      = a.newv (ρ r) j := by
  pointwise [k0_pay9, g H, H.v, Step.newv]

/-- What is to be added. -/
theorem d (r : Fin 256) (j : Fin 704) :
    k0_pay1 (F := Ideal) (k0_pay10 (k0_pay2 i x y) (six a.me i x y p) (Scalar.cmpi .eq a.me 6#32) (k0_pay6 (p 6)) a.me (p 7) w μ v) k0_pay11
      (ix2 r j) = a.delta (ρ r) j := by
  pointwise [k0_pay1, k0_pay10, k0_pay11, μ' H, v' H, H.w, Step.delta]

end Cert.Adam.Gu.Payload

end
-- ==== Proof.Adam.Gu.Own.lean ====
/- The optimiser's call on the gate and up weights: which blocks of the own shares a grid point fetches. Said for any numbers, as both runs need it. -/
module

public import proofs.«01_k».proof.Proof.Gen.Kernel15Ideal.Frame
public import proofs.«01_k».proof.Proof.Adam.Own

@[expose] public section

set_option maxRecDepth 16384

noncomputable section

namespace Cert.Adam.Gu.Own

open Idealize.ShloMosaic Idealize.ShloMosaic.TcCoe Idealize.SL.Sem
open Cert.Kernel15Ideal Cert.Kernel15Ideal.Gen

variable {F : FTy → Type} [FloatOps F] (m : (ℓ : Loc nD τ sig) → Buf (Elt F) ℓ)

/-- The device's number. -/
def me : BitVec 32 := (show IVec S1 32 from V m 0 main_arg0) (ix1 0)

/-- The word that the index map reads. -/
theorem word : (tbl m).at 0 (Rect.unit (s := S1) ![0] S1.size inb_S1_S1_0) numel1_S1 = me m :=
  congrArg (tbl m 0) (funext fun a => match a with | ⟨0, _⟩ => Subsingleton.elim (α := Fin 1) _ _)

/-- The index of the first layer's block, -/
theorem at_first (i : grid0.Coords) : cc0_transform_1 inb_S1_S1_0 numel1_S1 (tbl m) i = ![(me m).toNat, (i 0).val % 4, 0] := by
  rw [← word m]
  funext a
  match a with
  | ⟨0, _⟩ => rfl
  | ⟨1, _⟩ => exact modulo_eq 4 (by decide) ⟨(i 0).val, (i 0).isLt⟩
  | ⟨2, _⟩ => rfl

/-- and of the second's. -/
theorem at_second (i : grid0.Coords) : cc0_transform_2 inb_S1_S1_0 numel1_S1 (tbl m) i = ![(me m).toNat, (i 0).val % 4, 0] := at_first m i

/-- They lie within the arrays. -/
theorem ok (h : (me m).toNat < 8) : Ok m :=
  ⟨fun i => fits _ (at_first m i) h (by have := Nat.mod_lt (i 0).val (Nat.succ_pos 3); omega) (by decide),
    fun i => fits _ (at_second m i) h (by have := Nat.mod_lt (i 0).val (Nat.succ_pos 3); omega) (by decide)⟩

/-- The device's number is below 8 if every block lies within the array. -/
theorem number (hO : Ok m) : (me m).toNat < 8 := by
  obtain ⟨h, _⟩ := hO.1 (grid0.coords t0_0)
  have h0 := h 0
  rw [at_first m] at h0
  exact (Nat.mul_one _).symm.trans_le h0

end Cert.Adam.Gu.Own

end
-- ==== Proof.Adam.Gu.Block.lean ====
/- The optimiser's call on the gate and up weights: what each grid point reads and what it leaves in the four output blocks. -/
module

public import proofs.«01_k».proof.Proof.Gen.Kernel15Ideal.Frame
public import Idealize.ShloMosaic.Lib.Pipeline.ValueKit
public import proofs.«01_k».proof.Proof.Adam.Gu.Payload
public import proofs.«01_k».proof.Proof.Adam.Load
public import proofs.«01_k».proof.Proof.Adam.Gu.Own

@[expose] public section

set_option maxRecDepth 16384

noncomputable section

namespace Cert.Adam.Gu.Block

open Idealize.ShloMosaic Idealize.ShloMosaic.TcCoe Idealize.SL.Sem
open Cert.Kernel15Ideal Cert.Kernel15Ideal.Gen

variable (m : (ℓ : Loc nD τ sig) → Buf (Elt Ideal) ℓ) (c : Dev nD) (hO : Ok m)

/-- The own shares of the first layer, -/
def first (s : Fin 8) (r : Fin 1024) (j : Fin 704) : EReal := (show FVec Ideal S8x1024x704 .bf16 from V m c main_arg2) (ix3 s r j)
/-- and of the second. -/
def last (s : Fin 8) (r : Fin 1024) (j : Fin 704) : EReal := (show FVec Ideal S8x1024x704 .bf16 from V m c main_arg3) (ix3 s r j)

/-- The arrays the kernel is launched on. -/
def args : Step 2048 704 where
  me := Own.me m
  part s r j := (show FVec Ideal S8x2048x704 .bf16 from V m c main_arg1) (ix3 s r j)
  own := block (fun s => both (first m c s) (last m c s)) (Own.me m)
  w r j := (show FVec Ideal S2048x704 .f32 from V m c main_arg4) (ix2 r j)
  μ r j := (show FVec Ideal S2048x704 .f32 from V m c main_arg5) (ix2 r j)
  v r j := (show FVec Ideal S2048x704 .f32 from V m c main_arg6) (ix2 r j)

/-- The rows of a grid point's blocks. -/
def rows (t : Fin grid0.N) (r : Fin 256) : Fin 2048 := ⟨256 * t.val + r, by have := lt_of_lt_of_eq t.isLt N_0; omega⟩

/-- The word the kernel reads is the device's number. -/
theorem word (h) : View.readAt (Elt Ideal) (View.whole main_arg0) (Rect.unit ![0] ![1] inb_S1_S1_0).toLoadRect (tbl m 0) (Shape.Idx.first h)
    = (args m c).me :=
  congrArg (tbl m 0) (funext fun a => match a with | ⟨0, _⟩ => Subsingleton.elim (α := Fin 1) _ _)

/-- The windows' block indices. -/
theorem idx : ∀ t : Fin (cfgM m hO).N, ((cfgM m hO).win 0).index t = ![0, t.val, 0]
    ∧ ((cfgM m hO).win 3).index t = ![t.val, 0] ∧ ((cfgM m hO).win 4).index t = ![t.val, 0] ∧ ((cfgM m hO).win 5).index t = ![t.val, 0]
    ∧ ((cfgM m hO).win 6).index t = ![t.val, 0] ∧ ((cfgM m hO).win 7).index t = ![t.val, 0] ∧ ((cfgM m hO).win 8).index t = ![t.val, 0]
    ∧ ((cfgM m hO).win 9).index t = ![t.val, 0] :=
  (by decide +kernel : ∀ t : Fin grid0.N, cc0_transform_0 (grid0.coords t) = ![0, t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]
    ∧ cc0_transform_9 (grid0.coords t) = ![t.val, 0])

/-- A grid point's coordinate is its number. -/
theorem coord : ∀ t : Fin grid0.N, (grid0.coords t 0).val = t.val := by decide +kernel

theorem idx_first (t : Fin (cfgM m hO).N) : ((cfgM m hO).win 1).index t = ![(Own.me m).toNat, t.val % 4, 0] :=
  (Own.at_first m (grid0.coords t)).trans (by rw [coord t])
theorem idx_second (t : Fin (cfgM m hO).N) : ((cfgM m hO).win 2).index t = ![(Own.me m).toNat, t.val % 4, 0] :=
  (Own.at_second m (grid0.coords t)).trans (by rw [coord t])

theorem blk_part (t : Fin (cfgM m hO).N) (s : Fin 8) (r : Fin 256) (j : Fin 704) :
    (show FVec Ideal S8x256x704 .bf16 from iblk m hO c 0 t) (ix3 s r j) = (args m c).part s (rows t r) j := by
  have e := idx m hO t
  dsimp only [cfgM] at e
  unfold args rows; blk_ext [iblk, e]
/-- The rows of a grid point's blocks within its layer. -/
def inner (t : Fin grid0.N) (r : Fin 256) : Fin 1024 := ⟨256 * (t.val % 4) + r, by omega⟩

theorem blk_first (t : Fin (cfgM m hO).N) (r : Fin 256) (j : Fin 704) : (show FVec Ideal S1x256x704 .bf16 from iblk m hO c 1 t) (ix3 0 r j)
    = first m c ⟨(Own.me m).toNat, Own.number m hO⟩ (inner t r) j := by
  have e := idx_first m hO t
  dsimp only [cfgM] at e
  unfold first inner; blk_ext [iblk, e]
theorem blk_second (t : Fin (cfgM m hO).N) (r : Fin 256) (j : Fin 704) : (show FVec Ideal S1x256x704 .bf16 from iblk m hO c 2 t) (ix3 0 r j)
    = last m c ⟨(Own.me m).toNat, Own.number m hO⟩ (inner t r) j := by
  have e := idx_second m hO t
  dsimp only [cfgM] at e
  unfold last inner; blk_ext [iblk, e]
theorem blk_own (t : Fin (cfgM m hO).N) (r : Fin 256) (j : Fin 704) :
    k0_pay2 (F := Ideal) (grid0.coords t) (iblk m hO c 1 t) (iblk m hO c 2 t) (ix2 r j) = (args m c).own (rows t r) j := by
  have k := lt_of_lt_of_eq t.isLt N_0
  unfold args; dsimp only
  refine (Payload.pick (iblk m hO c 1 t) (iblk m hO c 2 t) (grid0.coords t) r j).trans ?_
  rw [coord t, block_of _ _ (Own.number m hO)]
  by_cases h : 4 ≤ t.val
  · exact (if_pos h).trans ((blk_second m c hO t r j).trans
      (both_second (first m c _) (last m c _) (rows t r) j (inner t r) (by unfold rows inner; dsimp only; omega)).symm)
  · exact (if_neg h).trans ((blk_first m c hO t r j).trans
      (both_first (first m c _) (last m c _) (rows t r) j (inner t r) (by unfold rows inner; dsimp only; omega)).symm)
theorem blk_w (t : Fin (cfgM m hO).N) (r : Fin 256) (j : Fin 704) :
    (show FVec Ideal S256x704 .f32 from iblk m hO c 3 t) (ix2 r j) = (args m c).w (rows t r) j := by
  have e := idx m hO t
  dsimp only [cfgM] at e
  unfold args rows; blk_ext [iblk, e]
theorem blk_μ (t : Fin (cfgM m hO).N) (r : Fin 256) (j : Fin 704) :
    (show FVec Ideal S256x704 .f32 from iblk m hO c 4 t) (ix2 r j) = (args m c).μ (rows t r) j := by
  have e := idx m hO t
  dsimp only [cfgM] at e
  unfold args rows; blk_ext [iblk, e]
theorem blk_v (t : Fin (cfgM m hO).N) (r : Fin 256) (j : Fin 704) :
    (show FVec Ideal S256x704 .f32 from iblk m hO c 5 t) (ix2 r j) = (args m c).v (rows t r) j := by
  have e := idx m hO t
  dsimp only [cfgM] at e
  unfold args rows; blk_ext [iblk, e]

/-- The blocks of a grid point. -/
theorem reads (t : Fin (cfgM m hO).N) : Reads (args m c) (rows t)
    (fun s r j => slab (b := 256) (C := 704) (e := .bf16) (iblk m hO c 0 t) s (ix3 0 r j))
    (fun r j => k0_pay2 (F := Ideal) (grid0.coords t) (iblk m hO c 1 t) (iblk m hO c 2 t) (ix2 r j)) (fun r j => (show FVec Ideal S256x704 .f32 from iblk m hO c 3 t) (ix2 r j))
    (fun r j => (show FVec Ideal S256x704 .f32 from iblk m hO c 4 t) (ix2 r j)) fun r j => (show FVec Ideal S256x704 .f32 from iblk m hO c 5 t) (ix2 r j) where
  part s r j := (slab_apply _ s r j).trans (blk_part m c hO t s r j)
  own := blk_own m c hO t
  w := blk_w m c hO t
  μ := blk_μ m c hO t
  v := blk_v m c hO t

/-- The gradient's block. -/
theorem out_g (t : Fin (cfgM m hO).N) (r : Fin 256) (j : Fin 704) :
    (show FVec Ideal S256x704 .f32 from (outsAt0 m hO c t).1) (ix2 r j) = (args m c).g (rows t r) j := by
  have key := Payload.g (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  unfold outsAt0; dsimp only; frame_out
  rw [e0, e1, e2, word m c]
  exact key

/-- The block of what is to be added. -/
theorem out_delta (t : Fin (cfgM m hO).N) (r : Fin 256) (j : Fin 704) :
    (show FVec Ideal S256x704 .f32 from (outsAt0 m hO c t).2.1) (ix2 r j) = (args m c).delta (rows t r) j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  have e5 := (hs0_5 m hO t).read_unread (Val := Elt Ideal) (iblk m hO c 5 t)
  unfold outsAt0; dsimp only; frame_out
  rw [e0, e1, e2, e3, e4, e5, word m c]
  exact key

/-- The first moment's block. -/
theorem out_μ (t : Fin (cfgM m hO).N) (r : Fin 256) (j : Fin 704) :
    (show FVec Ideal S256x704 .f32 from (outsAt0 m hO c t).2.2.1) (ix2 r j) = (args m c).newμ (rows t r) j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e4 := (hs0_4 m hO t).read_unread (Val := Elt Ideal) (iblk m hO c 4 t)
  unfold outsAt0; dsimp only; frame_out
  rw [e0, e1, e2, e4, word m c]
  exact key

/-- The second moment's block. -/
theorem out_v (t : Fin (cfgM m hO).N) (r : Fin 256) (j : Fin 704) :
    (show FVec Ideal S256x704 .f32 from (outsAt0 m hO c t).2.2.2) (ix2 r j) = (args m c).newv (rows t r) j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e5 := (hs0_5 m hO t).read_unread (Val := Elt Ideal) (iblk m hO c 5 t)
  unfold outsAt0; dsimp only; frame_out
  rw [e0, e1, e2, e5, word m c]
  exact key

end Cert.Adam.Gu.Block

end
-- ==== Proof.Adam.Gu.Arrays.lean ====
/- The optimiser's call on the gate and up weights: what the kernel's four result arrays hold, and that they are what a run ends with. -/
module

public import proofs.«01_k».proof.Proof.Adam.Gu.Block
public import Idealize.ShloMosaic.Lib.Pipeline.Value
public import Idealize.ShloMosaic.Lib.Pipeline.Covers

@[expose] public section

set_option maxRecDepth 16384

noncomputable section

namespace Cert.Adam.Gu.Arrays

open Idealize.ShloMosaic Idealize.ShloMosaic.TcCoe Idealize.SL.Sem
open Cert.Kernel15Ideal Cert.Kernel15Ideal.Gen Cert.Adam.Gu.Block

variable (m : (ℓ : Loc nD τ sig) → Buf (Elt Ideal) ℓ) (c : Dev nD) (hO : Ok m)

/-- An output block is not empty. -/
theorem full : ∀ a : Fin 2, 0 < S256x704.size a := by decide

/-- Every block of an output array is written. -/
theorem every : ∀ β : (a : Fin 2) → Fin ((S2048x704.size a + S256x704.size a - 1) / S256x704.size a), ∃ t : Fin grid0.N,
    ∀ a, cc0_transform_6 (grid0.coords t) a = β a := by decide +kernel

/-- The gradient. -/
theorem g : (dats m hO 0 c).arrAt 6 (cfgM m hO).N = fun i : S2048x704.Idx => (args m c).g (i 0) (i 1) := by
  refine (dats m hO 0 c).arrAt_eq_of_covers 6 _ (((cfgM m hO).win 6).covers_of_index_surj rfl full every) fun t hf (y : S256x704.Idx) => ?_
  obtain ⟨r, k, rfl⟩ : ∃ (r : Fin 256) (k : Fin 704), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 (rows t r) k := by unfold rows; blk_ext [i]
  blk_simp
  rw [after0_6]
  simp only [e]
  exact out_g m c hO t r k

/-- What is to be added. -/
theorem delta : (dats m hO 0 c).arrAt 7 (cfgM m hO).N = fun i : S2048x704.Idx => (args m c).delta (i 0) (i 1) := by
  refine (dats m hO 0 c).arrAt_eq_of_covers 7 _ (((cfgM m hO).win 7).covers_of_index_surj rfl full every) fun t hf (y : S256x704.Idx) => ?_
  obtain ⟨r, k, rfl⟩ : ∃ (r : Fin 256) (k : Fin 704), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 (rows t r) k := by unfold rows; blk_ext [i]
  blk_simp
  rw [after0_7]
  simp only [e]
  exact out_delta m c hO t r k

/-- The first moment. -/
theorem μ : (dats m hO 0 c).arrAt 8 (cfgM m hO).N = fun i : S2048x704.Idx => (args m c).newμ (i 0) (i 1) := by
  refine (dats m hO 0 c).arrAt_eq_of_covers 8 _ (((cfgM m hO).win 8).covers_of_index_surj rfl full every) fun t hf (y : S256x704.Idx) => ?_
  obtain ⟨r, k, rfl⟩ : ∃ (r : Fin 256) (k : Fin 704), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 (rows t r) k := by unfold rows; blk_ext [i]
  blk_simp
  rw [after0_8]
  simp only [e]
  exact out_μ m c hO t r k

/-- The second moment. -/
theorem v : (dats m hO 0 c).arrAt 9 (cfgM m hO).N = fun i : S2048x704.Idx => (args m c).newv (i 0) (i 1) := by
  refine (dats m hO 0 c).arrAt_eq_of_covers 9 _ (((cfgM m hO).win 9).covers_of_index_surj rfl full every) fun t hf (y : S256x704.Idx) => ?_
  obtain ⟨r, k, rfl⟩ : ∃ (r : Fin 256) (k : Fin 704), y = ix2 r k := ⟨y 0, y 1, by funext a; match a with | ⟨0, _⟩ => rfl | ⟨1, _⟩ => rfl⟩
  have i := idx m hO t
  dsimp only [cfgM] at i
  have e : (((cfgM m hO).win 9).blk t).view.emb (ix2 r k) = ix2 (rows t r) k := by unfold rows; blk_ext [i]
  blk_simp
  rw [after0_9]
  simp only [e]
  exact out_v m c hO t r k

end Cert.Adam.Gu.Arrays

end
-- ==== Proof.Adam.Gu.Ref.lean ====
/- The optimiser's call on the gate and up weights: what the reference computes, entry by entry. -/
module

public import proofs.«01_k».proof.Proof.Gen.Reference15Ideal.Read
public import Idealize.ShloMosaic.Lib.Pipeline.ValueKit
public import Idealize.ShloMosaic.Lib.Pointwise.Reduce
public import proofs.«01_k».proof.Proof.Adam.Layers

@[expose] public section

set_option maxRecDepth 16384

noncomputable section

namespace Cert.Adam.Gu.Ref

open Idealize.ShloMosaic Idealize.ShloMosaic.TcCoe Idealize.SL.Sem
open Cert.Reference15Ideal Cert.Reference15Ideal.Gen Cert.Reference15Ideal.Read

variable (x0 : IVec S1 32) (x1 : FVec Ideal S8x2048x704 .bf16) (x2 x3 : FVec Ideal S8x1024x704 .bf16) (x4 x5 x6 : FVec Ideal S2048x704 .f32)

/-- The arrays of the step, as the reference has them. -/
def args : Step 2048 704 := ⟨x0 (ix1 0), fun s r j => x1 (ix3 s r j),
  block (fun s => both (fun r j => x2 (ix3 s r j)) fun r j => x3 (ix3 s r j)) (x0 (ix1 0)), fun r j => x4 (ix2 r j), fun r j => x5 (ix2 r j),
  fun r j => x6 (ix2 r j)⟩

/-- The own shares of both layers. -/
theorem own (s : Fin 8) (r : Fin 2048) (j : Fin 704) : val_main_v0 (F := Ideal) x2 x3 (ix3 s r j)
    = both (fun r j => x2 (ix3 s r j)) (fun r j => x3 (ix3 s r j)) r j := joined rfl x2 x3 _ s r j

/-- A device's share. -/
theorem share (s : Fin 8) (r : Fin 2048) (j : Fin 704) : val_main_v7 (F := Ideal) x0 x1 x2 x3 (ix3 s r j) = (args x0 x1 x2 x3 x4 x5 x6).share s r j := by
  pointwise [val_main_v7, val_main_v6, val_main_call0_v0, val_main_v5, val_main_v4, val_main_v3, val_main_v2, val_main_v1, own, args, Step.share]
  exact (choose _ _ _ _).trans (ite_congr (propext eq_comm) (fun e => (block_ofNat (fun s => both (fun r j => x2 (ix3 s r j)) fun r j => x3 (ix3 s r j)) _ s e r j).symm) fun _ => rfl)

/-- The gradient. -/
theorem g (r : Fin 2048) (j : Fin 704) : val_main_v8 (F := Ideal) x0 x1 x2 x3 (ix2 r j) = (args x0 x1 x2 x3 x4 x5 x6).g r j := by
  pointwise [val_main_v8, val_main_cst, share x0 x1 x2 x3 x4 x5 x6, Step.g]

/-- The first moment. -/
theorem μ (r : Fin 2048) (j : Fin 704) : val_main_v13 (F := Ideal) x0 x1 x2 x3 x5 (ix2 r j) = (args x0 x1 x2 x3 x4 x5 x6).newμ r j := by
  pointwise [val_main_v13, val_main_v12, val_main_v11, val_main_v10, val_main_v9, val_main_cst_0, val_main_cst_1, g x0 x1 x2 x3 x4 x5 x6, Step.newμ]
  rfl

/-- The second moment. -/
theorem v (r : Fin 2048) (j : Fin 704) : val_main_v19 (F := Ideal) x0 x1 x2 x3 x6 (ix2 r j) = (args x0 x1 x2 x3 x4 x5 x6).newv r j := by
  pointwise [val_main_v19, val_main_v18, val_main_v17, val_main_v16, val_main_v15, val_main_v14, val_main_cst_2, val_main_cst_3,
    g x0 x1 x2 x3 x4 x5 x6, Step.newv]
  rfl

/-- What is to be added. -/
theorem delta (r : Fin 2048) (j : Fin 704) : val_main_v32 (F := Ideal) x0 x1 x2 x3 x4 x5 x6 (ix2 r j) = (args x0 x1 x2 x3 x4 x5 x6).delta r j := by
  pointwise [val_main_v32, val_main_v31, val_main_v30, val_main_v29, val_main_v28, val_main_v27, val_main_v26, val_main_v25, val_main_v24,
    val_main_v23, val_main_v22, val_main_v21, val_main_v20, val_main_cst_4, val_main_cst_5, val_main_cst_6, val_main_cst_7, val_main_cst_8,
    μ x0 x1 x2 x3 x4 x5 x6, v x0 x1 x2 x3 x4 x5 x6, Step.delta]
  rfl

end Cert.Adam.Gu.Ref

end
-- ==== Proof.Adam.Gu.Claim.lean ====
/- The optimiser's call on the gate and up weights: kernel and reference compute the same gradient, moments and step. -/
module

public import proofs.«01_k».proof.Defs
public import proofs.«01_k».proof.Proof.Gen.Kernel15.Frame
public import proofs.«01_k».proof.Proof.Adam.Gu.Arrays
public import proofs.«01_k».proof.Proof.Adam.Gu.Ref
public import Idealize.ShloMosaic.Lib.Claim

@[expose] public section

set_option maxRecDepth 16384

noncomputable section

namespace Cert.Adam.Gu

open Idealize.ShloMosaic Idealize.ShloMosaic.TcCoe Idealize.SL.Sem
open Cert.Kernel15Ideal Cert.Kernel15Ideal.Gen

variable (m : (ℓ : Loc nD τ sig) → Buf (Elt Ideal) ℓ) (c : Dev nD)

/-- Under the precondition every block lies within its array. -/
theorem ok [Cert.Pre_on_mesh_w_gu.Facts] (h : Cert.Pre_Kernel15Ideal m) : Ok m := Own.ok m (below (congrFun (h 0) (ix1 0)))

/-- The same over machine numbers. -/
theorem ok_bits [Cert.Pre_on_mesh_w_gu.Facts] (m : (ℓ : Loc nD τ sig) → Buf (Elt Bits) ℓ) (h : Cert.Pre_Kernel15 m) : Cert.Kernel15.Gen.Ok m :=
  Own.ok (F := Bits) m (below (congrFun (h 0) (ix1 0)))

variable (hO : Ok m)

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) := by
  obtain rfl : c = 0 := Subsingleton.elim _ _
  rfl

/-- The gradient. -/
theorem g : Cert.Reference15Ideal.Read.val_main_v8 (F := Ideal) (m ((c.tc : Thread nD τ).loc main_arg0)) (m ((c.tc : Thread nD τ).loc main_arg1))
    (m ((c.tc : Thread nD τ).loc main_arg2)) (m ((c.tc : Thread nD τ).loc main_arg3)) = (dats m hO 0 c).arrAt 6 (cfgM m hO).N := by
  rw [Arrays.g, args_eq]
  funext i
  exact (congrArg _ (eq_ix2 i)).trans (Ref.g _ _ _ _ _ _ _ (i 0) (i 1))

/-- What is to be added. -/
theorem delta : Cert.Reference15Ideal.Read.val_main_v32 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) = (dats m hO 0 c).arrAt 7 (cfgM m hO).N := by
  rw [Arrays.delta, args_eq]
  funext i
  exact (congrArg _ (eq_ix2 i)).trans (Ref.delta _ _ _ _ _ _ _ (i 0) (i 1))

/-- The first moment. -/
theorem μ : Cert.Reference15Ideal.Read.val_main_v13 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg5)) = (dats m hO 0 c).arrAt 8 (cfgM m hO).N := by
  rw [Arrays.μ, args_eq]
  funext i
  exact (congrArg _ (eq_ix2 i)).trans (Ref.μ _ _ _ _ _ _ _ (i 0) (i 1))

/-- The second moment. -/
theorem v : Cert.Reference15Ideal.Read.val_main_v19 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg6)) = (dats m hO 0 c).arrAt 9 (cfgM m hO).N := by
  rw [Arrays.v, args_eq]
  funext i
  exact (congrArg _ (eq_ix2 i)).trans (Ref.v _ _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m hO 0 c).arrAt 6 (cfgM m hO).N
    ∧ r.2.mem ((c.tc : Thread nD τ).loc main_v0_1) = (dats m hO 0 c).arrAt 7 (cfgM m hO).N
    ∧ r.2.mem ((c.tc : Thread nD τ).loc main_v0_2) = (dats m hO 0 c).arrAt 8 (cfgM m hO).N
    ∧ r.2.mem ((c.tc : Thread nD τ).loc main_v0_3) = (dats m hO 0 c).arrAt 9 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  θ_run_mono (run_main m ρ hO) fun _ h c =>
    have staged (w : Fin 10) (hw : _) := ((h c).1 w).trans (((dats m hO 0 c).arrAt_in w hw _).trans (A_eq m hO c w))
    ⟨(h c).1 6, (h c).1 7, (h c).1 8, (h c).1 9,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c), (staged 5 rfl).trans (V_main_arg6 m c)⟩

set_option maxHeartbeats 3200000 in
/-- Kernel and reference end with the same arrays. -/
theorem algebraic [Cert.Pre_on_mesh_w_gu.Facts] : Cert.algebraic_Kernel15Ideal_Reference15Ideal := by
  intro m ρ m' ρ' h hagree
  refine ⟨_, _, _, _, ends m (ok m h) ρ, θ_run_mono (Cert.Reference15Ideal.Value.run m' ρ') fun r hr c => ?_⟩
  obtain ⟨r0, r1, r2, r3, kept⟩ := hr c
  obtain ⟨e0, e1, e2, e3, e4, e5, e6⟩ := hagree c
  rw [Cert.Reference15Ideal.Read.val_main_v8_eq, e0, e1, e2, e3] at r0
  rw [Cert.Reference15Ideal.Read.val_main_v32_eq, e0, e1, e2, e3, e4, e5, e6] at r1
  rw [Cert.Reference15Ideal.Read.val_main_v13_eq, e0, e1, e2, e3, e5] at r2
  rw [Cert.Reference15Ideal.Read.val_main_v19_eq, e0, e1, e2, e3, e6] at r3
  exact ⟨r0.trans (g m c (ok m h)), r1.trans (delta m c (ok m h)), r2.trans (μ m c (ok m h)), r3.trans (v m c (ok m h)), kept⟩

end Cert.Adam.Gu

end
-- ==== Proof.Adam.D.Payload.lean ====
/- The optimiser's call on the down weights: what a block stores, entry by entry. -/
module

public import proofs.«01_k».proof.Proof.Gen.Kernel16Ideal.Skeleton
public import proofs.«01_k».proof.Proof.Adam.Layers

@[expose] public section

set_option maxRecDepth 16384

noncomputable section

namespace Cert.Adam.D.Payload

open Idealize.ShloMosaic Idealize.ShloMosaic.TcCoe Idealize.SL.Sem
open Cert.Kernel16Ideal Cert.Kernel16Ideal.Gen

variable {a : Step 704 1024} {ρ : Fin 88 → Fin 704} {p : Fin 8 → FVec Ideal S1x88x1024 .bf16} {i : grid0.Coords}
  {x y : FVec Ideal S1x88x1024 .bf16} {w μ v : FVec Ideal S88x1024 .f32}

/-- The own share of a grid point: the first layer's or the second's. -/
theorem pick (x y : FVec Ideal S1x88x1024 .bf16) (i : grid0.Coords) (r : Fin 88) (j : Fin 1024) :
    k0_pay2 (F := Ideal) i x y (ix2 r j) = (if 4 ≤ (i 0).val then y (ix3 0 r j) else x (ix3 0 r j) : EReal) := by
  have k : (i 0).val < 8 := (i 0).isLt
  refine (congrArg (fun c => (Scalar.select c (k0_pay6 (F := Ideal) y) (k0_pay6 (F := Ideal) x)) (ix2 r j)) (second ⟨(i 0).val, k⟩)).trans ?_
  by_cases h : 4 ≤ (i 0).val
  · simp only [h, decide_true, if_true]; pointwise [k0_pay6]
  · simp only [h, decide_false, if_false]; pointwise [k0_pay6, Bool.false_eq_true, if_false]

/-- The first six shares, added. -/
abbrev six (me : BitVec 32) (i : grid0.Coords) (x y : FVec Ideal S1x88x1024 .bf16) (p : Fin 8 → FVec Ideal S1x88x1024 .bf16) : FVec Ideal S88x1024 .f32 :=
  k0_pay5 (k0_pay2 i x y) (k0_pay3 i x y me (p 0)) (Scalar.cmpi .eq me 1#32) (k0_pay4 (p 1)) me (p 2) me (p 3) me (p 4) me (p 5)

variable (H : Reads a ρ (fun s r j => p s (ix3 0 r j)) (fun r j => k0_pay2 (F := Ideal) i x y (ix2 r j)) (fun r j => w (ix2 r j)) (fun r j => μ (ix2 r j))
  fun r j => v (ix2 r j))
include H

/-- The gradient. -/
theorem g (r : Fin 88) (j : Fin 1024) :
    k0_pay7 (F := Ideal) (k0_pay2 i x y) (six a.me i x y p) (Scalar.cmpi .eq a.me 6#32) (k0_pay6 (p 6)) a.me (p 7) (ix2 r j) = a.g (ρ r) j := by
  pointwise [k0_pay7, k0_pay6, k0_pay5, k0_pay4, k0_pay3, H.part, H.own, choose, sum_shares, Step.share]

/-- The first moment. -/
theorem μ' (r : Fin 88) (j : Fin 1024) :
    k0_pay8 (F := Ideal) (k0_pay2 i x y) (six a.me i x y p) (Scalar.cmpi .eq a.me 6#32) (k0_pay6 (p 6)) a.me (p 7) μ (ix2 r j)
      = a.newμ (ρ r) j := by
  pointwise [k0_pay8, g H, H.μ, Step.newμ]

/-- The second moment. -/
theorem v' (r : Fin 88) (j : Fin 1024) :
    k0_pay9 (F := Ideal) (k0_pay2 i x y) (six a.me i x y p) (Scalar.cmpi .eq a.me 6#32) (k0_pay6 (p 6)) a.me (p 7) v (ix2 r j)
      = a.newv (ρ r) j := by
  pointwise [k0_pay9, g H, H.v, Step.newv]

/-- What is to be added. -/
theorem d (r : Fin 88) (j : Fin 1024) :
    k0_pay1 (F := Ideal) (k0_pay10 (k0_pay2 i x y) (six a.me i x y p) (Scalar.cmpi .eq a.me 6#32) (k0_pay6 (p 6)) a.me (p 7) w μ v) k0_pay11
      (ix2 r j) = a.delta (ρ r) j := by
  pointwise [k0_pay1, k0_pay10, k0_pay11, μ' H, v' H, H.w, Step.delta]

end Cert.Adam.D.Payload

end
-- ==== Proof.Adam.D.Own.lean ====
/- The optimiser's call on the down weights: which blocks of the own shares a grid point fetches. Said for any numbers, as both runs need it. -/
module

public import proofs.«01_k».proof.Proof.Gen.Kernel16Ideal.Frame
public import proofs.«01_k».proof.Proof.Adam.Own

@[expose] public section

set_option maxRecDepth 16384

noncomputable section

namespace Cert.Adam.D.Own

open Idealize.ShloMosaic Idealize.ShloMosaic.TcCoe Idealize.SL.Sem
open Cert.Kernel16Ideal Cert.Kernel16Ideal.Gen

variable {F : FTy → Type} [FloatOps F] (m : (ℓ : Loc nD τ sig) → Buf (Elt F) ℓ)

/-- The device's number. -/
def me : BitVec 32 := (show IVec S1 32 from V m 0 main_arg0) (ix1 0)

/-- The word that the index map reads. -/
theorem word : (tbl m).at 0 (Rect.unit (s := S1) ![0] S1.size inb_S1_S1_0) numel1_S1 = me m :=
  congrArg (tbl m 0) (funext fun a => match a with | ⟨0, _⟩ => Subsingleton.elim (α := Fin 1) _ _)

/-- The index of the first layer's block, -/
theorem at_first (i : grid0.Coords) : cc0_transform_1 inb_S1_S1_0 numel1_S1 (tbl m) i = ![(me m).toNat, (i 0).val % 4, 0] := by
  rw [← word m]
  funext a
  match a with
  | ⟨0, _⟩ => rfl
  | ⟨1, _⟩ => exact modulo_eq 4 (by decide) ⟨(i 0).val, (i 0).isLt⟩
  | ⟨2, _⟩ => rfl

/-- and of the second's. -/
theorem at_second (i : grid0.Coords) : cc0_transform_2 inb_S1_S1_0 numel1_S1 (tbl m) i = ![(me m).toNat, (i 0).val % 4, 0] := at_first m i

/-- They lie within the arrays. -/
theorem ok (h : (me m).toNat < 8) : Ok m :=
  ⟨fun i => fits _ (at_first m i) h (by have := Nat.mod_lt (i 0).val (Nat.succ_pos 3); omega) (by decide),
    fun i => fits _ (at_second m i) h (by have := Nat.mod_lt (i 0).val (Nat.succ_pos 3); omega) (by decide)⟩

/-- The device's number is below 8 if every block lies within the array. -/
theorem number (hO : Ok m) : (me m).toNat < 8 := by
  obtain ⟨h, _⟩ := hO.1 (grid0.coords t0_0)
  have h0 := h 0
  rw [at_first m] at h0
  exact (Nat.mul_one _).symm.trans_le h0

end Cert.Adam.D.Own

end
-- ==== Proof.Adam.D.Block.lean ====
/- The optimiser's call on the down weights: what each grid point reads and what it leaves in the four output blocks. -/
module

public import proofs.«01_k».proof.Proof.Gen.Kernel16Ideal.Frame
public import Idealize.ShloMosaic.Lib.Pipeline.ValueKit
public import proofs.«01_k».proof.Proof.Adam.D.Payload
public import proofs.«01_k».proof.Proof.Adam.Load
public import proofs.«01_k».proof.Proof.Adam.D.Own

@[expose] public section

set_option maxRecDepth 16384

noncomputable section

namespace Cert.Adam.D.Block

open Idealize.ShloMosaic Idealize.ShloMosaic.TcCoe Idealize.SL.Sem
open Cert.Kernel16Ideal Cert.Kernel16Ideal.Gen

variable (m : (ℓ : Loc nD τ sig) → Buf (Elt Ideal) ℓ) (c : Dev nD) (hO : Ok m)

/-- The own shares of the first layer, -/
def first (s : Fin 8) (r : Fin 352) (j : Fin 1024) : EReal := (show FVec Ideal S8x352x1024 .bf16 from V m c main_arg2) (ix3 s r j)
/-- and of the second. -/
def last (s : Fin 8) (r : Fin 352) (j : Fin 1024) : EReal := (show FVec Ideal S8x352x1024 .bf16 from V m c main_arg3) (ix3 s r j)

/-- The arrays the kernel is launched on. -/
def args : Step 704 1024 where
  me := Own.me m
  part s r j := (show FVec Ideal S8x704x1024 .bf16 from V m c main_arg1) (ix3 s r j)
  own := block (fun s => both (first m c s) (last m c s)) (Own.me m)
  w r j := (show FVec Ideal S704x1024 .f32 from V m c main_arg4) (ix2 r j)
  μ r j := (show FVec Ideal S704x1024 .f32 from V m c main_arg5) (ix2 r j)
  v r j := (show FVec Ideal S704x1024 .f32 from V m c main_arg6) (ix2 r j)

/-- The rows of a grid point's blocks. -/
def rows (t : Fin grid0.N) (r : Fin 88) : Fin 704 := ⟨88 * t.val + r, by have := lt_of_lt_of_eq t.isLt N_0; omega⟩

/-- The word the kernel reads is the device's number. -/
theorem word (h) : View.readAt (Elt Ideal) (View.whole main_arg0) (Rect.unit ![0] ![1] inb_S1_S1_0).toLoadRect (tbl m 0) (Shape.Idx.first h)
    = (args m c).me :=
  congrArg (tbl m 0) (funext fun a => match a with | ⟨0, _⟩ => Subsingleton.elim (α := Fin 1) _ _)

/-- The windows' block indices. -/
theorem idx : ∀ t : Fin (cfgM m hO).N, ((cfgM m hO).win 0).index t = ![0, t.val, 0]
    ∧ ((cfgM m hO).win 3).index t = ![t.val, 0] ∧ ((cfgM m hO).win 4).index t = ![t.val, 0] ∧ ((cfgM m hO).win 5).index t = ![t.val, 0]
    ∧ ((cfgM m hO).win 6).index t = ![t.val, 0] ∧ ((cfgM m hO).win 7).index t = ![t.val, 0] ∧ ((cfgM m hO).win 8).index t = ![t.val, 0]
    ∧ ((cfgM m hO).win 9).index t = ![t.val, 0] :=
  (by decide +kernel : ∀ t : Fin grid0.N, cc0_transform_0 (grid0.coords t) = ![0, t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]
    ∧ cc0_transform_9 (grid0.coords t) = ![t.val, 0])

/-- A grid point's coordinate is its number. -/
theorem coord : ∀ t : Fin grid0.N, (grid0.coords t 0).val = t.val := by decide +kernel

theorem idx_first (t : Fin (cfgM m hO).N) : ((cfgM m hO).win 1).index t = ![(Own.me m).toNat, t.val % 4, 0] :=
  (Own.at_first m (grid0.coords t)).trans (by rw [coord t])
theorem idx_second (t : Fin (cfgM m hO).N) : ((cfgM m hO).win 2).index t = ![(Own.me m).toNat, t.val % 4, 0] :=
  (Own.at_second m (grid0.coords t)).trans (by rw [coord t])

theorem blk_part (t : Fin (cfgM m hO).N) (s : Fin 8) (r : Fin 88) (j : Fin 1024) :
    (show FVec Ideal S8x88x1024 .bf16 from iblk m hO c 0 t) (ix3 s r j) = (args m c).part s (rows t r) j := by
  have e := idx m hO t
  dsimp only [cfgM] at e
  unfold args rows; blk_ext [iblk, e]
/-- The rows of a grid point's blocks within its layer. -/
def inner (t : Fin grid0.N) (r : Fin 88) : Fin 352 := ⟨88 * (t.val % 4) + r, by omega⟩

theorem blk_first (t : Fin (cfgM m hO).N) (r : Fin 88) (j : Fin 1024) : (show FVec Ideal S1x88x1024 .bf16 from iblk m hO c 1 t) (ix3 0 r j)
    = first m c ⟨(Own.me m).toNat, Own.number m hO⟩ (inner t r) j := by
  have e := idx_first m hO t
  dsimp only [cfgM] at e
  unfold first inner; blk_ext [iblk, e]
theorem blk_second (t : Fin (cfgM m hO).N) (r : Fin 88) (j : Fin 1024) : (show FVec Ideal S1x88x1024 .bf16 from iblk m hO c 2 t) (ix3 0 r j)
    = last m c ⟨(Own.me m).toNat, Own.number m hO⟩ (inner t r) j := by
  have e := idx_second m hO t
  dsimp only [cfgM] at e
  unfold last inner; blk_ext [iblk, e]
theorem blk_own (t : Fin (cfgM m hO).N) (r : Fin 88) (j : Fin 1024) :
    k0_pay2 (F := Ideal) (grid0.coords t) (iblk m hO c 1 t) (iblk m hO c 2 t) (ix2 r j) = (args m c).own (rows t r) j := by
  have k := lt_of_lt_of_eq t.isLt N_0
  unfold args; dsimp only
  refine (Payload.pick (iblk m hO c 1 t) (iblk m hO c 2 t) (grid0.coords t) r j).trans ?_
  rw [coord t, block_of _ _ (Own.number m hO)]
  by_cases h : 4 ≤ t.val
  · exact (if_pos h).trans ((blk_second m c hO t r j).trans
      (both_second (first m c _) (last m c _) (rows t r) j (inner t r) (by unfold rows inner; dsimp only; omega)).symm)
  · exact (if_neg h).trans ((blk_first m c hO t r j).trans
      (both_first (first m c _) (last m c _) (rows t r) j (inner t r) (by unfold rows inner; dsimp only; omega)).symm)
theorem blk_w (t : Fin (cfgM m hO).N) (r : Fin 88) (j : Fin 1024) :
    (show FVec Ideal S88x1024 .f32 from iblk m hO c 3 t) (ix2 r j) = (args m c).w (rows t r) j := by
  have e := idx m hO t
  dsimp only [cfgM] at e
  unfold args rows; blk_ext [iblk, e]
theorem blk_μ (t : Fin (cfgM m hO).N) (r : Fin 88) (j : Fin 1024) :
    (show FVec Ideal S88x1024 .f32 from iblk m hO c 4 t) (ix2 r j) = (args m c).μ (rows t r) j := by
  have e := idx m hO t
  dsimp only [cfgM] at e
  unfold args rows; blk_ext [iblk, e]
theorem blk_v (t : Fin (cfgM m hO).N) (r : Fin 88) (j : Fin 1024) :
    (show FVec Ideal S88x1024 .f32 from iblk m hO c 5 t) (ix2 r j) = (args m c).v (rows t r) j := by
  have e := idx m hO t
  dsimp only [cfgM] at e
  unfold args rows; blk_ext [iblk, e]

/-- The blocks of a grid point. -/
theorem reads (t : Fin (cfgM m hO).N) : Reads (args m c) (rows t)
    (fun s r j => slab (b := 88) (C := 1024) (e := .bf16) (iblk m hO c 0 t) s (ix3 0 r j))
    (fun r j => k0_pay2 (F := Ideal) (grid0.coords t) (iblk m hO c 1 t) (iblk m hO c 2 t) (ix2 r j)) (fun r j => (show FVec Ideal S88x1024 .f32 from iblk m hO c 3 t) (ix2 r j))
    (fun r j => (show FVec Ideal S88x1024 .f32 from iblk m hO c 4 t) (ix2 r j)) fun r j => (show FVec Ideal S88x1024 .f32 from iblk m hO c 5 t) (ix2 r j) where
  part s r j := (slab_apply _ s r j).trans (blk_part m c hO t s r j)
  own := blk_own m c hO t
  w := blk_w m c hO t
  μ := blk_μ m c hO t
  v := blk_v m c hO t

/-- The gradient's block. -/
theorem out_g (t : Fin (cfgM m hO).N) (r : Fin 88) (j : Fin 1024) :
    (show FVec Ideal S88x1024 .f32 from (outsAt0 m hO c t).1) (ix2 r j) = (args m c).g (rows t r) j := by
  have key := Payload.g (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  unfold outsAt0; dsimp only; frame_out
  rw [e0, e1, e2, word m c]
  exact key

/-- The block of what is to be added. -/
theorem out_delta (t : Fin (cfgM m hO).N) (r : Fin 88) (j : Fin 1024) :
    (show FVec Ideal S88x1024 .f32 from (outsAt0 m hO c t).2.1) (ix2 r j) = (args m c).delta (rows t r) j := by
  have key := Payload.d (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e3 := (hs0_3 m hO t).read_unread (Val := Elt Ideal) (iblk m hO c 3 t)
  have e4 := (hs0_4 m hO t).read_unread (Val := Elt Ideal) (iblk m hO c 4 t)
  have e5 := (hs0_5 m hO t).read_unread (Val := Elt Ideal) (iblk m hO c 5 t)
  unfold outsAt0; dsimp only; frame_out
  rw [e0, e1, e2, e3, e4, e5, word m c]
  exact key

/-- The first moment's block. -/
theorem out_μ (t : Fin (cfgM m hO).N) (r : Fin 88) (j : Fin 1024) :
    (show FVec Ideal S88x1024 .f32 from (outsAt0 m hO c t).2.2.1) (ix2 r j) = (args m c).newμ (rows t r) j := by
  have key := Payload.μ' (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e4 := (hs0_4 m hO t).read_unread (Val := Elt Ideal) (iblk m hO c 4 t)
  unfold outsAt0; dsimp only; frame_out
  rw [e0, e1, e2, e4, word m c]
  exact key

/-- The second moment's block. -/
theorem out_v (t : Fin (cfgM m hO).N) (r : Fin 88) (j : Fin 1024) :
    (show FVec Ideal S88x1024 .f32 from (outsAt0 m hO c t).2.2.2) (ix2 r j) = (args m c).newv (rows t r) j := by
  have key := Payload.v' (reads m c hO t) r j
  have e0 := (hs0_0 m hO t).read_unread (Val := Elt Ideal) (iblk m hO c 0 t)
  have e1 := (hs0_1 m hO t).read_unread (Val := Elt Ideal) (iblk m hO c 1 t)
  have e2 := (hs0_2 m hO t).read_unread (Val := Elt Ideal) (iblk m hO c 2 t)
  have e5 := (hs0_5 m hO t).read_unread (Val := Elt Ideal) (iblk m hO c 5 t)
  unfold outsAt0; dsimp only; frame_out
  rw [e0, e1, e2, e5, word m c]
  exact key

end Cert.Adam.D.Block

end
-- ==== Proof.Adam.D.Arrays.lean ====
/- The optimiser's call on the down weights: what the kernel's four result arrays hold, and that they are what a run ends with. -/
module

public import proofs.«01_k».proof.Proof.Adam.D.Block
public import Idealize.ShloMosaic.Lib.Pipeline.Value
public import Idealize.ShloMosaic.Lib.Pipeline.Covers

@[expose] public section

set_option maxRecDepth 16384

noncomputable section

namespace Cert.Adam.D.Arrays

open Idealize.ShloMosaic Idealize.ShloMosaic.TcCoe Idealize.SL.Sem
open Cert.Kernel16Ideal Cert.Kernel16Ideal.Gen Cert.Adam.D.Block

variable (m : (ℓ : Loc nD τ sig) → Buf (Elt Ideal) ℓ) (c : Dev nD) (hO : Ok m)

/-- An output block is not empty. -/
theorem full : ∀ a : Fin 2, 0 < S88x1024.size a := by decide

/-- Every block of an output array is written. -/
theorem every : ∀ β : (a : Fin 2) → Fin ((S704x1024.size a + S88x1024.size a - 1) / S88x1024.size a), ∃ t : Fin grid0.N,
    ∀ a, cc0_transform_6 (grid0.coords t) a = β a := by decide +kernel

/-- The gradient. -/
theorem g : (dats m hO 0 c).arrAt 6 (cfgM m hO).N = fun i : S704x1024.Idx => (args m c).g (i 0) (i 1) := by
  refine (dats m hO 0 c).arrAt_eq_of_covers 6 _ (((cfgM m hO).win 6).covers_of_index_surj rfl full every) fun t hf (y : S88x1024.Idx) => ?_
  obtain ⟨r, k, rfl⟩ : ∃ (r : Fin 88) (k : Fin 1024), y = ix2 r k := ⟨y 0, y 1, by funext a; match a with | ⟨0, _⟩ => rfl | ⟨1, _⟩ => rfl⟩
  have i := idx m hO t
  dsimp only [cfgM] at i
  have e : (((cfgM m hO).win 6).blk t).view.emb (ix2 r k) = ix2 (rows t r) k := by unfold rows; blk_ext [i]
  blk_simp
  rw [after0_6]
  simp only [e]
  exact out_g m c hO t r k

/-- What is to be added. -/
theorem delta : (dats m hO 0 c).arrAt 7 (cfgM m hO).N = fun i : S704x1024.Idx => (args m c).delta (i 0) (i 1) := by
  refine (dats m hO 0 c).arrAt_eq_of_covers 7 _ (((cfgM m hO).win 7).covers_of_index_surj rfl full every) fun t hf (y : S88x1024.Idx) => ?_
  obtain ⟨r, k, rfl⟩ : ∃ (r : Fin 88) (k : Fin 1024), y = ix2 r k := ⟨y 0, y 1, by funext a; match a with | ⟨0, _⟩ => rfl | ⟨1, _⟩ => rfl⟩
  have i := idx m hO t
  dsimp only [cfgM] at i
  have e : (((cfgM m hO).win 7).blk t).view.emb (ix2 r k) = ix2 (rows t r) k := by unfold rows; blk_ext [i]
  blk_simp
  rw [after0_7]
  simp only [e]
  exact out_delta m c hO t r k

/-- The first moment. -/
theorem μ : (dats m hO 0 c).arrAt 8 (cfgM m hO).N = fun i : S704x1024.Idx => (args m c).newμ (i 0) (i 1) := by
  refine (dats m hO 0 c).arrAt_eq_of_covers 8 _ (((cfgM m hO).win 8).covers_of_index_surj rfl full every) fun t hf (y : S88x1024.Idx) => ?_
  obtain ⟨r, k, rfl⟩ : ∃ (r : Fin 88) (k : Fin 1024), y = ix2 r k := ⟨y 0, y 1, by funext a; match a with | ⟨0, _⟩ => rfl | ⟨1, _⟩ => rfl⟩
  have i := idx m hO t
  dsimp only [cfgM] at i
  have e : (((cfgM m hO).win 8).blk t).view.emb (ix2 r k) = ix2 (rows t r) k := by unfold rows; blk_ext [i]
  blk_simp
  rw [after0_8]
  simp only [e]
  exact out_μ m c hO t r k

/-- The second moment. -/
theorem v : (dats m hO 0 c).arrAt 9 (cfgM m hO).N = fun i : S704x1024.Idx => (args m c).newv (i 0) (i 1) := by
  refine (dats m hO 0 c).arrAt_eq_of_covers 9 _ (((cfgM m hO).win 9).covers_of_index_surj rfl full every) fun t hf (y : S88x1024.Idx) => ?_
  obtain ⟨r, k, rfl⟩ : ∃ (r : Fin 88) (k : Fin 1024), y = ix2 r k := ⟨y 0, y 1, by funext a; match a with | ⟨0, _⟩ => rfl | ⟨1, _⟩ => rfl⟩
  have i := idx m hO t
  dsimp only [cfgM] at i
  have e : (((cfgM m hO).win 9).blk t).view.emb (ix2 r k) = ix2 (rows t r) k := by unfold rows; blk_ext [i]
  blk_simp
  rw [after0_9]
  simp only [e]
  exact out_v m c hO t r k

end Cert.Adam.D.Arrays

end
-- ==== Proof.Adam.D.Ref.lean ====
/- The optimiser's call on the down weights: what the reference computes, entry by entry. -/
module

public import proofs.«01_k».proof.Proof.Gen.Reference16Ideal.Read
public import Idealize.ShloMosaic.Lib.Pipeline.ValueKit
public import Idealize.ShloMosaic.Lib.Pointwise.Reduce
public import proofs.«01_k».proof.Proof.Adam.Layers

@[expose] public section

set_option maxRecDepth 16384

noncomputable section

namespace Cert.Adam.D.Ref

open Idealize.ShloMosaic Idealize.ShloMosaic.TcCoe Idealize.SL.Sem
open Cert.Reference16Ideal Cert.Reference16Ideal.Gen Cert.Reference16Ideal.Read

variable (x0 : IVec S1 32) (x1 : FVec Ideal S8x704x1024 .bf16) (x2 x3 : FVec Ideal S8x352x1024 .bf16) (x4 x5 x6 : FVec Ideal S704x1024 .f32)

/-- The arrays of the step, as the reference has them. -/
def args : Step 704 1024 := ⟨x0 (ix1 0), fun s r j => x1 (ix3 s r j),
  block (fun s => both (fun r j => x2 (ix3 s r j)) fun r j => x3 (ix3 s r j)) (x0 (ix1 0)), fun r j => x4 (ix2 r j), fun r j => x5 (ix2 r j),
  fun r j => x6 (ix2 r j)⟩

/-- The own shares of both layers. -/
theorem own (s : Fin 8) (r : Fin 704) (j : Fin 1024) : val_main_v0 (F := Ideal) x2 x3 (ix3 s r j)
    = both (fun r j => x2 (ix3 s r j)) (fun r j => x3 (ix3 s r j)) r j := joined rfl x2 x3 _ s r j

/-- A device's share. -/
theorem share (s : Fin 8) (r : Fin 704) (j : Fin 1024) : val_main_v7 (F := Ideal) x0 x1 x2 x3 (ix3 s r j) = (args x0 x1 x2 x3 x4 x5 x6).share s r j := by
  pointwise [val_main_v7, val_main_v6, val_main_call0_v0, val_main_v5, val_main_v4, val_main_v3, val_main_v2, val_main_v1, own, args, Step.share]
  exact (choose _ _ _ _).trans (ite_congr (propext eq_comm) (fun e => (block_ofNat (fun s => both (fun r j => x2 (ix3 s r j)) fun r j => x3 (ix3 s r j)) _ s e r j).symm) fun _ => rfl)

/-- The gradient. -/
theorem g (r : Fin 704) (j : Fin 1024) : val_main_v8 (F := Ideal) x0 x1 x2 x3 (ix2 r j) = (args x0 x1 x2 x3 x4 x5 x6).g r j := by
  pointwise [val_main_v8, val_main_cst, share x0 x1 x2 x3 x4 x5 x6, Step.g]

/-- The first moment. -/
theorem μ (r : Fin 704) (j : Fin 1024) : val_main_v13 (F := Ideal) x0 x1 x2 x3 x5 (ix2 r j) = (args x0 x1 x2 x3 x4 x5 x6).newμ r j := by
  pointwise [val_main_v13, val_main_v12, val_main_v11, val_main_v10, val_main_v9, val_main_cst_0, val_main_cst_1, g x0 x1 x2 x3 x4 x5 x6, Step.newμ]
  rfl

/-- The second moment. -/
theorem v (r : Fin 704) (j : Fin 1024) : val_main_v19 (F := Ideal) x0 x1 x2 x3 x6 (ix2 r j) = (args x0 x1 x2 x3 x4 x5 x6).newv r j := by
  pointwise [val_main_v19, val_main_v18, val_main_v17, val_main_v16, val_main_v15, val_main_v14, val_main_cst_2, val_main_cst_3,
    g x0 x1 x2 x3 x4 x5 x6, Step.newv]
  rfl

/-- What is to be added. -/
theorem delta (r : Fin 704) (j : Fin 1024) : val_main_v32 (F := Ideal) x0 x1 x2 x3 x4 x5 x6 (ix2 r j) = (args x0 x1 x2 x3 x4 x5 x6).delta r j := by
  pointwise [val_main_v32, val_main_v31, val_main_v30, val_main_v29, val_main_v28, val_main_v27, val_main_v26, val_main_v25, val_main_v24,
    val_main_v23, val_main_v22, val_main_v21, val_main_v20, val_main_cst_4, val_main_cst_5, val_main_cst_6, val_main_cst_7, val_main_cst_8,
    μ x0 x1 x2 x3 x4 x5 x6, v x0 x1 x2 x3 x4 x5 x6, Step.delta]
  rfl

end Cert.Adam.D.Ref

end
-- ==== Proof.Adam.D.Claim.lean ====
/- The optimiser's call on the down weights: kernel and reference compute the same gradient, moments and step. -/
module

public import proofs.«01_k».proof.Defs
public import proofs.«01_k».proof.Proof.Gen.Kernel16.Frame
public import proofs.«01_k».proof.Proof.Adam.D.Arrays
public import proofs.«01_k».proof.Proof.Adam.D.Ref
public import Idealize.ShloMosaic.Lib.Claim

@[expose] public section

set_option maxRecDepth 16384

noncomputable section

namespace Cert.Adam.D

open Idealize.ShloMosaic Idealize.ShloMosaic.TcCoe Idealize.SL.Sem
open Cert.Kernel16Ideal Cert.Kernel16Ideal.Gen

variable (m : (ℓ : Loc nD τ sig) → Buf (Elt Ideal) ℓ) (c : Dev nD)

/-- Under the precondition every block lies within its array. -/
theorem ok [Cert.Pre_on_mesh_w_d.Facts] (h : Cert.Pre_Kernel16Ideal m) : Ok m := Own.ok m (below (congrFun (h 0) (ix1 0)))

/-- The same over machine numbers. -/
theorem ok_bits [Cert.Pre_on_mesh_w_d.Facts] (m : (ℓ : Loc nD τ sig) → Buf (Elt Bits) ℓ) (h : Cert.Pre_Kernel16 m) : Cert.Kernel16.Gen.Ok m :=
  Own.ok (F := Bits) m (below (congrFun (h 0) (ix1 0)))

variable (hO : Ok m)

/-- The arrays the kernel is launched on are the reference's. -/
theorem args_eq : Block.args m c = Ref.args (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) := by
  obtain rfl : c = 0 := Subsingleton.elim _ _
  rfl

/-- The gradient. -/
theorem g : Cert.Reference16Ideal.Read.val_main_v8 (F := Ideal) (m ((c.tc : Thread nD τ).loc main_arg0)) (m ((c.tc : Thread nD τ).loc main_arg1))
    (m ((c.tc : Thread nD τ).loc main_arg2)) (m ((c.tc : Thread nD τ).loc main_arg3)) = (dats m hO 0 c).arrAt 6 (cfgM m hO).N := by
  rw [Arrays.g, args_eq]
  funext i
  exact (congrArg _ (eq_ix2 i)).trans (Ref.g _ _ _ _ _ _ _ (i 0) (i 1))

/-- What is to be added. -/
theorem delta : Cert.Reference16Ideal.Read.val_main_v32 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) = (dats m hO 0 c).arrAt 7 (cfgM m hO).N := by
  rw [Arrays.delta, args_eq]
  funext i
  exact (congrArg _ (eq_ix2 i)).trans (Ref.delta _ _ _ _ _ _ _ (i 0) (i 1))

/-- The first moment. -/
theorem μ : Cert.Reference16Ideal.Read.val_main_v13 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg5)) = (dats m hO 0 c).arrAt 8 (cfgM m hO).N := by
  rw [Arrays.μ, args_eq]
  funext i
  exact (congrArg _ (eq_ix2 i)).trans (Ref.μ _ _ _ _ _ _ _ (i 0) (i 1))

/-- The second moment. -/
theorem v : Cert.Reference16Ideal.Read.val_main_v19 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg6)) = (dats m hO 0 c).arrAt 9 (cfgM m hO).N := by
  rw [Arrays.v, args_eq]
  funext i
  exact (congrArg _ (eq_ix2 i)).trans (Ref.v _ _ _ _ _ _ _ (i 0) (i 1))

/-- What the kernel's call leaves: the four arrays, and its arguments as they were. -/
theorem ends (ρ : Dev nD → PrngReg) : θ_run defs (onTc (τ := τ) (main (F := Ideal))) ⟨m, fun _ => 0, ρ⟩ (fun r => ∀ c : Dev nD,
    r.2.mem ((c.tc : Thread nD τ).loc main_v0_0) = (dats m hO 0 c).arrAt 6 (cfgM m hO).N
    ∧ r.2.mem ((c.tc : Thread nD τ).loc main_v0_1) = (dats m hO 0 c).arrAt 7 (cfgM m hO).N
    ∧ r.2.mem ((c.tc : Thread nD τ).loc main_v0_2) = (dats m hO 0 c).arrAt 8 (cfgM m hO).N
    ∧ r.2.mem ((c.tc : Thread nD τ).loc main_v0_3) = (dats m hO 0 c).arrAt 9 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  θ_run_mono (run_main m ρ hO) fun _ h c =>
    have staged (w : Fin 10) (hw : _) := ((h c).1 w).trans (((dats m hO 0 c).arrAt_in w hw _).trans (A_eq m hO c w))
    ⟨(h c).1 6, (h c).1 7, (h c).1 8, (h c).1 9,
      ((h c).2 main_arg0 (by decide : main_arg0 ∈ Pipeline.restRefs sig spec0)).trans (V_main_arg0 m c),
      (staged 0 rfl).trans (V_main_arg1 m c), (staged 1 rfl).trans (V_main_arg2 m c), (staged 2 rfl).trans (V_main_arg3 m c),
      (staged 3 rfl).trans (V_main_arg4 m c), (staged 4 rfl).trans (V_main_arg5 m c), (staged 5 rfl).trans (V_main_arg6 m c)⟩

set_option maxHeartbeats 3200000 in
/-- Kernel and reference end with the same arrays. -/
theorem algebraic [Cert.Pre_on_mesh_w_d.Facts] : Cert.algebraic_Kernel16Ideal_Reference16Ideal := by
  intro m ρ m' ρ' h hagree
  refine ⟨_, _, _, _, ends m (ok m h) ρ, θ_run_mono (Cert.Reference16Ideal.Value.run m' ρ') fun r hr c => ?_⟩
  obtain ⟨r0, r1, r2, r3, kept⟩ := hr c
  obtain ⟨e0, e1, e2, e3, e4, e5, e6⟩ := hagree c
  rw [Cert.Reference16Ideal.Read.val_main_v8_eq, e0, e1, e2, e3] at r0
  rw [Cert.Reference16Ideal.Read.val_main_v32_eq, e0, e1, e2, e3, e4, e5, e6] at r1
  rw [Cert.Reference16Ideal.Read.val_main_v13_eq, e0, e1, e2, e3, e5] at r2
  rw [Cert.Reference16Ideal.Read.val_main_v19_eq, e0, e1, e2, e3, e6] at r3
  exact ⟨r0.trans (g m c (ok m h)), r1.trans (delta m c (ok m h)), r2.trans (μ m c (ok m h)), r3.trans (v m c (ok m h)), kept⟩

end Cert.Adam.D

end
-- ==== Proof.lean ====
/- The assembly: the frames of the kernels, of their ideal programs and of the references, and the equations of the two (Conv/Claim, Ffn/Claim, Wgrad, FfnFwd, Adam). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Conv.Claim
public import proofs.«01_k».proof.Proof.Ffn.Claim
public import proofs.«01_k».proof.Proof.FfnFwd.L0.Claim
public import proofs.«01_k».proof.Proof.FfnFwd.L1.Claim
public import proofs.«01_k».proof.Proof.Wgrad.Gu
public import proofs.«01_k».proof.Proof.Wgrad.D
public import proofs.«01_k».proof.Proof.Wgrad.O
public import proofs.«01_k».proof.Proof.Wgrad.Qkv
public import proofs.«01_k».proof.Proof.Wgrad.In
public import proofs.«01_k».proof.Proof.Adam.Small.Claim
public import proofs.«01_k».proof.Proof.Adam.Out.Claim
public import proofs.«01_k».proof.Proof.Adam.In.Claim
public import proofs.«01_k».proof.Proof.Adam.Qkv.Claim
public import proofs.«01_k».proof.Proof.Adam.Cw.Claim
public import proofs.«01_k».proof.Proof.Adam.Gu.Claim
public import proofs.«01_k».proof.Proof.Adam.D.Claim
public import Idealize.ShloMosaic.Adequacy
public import Idealize.ShloMosaic.Init

@[expose] public section

noncomputable section

namespace Cert.Proof

open Idealize.ShloMosaic Idealize.SL.Sem Cert.Kernel

/-- The preconditions' shapes fit. -/
instance facts_finite : Cert.Pre_finite.Facts := by constructor <;> decide

instance facts_on_mesh_w_out : Cert.Pre_on_mesh_w_out.Facts := by constructor <;> decide
instance facts_on_mesh_w_in : Cert.Pre_on_mesh_w_in.Facts := by constructor <;> decide
instance facts_on_mesh_w_qkv : Cert.Pre_on_mesh_w_qkv.Facts := by constructor <;> decide
instance facts_on_mesh_cw : Cert.Pre_on_mesh_cw.Facts := by constructor <;> decide
instance facts_on_mesh_w_gu : Cert.Pre_on_mesh_w_gu.Facts := by constructor <;> decide
instance facts_on_mesh_w_d : Cert.Pre_on_mesh_w_d.Facts := by constructor <;> decide

/-- The reference ends with its arguments unchanged; it has no semaphore. -/
theorem frame_reference : Cert.quiescent_ReferenceIdeal := fun m ρ _ =>
  (θ_run Cert.ReferenceIdeal.defs _ _).mono
    (fun r h => ⟨fun c => ⟨(h c).2.2.2.2.2.2.1, (h c).2.2.2.2.2.2.2.1, (h c).2.2.2.2.2.2.2.2.1, (h c).2.2.2.2.2.2.2.2.2.1,
      (h c).2.2.2.2.2.2.2.2.2.2.1, (h c).2.2.2.2.2.2.2.2.2.2.2⟩, sem_eq_zero_of_no_sems (by decide) r.2⟩)
    (Cert.ReferenceIdeal.Value.run (F := Ideal) m ρ)

/-- The feed-forward gradient's reference, likewise. -/
theorem frame_reference2 : Cert.quiescent_Reference2Ideal := fun m ρ _ =>
  (θ_run Cert.Reference2Ideal.defs _ _).mono
    (fun r h => ⟨fun c => (h c).2.2.2.2.2.2.2.2, sem_eq_zero_of_no_sems (by decide) r.2⟩)
    (Cert.Reference2Ideal.Value.run (F := Ideal) m ρ)

/-- The feed-forward layer's first weight's reference, likewise. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The second weight's reference, likewise. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The output weights' reference, likewise. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the weight of the attention's projections, likewise. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of the convolution layer's first weight, likewise. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of the first SwiGLU layer's forward call, likewise. -/
theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The reference of the last one's, likewise. -/
theorem frame_reference9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The reference of the optimiser's call on the small parameters, likewise. -/
theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- That of its call on the output weights, likewise. -/
theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- That of its call on the convolution layer's first weight, likewise. -/
theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- That of its call on the weight of the attention's projections, likewise. -/
theorem frame_reference13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- That of its call on the convolution's weights, likewise. -/
theorem frame_reference14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- That of its call on the feed-forward layers' first weights, likewise. -/
theorem frame_reference15 : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- That of its call on the feed-forward layers' second weights, likewise. -/
theorem frame_reference16 : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  facts_finite, facts_on_mesh_w_out, facts_on_mesh_w_in, facts_on_mesh_w_qkv, facts_on_mesh_cw, facts_on_mesh_w_gu, facts_on_mesh_w_d,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ trivial, fun m ρ _ => Cert.Kernel10Ideal.Gen.frame m ρ trivial, frame_reference10,
  fun m ρ h => Cert.Kernel11.Gen.frame m ρ (Cert.Adam.Out.ok_bits m h), fun m ρ h => Cert.Kernel11Ideal.Gen.frame m ρ (Cert.Adam.Out.ok m h),
  frame_reference11, fun m ρ _ => frame_reference11 m ρ trivial,
  fun m ρ h => Cert.Kernel12.Gen.frame m ρ (Cert.Adam.In.ok_bits m h), fun m ρ h => Cert.Kernel12Ideal.Gen.frame m ρ (Cert.Adam.In.ok m h),
  frame_reference12, fun m ρ _ => frame_reference12 m ρ trivial,
  fun m ρ h => Cert.Kernel13.Gen.frame m ρ (Cert.Adam.Qkv.ok_bits m h), fun m ρ h => Cert.Kernel13Ideal.Gen.frame m ρ (Cert.Adam.Qkv.ok m h),
  frame_reference13, fun m ρ _ => frame_reference13 m ρ trivial,
  fun m ρ h => Cert.Kernel14.Gen.frame m ρ (Cert.Adam.Cw.ok_bits m h), fun m ρ h => Cert.Kernel14Ideal.Gen.frame m ρ (Cert.Adam.Cw.ok m h),
  frame_reference14, fun m ρ _ => frame_reference14 m ρ trivial,
  fun m ρ h => Cert.Kernel15.Gen.frame m ρ (Cert.Adam.Gu.ok_bits m h), fun m ρ h => Cert.Kernel15Ideal.Gen.frame m ρ (Cert.Adam.Gu.ok m h),
  frame_reference15, fun m ρ _ => frame_reference15 m ρ trivial,
  fun m ρ h => Cert.Kernel16.Gen.frame m ρ (Cert.Adam.D.ok_bits m h), fun m ρ h => Cert.Kernel16Ideal.Gen.frame m ρ (Cert.Adam.D.ok m h),
  frame_reference16, fun m ρ _ => frame_reference16 m ρ trivial,
  trivial, Cert.Conv.algebraic, trivial, Cert.Ffn.algebraic, trivial, Cert.Wgrad.Gu.algebraic, trivial, Cert.Wgrad.D.algebraic, trivial, Cert.Wgrad.O.algebraic,
  trivial, Cert.Wgrad.Qkv.algebraic, trivial, Cert.Wgrad.In.algebraic,
  trivial, Cert.FfnFwd.L0.algebraic, trivial, Cert.FfnFwd.L1.algebraic,
  trivial, Cert.Adam.Small.algebraic, trivial, Cert.Adam.Out.algebraic, trivial, Cert.Adam.In.algebraic, trivial, Cert.Adam.Qkv.algebraic, trivial, Cert.Adam.Cw.algebraic, trivial, Cert.Adam.Gu.algebraic, trivial, Cert.Adam.D.algebraic⟩

end Cert.Proof

end
